-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mlp [hPre_finite_mlp : Cert.Pre_finite_mlp.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mlp [hPre_finite_mlp : Cert.Pre_finite_mlp.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mix [hPre_finite_mix : Cert.Pre_finite_mix.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mix [hPre_finite_mix : Cert.Pre_finite_mix.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_fwd [hPre_finite_fwd : Cert.Pre_finite_fwd.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_fwd.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_fwd [hPre_finite_fwd : Cert.Pre_finite_fwd.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_fwd.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_mlp [hKernel3Ideal : Cert.Kernel3Ideal.Facts] [hPre_finite_mlp : Cert.Pre_finite_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mlp m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_mlp [hReference3Ideal : Cert.Reference3Ideal.Facts] [hPre_finite_mlp : Cert.Pre_finite_mlp.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mlp m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite_mix [hKernel2Ideal : Cert.Kernel2Ideal.Facts] [hPre_finite_mix : Cert.Pre_finite_mix.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mix m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite_mix [hReference2Ideal : Cert.Reference2Ideal.Facts] [hPre_finite_mix : Cert.Pre_finite_mix.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mix m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_fwd [hKernel4Ideal : Cert.Kernel4Ideal.Facts] [hPre_finite_fwd : Cert.Pre_finite_fwd.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_fwd m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_fwd [hReference4Ideal : Cert.Reference4Ideal.Facts] [hPre_finite_fwd : Cert.Pre_finite_fwd.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_fwd m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal_pre_finite_mlp [hKernel3Ideal : Cert.Kernel3Ideal.Facts] [hReference3Ideal : Cert.Reference3Ideal.Facts] [hPre_finite_mlp : Cert.Pre_finite_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mlp m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)) (v7 : (c : Dev Cert.Kernel3Ideal.nD) → Buf (Elt Ideal) ((c.tc : Thread Cert.Kernel3Ideal.nD Cert.Kernel3Ideal.τ).loc Cert.Kernel3Ideal.main_v13_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_v13_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_v117) = v1 c
          ∧ r.2.mem ((c.tc : Thread Cert.Reference3Ideal.nD Cert.Reference3Ideal.τ).loc Cert.Reference3Ideal.main_v118) = v2 c
          ∧ r.2.mem ((c.tc : Thread Cert.Reference3Ideal.nD Cert.Reference3Ideal.τ).loc Cert.Reference3Ideal.main_v119) = v3 c
          ∧ r.2.mem ((c.tc : Thread Cert.Reference3Ideal.nD Cert.Reference3Ideal.τ).loc Cert.Reference3Ideal.main_v111) = v4 c
          ∧ r.2.mem ((c.tc : Thread Cert.Reference3Ideal.nD Cert.Reference3Ideal.τ).loc Cert.Reference3Ideal.main_v120) = v5 c
          ∧ r.2.mem ((c.tc : Thread Cert.Reference3Ideal.nD Cert.Reference3Ideal.τ).loc Cert.Reference3Ideal.main_v112) = v6 c
          ∧ r.2.mem ((c.tc : Thread Cert.Reference3Ideal.nD Cert.Reference3Ideal.τ).loc Cert.Reference3Ideal.main_v115) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel2_Kernel2Ideal : Prop :=
  True

def algebraic_Kernel2Ideal_Reference2Ideal_pre_finite_mix [hKernel2Ideal : Cert.Kernel2Ideal.Facts] [hReference2Ideal : Cert.Reference2Ideal.Facts] [hPre_finite_mix : Cert.Pre_finite_mix.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mix m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v34)) (v1 : (c : Dev Cert.Kernel2Ideal.nD) → Buf (Elt Ideal) ((c.tc : Thread Cert.Kernel2Ideal.nD Cert.Kernel2Ideal.τ).loc Cert.Kernel2Ideal.main_v35)) (v2 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_v35) = v1 c
          ∧ r.2.mem ((c.tc : Thread Cert.Kernel2Ideal.nD Cert.Kernel2Ideal.τ).loc Cert.Kernel2Ideal.main_v36) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v110) = v0 c
          ∧ r.2.mem ((c.tc : Thread Cert.Reference2Ideal.nD Cert.Reference2Ideal.τ).loc Cert.Reference2Ideal.main_v111) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel4_Kernel4Ideal : Prop :=
  True

def algebraic_Kernel4Ideal_Reference4Ideal_pre_finite_fwd [hKernel4Ideal : Cert.Kernel4Ideal.Facts] [hReference4Ideal : Cert.Reference4Ideal.Facts] [hPre_finite_fwd : Cert.Pre_finite_fwd.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_fwd m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)) (v4 : (c : Dev Cert.Kernel4Ideal.nD) → Buf (Elt Ideal) ((c.tc : Thread Cert.Kernel4Ideal.nD Cert.Kernel4Ideal.τ).loc Cert.Kernel4Ideal.main_v32_4)) (v5 : (c : Dev Cert.Kernel4Ideal.nD) → Buf (Elt Ideal) ((c.tc : Thread Cert.Kernel4Ideal.nD Cert.Kernel4Ideal.τ).loc Cert.Kernel4Ideal.main_v32_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_v32_4) = v4 c
          ∧ r.2.mem ((c.tc : Thread Cert.Kernel4Ideal.nD Cert.Kernel4Ideal.τ).loc Cert.Kernel4Ideal.main_v32_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v114_4) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v159) = v4 c
          ∧ r.2.mem ((c.tc : Thread Cert.Reference4Ideal.nD Cert.Reference4Ideal.τ).loc Cert.Reference4Ideal.main_v160) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg1) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_mlp : Cert.Pre_finite_mlp.Facts) (hPre_finite_mix : Cert.Pre_finite_mix.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite_mlp (hKernel3Ideal := hKernel3Ideal) (hPre_finite_mlp := hPre_finite_mlp)
    ∧ quiescent_Reference3Ideal (hReference3Ideal := hReference3Ideal)
    ∧ quiescent_Reference3Ideal_pre_finite_mlp (hReference3Ideal := hReference3Ideal) (hPre_finite_mlp := hPre_finite_mlp)
    ∧ quiescent_Kernel2 (hKernel2 := hKernel2)
    ∧ quiescent_Kernel2Ideal (hKernel2Ideal := hKernel2Ideal)
    ∧ quiescent_Kernel2Ideal_pre_finite_mix (hKernel2Ideal := hKernel2Ideal) (hPre_finite_mix := hPre_finite_mix)
    ∧ quiescent_Reference2Ideal (hReference2Ideal := hReference2Ideal)
    ∧ quiescent_Reference2Ideal_pre_finite_mix (hReference2Ideal := hReference2Ideal) (hPre_finite_mix := hPre_finite_mix)
    ∧ quiescent_Kernel4 (hKernel4 := hKernel4)
    ∧ quiescent_Kernel4Ideal (hKernel4Ideal := hKernel4Ideal)
    ∧ quiescent_Kernel4Ideal_pre_finite_fwd (hKernel4Ideal := hKernel4Ideal) (hPre_finite_fwd := hPre_finite_fwd)
    ∧ quiescent_Reference4Ideal (hReference4Ideal := hReference4Ideal)
    ∧ quiescent_Reference4Ideal_pre_finite_fwd (hReference4Ideal := hReference4Ideal) (hPre_finite_fwd := hPre_finite_fwd)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite_mlp (hKernel3Ideal := hKernel3Ideal) (hReference3Ideal := hReference3Ideal) (hPre_finite_mlp := hPre_finite_mlp)
    ∧ preserves_Kernel2_Kernel2Ideal
    ∧ algebraic_Kernel2Ideal_Reference2Ideal_pre_finite_mix (hKernel2Ideal := hKernel2Ideal) (hReference2Ideal := hReference2Ideal) (hPre_finite_mix := hPre_finite_mix)
    ∧ preserves_Kernel4_Kernel4Ideal
    ∧ algebraic_Kernel4Ideal_Reference4Ideal_pre_finite_fwd (hKernel4Ideal := hKernel4Ideal) (hReference4Ideal := hReference4Ideal) (hPre_finite_fwd := hPre_finite_fwd)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S1x4096x1024 : Shape := ⟨3, ![1, 4096, 1024]⟩
abbrev S1x1024 : Shape := ⟨2, ![1, 1024]⟩
abbrev S1x1024x3584 : Shape := ⟨3, ![1, 1024, 3584]⟩
abbrev S1x4096x3584 : Shape := ⟨3, ![1, 4096, 3584]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3584 : S_.BroadcastsInDim S1x1024x3584 (![] : Fin 0 → Fin S1x1024x3584.rank)
  reducesTo_S1x1024x3584_S_d0_1_2 : S1x1024x3584.ReducesTo [0, 1, 2] S_
  bcast_S_S1x4096x3584 : S_.BroadcastsInDim S1x4096x3584 (![] : Fin 0 → Fin S1x4096x3584.rank)
  reducesTo_S1x4096x3584_S_d0_1_2 : S1x4096x3584.ReducesTo [0, 1, 2] S_

variable [Facts]

def fn_part1 {F : FTy → Type} [FloatOps F] (main_v13 : IVec S_ 1) (main_v16 : IVec S1x4096x3584 1) : IVec S_ 1 :=
  let main_c_5 : IVec S_ 1 := constantI S_ 1 1#1
  let main_v17 : IVec S_ 1 := (fun x v => Host.reduce IntOp.andi x v reducesTo_S1x4096x3584_S_d0_1_2 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x3584 .f32) (main_arg3 : FVec F S1x4096x3584 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3584 .f32 := Host.absf main_arg2
  let main_cst_2 : FVec F S_ .f32 := constant S_ .f32 0x7F800000#32
  let main_v10 : FVec F S1x1024x3584 .f32 := broadcastInDim S1x1024x3584 ![] bcast_S_S1x1024x3584 main_cst_2
  let main_v11 : IVec S1x1024x3584 1 := cmpf .olt main_v9 main_v10
  let main_c_3 : IVec S_ 1 := constantI S_ 1 1#1
  let main_v12 : IVec S_ 1 := (fun x v => Host.reduce IntOp.andi x v reducesTo_S1x1024x3584_S_d0_1_2 h_S_) main_v11 main_c_3
  let main_v13 : IVec S_ 1 := andi main_v8 main_v12
  let main_v14 : FVec F S1x4096x3584 .f32 := Host.absf main_arg3
  let main_cst_4 : FVec F S_ .f32 := constant S_ .f32 0x7F800000#32
  let main_v15 : FVec F S1x4096x3584 .f32 := broadcastInDim S1x4096x3584 ![] bcast_S_S1x4096x3584 main_cst_4
  let main_v16 : IVec S1x4096x3584 1 := cmpf .olt main_v14 main_v15
  fn_part1 (F := F) main_v13 main_v16
-- ==== Pre_finite_fwd.lean ====
abbrev S1x4096x1024 : Shape := ⟨3, ![1, 4096, 1024]⟩
abbrev S1x1024x3584 : Shape := ⟨3, ![1, 1024, 3584]⟩
abbrev S1x3x512 : Shape := ⟨3, ![1, 3, 512]⟩
abbrev S1x4x1024 : Shape := ⟨3, ![1, 4, 1024]⟩
abbrev S1x1024 : Shape := ⟨2, ![1, 1024]⟩
abbrev S1x16x64x64 : Shape := ⟨4, ![1, 16, 64, 64]⟩
abbrev S1x512 : Shape := ⟨2, ![1, 512]⟩
abbrev S4096x1024 : Shape := ⟨2, ![4096, 1024]⟩
abbrev S1024x3584 : Shape := ⟨2, ![1024, 3584]⟩
abbrev S4096x3584 : Shape := ⟨2, ![4096, 3584]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1024 : Shape := ⟨1, ![1024]⟩
abbrev S16x64x64 : Shape := ⟨3, ![16, 64, 64]⟩
abbrev S4096x16x64 : Shape := ⟨3, ![4096, 16, 64]⟩
abbrev S16x64x4096 : Shape := ⟨3, ![16, 64, 4096]⟩

class Facts : Prop where
  shapeCasts_S1x4096x1024_S4096x1024 : S1x4096x1024.ShapeCasts S4096x1024
  shapeCasts_S1x1024x3584_S1024x3584 : S1x1024x3584.ShapeCasts S1024x3584
  slices_S4096x3584_S4096x1024_0_1536 : S4096x3584.Slices ![0, 1536] S4096x1024
  shapeCasts_S1x4x1024_S4x1024 : S1x4x1024.ShapeCasts S4x1024
  bcast_S_S3x1024 : S_.BroadcastsInDim S3x1024 (![] : Fin 0 → Fin S3x1024.rank)
  concatenates_S3x1024_S4096x1024_S4099x1024_d0 : Shape.Concatenates [S3x1024, S4096x1024] S4099x1024 0
  slices_S4x1024_S1x1024_0_0 : S4x1024.Slices ![0, 0] S1x1024
  shapeCasts_S1x1024_S1024 : S1x1024.ShapeCasts S1024
  slices_S4099x1024_S4096x1024_0_0 : S4099x1024.Slices ![0, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4x1024_S1x1024_1_0 : S4x1024.Slices ![1, 0] S1x1024
  slices_S4099x1024_S4096x1024_1_0 : S4099x1024.Slices ![1, 0] S4096x1024
  slices_S4x1024_S1x1024_2_0 : S4x1024.Slices ![2, 0] S1x1024
  slices_S4099x1024_S4096x1024_2_0 : S4099x1024.Slices ![2, 0] S4096x1024
  slices_S4x1024_S1x1024_3_0 : S4x1024.Slices ![3, 0] S1x1024
  slices_S4099x1024_S4096x1024_3_0 : S4099x1024.Slices ![3, 0] S4096x1024
  shapeCasts_S1x16x64x64_S16x64x64 : S1x16x64x64.ShapeCasts S16x64x64
  shapeCasts_S4096x1024_S4096x16x64 : S4096x1024.ShapeCasts S4096x16x64
  transposes_S16x64x4096_S4096x16x64_2_0_1 : S16x64x4096.Transposes [2, 0, 1] S4096x16x64
  shapeCasts_S4096x16x64_S4096x1024 : S4096x16x64.ShapeCasts S4096x1024
  bcast_S_S4096x1024 : S_.BroadcastsInDim S4096x1024 (![] : Fin 0 → Fin S4096x1024.rank)
  bcast_S_S1024 : S_.BroadcastsInDim S1024 (![] : Fin 0 → Fin S1024.rank)
  bcast_S_S1x1024 : S_.BroadcastsInDim S1x1024 (![] : Fin 0 → Fin S1x1024.rank)
  reducesTo_S1x1024_S_d0_1 : S1x1024.ReducesTo [0, 1] S_
  h_S_ : 0 < S_.numel
  reducesTo_S4096x1024_S_d0_1 : S4096x1024.ReducesTo [0, 1] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x1024x3584 : S_.BroadcastsInDim S1x1024x3584 (![] : Fin 0 → Fin S1x1024x3584.rank)
  reducesTo_S1x1024x3584_S_d0_1_2 : S1x1024x3584.ReducesTo [0, 1, 2] S_
  bcast_S_S1x3x512 : S_.BroadcastsInDim S1x3x512 (![] : Fin 0 → Fin S1x3x512.rank)
  reducesTo_S1x3x512_S_d0_1_2 : S1x3x512.ReducesTo [0, 1, 2] S_
  bcast_S_S1x4x1024 : S_.BroadcastsInDim S1x4x1024 (![] : Fin 0 → Fin S1x4x1024.rank)
  reducesTo_S1x4x1024_S_d0_1_2 : S1x4x1024.ReducesTo [0, 1, 2] S_
  bcast_S_S1x16x64x64 : S_.BroadcastsInDim S1x16x64x64 (![] : Fin 0 → Fin S1x16x64x64.rank)
  reducesTo_S1x16x64x64_S_d0_1_2_3 : S1x16x64x64.ReducesTo [0, 1, 2, 3] S_
  bcast_S_S1x512 : S_.BroadcastsInDim S1x512 (![] : Fin 0 → Fin S1x512.rank)
  reducesTo_S1x512_S_d0_1 : S1x512.ReducesTo [0, 1] S_
  dot_S4096x1024_S1024x3584_S4096x3584_1_0_0_1_n_n_wf : DotDims.WF S4096x1024 S1024x3584 S4096x3584 [1] [0] [0] [1] [] []
  dot_S16x64x64_S4096x16x64_S16x64x4096_1_2_2_0_0_1_wf : DotDims.WF S16x64x64 S4096x16x64 S16x64x4096 [1] [2] [2] [0] [0] [1]

variable [Facts]

def dot_S4096x1024_S1024x3584_S4096x3584_1_0_0_1_n_n : DotDims S4096x1024 S1024x3584 S4096x3584 where
  lhsContracting := [1]
  rhsContracting := [0]
  lhsNonContracting := [0]
  rhsNonContracting := [1]
  lhsBatch := []
  rhsBatch := []
  wf := dot_S4096x1024_S1024x3584_S4096x3584_1_0_0_1_n_n_wf
def dot_S16x64x64_S4096x16x64_S16x64x4096_1_2_2_0_0_1 : DotDims S16x64x64 S4096x16x64 S16x64x4096 where
  lhsContracting := [1]
  rhsContracting := [2]
  lhsNonContracting := [2]
  rhsNonContracting := [0]
  lhsBatch := [0]
  rhsBatch := [1]
  wf := dot_S16x64x64_S4096x16x64_S16x64x4096_1_2_2_0_0_1_wf
def fn_softplus {F : FTy → Type} [FloatOps F] (arg0 : FVec F S1024 .f32) : FVec F S1024 .f32 :=
  let cst : FVec F S_ .f32 := constant S_ .f32 0x00000000#32
  let v0 : FVec F S1024 .f32 := broadcastInDim S1024 ![] bcast_S_S1024 cst
  let v1 : FVec F S1024 .f32 := maximumf arg0 v0
  let v2 : FVec F S1024 .f32 := broadcastInDim S1024 ![] bcast_S_S1024 cst
  let v3 : FVec F S1024 .f32 := subf arg0 v2
  let v4 : IVec S1024 1 := cmpf .une v3 v3
  let v5 : FVec F S1024 .f32 := broadcastInDim S1024 ![] bcast_S_S1024 cst
  let v6 : FVec F S1024 .f32 := addf arg0 v5
  let v7 : FVec F S1024 .f32 := Host.absf v3
  let v8 : FVec F S1024 .f32 := Host.negf v7
  let v9 : FVec F S1024 .f32 := Host.exp v8
  let v10 : FVec F S1024 .f32 := Host.log1p v9
  let v11 : FVec F S1024 .f32 := addf v1 v10
  let v12 : FVec F S1024 .f32 := select v4 v6 v11
  v12

def fn_part6 {F : FTy → Type} [FloatOps F] (main_arg9 : FVec F S1x1024 .f32) (main_arg10 : FVec F S1x512 .f32) (main_arg11 : FVec F S1x1024 .f32) (main_v112 : IVec S_ 1) (main_v116 : IVec S_ 1) : IVec S_ 1 :=
  let main_v117 : IVec S_ 1 := andi main_v112 main_v116
  let main_v118 : FVec F S1x1024 .f32 := Host.absf main_arg9
  let main_cst_25 : FVec F S_ .f32 := constant S_ .f32 0x7F800000#32
  let main_v119 : FVec F S1x1024 .f32 := broadcastInDim S1x1024 ![] bcast_S_S1x1024 main_cst_25
  let main_v120 : IVec S1x1024 1 := cmpf .olt main_v118 main_v119
  let main_c_26 : IVec S_ 1 := constantI S_ 1 1#1
  let main_v121 : IVec S_ 1 := (fun x v => Host.reduce IntOp.andi x v reducesTo_S1x1024_S_d0_1 h_S_) main_v120 main_c_26
  let main_v122 : IVec S_ 1 := andi main_v117 main_v121
  let main_v123 : FVec F S1x512 .f32 := Host.absf main_arg10
  let main_cst_27 : FVec F S_ .f32 := constant S_ .f32 0x7F800000#32
  let main_v124 : FVec F S1x512 .f32 := broadcastInDim S1x512 ![] bcast_S_S1x512 main_cst_27
  let main_v125 : IVec S1x512 1 := cmpf .olt main_v123 main_v124
  let main_c_28 : IVec S_ 1 := constantI S_ 1 1#1
  let main_v126 : IVec S_ 1 := (fun x v => Host.reduce IntOp.andi x v reducesTo_S1x512_S_d0_1 h_S_) main_v125 main_c_28
  let main_v127 : IVec S_ 1 := andi main_v122 main_v126
  let main_v128 : FVec F S1x1024 .f32 := Host.absf main_arg11
  let main_cst_29 : FVec F S_ .f32 := constant S_ .f32 0x7F800000#32
  let main_v129 : FVec F S1x1024 .f32 := broadcastInDim S1x1024 ![] bcast_S_S1x1024 main_cst_29
  let main_v130 : IVec S1x1024 1 := cmpf .olt main_v128 main_v129
  let main_c_30 : IVec S_ 1 := constantI S_ 1 1#1
  let main_v131 : IVec S_ 1 := (fun x v => Host.reduce IntOp.andi x v reducesTo_S1x1024_S_d0_1 h_S_) main_v130 main_c_30
  let main_v132 : IVec S_ 1 := andi main_v127 main_v131
  main_v132

def fn_part5 {F : FTy → Type} [FloatOps F] (main_arg6 : FVec F S1x1024 .f32) (main_arg7 : FVec F S1x16x64x64 .f32) (main_arg8 : FVec F S1x1024 .f32) (main_arg9 : FVec F S1x1024 .f32) (main_arg10 : FVec F S1x512 .f32) (main_arg11 : FVec F S1x1024 .f32) (main_v97 : IVec S_ 1) (main_v98 : FVec F S1x16x64x64 .f32) (main_v99 : FVec F S1x16x64x64 .f32) : IVec S_ 1 :=
  let main_v100 : IVec S1x16x64x64 1 := cmpf .olt main_v98 main_v99
  let main_c_18 : IVec S_ 1 := constantI S_ 1 1#1
  let main_v101 : IVec S_ 1 := (fun x v => Host.reduce IntOp.andi x v reducesTo_S1x16x64x64_S_d0_1_2_3 h_S_) main_v100 main_c_18
  let main_v102 : IVec S_ 1 := andi main_v97 main_v101
  let main_v103 : FVec F S1x1024 .f32 := Host.absf main_arg6
  let main_cst_19 : FVec F S_ .f32 := constant S_ .f32 0x7F800000#32
  let main_v104 : FVec F S1x1024 .f32 := broadcastInDim S1x1024 ![] bcast_S_S1x1024 main_cst_19
  let main_v105 : IVec S1x1024 1 := cmpf .olt main_v103 main_v104
  let main_c_20 : IVec S_ 1 := constantI S_ 1 1#1
  let main_v106 : IVec S_ 1 := (fun x v => Host.reduce IntOp.andi x v reducesTo_S1x1024_S_d0_1 h_S_) main_v105 main_c_20
  let main_v107 : IVec S_ 1 := andi main_v102 main_v106
  let main_v108 : FVec F S1x16x64x64 .f32 := Host.absf main_arg7
  let main_cst_21 : FVec F S_ .f32 := constant S_ .f32 0x7F800000#32
  let main_v109 : FVec F S1x16x64x64 .f32 := broadcastInDim S1x16x64x64 ![] bcast_S_S1x16x64x64 main_cst_21
  let main_v110 : IVec S1x16x64x64 1 := cmpf .olt main_v108 main_v109
  let main_c_22 : IVec S_ 1 := constantI S_ 1 1#1
  let main_v111 : IVec S_ 1 := (fun x v => Host.reduce IntOp.andi x v reducesTo_S1x16x64x64_S_d0_1_2_3 h_S_) main_v110 main_c_22
  let main_v112 : IVec S_ 1 := andi main_v107 main_v111
  let main_v113 : FVec F S1x1024 .f32 := Host.absf main_arg8
  let main_cst_23 : FVec F S_ .f32 := constant S_ .f32 0x7F800000#32
  let main_v114 : FVec F S1x1024 .f32 := broadcastInDim S1x1024 ![] bcast_S_S1x1024 main_cst_23
  let main_v115 : IVec S1x1024 1 := cmpf .olt main_v113 main_v114
  let main_c_24 : IVec S_ 1 := constantI S_ 1 1#1
  let main_v116 : IVec S_ 1 := (fun x v => Host.reduce IntOp.andi x v reducesTo_S1x1024_S_d0_1 h_S_) main_v115 main_c_24
  fn_part6 (F := F) main_arg9 main_arg10 main_arg11 main_v112 main_v116

def fn_part4 {F : FTy → Type} [FloatOps F] (main_arg2 : FVec F S1x3x512 .f32) (main_arg3 : FVec F S1x4x1024 .f32) (main_arg4 : FVec F S1x1024 .f32) (main_arg5 : FVec F S1x16x64x64 .f32) (main_arg6 : FVec F S1x1024 .f32) (main_arg7 : FVec F S1x16x64x64 .f32) (main_arg8 : FVec F S1x1024 .f32) (main_arg9 : FVec F S1x1024 .f32) (main_arg10 : FVec F S1x512 .f32) (main_arg11 : FVec F S1x1024 .f32) (main_v82 : IVec S_ 1) : IVec S_ 1 :=
  let main_v83 : FVec F S1x3x512 .f32 := Host.absf main_arg2
  let main_cst_11 : FVec F S_ .f32 := constant S_ .f32 0x7F800000#32
  let main_v84 : FVec F S1x3x512 .f32 := broadcastInDim S1x3x512 ![] bcast_S_S1x3x512 main_cst_11
  let main_v85 : IVec S1x3x512 1 := cmpf .olt main_v83 main_v84
  let main_c_12 : IVec S_ 1 := constantI S_ 1 1#1
  let main_v86 : IVec S_ 1 := (fun x v => Host.reduce IntOp.andi x v reducesTo_S1x3x512_S_d0_1_2 h_S_) main_v85 main_c_12
  let main_v87 : IVec S_ 1 := andi main_v82 main_v86
  let main_v88 : FVec F S1x4x1024 .f32 := Host.absf main_arg3
  let main_cst_13 : FVec F S_ .f32 := constant S_ .f32 0x7F800000#32
  let main_v89 : FVec F S1x4x1024 .f32 := broadcastInDim S1x4x1024 ![] bcast_S_S1x4x1024 main_cst_13
  let main_v90 : IVec S1x4x1024 1 := cmpf .olt main_v88 main_v89
  let main_c_14 : IVec S_ 1 := constantI S_ 1 1#1
  let main_v91 : IVec S_ 1 := (fun x v => Host.reduce IntOp.andi x v reducesTo_S1x4x1024_S_d0_1_2 h_S_) main_v90 main_c_14
  let main_v92 : IVec S_ 1 := andi main_v87 main_v91
  let main_v93 : FVec F S1x1024 .f32 := Host.absf main_arg4
  let main_cst_15 : FVec F S_ .f32 := constant S_ .f32 0x7F800000#32
  let main_v94 : FVec F S1x1024 .f32 := broadcastInDim S1x1024 ![] bcast_S_S1x1024 main_cst_15
  let main_v95 : IVec S1x1024 1 := cmpf .olt main_v93 main_v94
  let main_c_16 : IVec S_ 1 := constantI S_ 1 1#1
  let main_v96 : IVec S_ 1 := (fun x v => Host.reduce IntOp.andi x v reducesTo_S1x1024_S_d0_1 h_S_) main_v95 main_c_16
  let main_v97 : IVec S_ 1 := andi main_v92 main_v96
  let main_v98 : FVec F S1x16x64x64 .f32 := Host.absf main_arg5
  let main_cst_17 : FVec F S_ .f32 := constant S_ .f32 0x7F800000#32
  let main_v99 : FVec F S1x16x64x64 .f32 := broadcastInDim S1x16x64x64 ![] bcast_S_S1x16x64x64 main_cst_17
  fn_part5 (F := F) main_arg6 main_arg7 main_arg8 main_arg9 main_arg10 main_arg11 main_v97 main_v98 main_v99

def fn_part3 {F : FTy → Type} [FloatOps F] (main_arg0 : FVec F S1x4096x1024 .f32) (main_arg1 : FVec F S1x1024x3584 .f32) (main_arg2 : FVec F S1x3x512 .f32) (main_arg3 : FVec F S1x4x1024 .f32) (main_arg4 : FVec F S1x1024 .f32) (main_arg5 : FVec F S1x16x64x64 .f32) (main_arg6 : FVec F S1x1024 .f32) (main_arg7 : FVec F S1x16x64x64 .f32) (main_arg8 : FVec F S1x1024 .f32) (main_arg9 : FVec F S1x1024 .f32) (main_arg10 : FVec F S1x512 .f32) (main_arg11 : FVec F S1x1024 .f32) (main_v60 : FVec F S4096x1024 .f32) (main_v65 : IVec S1x1024 1) (main_c : IVec S_ 1) : IVec S_ 1 :=
  let main_v66 : IVec S_ 1 := (fun x v => Host.reduce IntOp.andi x v reducesTo_S1x1024_S_d0_1 h_S_) main_v65 main_c
  let main_cst_4 : FVec F S_ .f32 := constant S_ .f32 0x40000000#32
  let main_v67 : FVec F S4096x1024 .f32 := broadcastInDim S4096x1024 ![] bcast_S_S4096x1024 main_cst_4
  let main_v68 : FVec F S4096x1024 .f32 := mulf main_v67 main_v60
  let main_cst_5 : FVec F S_ .f32 := constant S_ .f32 0xBC23D70A#32
  let main_v69 : FVec F S4096x1024 .f32 := broadcastInDim S4096x1024 ![] bcast_S_S4096x1024 main_cst_5
  let main_v70 : IVec S4096x1024 1 := cmpf .ole main_v68 main_v69
  let main_c_6 : IVec S_ 1 := constantI S_ 1 1#1
  let main_v71 : IVec S_ 1 := (fun x v => Host.reduce IntOp.andi x v reducesTo_S4096x1024_S_d0_1 h_S_) main_v70 main_c_6
  let main_v72 : IVec S_ 1 := andi main_v66 main_v71
  let main_v73 : FVec F S1x4096x1024 .f32 := Host.absf main_arg0
  let main_cst_7 : FVec F S_ .f32 := constant S_ .f32 0x7F800000#32
  let main_v74 : FVec F S1x4096x1024 .f32 := broadcastInDim S1x4096x1024 ![] bcast_S_S1x4096x1024 main_cst_7
  let main_v75 : IVec S1x4096x1024 1 := cmpf .olt main_v73 main_v74
  let main_c_8 : IVec S_ 1 := constantI S_ 1 1#1
  let main_v76 : IVec S_ 1 := (fun x v => Host.reduce IntOp.andi x v reducesTo_S1x4096x1024_S_d0_1_2 h_S_) main_v75 main_c_8
  let main_v77 : IVec S_ 1 := andi main_v72 main_v76
  let main_v78 : FVec F S1x1024x3584 .f32 := Host.absf main_arg1
  let main_cst_9 : FVec F S_ .f32 := constant S_ .f32 0x7F800000#32
  let main_v79 : FVec F S1x1024x3584 .f32 := broadcastInDim S1x1024x3584 ![] bcast_S_S1x1024x3584 main_cst_9
  let main_v80 : IVec S1x1024x3584 1 := cmpf .olt main_v78 main_v79
  let main_c_10 : IVec S_ 1 := constantI S_ 1 1#1
  let main_v81 : IVec S_ 1 := (fun x v => Host.reduce IntOp.andi x v reducesTo_S1x1024x3584_S_d0_1_2 h_S_) main_v80 main_c_10
  let main_v82 : IVec S_ 1 := andi main_v77 main_v81
  fn_part4 (F := F) main_arg2 main_arg3 main_arg4 main_arg5 main_arg6 main_arg7 main_arg8 main_arg9 main_arg10 main_arg11 main_v82

def fn_part2 {F : FTy → Type} [FloatOps F] (main_arg0 : FVec F S1x4096x1024 .f32) (main_arg1 : FVec F S1x1024x3584 .f32) (main_arg2 : FVec F S1x3x512 .f32) (main_arg3 : FVec F S1x4x1024 .f32) (main_arg4 : FVec F S1x1024 .f32) (main_arg5 : FVec F S1x16x64x64 .f32) (main_arg6 : FVec F S1x1024 .f32) (main_arg7 : FVec F S1x16x64x64 .f32) (main_arg8 : FVec F S1x1024 .f32) (main_arg9 : FVec F S1x1024 .f32) (main_arg10 : FVec F S1x512 .f32) (main_arg11 : FVec F S1x1024 .f32) (main_v46 : FVec F S4096x1024 .f32) : IVec S_ 1 :=
  let main_v47 : FVec F S4096x1024 .f32 := Host.negf main_v46
  let main_v48 : FVec F S4096x1024 .f32 := Host.exp main_v47
  let main_cst_0 : FVec F S_ .f32 := constant S_ .f32 0x3F800000#32
  let main_v49 : FVec F S4096x1024 .f32 := broadcastInDim S4096x1024 ![] bcast_S_S4096x1024 main_cst_0
  let main_v50 : FVec F S4096x1024 .f32 := addf main_v49 main_v48
  let main_cst_1 : FVec F S_ .f32 := constant S_ .f32 0x3F800000#32
  let main_v51 : FVec F S4096x1024 .f32 := broadcastInDim S4096x1024 ![] bcast_S_S4096x1024 main_cst_1
  let main_v52 : FVec F S4096x1024 .f32 := Host.divf main_v51 main_v50
  let main_cst_2 : FVec F S_ .f32 := constant S_ .f32 0xC1000000#32
  let main_v53 : FVec F S4096x1024 .f32 := broadcastInDim S4096x1024 ![] bcast_S_S4096x1024 main_cst_2
  let main_v54 : FVec F S4096x1024 .f32 := mulf main_v53 main_v52
  let main_v55 : FVec F S1024 .f32 := shapeCast S1024 main_arg9 shapeCasts_S1x1024_S1024
  let main_v56 : FVec F S1024 .f32 := Host.negf main_v55
  let main_v57 : FVec F S1024 .f32 := fn_softplus (F := F) main_v56
  let main_v58 : FVec F S1x1024 .f32 := broadcastInDim S1x1024 ![1] bcast_S1024_S1x1024_1 main_v57
  let main_v59 : FVec F S4096x1024 .f32 := broadcastInDim S4096x1024 ![0, 1] bcast_S1x1024_S4096x1024_0_1 main_v58
  let main_v60 : FVec F S4096x1024 .f32 := mulf main_v54 main_v59
  let main_v61 : FVec F S1x1024 .f32 := Host.absf main_arg9
  let main_v62 : FVec F S1x1024 .f32 := Host.negf main_v61
  let main_v63 : FVec F S1x1024 .f32 := Host.exp main_v62
  let main_cst_3 : FVec F S_ .f32 := constant S_ .f32 0x3C23D70A#32
  let main_v64 : FVec F S1x1024 .f32 := broadcastInDim S1x1024 ![] bcast_S_S1x1024 main_cst_3
  let main_v65 : IVec S1x1024 1 := cmpf .oge main_v63 main_v64
  let main_c : IVec S_ 1 := constantI S_ 1 1#1
  fn_part3 (F := F) main_arg0 main_arg1 main_arg2 main_arg3 main_arg4 main_arg5 main_arg6 main_arg7 main_arg8 main_arg9 main_arg10 main_arg11 main_v60 main_v65 main_c

def fn_part1 {F : FTy → Type} [FloatOps F] (main_arg0 : FVec F S1x4096x1024 .f32) (main_arg1 : FVec F S1x1024x3584 .f32) (main_arg2 : FVec F S1x3x512 .f32) (main_arg3 : FVec F S1x4x1024 .f32) (main_arg4 : FVec F S1x1024 .f32) (main_arg5 : FVec F S1x16x64x64 .f32) (main_arg6 : FVec F S1x1024 .f32) (main_arg7 : FVec F S1x16x64x64 .f32) (main_arg8 : FVec F S1x1024 .f32) (main_arg9 : FVec F S1x1024 .f32) (main_arg10 : FVec F S1x512 .f32) (main_arg11 : FVec F S1x1024 .f32) (main_v4 : FVec F S4x1024 .f32) (main_v6 : FVec F S4099x1024 .f32) (main_v19 : FVec F S4096x1024 .f32) (main_v21 : FVec F S1024 .f32) (main_v22 : FVec F S4096x1024 .f32) : IVec S_ 1 :=
  let main_v23 : FVec F S1x1024 .f32 := broadcastInDim S1x1024 ![1] bcast_S1024_S1x1024_1 main_v21
  let main_v24 : FVec F S4096x1024 .f32 := broadcastInDim S4096x1024 ![0, 1] bcast_S1x1024_S4096x1024_0_1 main_v23
  let main_v25 : FVec F S4096x1024 .f32 := mulf main_v24 main_v22
  let main_v26 : FVec F S4096x1024 .f32 := addf main_v19 main_v25
  let main_v27 : FVec F S1x1024 .f32 := (extractStridedSlice S1x1024 ![3, 0] · slices_S4x1024_S1x1024_3_0) main_v4
  let main_v28 : FVec F S1024 .f32 := shapeCast S1024 main_v27 shapeCasts_S1x1024_S1024
  let main_v29 : FVec F S4096x1024 .f32 := (extractStridedSlice S4096x1024 ![3, 0] · slices_S4099x1024_S4096x1024_3_0) main_v6
  let main_v30 : FVec F S1x1024 .f32 := broadcastInDim S1x1024 ![1] bcast_S1024_S1x1024_1 main_v28
  let main_v31 : FVec F S4096x1024 .f32 := broadcastInDim S4096x1024 ![0, 1] bcast_S1x1024_S4096x1024_0_1 main_v30
  let main_v32 : FVec F S4096x1024 .f32 := mulf main_v31 main_v29
  let main_v33 : FVec F S4096x1024 .f32 := addf main_v26 main_v32
  let main_v34 : FVec F S1024 .f32 := shapeCast S1024 main_arg4 shapeCasts_S1x1024_S1024
  let main_v35 : FVec F S1x1024 .f32 := broadcastInDim S1x1024 ![1] bcast_S1024_S1x1024_1 main_v34
  let main_v36 : FVec F S4096x1024 .f32 := broadcastInDim S4096x1024 ![0, 1] bcast_S1x1024_S4096x1024_0_1 main_v35
  let main_v37 : FVec F S4096x1024 .f32 := addf main_v33 main_v36
  let main_v38 : FVec F S16x64x64 .f32 := shapeCast S16x64x64 main_arg5 shapeCasts_S1x16x64x64_S16x64x64
  let main_v39 : FVec F S1024 .f32 := shapeCast S1024 main_arg6 shapeCasts_S1x1024_S1024
  let main_v40 : FVec F S4096x16x64 .f32 := shapeCast S4096x16x64 main_v37 shapeCasts_S4096x1024_S4096x16x64
  let main_v41 : FVec F S16x64x4096 .f32 := (fun l r => Host.dotGeneral dot_S16x64x64_S4096x16x64_S16x64x4096_1_2_2_0_0_1 none l r) main_v38 main_v40
  let main_v42 : FVec F S4096x16x64 .f32 := (transpose S4096x16x64 [2, 0, 1] · transposes_S16x64x4096_S4096x16x64_2_0_1) main_v41
  let main_v43 : FVec F S4096x1024 .f32 := shapeCast S4096x1024 main_v42 shapeCasts_S4096x16x64_S4096x1024
  let main_v44 : FVec F S1x1024 .f32 := broadcastInDim S1x1024 ![1] bcast_S1024_S1x1024_1 main_v39
  let main_v45 : FVec F S4096x1024 .f32 := broadcastInDim S4096x1024 ![0, 1] bcast_S1x1024_S4096x1024_0_1 main_v44
  let main_v46 : FVec F S4096x1024 .f32 := addf main_v43 main_v45
  fn_part2 (F := F) main_arg0 main_arg1 main_arg2 main_arg3 main_arg4 main_arg5 main_arg6 main_arg7 main_arg8 main_arg9 main_arg10 main_arg11 main_v46

def fn {F : FTy → Type} [FloatOps F] (main_arg0 : FVec F S1x4096x1024 .f32) (main_arg1 : FVec F S1x1024x3584 .f32) (main_arg2 : FVec F S1x3x512 .f32) (main_arg3 : FVec F S1x4x1024 .f32) (main_arg4 : FVec F S1x1024 .f32) (main_arg5 : FVec F S1x16x64x64 .f32) (main_arg6 : FVec F S1x1024 .f32) (main_arg7 : FVec F S1x16x64x64 .f32) (main_arg8 : FVec F S1x1024 .f32) (main_arg9 : FVec F S1x1024 .f32) (main_arg10 : FVec F S1x512 .f32) (main_arg11 : FVec F S1x1024 .f32) : IVec S_ 1 :=
  let main_v0 : FVec F S4096x1024 .f32 := shapeCast S4096x1024 main_arg0 shapeCasts_S1x4096x1024_S4096x1024
  let main_v1 : FVec F S1024x3584 .f32 := shapeCast S1024x3584 main_arg1 shapeCasts_S1x1024x3584_S1024x3584
  let main_v2 : FVec F S4096x3584 .f32 := (fun l r => Host.dotGeneral dot_S4096x1024_S1024x3584_S4096x3584_1_0_0_1_n_n none l r) main_v0 main_v1
  let main_v3 : FVec F S4096x1024 .f32 := (extractStridedSlice S4096x1024 ![0, 1536] · slices_S4096x3584_S4096x1024_0_1536) main_v2
  let main_v4 : FVec F S4x1024 .f32 := shapeCast S4x1024 main_arg3 shapeCasts_S1x4x1024_S4x1024
  let main_cst : FVec F S_ .f32 := constant S_ .f32 0x00000000#32
  let main_v5 : FVec F S3x1024 .f32 := broadcastInDim S3x1024 ![] bcast_S_S3x1024 main_cst
  let main_v6 : FVec F S4099x1024 .f32 := (fun a b => concatenate S4099x1024 0 [⟨S3x1024, a⟩, ⟨S4096x1024, b⟩] concatenates_S3x1024_S4096x1024_S4099x1024_d0) main_v5 main_v3
  let main_v7 : FVec F S1x1024 .f32 := (extractStridedSlice S1x1024 ![0, 0] · slices_S4x1024_S1x1024_0_0) main_v4
  let main_v8 : FVec F S1024 .f32 := shapeCast S1024 main_v7 shapeCasts_S1x1024_S1024
  let main_v9 : FVec F S4096x1024 .f32 := (extractStridedSlice S4096x1024 ![0, 0] · slices_S4099x1024_S4096x1024_0_0) main_v6
  let main_v10 : FVec F S1x1024 .f32 := broadcastInDim S1x1024 ![1] bcast_S1024_S1x1024_1 main_v8
  let main_v11 : FVec F S4096x1024 .f32 := broadcastInDim S4096x1024 ![0, 1] bcast_S1x1024_S4096x1024_0_1 main_v10
  let main_v12 : FVec F S4096x1024 .f32 := mulf main_v11 main_v9
  let main_v13 : FVec F S1x1024 .f32 := (extractStridedSlice S1x1024 ![1, 0] · slices_S4x1024_S1x1024_1_0) main_v4
  let main_v14 : FVec F S1024 .f32 := shapeCast S1024 main_v13 shapeCasts_S1x1024_S1024
  let main_v15 : FVec F S4096x1024 .f32 := (extractStridedSlice S4096x1024 ![1, 0] · slices_S4099x1024_S4096x1024_1_0) main_v6
  let main_v16 : FVec F S1x1024 .f32 := broadcastInDim S1x1024 ![1] bcast_S1024_S1x1024_1 main_v14
  let main_v17 : FVec F S4096x1024 .f32 := broadcastInDim S4096x1024 ![0, 1] bcast_S1x1024_S4096x1024_0_1 main_v16
  let main_v18 : FVec F S4096x1024 .f32 := mulf main_v17 main_v15
  let main_v19 : FVec F S4096x1024 .f32 := addf main_v12 main_v18
  let main_v20 : FVec F S1x1024 .f32 := (extractStridedSlice S1x1024 ![2, 0] · slices_S4x1024_S1x1024_2_0) main_v4
  let main_v21 : FVec F S1024 .f32 := shapeCast S1024 main_v20 shapeCasts_S1x1024_S1024
  let main_v22 : FVec F S4096x1024 .f32 := (extractStridedSlice S4096x1024 ![2, 0] · slices_S4099x1024_S4096x1024_2_0) main_v6
  fn_part1 (F := F) main_arg0 main_arg1 main_arg2 main_arg3 main_arg4 main_arg5 main_arg6 main_arg7 main_arg8 main_arg9 main_arg10 main_arg11 main_v4 main_v6 main_v19 main_v21 main_v22
-- ==== Pre_finite_mix.lean ====
abbrev S1x4096x3584 : Shape := ⟨3, ![1, 4096, 3584]⟩
abbrev S1x3x512 : Shape := ⟨3, ![1, 3, 512]⟩
abbrev S1x512 : Shape := ⟨2, ![1, 512]⟩
abbrev S1x4096x1536 : Shape := ⟨3, ![1, 4096, 1536]⟩
abbrev S4096x1024 : Shape := ⟨2, ![4096, 1024]⟩
abbrev S4096x4096 : Shape := ⟨2, ![4096, 4096]⟩
abbrev S8x1024 : Shape := ⟨2, ![8, 1024]⟩
abbrev S4x256x256 : Shape := ⟨3, ![4, 256, 256]⟩
abbrev S1x1024 : Shape := ⟨2, ![1, 1024]⟩
abbrev S_ : Shape := ⟨0, ![]⟩

class Facts : Prop where
  bcast_S_S1x4096x3584 : S_.BroadcastsInDim S1x4096x3584 (![] : Fin 0 → Fin S1x4096x3584.rank)
  reducesTo_S1x4096x3584_S_d0_1_2 : S1x4096x3584.ReducesTo [0, 1, 2] S_
  h_S_ : 0 < S_.numel
  bcast_S_S1x3x512 : S_.BroadcastsInDim S1x3x512 (![] : Fin 0 → Fin S1x3x512.rank)
  reducesTo_S1x3x512_S_d0_1_2 : S1x3x512.ReducesTo [0, 1, 2] S_
  bcast_S_S1x512 : S_.BroadcastsInDim S1x512 (![] : Fin 0 → Fin S1x512.rank)
  reducesTo_S1x512_S_d0_1 : S1x512.ReducesTo [0, 1] S_
  bcast_S_S1x4096x1536 : S_.BroadcastsInDim S1x4096x1536 (![] : Fin 0 → Fin S1x4096x1536.rank)
  reducesTo_S1x4096x1536_S_d0_1_2 : S1x4096x1536.ReducesTo [0, 1, 2] S_

variable [Facts]

def fn_part1 {F : FTy → Type} [FloatOps F] (main_v13 : IVec S_ 1) (main_v16 : IVec S1x4096x1536 1) : IVec S_ 1 :=
  let main_c_5 : IVec S_ 1 := constantI S_ 1 1#1
  let main_v17 : IVec S_ 1 := (fun x v => Host.reduce IntOp.andi x v reducesTo_S1x4096x1536_S_d0_1_2 h_S_) main_v16 main_c_5
  let main_v18 : IVec S_ 1 := andi main_v13 main_v17
  main_v18

def fn {F : FTy → Type} [FloatOps F] (main_arg0 : FVec F S1x4096x3584 .f32) (main_arg1 : FVec F S1x3x512 .f32) (main_arg2 : FVec F S1x512 .f32) (main_arg3 : FVec F S1x4096x1536 .f32) (main_arg4 : FVec F S4096x1024 .f32) (main_arg5 : FVec F S4096x1024 .f32) (main_arg6 : FVec F S4096x4096 .f32) (main_arg7 : FVec F S8x1024 .f32) (main_arg8 : FVec F S4x256x256 .bf16) (main_arg9 : FVec F S4x256x256 .bf16) (main_arg10 : FVec F S1x1024 .f32) (main_arg11 : FVec F S1x1024 .f32) (main_arg12 : FVec F S8x1024 .f32) : IVec S_ 1 :=
  let main_v0 : FVec F S1x4096x3584 .f32 := Host.absf main_arg0
  let main_cst : FVec F S_ .f32 := constant S_ .f32 0x7F800000#32
  let main_v1 : FVec F S1x4096x3584 .f32 := broadcastInDim S1x4096x3584 ![] bcast_S_S1x4096x3584 main_cst
  let main_v2 : IVec S1x4096x3584 1 := cmpf .olt main_v0 main_v1
  let main_c : IVec S_ 1 := constantI S_ 1 1#1
  let main_v3 : IVec S_ 1 := (fun x v => Host.reduce IntOp.andi x v reducesTo_S1x4096x3584_S_d0_1_2 h_S_) main_v2 main_c
  let main_v4 : FVec F S1x3x512 .f32 := Host.absf main_arg1
  let main_cst_0 : FVec F S_ .f32 := constant S_ .f32 0x7F800000#32
  let main_v5 : FVec F S1x3x512 .f32 := broadcastInDim S1x3x512 ![] bcast_S_S1x3x512 main_cst_0
  let main_v6 : IVec S1x3x512 1 := cmpf .olt main_v4 main_v5
  let main_c_1 : IVec S_ 1 := constantI S_ 1 1#1
  let main_v7 : IVec S_ 1 := (fun x v => Host.reduce IntOp.andi x v reducesTo_S1x3x512_S_d0_1_2 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x4096x1536 .f32 := Host.absf main_arg3
  let main_cst_4 : FVec F S_ .f32 := constant S_ .f32 0x7F800000#32
  let main_v15 : FVec F S1x4096x1536 .f32 := broadcastInDim S1x4096x1536 ![] bcast_S_S1x4096x1536 main_cst_4
  let main_v16 : IVec S1x4096x1536 1 := cmpf .olt main_v14 main_v15
  fn_part1 (F := F) main_v13 main_v16
-- ==== Pre_finite_mlp.lean ====
abbrev S1x4096x1024 : Shape := ⟨3, ![1, 4096, 1024]⟩
abbrev S1x4096x1536 : Shape := ⟨3, ![1, 4096, 1536]⟩
abbrev S1x1536x1024 : Shape := ⟨3, ![1, 1536, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x1536 : S_.BroadcastsInDim S1x4096x1536 (![] : Fin 0 → Fin S1x4096x1536.rank)
  reducesTo_S1x4096x1536_S_d0_1_2 : S1x4096x1536.ReducesTo [0, 1, 2] S_
  bcast_S_S1x1536x1024 : S_.BroadcastsInDim S1x1536x1024 (![] : Fin 0 → Fin S1x1536x1024.rank)
  reducesTo_S1x1536x1024_S_d0_1_2 : S1x1536x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1x4096x1024 .f32) (main_v33 : IVec S_ 1) : IVec S_ 1 :=
  let main_v34 : FVec F S1x4096x1024 .f32 := Host.absf main_arg7
  let main_cst_12 : FVec F S_ .f32 := constant S_ .f32 0x7F800000#32
  let main_v35 : FVec F S1x4096x1024 .f32 := broadcastInDim S1x4096x1024 ![] bcast_S_S1x4096x1024 main_cst_12
  let main_v36 : IVec S1x4096x1024 1 := cmpf .olt main_v34 main_v35
  let main_c_13 : IVec S_ 1 := constantI S_ 1 1#1
  let main_v37 : IVec S_ 1 := (fun x v => Host.reduce IntOp.andi x v reducesTo_S1x4096x1024_S_d0_1_2 h_S_) main_v36 main_c_13
  let main_v38 : IVec S_ 1 := andi main_v33 main_v37
  main_v38

def fn_part1 {F : FTy → Type} [FloatOps F] (main_arg4 : FVec F S1x1024x4096 .f32) (main_arg5 : FVec F S1x4096x1024 .f32) (main_arg6 : FVec F S1024 .f32) (main_arg7 : FVec F S1x4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x4096 .f32 := Host.absf main_arg4
  let main_cst_6 : FVec F S_ .f32 := constant S_ .f32 0x7F800000#32
  let main_v20 : FVec F S1x1024x4096 .f32 := broadcastInDim S1x1024x4096 ![] bcast_S_S1x1024x4096 main_cst_6
  let main_v21 : IVec S1x1024x4096 1 := cmpf .olt main_v19 main_v20
  let main_c_7 : IVec S_ 1 := constantI S_ 1 1#1
  let main_v22 : IVec S_ 1 := (fun x v => Host.reduce IntOp.andi x v reducesTo_S1x1024x4096_S_d0_1_2 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S1x4096x1024 .f32) (main_arg1 : FVec F S1x4096x1536 .f32) (main_arg2 : FVec F S1x1536x1024 .f32) (main_arg3 : FVec F S1x1024 .f32) (main_arg4 : FVec F S1x1024x4096 .f32) (main_arg5 : FVec F S1x4096x1024 .f32) (main_arg6 : FVec F S1024 .f32) (main_arg7 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1536 .f32 := Host.absf main_arg1
  let main_cst_0 : FVec F S_ .f32 := constant S_ .f32 0x7F800000#32
  let main_v5 : FVec F S1x4096x1536 .f32 := broadcastInDim S1x4096x1536 ![] bcast_S_S1x4096x1536 main_cst_0
  let main_v6 : IVec S1x4096x1536 1 := cmpf .olt main_v4 main_v5
  let main_c_1 : IVec S_ 1 := constantI S_ 1 1#1
  let main_v7 : IVec S_ 1 := (fun x v => Host.reduce IntOp.andi x v reducesTo_S1x4096x1536_S_d0_1_2 h_S_) main_v6 main_c_1
  let main_v8 : IVec S_ 1 := andi main_v3 main_v7
  let main_v9 : FVec F S1x1536x1024 .f32 := Host.absf main_arg2
  let main_cst_2 : FVec F S_ .f32 := constant S_ .f32 0x7F800000#32
  let main_v10 : FVec F S1x1536x1024 .f32 := broadcastInDim S1x1536x1024 ![] bcast_S_S1x1536x1024 main_cst_2
  let main_v11 : IVec S1x1536x1024 1 := cmpf .olt main_v9 main_v10
  let main_c_3 : IVec S_ 1 := constantI S_ 1 1#1
  let main_v12 : IVec S_ 1 := (fun x v => Host.reduce IntOp.andi x v reducesTo_S1x1536x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Kernel.lean ====
abbrev S1x4096x1024 : Shape := ⟨3, ![1, 4096, 1024]⟩
abbrev S1x1024 : Shape := ⟨2, ![1, 1024]⟩
abbrev S1x1024x3584 : Shape := ⟨3, ![1, 1024, 3584]⟩
abbrev S1x4096x3584 : Shape := ⟨3, ![1, 4096, 3584]⟩
abbrev S1024x3584 : Shape := ⟨2, ![1024, 3584]⟩
abbrev S1024x4x896 : Shape := ⟨3, ![1024, 4, 896]⟩
abbrev S4x1024x896 : Shape := ⟨3, ![4, 1024, 896]⟩
abbrev S4096x3584 : Shape := ⟨2, ![4096, 3584]⟩
abbrev S4096x1024 : Shape := ⟨2, ![4096, 1024]⟩
abbrev S8x1024 : Shape := ⟨2, ![8, 1024]⟩
abbrev S512x3584 : Shape := ⟨2, ![512, 3584]⟩
abbrev S512x1024 : Shape := ⟨2, ![512, 1024]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x3584, .f32⟩
  | .hbm, ⟨3, _⟩ => ⟨S1x4096x3584, .f32⟩
  | .hbm, ⟨4, _⟩ => ⟨S1x4096x1024, .f32⟩
  | .hbm, ⟨5, _⟩ => ⟨S1024x3584, .f32⟩
  | .hbm, ⟨6, _⟩ => ⟨S1024x3584, .bf16⟩
  | .hbm, ⟨7, _⟩ => ⟨S1024x4x896, .bf16⟩
  | .hbm, ⟨8, _⟩ => ⟨S4x1024x896, .bf16⟩
  | .hbm, ⟨9, _⟩ => ⟨S4096x3584, .f32⟩
  | .hbm, ⟨10, _⟩ => ⟨S4096x3584, .bf16⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S8x1024, .f32⟩
  | .local _ .vmem, ⟨0, _⟩ => ⟨S512x3584, .bf16⟩
  | .local _ .vmem, ⟨1, _⟩ => ⟨S512x3584, .bf16⟩
  | .local _ .vmem, ⟨2, _⟩ => ⟨S4x1024x896, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x4096x1024 : Shape := ⟨3, ![1, 4096, 1024]⟩
abbrev S1x1024 : Shape := ⟨2, ![1, 1024]⟩
abbrev S1x1024x3584 : Shape := ⟨3, ![1, 1024, 3584]⟩
abbrev S1x4096x3584 : Shape := ⟨3, ![1, 4096, 3584]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x3584 : Shape := ⟨2, ![1024, 3584]⟩
abbrev S4096 : Shape := ⟨1, ![4096]⟩
abbrev S4096x1024 : Shape := ⟨2, ![4096, 1024]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x3584, .f32⟩
  | .hbm, ⟨3, _⟩ => ⟨S1x4096x3584, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x3584, .f32⟩
  | .hbm, ⟨27, _⟩ => ⟨S1x4096x3584, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x1024, .f32⟩
  | .hbm, ⟨57, _⟩ => ⟨S4096x1024, .f32⟩
  | .hbm, ⟨58, _⟩ => ⟨S_, .f32⟩
  | .hbm, ⟨59, _⟩ => ⟨S7x1024, .f32⟩
  | .hbm, ⟨60, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel3.lean ====
abbrev S1x4096x1024 : Shape := ⟨3, ![1, 4096, 1024]⟩
abbrev S1x4096x1536 : Shape := ⟨3, ![1, 4096, 1536]⟩
abbrev S1x1536x1024 : Shape := ⟨3, ![1, 1536, 1024]⟩
abbrev S1x1024 : Shape := ⟨2, ![1, 1024]⟩
abbrev S1x1024x4096 : Shape := ⟨3, ![1, 1024, 4096]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S4096x1536 : Shape := ⟨2, ![4096, 1536]⟩
abbrev S1536x1024 : Shape := ⟨2, ![1536, 1024]⟩
abbrev S4096x4096 : Shape := ⟨2, ![4096, 4096]⟩
abbrev S8x1024 : Shape := ⟨2, ![8, 1024]⟩
abbrev S256x1024 : Shape := ⟨2, ![256, 1024]⟩
abbrev S256x1536 : Shape := ⟨2, ![256, 1536]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 29
  | .vmem => 27
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1536, .f32⟩
  | .hbm, ⟨2, _⟩ => ⟨S1x1536x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S1x4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | .hbm, ⟨12, _⟩ => ⟨S4096x1024, .f32⟩
  | .hbm, ⟨13, _⟩ => ⟨S4096x1536, .f32⟩
  | .hbm, ⟨14, _⟩ => ⟨S4096x1536, .bf16⟩
  | .hbm, ⟨15, _⟩ => ⟨S1536x1024, .f32⟩
  | .hbm, ⟨16, _⟩ => ⟨S1536x1024, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S4096x1024, .f32⟩
  | .hbm, ⟨21, _⟩ => ⟨S4096x4096, .bf16⟩
  | .hbm, ⟨22, _⟩ => ⟨S4096x4096, .bf16⟩
  | .hbm, ⟨23, _⟩ => ⟨S4096x1024, .bf16⟩
  | .hbm, ⟨24, _⟩ => ⟨S4096x1024, .bf16⟩
  | .hbm, ⟨25, _⟩ => ⟨S4096x1024, .f32⟩
  | .hbm, ⟨26, _⟩ => ⟨S4096x1024, .bf16⟩
  | .hbm, ⟨27, _⟩ => ⟨S4096x1536, .f32⟩
  | .hbm, ⟨28, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1536, .f32⟩
  | .local _ .vmem, ⟨21, _⟩ => ⟨S256x1536, .f32⟩
  | .local _ .vmem, ⟨22, _⟩ => ⟨S8x1024, .f32⟩
  | .local _ .vmem, ⟨23, _⟩ => ⟨S1536x1024, .bf16⟩
  | .local _ .vmem, ⟨24, _⟩ => ⟨S4x1024x1024, .bf16⟩
  | .local _ .vmem, ⟨25, _⟩ => ⟨S4096x1024, .bf16⟩
  | .local _ .vmem, ⟨26, _⟩ => ⟨S256x4096, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v13_7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S1x4096x1024 : Shape := ⟨3, ![1, 4096, 1024]⟩
abbrev S1x4096x1536 : Shape := ⟨3, ![1, 4096, 1536]⟩
abbrev S1x1536x1024 : Shape := ⟨3, ![1, 1536, 1024]⟩
abbrev S1x1024 : Shape := ⟨2, ![1, 1024]⟩
abbrev S1x1024x4096 : Shape := ⟨3, ![1, 1024, 4096]⟩
abbrev S1024 : Shape := ⟨1, ![1024]⟩
abbrev S4096x1024 : Shape := ⟨2, ![4096, 1024]⟩
abbrev S4096x1536 : Shape := ⟨2, ![4096, 1536]⟩
abbrev S_ : Shape := ⟨0, ![]⟩
abbrev S4096x4096 : Shape := ⟨2, ![4096, 4096]⟩
abbrev S1536x1024 : Shape := ⟨2, ![1536, 1024]⟩
abbrev S4096 : Shape := ⟨1, ![4096]⟩
abbrev S4096x1 : Shape := ⟨2, ![4096, 1]⟩
abbrev S1024x4096 : Shape := ⟨2, ![1024, 4096]⟩
abbrev S5x1024 : Shape := ⟨2, ![5, 1024]⟩
abbrev S8x1024 : Shape := ⟨2, ![8, 1024]⟩

abbrev nBuf : Space → Nat
  | .hbm => 162
  | .vmem => 0
  | .smem => 0
  | _ => 0

abbrev hbmTy0_0 (i : Nat) : BufTy := match i % 128 with
  | 0 => ⟨S1x4096x1024, .f32⟩
  | 1 => ⟨S1x4096x1536, .f32⟩
  | 2 => ⟨S1x1536x1024, .f32⟩
  | 3 => ⟨S1x1024, .f32⟩
  | 4 => ⟨S1x1024x4096, .f32⟩
  | 5 => ⟨S1x4096x1024, .f32⟩
  | 6 => ⟨S1024, .f32⟩
  | 7 => ⟨S1x4096x1024, .f32⟩
  | 8 => ⟨S4096x1024, .f32⟩
  | 9 => ⟨S4096x1536, .f32⟩
  | 10 => ⟨S1x1024, .f32⟩
  | 11 => ⟨S_, .f32⟩
  | 12 => ⟨S4096x4096, .f32⟩
  | 13 => ⟨S_, .f32⟩
  | 14 => ⟨S4096x1024, .f32⟩
  | 15 => ⟨S1536x1024, .f32⟩
  | 16 => ⟨S4096x1024, .f32⟩
  | 17 => ⟨S4096x1024, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S4096x1024, .f32⟩
  | 36 => ⟨S4096x1024, .f32⟩
  | 37 => ⟨S1024x4096, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S_, .f32⟩
  | 44 => ⟨S4096x4096, .f32⟩
  | 45 => ⟨S4096x4096, .i1⟩
  | 46 => ⟨S_, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096, .f32⟩
  | 83 => ⟨S_, .f32⟩
  | 84 => ⟨S4096, .f32⟩
  | 85 => ⟨S4096, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S4096x1024, .f32⟩
  | _ => ⟨S1x4096x1024, .f32⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S4096x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S4096x1024, .f32⟩
  | 11 => ⟨S4096x1024, .f32⟩
  | 12 => ⟨S4096x1024, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1536, .f32⟩
  | 25 => ⟨S1x1024, .f32⟩
  | 26 => ⟨S_, .f32⟩
  | 27 => ⟨S5x1024, .f32⟩
  | 28 => ⟨S8x1024, .f32⟩
  | 29 => ⟨S4096x4096, .bf16⟩
  | 30 => ⟨S4096x4096, .bf16⟩
  | 31 => ⟨S4096x1024, .bf16⟩
  | 32 => ⟨S4096x1024, .bf16⟩
  | 33 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_cst_17 : Ref sig .tc := ⟨.hbm, 90, rfl⟩
abbrev main_cst_18 : Ref sig .tc := ⟨.hbm, 91, rfl⟩
abbrev main_v62 : Ref sig .tc := ⟨.hbm, 92, rfl⟩
abbrev main_v63 : Ref sig .tc := ⟨.hbm, 93, rfl⟩
abbrev main_cst_19 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_20 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_22 : Ref sig .tc := ⟨.hbm, 112, rfl⟩
abbrev main_v79 : Ref sig .tc := ⟨.hbm, 113, rfl⟩
abbrev main_v80 : Ref sig .tc := ⟨.hbm, 114, rfl⟩
abbrev main_cst_23 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_24 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_25 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_26 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_27 : Ref sig .tc := ⟨.hbm, 142, rfl⟩
abbrev main_v104 : Ref sig .tc := ⟨.hbm, 143, rfl⟩
abbrev main_v105 : Ref sig .tc := ⟨.hbm, 144, rfl⟩
abbrev main_cst_28 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_29 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩

abbrev nD : Nat := 1
abbrev τ : Topo := Topo.v7x

variable {F : FTy → Type} [FloatOps F]
-- ==== Kernel2.lean ====
abbrev S1x4096x3584 : Shape := ⟨3, ![1, 4096, 3584]⟩
abbrev S1x3x512 : Shape := ⟨3, ![1, 3, 512]⟩
abbrev S1x512 : Shape := ⟨2, ![1, 512]⟩
abbrev S1x4096x1536 : Shape := ⟨3, ![1, 4096, 1536]⟩
abbrev S4096x1024 : Shape := ⟨2, ![4096, 1024]⟩
abbrev S4096x4096 : Shape := ⟨2, ![4096, 4096]⟩
abbrev S8x1024 : Shape := ⟨2, ![8, 1024]⟩
abbrev S4x256x256 : Shape := ⟨3, ![4, 256, 256]⟩
abbrev S1x1024 : Shape := ⟨2, ![1, 1024]⟩
abbrev S4096x1536 : Shape := ⟨2, ![4096, 1536]⟩
abbrev S4096x512 : Shape := ⟨2, ![4096, 512]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096x3584 : Shape := ⟨2, ![4096, 3584]⟩
abbrev S8x512 : Shape := ⟨2, ![8, 512]⟩
abbrev S24x1024 : Shape := ⟨2, ![24, 1024]⟩
abbrev S2x16x64x64 : Shape := ⟨4, ![2, 16, 64, 64]⟩
abbrev S256x1536 : Shape := ⟨2, ![256, 1536]⟩
abbrev S256x3584 : Shape := ⟨2, ![256, 3584]⟩
abbrev S8x3584 : Shape := ⟨2, ![8, 3584]⟩
abbrev S256x1024 : Shape := ⟨2, ![256, 1024]⟩
abbrev S256x512 : Shape := ⟨2, ![256, 512]⟩
abbrev S256x4096 : Shape := ⟨2, ![256, 4096]⟩
abbrev S16x1024 : Shape := ⟨2, ![16, 1024]⟩
abbrev S256 : Shape := ⟨1, ![256]⟩
abbrev S256x1 : Shape := ⟨2, ![256, 1]⟩
abbrev S248x512 : Shape := ⟨2, ![248, 512]⟩
abbrev S1024 : Shape := ⟨1, ![1024]⟩
abbrev S248x1024 : Shape := ⟨2, ![248, 1024]⟩
abbrev S32x8x1024 : Shape := ⟨3, ![32, 8, 1024]⟩
abbrev S1x8x1024 : Shape := ⟨3, ![1, 8, 1024]⟩
abbrev S256x256 : Shape := ⟨2, ![256, 256]⟩
abbrev S1x256x256 : Shape := ⟨3, ![1, 256, 256]⟩
abbrev S1x64x128 : Shape := ⟨3, ![1, 64, 128]⟩
abbrev S64x128 : Shape := ⟨2, ![64, 128]⟩
abbrev S64x64 : Shape := ⟨2, ![64, 64]⟩
abbrev S1x1x64x64 : Shape := ⟨4, ![1, 1, 64, 64]⟩

abbrev nBuf : Space → Nat
  | .hbm => 55
  | .vmem => 34
  | .smem => 0
  | _ => 0

abbrev bufTy : (tb : Table) → Fin (tcTables nBuf tb) → BufTy
  | .hbm, ⟨0, _⟩ => ⟨S1x4096x3584, .f32⟩
  | .hbm, ⟨1, _⟩ => ⟨S1x3x512, .f32⟩
  | .hbm, ⟨2, _⟩ => ⟨S1x512, .f32⟩
  | .hbm, ⟨3, _⟩ => ⟨S1x4096x1536, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S8x1024, .f32⟩
  | .hbm, ⟨8, _⟩ => ⟨S4x256x256, .bf16⟩
  | .hbm, ⟨9, _⟩ => ⟨S4x256x256, .bf16⟩
  | .hbm, ⟨10, _⟩ => ⟨S1x1024, .f32⟩
  | .hbm, ⟨11, _⟩ => ⟨S1x1024, .f32⟩
  | .hbm, ⟨12, _⟩ => ⟨S8x1024, .f32⟩
  | .hbm, ⟨13, _⟩ => ⟨S1x4096x1536, .f32⟩
  | .hbm, ⟨14, _⟩ => ⟨S4096x1536, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S3x512, .f32⟩
  | .hbm, ⟨20, _⟩ => ⟨S_, .f32⟩
  | .hbm, ⟨21, _⟩ => ⟨S2x512, .f32⟩
  | .hbm, ⟨22, _⟩ => ⟨S4098x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S512, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S512, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x1536, .f32⟩
  | .hbm, ⟨44, _⟩ => ⟨S4096x3584, .f32⟩
  | .hbm, ⟨45, _⟩ => ⟨S3x512, .f32⟩
  | .hbm, ⟨46, _⟩ => ⟨S_, .i32⟩
  | .hbm, ⟨47, _⟩ => ⟨S_, .f32⟩
  | .hbm, ⟨48, _⟩ => ⟨S8x512, .f32⟩
  | .hbm, ⟨49, _⟩ => ⟨S4096x3584, .bf16⟩
  | .hbm, ⟨50, _⟩ => ⟨S24x1024, .f32⟩
  | .hbm, ⟨51, _⟩ => ⟨S2x16x64x64, .bf16⟩
  | .hbm, ⟨52, _⟩ => ⟨S4096x1536, .bf16⟩
  | .hbm, ⟨53, _⟩ => ⟨S3x512, .f32⟩
  | .hbm, ⟨54, _⟩ => ⟨S1x512, .f32⟩
  | .local _ .vmem, ⟨0, _⟩ => ⟨S256x1536, .f32⟩
  | .local _ .vmem, ⟨1, _⟩ => ⟨S256x1536, .f32⟩
  | .local _ .vmem, ⟨2, _⟩ => ⟨S256x3584, .f32⟩
  | .local _ .vmem, ⟨3, _⟩ => ⟨S256x3584, .f32⟩
  | .local _ .vmem, ⟨4, _⟩ => ⟨S8x3584, .f32⟩
  | .local _ .vmem, ⟨5, _⟩ => ⟨S8x3584, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S256x512, .f32⟩
  | .local _ .vmem, ⟨13, _⟩ => ⟨S256x512, .f32⟩
  | .local _ .vmem, ⟨14, _⟩ => ⟨S256x4096, .f32⟩
  | .local _ .vmem, ⟨15, _⟩ => ⟨S256x4096, .f32⟩
  | .local _ .vmem, ⟨16, _⟩ => ⟨S8x512, .f32⟩
  | .local _ .vmem, ⟨17, _⟩ => ⟨S8x1024, .f32⟩
  | .local _ .vmem, ⟨18, _⟩ => ⟨S4x256x256, .bf16⟩
  | .local _ .vmem, ⟨19, _⟩ => ⟨S4x256x256, .bf16⟩
  | .local _ .vmem, ⟨20, _⟩ => ⟨S1x1024, .f32⟩
  | .local _ .vmem, ⟨21, _⟩ => ⟨S1x512, .f32⟩
  | .local _ .vmem, ⟨22, _⟩ => ⟨S1x1024, .f32⟩
  | .local _ .vmem, ⟨23, _⟩ => ⟨S8x1024, .f32⟩
  | .local _ .vmem, ⟨24, _⟩ => ⟨S256x3584, .bf16⟩
  | .local _ .vmem, ⟨25, _⟩ => ⟨S256x3584, .bf16⟩
  | .local _ .vmem, ⟨26, _⟩ => ⟨S24x1024, .f32⟩
  | .local _ .vmem, ⟨27, _⟩ => ⟨S2x16x64x64, .bf16⟩
  | .local _ .vmem, ⟨28, _⟩ => ⟨S8x512, .f32⟩
  | .local _ .vmem, ⟨29, _⟩ => ⟨S8x1024, .f32⟩
  | .local _ .vmem, ⟨30, _⟩ => ⟨S8x1024, .f32⟩
  | .local _ .vmem, ⟨31, _⟩ => ⟨S8x1024, .f32⟩
  | .local _ .vmem, ⟨32, _⟩ => ⟨S4x256x256, .f32⟩
  | .local _ .vmem, ⟨33, _⟩ => ⟨S4x256x256, .f32⟩
  | _, _ => ⟨S1x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call0_v0 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_289 : BitVec 32 := 15#32
  let v850 : BitVec 1 := Scalar.cmpi .eq arg0 c15_i32_289
  let v851 : BitVec 32 := Scalar.extui v850
  let c0_i32_290 : BitVec 32 := 0#32
  let v852 : BitVec 1 := Scalar.cmpi .ne v851 c0_i32_290
  v852

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x3584 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S24x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x16x64x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S1x4096x3584 : Shape := ⟨3, ![1, 4096, 3584]⟩
abbrev S1x3x512 : Shape := ⟨3, ![1, 3, 512]⟩
abbrev S1x512 : Shape := ⟨2, ![1, 512]⟩
abbrev S1x4096x1536 : Shape := ⟨3, ![1, 4096, 1536]⟩
abbrev S4096x1024 : Shape := ⟨2, ![4096, 1024]⟩
abbrev S4096x4096 : Shape := ⟨2, ![4096, 4096]⟩
abbrev S8x1024 : Shape := ⟨2, ![8, 1024]⟩
abbrev S4x256x256 : Shape := ⟨3, ![4, 256, 256]⟩
abbrev S1x1024 : Shape := ⟨2, ![1, 1024]⟩
abbrev S4096x1536 : Shape := ⟨2, ![4096, 1536]⟩
abbrev S4096x512 : Shape := ⟨2, ![4096, 512]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096 : Shape := ⟨1, ![4096]⟩
abbrev S4096x1 : Shape := ⟨2, ![4096, 1]⟩
abbrev S1x4096x512 : Shape := ⟨3, ![1, 4096, 512]⟩

abbrev nBuf : Space → Nat
  | .hbm => 148
  | .vmem => 0
  | .smem => 0
  | _ => 0

abbrev hbmTy0_0 (i : Nat) : BufTy := match i % 128 with
  | 0 => ⟨S1x4096x3584, .f32⟩
  | 1 => ⟨S1x3x512, .f32⟩
  | 2 => ⟨S1x512, .f32⟩
  | 3 => ⟨S1x4096x1536, .f32⟩
  | 4 => ⟨S4096x1024, .f32⟩
  | 5 => ⟨S4096x1024, .f32⟩
  | 6 => ⟨S4096x4096, .f32⟩
  | 7 => ⟨S8x1024, .f32⟩
  | 8 => ⟨S4x256x256, .bf16⟩
  | 9 => ⟨S4x256x256, .bf16⟩
  | 10 => ⟨S1x1024, .f32⟩
  | 11 => ⟨S1x1024, .f32⟩
  | 12 => ⟨S8x1024, .f32⟩
  | 13 => ⟨S1x4096x1536, .f32⟩
  | 14 => ⟨S4096x1536, .f32⟩
  | 15 => ⟨S4096x512, .f32⟩
  | 16 => ⟨S4096x512, .f32⟩
  | 17 => ⟨S4096x512, .f32⟩
  | 18 => ⟨S4096x512, .f32⟩
  | 19 => ⟨S3x512, .f32⟩
  | 20 => ⟨S_, .f32⟩
  | 21 => ⟨S2x512, .f32⟩
  | 22 => ⟨S4098x512, .f32⟩
  | 23 => ⟨S_, .f32⟩
  | 24 => ⟨S2x512, .f32⟩
  | 25 => ⟨S1x512, .f32⟩
  | 26 => ⟨S512, .f32⟩
  | 27 => ⟨S4096x512, .f32⟩
  | 28 => ⟨S1x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S512, .f32⟩
  | 47 => ⟨S4096x512, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x512, .f32⟩
  | 63 => ⟨S4096x512, .f32⟩
  | 64 => ⟨S1x512, .f32⟩
  | 65 => ⟨S4096x512, .f32⟩
  | 66 => ⟨S4096x512, .f32⟩
  | 67 => ⟨S1x4096x512, .f32⟩
  | 68 => ⟨S4096x512, .f32⟩
  | 69 => ⟨S4096x512, .f32⟩
  | 70 => ⟨S_, .f32⟩
  | 71 => ⟨S512, .f32⟩
  | 72 => ⟨S1x512, .f32⟩
  | 73 => ⟨S4096x512, .f32⟩
  | 74 => ⟨S4096x512, .f32⟩
  | 75 => ⟨S_, .f32⟩
  | 76 => ⟨S512, .f32⟩
  | 77 => ⟨S4096x512, .f32⟩
  | 78 => ⟨S_, .f32⟩
  | 79 => ⟨S4096, .f32⟩
  | 80 => ⟨S4096x1, .f32⟩
  | 81 => ⟨S4096x512, .f32⟩
  | 82 => ⟨S4096x512, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S_, .f32⟩
  | 101 => ⟨S512, .f32⟩
  | 102 => ⟨S1x512, .f32⟩
  | 103 => ⟨S_, .f32⟩
  | 104 => ⟨S512, .f32⟩
  | 105 => ⟨S_, .f32⟩
  | 106 => ⟨S4098x512, .f32⟩
  | 107 => ⟨S1x512, .f32⟩
  | 108 => ⟨S_, .f32⟩
  | 109 => ⟨S3x512, .f32⟩
  | 110 => ⟨S4096x512, .f32⟩
  | 111 => ⟨S4096x512, .f32⟩
  | 112 => ⟨S4096x512, .f32⟩
  | 113 => ⟨S_, .f32⟩
  | 114 => ⟨S512, .f32⟩
  | 115 => ⟨S1x512, .f32⟩
  | 116 => ⟨S_, .f32⟩
  | 117 => ⟨S512, .f32⟩
  | 118 => ⟨S_, .f32⟩
  | 119 => ⟨S4098x512, .f32⟩
  | 120 => ⟨S4098x512, .f32⟩
  | 121 => ⟨S1x512, .f32⟩
  | 122 => ⟨S_, .f32⟩
  | 123 => ⟨S3x512, .f32⟩
  | 124 => ⟨S3x512, .f32⟩
  | 125 => ⟨S4096x512, .f32⟩
  | 126 => ⟨S4096x512, .f32⟩
  | 127 => ⟨S4096x512, .f32⟩
  | _ => ⟨S1x4096x3584, .f32⟩

abbrev hbmTy0_1 (i : Nat) : BufTy := match i % 128 with
  | 0 => ⟨S_, .f32⟩
  | 1 => ⟨S512, .f32⟩
  | 2 => ⟨S1x512, .f32⟩
  | 3 => ⟨S_, .f32⟩
  | 4 => ⟨S512, .f32⟩
  | 5 => ⟨S_, .f32⟩
  | 6 => ⟨S4098x512, .f32⟩
  | 7 => ⟨S4098x512, .f32⟩
  | 8 => ⟨S1x512, .f32⟩
  | 9 => ⟨S_, .f32⟩
  | 10 => ⟨S3x512, .f32⟩
  | 11 => ⟨S3x512, .f32⟩
  | 12 => ⟨S2x512, .f32⟩
  | 13 => ⟨S4096x512, .f32⟩
  | 14 => ⟨S1x3x512, .f32⟩
  | 15 => ⟨S4096x512, .f32⟩
  | 16 => ⟨S4096x512, .f32⟩
  | 17 => ⟨S4096x1536, .f32⟩
  | 18 => ⟨S4096x1536, .bf16⟩
  | 19 => ⟨S3x512, .f32⟩
  | _ => ⟨S1x4096x3584, .f32⟩

abbrev hbmTy (i : Nat) : BufTy := match i / 128 with
  | 0 => hbmTy0_0 i
  | 1 => hbmTy0_1 i
  | _ => ⟨S1x4096x3584, .f32⟩

abbrev bufTy : (tb : Table) → Fin (tcTables nBuf tb) → BufTy
  | .hbm, ⟨i, _⟩ => hbmTy i
  | _, _ => ⟨S1x4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_v77 : Ref sig .tc := ⟨.hbm, 102, rfl⟩
abbrev main_cst_11 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_cst_16 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_21 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x1024x3584 : Shape := ⟨3, ![1, 1024, 3584]⟩
abbrev S1x3x512 : Shape := ⟨3, ![1, 3, 512]⟩
abbrev S1x4x1024 : Shape := ⟨3, ![1, 4, 1024]⟩
abbrev S1x1024 : Shape := ⟨2, ![1, 1024]⟩
abbrev S1x16x64x64 : Shape := ⟨4, ![1, 16, 64, 64]⟩
abbrev S1x512 : Shape := ⟨2, ![1, 512]⟩
abbrev S1024x3584 : Shape := ⟨2, ![1024, 3584]⟩
abbrev S1024x4x896 : Shape := ⟨3, ![1024, 4, 896]⟩
abbrev S4x1024x896 : Shape := ⟨3, ![4, 1024, 896]⟩
abbrev S4096x1024 : Shape := ⟨2, ![4096, 1024]⟩
abbrev S3x512 : Shape := ⟨2, ![3, 512]⟩
abbrev S_ : Shape := ⟨0, ![]⟩
abbrev S8x512 : Shape := ⟨2, ![8, 512]⟩
abbrev S4x1024 : Shape := ⟨2, ![4, 1024]⟩
abbrev S8x1024 : Shape := ⟨2, ![8, 1024]⟩
abbrev S16x64x64 : Shape := ⟨3, ![16, 64, 64]⟩
abbrev S4x4 : Shape := ⟨2, ![4, 4]⟩
abbrev S1x4x1x4x1 : Shape := ⟨5, ![1, 4, 1, 4, 1]⟩
abbrev S4x4x64x1x64 : Shape := ⟨5, ![4, 4, 64, 1, 64]⟩
abbrev S4x4x64x4x64 : Shape := ⟨5, ![4, 4, 64, 4, 64]⟩
abbrev S4x256x256 : Shape := ⟨3, ![4, 256, 256]⟩
abbrev S4096x3584 : Shape := ⟨2, ![4096, 3584]⟩
abbrev S4096x512 : Shape := ⟨2, ![4096, 512]⟩
abbrev S4096x1536 : Shape := ⟨2, ![4096, 1536]⟩
abbrev S4096x4096 : Shape := ⟨2, ![4096, 4096]⟩
abbrev S256x1024 : Shape := ⟨2, ![256, 1024]⟩
abbrev S256x3584 : Shape := ⟨2, ![256, 3584]⟩
abbrev S256x512 : Shape := ⟨2, ![256, 512]⟩
abbrev S256x1536 : Shape := ⟨2, ![256, 1536]⟩
abbrev S256x4096 : Shape := ⟨2, ![256, 4096]⟩
abbrev S1x1024x896 : Shape := ⟨3, ![1, 1024, 896]⟩
abbrev S1024x896 : Shape := ⟨2, ![1024, 896]⟩
abbrev S256x896 : Shape := ⟨2, ![256, 896]⟩
abbrev S248x512 : Shape := ⟨2, ![248, 512]⟩
abbrev S248x1024 : Shape := ⟨2, ![248, 1024]⟩
abbrev S256x256 : Shape := ⟨2, ![256, 256]⟩
abbrev S1x256x256 : Shape := ⟨3, ![1, 256, 256]⟩
abbrev S32x8x1024 : Shape := ⟨3, ![32, 8, 1024]⟩
abbrev S1x8x1024 : Shape := ⟨3, ![1, 8, 1024]⟩
abbrev S256 : Shape := ⟨1, ![256]⟩
abbrev S256x1 : Shape := ⟨2, ![256, 1]⟩

abbrev nBuf : Space → Nat
  | .hbm => 66
  | .vmem => 28
  | .smem => 0
  | _ => 0

abbrev bufTy : (tb : Table) → Fin (tcTables nBuf tb) → BufTy
  | .hbm, ⟨0, _⟩ => ⟨S1x4096x1024, .f32⟩
  | .hbm, ⟨1, _⟩ => ⟨S1x1024x3584, .f32⟩
  | .hbm, ⟨2, _⟩ => ⟨S1x3x512, .f32⟩
  | .hbm, ⟨3, _⟩ => ⟨S1x4x1024, .f32⟩
  | .hbm, ⟨4, _⟩ => ⟨S1x1024, .f32⟩
  | .hbm, ⟨5, _⟩ => ⟨S1x16x64x64, .f32⟩
  | .hbm, ⟨6, _⟩ => ⟨S1x1024, .f32⟩
  | .hbm, ⟨7, _⟩ => ⟨S1x16x64x64, .f32⟩
  | .hbm, ⟨8, _⟩ => ⟨S1x1024, .f32⟩
  | .hbm, ⟨9, _⟩ => ⟨S1x1024, .f32⟩
  | .hbm, ⟨10, _⟩ => ⟨S1x512, .f32⟩
  | .hbm, ⟨11, _⟩ => ⟨S1x1024, .f32⟩
  | .hbm, ⟨12, _⟩ => ⟨S1024x3584, .f32⟩
  | .hbm, ⟨13, _⟩ => ⟨S1024x3584, .bf16⟩
  | .hbm, ⟨14, _⟩ => ⟨S1024x4x896, .bf16⟩
  | .hbm, ⟨15, _⟩ => ⟨S4x1024x896, .bf16⟩
  | .hbm, ⟨16, _⟩ => ⟨S4096x1024, .f32⟩
  | .hbm, ⟨17, _⟩ => ⟨S4096x1024, .bf16⟩
  | .hbm, ⟨18, _⟩ => ⟨S3x512, .f32⟩
  | .hbm, ⟨19, _⟩ => ⟨S_, .i32⟩
  | .hbm, ⟨20, _⟩ => ⟨S_, .f32⟩
  | .hbm, ⟨21, _⟩ => ⟨S8x512, .f32⟩
  | .hbm, ⟨22, _⟩ => ⟨S4x1024, .f32⟩
  | .hbm, ⟨23, _⟩ => ⟨S_, .i32⟩
  | .hbm, ⟨24, _⟩ => ⟨S_, .f32⟩
  | .hbm, ⟨25, _⟩ => ⟨S8x1024, .f32⟩
  | .hbm, ⟨26, _⟩ => ⟨S16x64x64, .f32⟩
  | .hbm, ⟨27, _⟩ => ⟨S4x4, .i32⟩
  | .hbm, ⟨28, _⟩ => ⟨S4x4, .i32⟩
  | .hbm, ⟨29, _⟩ => ⟨S_, .i32⟩
  | .hbm, ⟨30, _⟩ => ⟨S4x4, .i32⟩
  | .hbm, ⟨31, _⟩ => ⟨S4x4, .i32⟩
  | .hbm, ⟨32, _⟩ => ⟨S4x4, .i1⟩
  | .hbm, ⟨33, _⟩ => ⟨S1x4x1x4x1, .i1⟩
  | .hbm, ⟨34, _⟩ => ⟨S4x4x64x1x64, .f32⟩
  | .hbm, ⟨35, _⟩ => ⟨S_, .f32⟩
  | .hbm, ⟨36, _⟩ => ⟨S_, .f32⟩
  | .hbm, ⟨37, _⟩ => ⟨S4x4x64x4x64, .i1⟩
  | .hbm, ⟨38, _⟩ => ⟨S4x4x64x4x64, .f32⟩
  | .hbm, ⟨39, _⟩ => ⟨S4x4x64x4x64, .f32⟩
  | .hbm, ⟨40, _⟩ => ⟨S4x4x64x4x64, .f32⟩
  | .hbm, ⟨41, _⟩ => ⟨S4x256x256, .f32⟩
  | .hbm, ⟨42, _⟩ => ⟨S4x256x256, .bf16⟩
  | .hbm, ⟨43, _⟩ => ⟨S16x64x64, .f32⟩
  | .hbm, ⟨44, _⟩ => ⟨S4x4, .i32⟩
  | .hbm, ⟨45, _⟩ => ⟨S4x4, .i32⟩
  | .hbm, ⟨46, _⟩ => ⟨S_, .i32⟩
  | .hbm, ⟨47, _⟩ => ⟨S4x4, .i32⟩
  | .hbm, ⟨48, _⟩ => ⟨S4x4, .i32⟩
  | .hbm, ⟨49, _⟩ => ⟨S4x4, .i1⟩
  | .hbm, ⟨50, _⟩ => ⟨S1x4x1x4x1, .i1⟩
  | .hbm, ⟨51, _⟩ => ⟨S4x4x64x1x64, .f32⟩
  | .hbm, ⟨52, _⟩ => ⟨S_, .f32⟩
  | .hbm, ⟨53, _⟩ => ⟨S_, .f32⟩
  | .hbm, ⟨54, _⟩ => ⟨S4x4x64x4x64, .i1⟩
  | .hbm, ⟨55, _⟩ => ⟨S4x4x64x4x64, .f32⟩
  | .hbm, ⟨56, _⟩ => ⟨S4x4x64x4x64, .f32⟩
  | .hbm, ⟨57, _⟩ => ⟨S4x4x64x4x64, .f32⟩
  | .hbm, ⟨58, _⟩ => ⟨S4x256x256, .f32⟩
  | .hbm, ⟨59, _⟩ => ⟨S4x256x256, .bf16⟩
  | .hbm, ⟨60, _⟩ => ⟨S4096x3584, .f32⟩
  | .hbm, ⟨61, _⟩ => ⟨S4096x1024, .f32⟩
  | .hbm, ⟨62, _⟩ => ⟨S4096x1024, .f32⟩
  | .hbm, ⟨63, _⟩ => ⟨S4096x512, .f32⟩
  | .hbm, ⟨64, _⟩ => ⟨S4096x1536, .bf16⟩
  | .hbm, ⟨65, _⟩ => ⟨S4096x4096, .f32⟩
  | .local _ .vmem, ⟨0, _⟩ => ⟨S256x1024, .bf16⟩
  | .local _ .vmem, ⟨1, _⟩ => ⟨S256x1024, .bf16⟩
  | .local _ .vmem, ⟨2, _⟩ => ⟨S4x1024x896, .bf16⟩
  | .local _ .vmem, ⟨3, _⟩ => ⟨S8x512, .f32⟩
  | .local _ .vmem, ⟨4, _⟩ => ⟨S8x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1x512, .f32⟩
  | .local _ .vmem, ⟨12, _⟩ => ⟨S1x1024, .f32⟩
  | .local _ .vmem, ⟨13, _⟩ => ⟨S256x3584, .f32⟩
  | .local _ .vmem, ⟨14, _⟩ => ⟨S256x3584, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x512, .f32⟩
  | .local _ .vmem, ⟨20, _⟩ => ⟨S256x512, .f32⟩
  | .local _ .vmem, ⟨21, _⟩ => ⟨S256x1536, .bf16⟩
  | .local _ .vmem, ⟨22, _⟩ => ⟨S256x1536, .bf16⟩
  | .local _ .vmem, ⟨23, _⟩ => ⟨S256x4096, .f32⟩
  | .local _ .vmem, ⟨24, _⟩ => ⟨S256x4096, .f32⟩
  | .local _ .vmem, ⟨25, _⟩ => ⟨S8x512, .f32⟩
  | .local _ .vmem, ⟨26, _⟩ => ⟨S8x1024, .f32⟩
  | .local _ .vmem, ⟨27, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32_0 : Ref sig .tc := ⟨.hbm, 60, rfl⟩
abbrev main_v32_1 : Ref sig .tc := ⟨.hbm, 61, rfl⟩
abbrev main_v32_2 : Ref sig .tc := ⟨.hbm, 62, rfl⟩
abbrev main_v32_3 : Ref sig .tc := ⟨.hbm, 63, rfl⟩
abbrev main_v32_4 : Ref sig .tc := ⟨.hbm, 64, rfl⟩
abbrev main_v32_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x3584 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S1x4096x1024 : Shape := ⟨3, ![1, 4096, 1024]⟩
abbrev S1x1024x3584 : Shape := ⟨3, ![1, 1024, 3584]⟩
abbrev S1x3x512 : Shape := ⟨3, ![1, 3, 512]⟩
abbrev S1x4x1024 : Shape := ⟨3, ![1, 4, 1024]⟩
abbrev S1x1024 : Shape := ⟨2, ![1, 1024]⟩
abbrev S1x16x64x64 : Shape := ⟨4, ![1, 16, 64, 64]⟩
abbrev S1x512 : Shape := ⟨2, ![1, 512]⟩
abbrev S4096x1024 : Shape := ⟨2, ![4096, 1024]⟩
abbrev S1024x3584 : Shape := ⟨2, ![1024, 3584]⟩
abbrev S4096x3584 : Shape := ⟨2, ![4096, 3584]⟩
abbrev S4096x512 : Shape := ⟨2, ![4096, 512]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4x1024 : Shape := ⟨2, ![4, 1024]⟩
abbrev S3x1024 : Shape := ⟨2, ![3, 1024]⟩
abbrev S4099x1024 : Shape := ⟨2, ![4099, 1024]⟩
abbrev S1024 : Shape := ⟨1, ![1024]⟩
abbrev S16x64x64 : Shape := ⟨3, ![16, 64, 64]⟩
abbrev S4096x16x64 : Shape := ⟨3, ![4096, 16, 64]⟩
abbrev S16x64x4096 : Shape := ⟨3, ![16, 64, 4096]⟩
abbrev S4096 : Shape := ⟨1, ![4096]⟩
abbrev S4096x1 : Shape := ⟨2, ![4096, 1]⟩
abbrev S4096x1536 : Shape := ⟨2, ![4096, 1536]⟩
abbrev S4096x4096 : Shape := ⟨2, ![4096, 4096]⟩

abbrev nBuf : Space → Nat
  | .hbm => 226
  | .vmem => 0
  | .smem => 0
  | _ => 0

abbrev hbmTy0_0 (i : Nat) : BufTy := match i % 128 with
  | 0 => ⟨S1x4096x1024, .f32⟩
  | 1 => ⟨S1x1024x3584, .f32⟩
  | 2 => ⟨S1x3x512, .f32⟩
  | 3 => ⟨S1x4x1024, .f32⟩
  | 4 => ⟨S1x1024, .f32⟩
  | 5 => ⟨S1x16x64x64, .f32⟩
  | 6 => ⟨S1x1024, .f32⟩
  | 7 => ⟨S1x16x64x64, .f32⟩
  | 8 => ⟨S1x1024, .f32⟩
  | 9 => ⟨S1x1024, .f32⟩
  | 10 => ⟨S1x512, .f32⟩
  | 11 => ⟨S1x1024, .f32⟩
  | 12 => ⟨S4096x1024, .f32⟩
  | 13 => ⟨S1024x3584, .f32⟩
  | 14 => ⟨S4096x3584, .f32⟩
  | 15 => ⟨S4096x512, .f32⟩
  | 16 => ⟨S4096x512, .f32⟩
  | 17 => ⟨S4096x512, .f32⟩
  | 18 => ⟨S4096x1024, .f32⟩
  | 19 => ⟨S4096x1024, .f32⟩
  | 20 => ⟨S4096x512, .f32⟩
  | 21 => ⟨S3x512, .f32⟩
  | 22 => ⟨S_, .f32⟩
  | 23 => ⟨S2x512, .f32⟩
  | 24 => ⟨S4098x512, .f32⟩
  | 25 => ⟨S1x512, .f32⟩
  | 26 => ⟨S512, .f32⟩
  | 27 => ⟨S4096x512, .f32⟩
  | 28 => ⟨S1x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S4x1024, .f32⟩
  | 46 => ⟨S_, .f32⟩
  | 47 => ⟨S3x1024, .f32⟩
  | 48 => ⟨S4099x1024, .f32⟩
  | 49 => ⟨S1x1024, .f32⟩
  | 50 => ⟨S1024, .f32⟩
  | 51 => ⟨S4096x1024, .f32⟩
  | 52 => ⟨S1x1024, .f32⟩
  | 53 => ⟨S4096x1024, .f32⟩
  | 54 => ⟨S4096x1024, .f32⟩
  | 55 => ⟨S1x1024, .f32⟩
  | 56 => ⟨S1024, .f32⟩
  | 57 => ⟨S4096x1024, .f32⟩
  | 58 => ⟨S1x1024, .f32⟩
  | 59 => ⟨S4096x1024, .f32⟩
  | 60 => ⟨S4096x1024, .f32⟩
  | 61 => ⟨S4096x1024, .f32⟩
  | 62 => ⟨S1x1024, .f32⟩
  | 63 => ⟨S1024, .f32⟩
  | 64 => ⟨S4096x1024, .f32⟩
  | 65 => ⟨S1x1024, .f32⟩
  | 66 => ⟨S4096x1024, .f32⟩
  | 67 => ⟨S4096x1024, .f32⟩
  | 68 => ⟨S4096x1024, .f32⟩
  | 69 => ⟨S1x1024, .f32⟩
  | 70 => ⟨S1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S1024, .f32⟩
  | 77 => ⟨S1x1024, .f32⟩
  | 78 => ⟨S4096x1024, .f32⟩
  | 79 => ⟨S4096x1024, .f32⟩
  | 80 => ⟨S16x64x64, .f32⟩
  | 81 => ⟨S1024, .f32⟩
  | 82 => ⟨S4096x16x64, .f32⟩
  | 83 => ⟨S16x64x4096, .f32⟩
  | 84 => ⟨S4096x16x64, .f32⟩
  | 85 => ⟨S4096x1024, .f32⟩
  | 86 => ⟨S1x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S16x64x64, .f32⟩
  | 98 => ⟨S1024, .f32⟩
  | 99 => ⟨S4096x16x64, .f32⟩
  | 100 => ⟨S16x64x4096, .f32⟩
  | 101 => ⟨S4096x16x64, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S_, .f32⟩
  | 115 => ⟨S4096x1024, .f32⟩
  | 116 => ⟨S4096x1024, .f32⟩
  | 117 => ⟨S1024, .f32⟩
  | 118 => ⟨S1024, .f32⟩
  | 119 => ⟨S_, .f32⟩
  | 120 => ⟨S1024, .f32⟩
  | 121 => ⟨S1024, .f32⟩
  | 122 => ⟨S1024, .f32⟩
  | 123 => ⟨S1024, .f32⟩
  | 124 => ⟨S1024, .i1⟩
  | 125 => ⟨S1024, .f32⟩
  | 126 => ⟨S1024, .f32⟩
  | 127 => ⟨S1024, .f32⟩
  | _ => ⟨S1x4096x1024, .f32⟩

abbrev hbmTy0_1 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1x1024, .f32⟩
  | 6 => ⟨S4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S1024, .f32⟩
  | 19 => ⟨S_, .f32⟩
  | 20 => ⟨S4096x1024, .f32⟩
  | 21 => ⟨S_, .i32⟩
  | 22 => ⟨S4096x1024, .f32⟩
  | 23 => ⟨S4096x1024, .f32⟩
  | 24 => ⟨S_, .i32⟩
  | 25 => ⟨S1024, .f32⟩
  | 26 => ⟨S4096x1024, .f32⟩
  | 27 => ⟨S_, .i32⟩
  | 28 => ⟨S_, .i1⟩
  | 29 => ⟨S_, .i32⟩
  | 30 => ⟨S1x1024, .f32⟩
  | 31 => ⟨S1024, .f32⟩
  | 32 => ⟨S_, .i32⟩
  | 33 => ⟨S1x1024, .f32⟩
  | 34 => ⟨S1024, .f32⟩
  | 35 => ⟨S1024, .f32⟩
  | 36 => ⟨S1024, .f32⟩
  | 37 => ⟨S1x1024, .f32⟩
  | 38 => ⟨S_, .i32⟩
  | 39 => ⟨S4096x1024, .f32⟩
  | 40 => ⟨S_, .i32⟩
  | 41 => ⟨S_, .i32⟩
  | 42 => ⟨S4096x512, .f32⟩
  | 43 => ⟨S512, .f32⟩
  | 44 => ⟨S4096x512, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x512, .f32⟩
  | 56 => ⟨S4096x512, .f32⟩
  | 57 => ⟨S1x512, .f32⟩
  | 58 => ⟨S4096x512, .f32⟩
  | 59 => ⟨S4096x512, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S1024, .f32⟩
  | 79 => ⟨S4096x1024, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1, .f32⟩
  | 90 => ⟨S4096x1024, .f32⟩
  | 91 => ⟨S4096x1024, .f32⟩
  | 92 => ⟨S1x1024, .f32⟩
  | 93 => ⟨S4096x1024, .f32⟩
  | 94 => ⟨S4096x1024, .f32⟩
  | 95 => ⟨S4096x1536, .f32⟩
  | 96 => ⟨S4096x1536, .bf16⟩
  | 97 => ⟨S4096x4096, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_1 : Ref sig .tc := ⟨.hbm, 91, rfl⟩
abbrev main_v77 : Ref sig .tc := ⟨.hbm, 92, rfl⟩
abbrev main_v78 : Ref sig .tc := ⟨.hbm, 93, rfl⟩
abbrev main_cst_2 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_3 : Ref sig .tc := ⟨.hbm, 108, rfl⟩
abbrev main_v92 : Ref sig .tc := ⟨.hbm, 109, rfl⟩
abbrev main_v93 : Ref sig .tc := ⟨.hbm, 110, rfl⟩
abbrev main_cst_4 : Ref sig .tc := ⟨.hbm, 111, rfl⟩
abbrev main_v94 : Ref sig .tc := ⟨.hbm, 112, rfl⟩
abbrev main_v95 : Ref sig .tc := ⟨.hbm, 113, rfl⟩
abbrev main_cst_5 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_call0_cst : Ref sig .tc := ⟨.hbm, 119, rfl⟩
abbrev main_call0_v0 : Ref sig .tc := ⟨.hbm, 120, rfl⟩
abbrev main_call0_v1 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_call0_v5 : Ref sig .tc := ⟨.hbm, 125, rfl⟩
abbrev main_call0_v6 : Ref sig .tc := ⟨.hbm, 126, rfl⟩
abbrev main_call0_v7 : Ref sig .tc := ⟨.hbm, 127, rfl⟩
abbrev main_call0_v8 : Ref sig .tc := ⟨.hbm, 128, rfl⟩
abbrev main_call0_v9 : Ref sig .tc := ⟨.hbm, 129, rfl⟩
abbrev main_call0_v10 : Ref sig .tc := ⟨.hbm, 130, rfl⟩
abbrev main_call0_v11 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_6 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_7 : Ref sig .tc := ⟨.hbm, 145, rfl⟩
abbrev main_v112 : Ref sig .tc := ⟨.hbm, 146, rfl⟩
abbrev main_cst_8 : Ref sig .tc := ⟨.hbm, 147, rfl⟩
abbrev main_v113 : Ref sig .tc := ⟨.hbm, 148, rfl⟩
abbrev main_c : Ref sig .tc := ⟨.hbm, 149, rfl⟩
abbrev main_v114_0 : Ref sig .tc := ⟨.hbm, 150, rfl⟩
abbrev main_v114_1 : Ref sig .tc := ⟨.hbm, 151, rfl⟩
abbrev main_v114_2 : Ref sig .tc := ⟨.hbm, 152, rfl⟩
abbrev main_v114_3 : Ref sig .tc := ⟨.hbm, 153, rfl⟩
abbrev main_v114_4 : Ref sig .tc := ⟨.hbm, 154, rfl⟩
abbrev main_while0c_c_23 : Ref sig .tc := ⟨.hbm, 155, rfl⟩
abbrev main_while0c_v161 : Ref sig .tc := ⟨.hbm, 156, rfl⟩
abbrev main_while0b_call1_c : Ref sig .tc := ⟨.hbm, 157, rfl⟩
abbrev main_while0b_call1_v0 : Ref sig .tc := ⟨.hbm, 158, rfl⟩
abbrev main_while0b_v161 : Ref sig .tc := ⟨.hbm, 159, rfl⟩
abbrev main_while0b_call2_c : Ref sig .tc := ⟨.hbm, 160, rfl⟩
abbrev main_while0b_call2_v0 : Ref sig .tc := ⟨.hbm, 161, rfl⟩
abbrev main_while0b_v162 : Ref sig .tc := ⟨.hbm, 162, rfl⟩
abbrev main_while0b_v163 : Ref sig .tc := ⟨.hbm, 163, rfl⟩
abbrev main_while0b_v164 : Ref sig .tc := ⟨.hbm, 164, rfl⟩
abbrev main_while0b_call3_v0 : Ref sig .tc := ⟨.hbm, 165, rfl⟩
abbrev main_while0b_call3_c : Ref sig .tc := ⟨.hbm, 166, rfl⟩
abbrev main_while0b_v165 : Ref sig .tc := ⟨.hbm, 167, rfl⟩
abbrev main_while0b_c_23 : Ref sig .tc := ⟨.hbm, 168, rfl⟩
abbrev main_while0b_v166 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_9 : Ref sig .tc := ⟨.hbm, 173, rfl⟩
abbrev main_v118 : Ref sig .tc := ⟨.hbm, 174, rfl⟩
abbrev main_v119 : Ref sig .tc := ⟨.hbm, 175, rfl⟩
abbrev main_cst_10 : Ref sig .tc := ⟨.hbm, 176, rfl⟩
abbrev main_v120 : Ref sig .tc := ⟨.hbm, 177, rfl⟩
abbrev main_v121 : Ref sig .tc := ⟨.hbm, 178, rfl⟩
abbrev main_cst_11 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_12 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_13 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_14 : Ref sig .tc := ⟨.hbm, 198, rfl⟩
abbrev main_v138 : Ref sig .tc := ⟨.hbm, 199, rfl⟩
abbrev main_v139 : Ref sig .tc := ⟨.hbm, 200, rfl⟩
abbrev main_cst_15 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_16 : Ref sig .tc := ⟨.hbm, 208, rfl⟩
abbrev main_v146 : Ref sig .tc := ⟨.hbm, 209, rfl⟩
abbrev main_v147 : Ref sig .tc := ⟨.hbm, 210, rfl⟩
abbrev main_cst_17 : Ref sig .tc := ⟨.hbm, 211, rfl⟩
abbrev main_v148 : Ref sig .tc := ⟨.hbm, 212, rfl⟩
abbrev main_v149 : Ref sig .tc := ⟨.hbm, 213, rfl⟩
abbrev main_cst_18 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩

abbrev nD : Nat := 1
abbrev τ : Topo := Topo.v7x

variable {F : FTy → Type} [FloatOps F]

abbrev main_while0_count : Scf.Loop 32 := ⟨0#32, 4096#32, 1#32⟩
-- ==== Kernel5.lean ====
abbrev S1x1024x1024 : Shape := ⟨3, ![1, 1024, 1024]⟩
abbrev S1024x1024 : Shape := ⟨2, ![1024, 1024]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S1x4096x1024 : Shape := ⟨3, ![1, 4096, 1024]⟩
abbrev S1x1024 : Shape := ⟨2, ![1, 1024]⟩
abbrev S1x1024x4096 : Shape := ⟨3, ![1, 1024, 4096]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S1x4096x4096 : Shape := ⟨3, ![1, 4096, 4096]⟩
abbrev S4096x4096 : Shape := ⟨2, ![4096, 4096]⟩
abbrev S4096x1024 : Shape := ⟨2, ![4096, 1024]⟩
abbrev S4x512x1024 : Shape := ⟨3, ![4, 512, 1024]⟩
abbrev S2048x512 : Shape := ⟨2, ![2048, 512]⟩
abbrev S2048x1024 : Shape := ⟨2, ![2048, 1024]⟩
abbrev S1x512x1024 : Shape := ⟨3, ![1, 512, 1024]⟩
abbrev S5x512x1024 : Shape := ⟨3, ![5, 512, 1024]⟩
abbrev S512x512 : Shape := ⟨2, ![512, 512]⟩
abbrev S512x1024 : Shape := ⟨2, ![512, 1024]⟩

abbrev nBuf : Space → Nat
  | .hbm => 33
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1024x4096, .f32⟩
  | .hbm, ⟨22, _⟩ => ⟨S1x4096x4096, .f32⟩
  | .hbm, ⟨23, _⟩ => ⟨S_, .f32⟩
  | .hbm, ⟨24, _⟩ => ⟨S1x4096x4096, .f32⟩
  | .hbm, ⟨25, _⟩ => ⟨S1x4096x4096, .f32⟩
  | .hbm, ⟨26, _⟩ => ⟨S1x4096x4096, .f32⟩
  | .hbm, ⟨27, _⟩ => ⟨S4096x4096, .f32⟩
  | .hbm, ⟨28, _⟩ => ⟨S4096x4096, .bf16⟩
  | .hbm, ⟨29, _⟩ => ⟨S4096x1024, .f32⟩
  | .hbm, ⟨30, _⟩ => ⟨S4096x1024, .bf16⟩
  | .hbm, ⟨31, _⟩ => ⟨S4x512x1024, .f32⟩
  | .hbm, ⟨32, _⟩ => ⟨S4x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S5x512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c4_i32 : BitVec 32 := 4#32
  let v1 : BitVec 32 := Scalar.select v0 arg1 c4_i32
  let v7 : Index := Scalar.indexCast v1
  let c0_3 : Index := 0#32
  let c0_4 : Index := 0#32
  ![v7.toNat, 0, 0]
def k0_cond1 (i : grid0.Coords) : BitVec 1 :=
  let arg0 : BitVec 32 := BitVec.ofNat 32 (i 0).val
  let c1_i32 : BitVec 32 := 1#32
  let v102 : BitVec 1 := Scalar.cmpi .eq arg0 c1_i32
  let v103 : BitVec 32 := Scalar.extui v102
  let c0_i32_65 : BitVec 32 := 0#32
  let v104 : BitVec 1 := Scalar.cmpi .ne v103 c0_i32_65
  v104

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c2_i32 : BitVec 32 := 2#32
  let v2 : BitVec 32 := Scalar.muli c2_i32 arg1
  let v3 : BitVec 32 := Scalar.addi v2 v1
  let c0_i32_1 : BitVec 32 := 0#32
  let c0_i32_2 : BitVec 32 := 0#32
  ![c0_i32_1.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c2_i32 : BitVec 32 := 2#32
  let v2 : BitVec 32 := Scalar.muli c2_i32 arg1
  let v3 : BitVec 32 := Scalar.addi v2 v1
  let c1_i32_1 : BitVec 32 := 1#32
  let c0_i32_2 : BitVec 32 := 0#32
  ![c1_i32_1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c1_i32_1 : BitVec 32 := 1#32
  let c0_i32_2 : BitVec 32 := 0#32
  let c0_i32_3 : BitVec 32 := 0#32
  ![c1_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![v1.toNat, c0_i32_1.toNat, c0_i32_2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S1x4096x1024 : Shape := ⟨3, ![1, 4096, 1024]⟩
abbrev S1x1024 : Shape := ⟨2, ![1, 1024]⟩
abbrev S1x1024x4096 : Shape := ⟨3, ![1, 1024, 4096]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S1x4096x4096 : Shape := ⟨3, ![1, 4096, 4096]⟩
abbrev S4096x1024 : Shape := ⟨2, ![4096, 1024]⟩
abbrev S4x2x512x1024 : Shape := ⟨4, ![4, 2, 512, 1024]⟩
abbrev S4x1x512x1024 : Shape := ⟨4, ![4, 1, 512, 1024]⟩
abbrev S4x512x1024 : Shape := ⟨3, ![4, 512, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1024x4096, .f32⟩
  | .hbm, ⟨22, _⟩ => ⟨S1x4096x4096, .f32⟩
  | .hbm, ⟨23, _⟩ => ⟨S_, .f32⟩
  | .hbm, ⟨24, _⟩ => ⟨S1x4096x4096, .f32⟩
  | .hbm, ⟨25, _⟩ => ⟨S1x4096x4096, .f32⟩
  | .hbm, ⟨26, _⟩ => ⟨S1x4096x4096, .f32⟩
  | .hbm, ⟨27, _⟩ => ⟨S4096x1024, .f32⟩
  | .hbm, ⟨28, _⟩ => ⟨S1x4096x1024, .f32⟩
  | .hbm, ⟨29, _⟩ => ⟨S1024x4096, .f32⟩
  | .hbm, ⟨30, _⟩ => ⟨S4096x1024, .f32⟩
  | .hbm, ⟨31, _⟩ => ⟨S1x4096x1024, .f32⟩
  | .hbm, ⟨32, _⟩ => ⟨S4x2x512x1024, .f32⟩
  | .hbm, ⟨33, _⟩ => ⟨S4x1x512x1024, .f32⟩
  | .hbm, ⟨34, _⟩ => ⟨S4x512x1024, .f32⟩
  | .hbm, ⟨35, _⟩ => ⟨S4x512x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.RealMath.lean ====
/- Lifting of the ideal arithmetic from the extended reals to the reals, and the real identities of a
   root-mean-square norm and its gradient. -/
module

public import Idealize.ShloMosaic.Lib.Pipeline.ValueKit
public import Idealize.ShloMosaic.Lib.Pointwise
public import Idealize.ShloMosaic.Lib.ReduceAll

@[expose] public section

set_option maxRecDepth 16384

noncomputable section

namespace Cert.RealMath

open Idealize.ShloMosaic

/-- A finite sum of reals, each read as an extended real, is the real sum read as one. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division of reals by a nonzero real. -/
theorem div_real {a b : ℝ} (h : b ≠ 0) : Ideal.div (a : EReal) (b : EReal) = ((a / b : ℝ) : EReal) := by
  rw [Ideal.div_coe h, ← EReal.coe_mul, mul_one_div]

/-- The reciprocal square root of a positive real. -/
theorem rsqrt_real {a : ℝ} (h : 0 < a) : Ideal.rsqrt (a : EReal) = (((Real.sqrt a)⁻¹ : ℝ) : EReal) := by
  rw [Ideal.rsqrt_coe, if_neg (not_lt.2 h.le), if_neg h.ne']

/-- An extended real that is neither infinity is the real it denotes. -/
theorem coe_of_abs_lt {x : EReal} (h : max x (-x) < ⊤) : ((x.toReal : ℝ) : EReal) = x := by
  refine EReal.coe_toReal ?_ ?_
  · rintro rfl; simp at h
  · rintro rfl; simp at h

/-- A one-bit conjunction that is 1 has both its parts 1. -/
theorem andi_one {p q : BitVec 1} (h : IntOp.andi p q = 1#1) : p = 1#1 ∧ q = 1#1 := by
  simp only [IntOp.andi] at h
  revert h
  revert p q
  decide

/-- An array whose magnitudes are all below infinity, as a precondition tests it, holds reals. -/
theorem real_of_all {s t u w : Shape} [Subsingleton t.Idx] {axes : List (Fin s.rank)} (x : FVec Ideal s .f32) (dims : Fin w.rank → Fin s.rank)
    (hb : w.BroadcastsInDim s dims) (init : u.Idx → BitVec 1) (h : s.ReducesTo axes t) (hu : 0 < u.numel) (j : t.Idx)
    (e : Host.reduce IntOp.andi (cmpf .olt (Host.absf x) (broadcastInDim s dims hb (constant w .f32 0x7F800000#32))) init h hu j = 1#1)
    (i : s.Idx) : (((x i).toReal : ℝ) : EReal) = x i := by
  have h1 := Host.reduce_andi_all _ _ _ _ _ e i
  have h2 : Ideal.cmp .olt (max (x i) (-(x i))) (Ideal.ofBits .f32 0x7F800000#32) = 1#1 := h1
  have h3 : Ideal.ofBits .f32 0x7F800000#32 = ⊤ := by simp [Ideal.ofBits, Ideal.ieee]
  rw [h3] at h2
  refine coe_of_abs_lt ?_
  by_contra hc
  simp [Ideal.cmp, hc] at h2

/-- A sum over the two unit axes around a middle axis is the one element. -/
theorem sum_unit_around {n : ℕ} (h : (⟨3, ![1, n, 1]⟩ : Shape).ReducesTo [0, 2] ⟨1, ![n]⟩) (v : (⟨3, ![1, n, 1]⟩ : Shape).Idx → EReal) (init : EReal)
    (r : Fin n) : Ideal.hostReduceAdd h v init (ix1 r) = init + v (ix3 0 r 0) := by
  have hf : (Finset.univ.filter fun i => h.drop i = ix1 r) = {(ix3 0 r 0 : (⟨3, ![1, n, 1]⟩ : Shape).Idx)} := by
    ext i
    simp only [Finset.mem_filter, Finset.mem_univ, true_and, Finset.mem_singleton]
    constructor
    · intro e
      have h1 : (i 1).val = r.val := congrArg Fin.val (congrFun e 0)
      funext a
      match a with
      | ⟨0, _⟩ => exact Subsingleton.elim (α := Fin 1) _ _
      | ⟨1, _⟩ => exact Fin.ext h1
      | ⟨2, _⟩ => exact Subsingleton.elim (α := Fin 1) _ _
    · rintro rfl
      funext b
      match b with
      | ⟨0, _⟩ => rfl
  rw [Ideal.hostReduceAdd, hf, Finset.sum_singleton]

/-- A sum over two leading unit axes is the one element. -/
theorem sum_unit_front {n : ℕ} (h : (⟨3, ![1, 1, n]⟩ : Shape).ReducesTo [0, 1] ⟨1, ![n]⟩) (v : (⟨3, ![1, 1, n]⟩ : Shape).Idx → EReal) (init : EReal)
    (r : Fin n) : Ideal.hostReduceAdd h v init (ix1 r) = init + v (ix3 0 0 r) := by
  have hf : (Finset.univ.filter fun i => h.drop i = ix1 r) = {(ix3 0 0 r : (⟨3, ![1, 1, n]⟩ : Shape).Idx)} := by
    ext i
    simp only [Finset.mem_filter, Finset.mem_univ, true_and, Finset.mem_singleton]
    constructor
    · intro e
      have h1 : (i 2).val = r.val := congrArg Fin.val (congrFun e 0)
      funext a
      match a with
      | ⟨0, _⟩ => exact Subsingleton.elim (α := Fin 1) _ _
      | ⟨1, _⟩ => exact Subsingleton.elim (α := Fin 1) _ _
      | ⟨2, _⟩ => exact Fin.ext h1
    · rintro rfl
      funext b
      match b with
      | ⟨0, _⟩ => rfl
  rw [Ideal.hostReduceAdd, hf, Finset.sum_singleton]

/-- The word of `1024.0`. -/
theorem ofBits_1024 : Ideal.ofBits .f32 0x44800000#32 = ((1024 : ℝ) : EReal) := by
  simp [Ideal.ofBits, Ideal.ieee]
  rw [← EReal.coe_mul]
  norm_num

/-- The word of `-0.5`. -/
theorem ofBits_neg_half : Ideal.ofBits .f32 0xBF000000#32 = ((-(1 / 2) : ℝ) : EReal) := by
  simp [Ideal.ofBits, Ideal.ieee]
  rw [← EReal.coe_mul]
  norm_num

/-- The real that the word of `1e-6` denotes. -/
def eps : ℝ := 8796093 * 2 ^ (-43 : ℤ)

/-- The norm's small constant is positive. -/
theorem eps_pos : 0 < eps := by unfold eps; positivity

/-- The word of `1e-6`. -/
theorem ofBits_eps : Ideal.ofBits .f32 0x358637BD#32 = ((eps : ℝ) : EReal) := by
  simp [Ideal.ofBits, Ideal.ieee, eps]

/-- The mean square of a row plus the norm's epsilon. -/
def ms {n : ℕ} (x : Fin n → ℝ) (N : ℝ) : ℝ := (∑ k, x k * x k) / N + eps

/-- So a mean square with it is positive. -/
theorem ms_pos {n : ℕ} (x : Fin n → ℝ) {N : ℝ} (hN : 0 ≤ N) : 0 < ms x N := by
  unfold ms
  have : 0 ≤ ∑ k, x k * x k := Finset.sum_nonneg fun k _ => mul_self_nonneg _
  have := eps_pos
  positivity

/-- The reciprocal root mean square of a row. -/
def rstd {n : ℕ} (x : Fin n → ℝ) (N : ℝ) : ℝ := (Real.sqrt (ms x N))⁻¹

/-- The reciprocal root mean square of a row of reals, as the ideal arithmetic computes it. -/
theorem rstd_lift {n : ℕ} (x : Fin n → ℝ) {N e : EReal} {N' : ℝ} (hN : N = ((N' : ℝ) : EReal)) (he : e = ((eps : ℝ) : EReal)) (h0 : 0 < N') :
    Ideal.rsqrt (Ideal.div (∑ k, ((x k : ℝ) : EReal) * ((x k : ℝ) : EReal)) N + e) = ((rstd x N' : ℝ) : EReal) := by
  simp only [← EReal.coe_mul, coe_sum, hN, he]
  rw [div_real h0.ne', ← EReal.coe_add, rsqrt_real]
  · rfl
  · exact ms_pos x h0.le

/-- A cubed reciprocal square root: `rstd ^ 3 = rstd / ms`. -/
theorem rstd_cube {n : ℕ} (x : Fin n → ℝ) {N : ℝ} (hN : 0 ≤ N) : rstd x N / ms x N = rstd x N * rstd x N * rstd x N := by
  have h := ms_pos x hN
  have hs : Real.sqrt (ms x N) ≠ 0 := (Real.sqrt_pos.2 h).ne'
  unfold rstd
  have hq : Real.sqrt (ms x N) * Real.sqrt (ms x N) = ms x N := Real.mul_self_sqrt h.le
  rw [div_eq_mul_inv]
  nth_rewrite 2 [← hq]
  rw [mul_inv, ← mul_assoc]

/-- The gradient of a root-mean-square norm, as the kernel writes it. -/
def normGrad {n : ℕ} (x dy : Fin n → ℝ) (N : ℝ) (k : Fin n) : ℝ :=
  rstd x N * (dy k - x k * rstd x N * ((∑ l, dy l * (x l * rstd x N)) / N))

/-- The gradient of a root-mean-square norm, as reverse differentiation of its text gives it: the direct term and twice
    the term through the mean square. -/
theorem normGrad_eq {n : ℕ} (x dy : Fin n → ℝ) {N : ℝ} (hN : 0 < N) (k : Fin n) :
    normGrad x dy N k = dy k * rstd x N
      + x k * ((∑ l, x l * dy l) * (-(1 / 2) * (rstd x N / ms x N)) / N)
      + (∑ l, x l * dy l) * (-(1 / 2) * (rstd x N / ms x N)) / N * x k := by
  have hs : ∑ l, dy l * (x l * rstd x N) = rstd x N * ∑ l, x l * dy l := by
    rw [Finset.mul_sum]
    exact Finset.sum_congr rfl fun l _ => by ring
  rw [normGrad, hs, rstd_cube x hN.le]
  field_simp
  ring

end Cert.RealMath

end
-- ==== Proof.InBwd.lean ====
/- The projection's input gradient fused with the first norm's gradient: its result arrays at an index. -/
module

public import proofs.«01_k».proof.Proof.Gen.KernelIdeal.Value
public import proofs.«01_k».proof.Proof.RealMath
public import Idealize.ShloMosaic.Lib.Pipeline.ValueKit
public import Idealize.ShloMosaic.Lib.Pipeline.ReadBack

@[expose] public section

set_option maxRecDepth 16384

noncomputable section

namespace Cert.KernelIdeal.InBwd

open Cert.KernelIdeal Cert.KernelIdeal.Gen Cert.RealMath Idealize.ShloMosaic Idealize.ShloMosaic.TcCoe Idealize.SL.Sem
open Idealize.ShloMosaic.Pipeline (Dat)

variable (m : (ℓ : Loc nD τ sig) → Buf (Elt Ideal) ℓ)

/-- Which block of its array each window holds at a tile. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The arrays the two programs take, as real arrays. -/
def x (c : Dev nD) (r : Fin 4096) (k : Fin 1024) : ℝ := EReal.toReal (m ((c.tc : Thread nD τ).loc main_arg0) (ix3 0 r k))
/-- The norm's gains as reals. -/
def g (c : Dev nD) (k : Fin 1024) : ℝ := EReal.toReal (m ((c.tc : Thread nD τ).loc main_arg1) (ix2 0 k))
/-- The projection's weights as reals. -/
def w (c : Dev nD) (k : Fin 1024) (l : Fin 3584) : ℝ := EReal.toReal (m ((c.tc : Thread nD τ).loc main_arg2) (ix3 0 k l))
/-- The residual branch's gradient. -/
def dx2 (c : Dev nD) (r : Fin 4096) (k : Fin 1024) : EReal := m ((c.tc : Thread nD τ).loc main_arg4) (ix3 0 r k)
/-- The gradient of the projection as reals. -/
def du (c : Dev nD) (r : Fin 4096) (l : Fin 3584) : ℝ := EReal.toReal (m ((c.tc : Thread nD τ).loc main_arg3) (ix3 0 r l))

/-- Row `r` of the tile of grid point `t`. -/
def row (t : Fin cfg0.N) (r : Fin 512) : Fin 4096 := ⟨t.val * 512 + r.val, by have := t.isLt; have : cfg0.N = 8 := N_0; omega⟩

/-- A tile's block of `du` is 512 rows of it. -/
theorem read_du (c : Dev nD) (t : Fin cfg0.N) (r : Fin 512) (l : Fin 3584) :
    iblk m c 0 t (ix2 r l) = m ((c.tc : Thread nD τ).loc main_arg3) (ix3 0 (row t r) l) := by
  blk_ext! [iblk, V, idx t, row]

/-- Every tile sees all four shards of the weights. -/
theorem read_w (c : Dev nD) (t : Fin cfg0.N) (j : Fin 4) (k : Fin 1024) (l : Fin 896) :
    iblk m c 1 t (ix3 j k l) = m ((c.tc : Thread nD τ).loc main_arg2) (ix3 0 k ⟨j.val * 896 + l.val, by omega⟩) := by
  blk_ext! [iblk, V, idx t]

/-- A tile's block of `x` is 512 rows of it. -/
theorem read_x (c : Dev nD) (t : Fin cfg0.N) (r : Fin 512) (k : Fin 1024) :
    iblk m c 2 t (ix2 r k) = m ((c.tc : Thread nD τ).loc main_arg0) (ix3 0 (row t r) k) := by
  blk_ext! [iblk, V, idx t, row]

/-- A tile's block of `dx2` is 512 rows of it. -/
theorem read_dx2 (c : Dev nD) (t : Fin cfg0.N) (r : Fin 512) (k : Fin 1024) :
    iblk m c 3 t (ix2 r k) = m ((c.tc : Thread nD τ).loc main_arg4) (ix3 0 (row t r) k) := by
  blk_ext! [iblk, V, idx t, row]

/-- Every tile sees the gains. -/
theorem read_g (c : Dev nD) (t : Fin cfg0.N) (k : Fin 1024) :
    iblk m c 4 t (ix2 0 k) = m ((c.tc : Thread nD τ).loc main_arg1) (ix2 0 k) := by
  blk_ext! [iblk, V, idx t]

/-- The arguments that enter a product hold reals. -/
structure Reals (c : Dev nD) : Prop where
  hx : ∀ r k, ((x m c r k : ℝ) : EReal) = m ((c.tc : Thread nD τ).loc main_arg0) (ix3 0 r k)
  hg : ∀ k, ((g m c k : ℝ) : EReal) = m ((c.tc : Thread nD τ).loc main_arg1) (ix2 0 k)
  hw : ∀ k l, ((w m c k l : ℝ) : EReal) = m ((c.tc : Thread nD τ).loc main_arg2) (ix3 0 k l)
  hdu : ∀ r l, ((du m c r l : ℝ) : EReal) = m ((c.tc : Thread nD τ).loc main_arg3) (ix3 0 r l)

/-- The projection's input gradient. -/
def dh (c : Dev nD) (r : Fin 4096) (k : Fin 1024) : ℝ := ∑ l, du m c r l * w m c k l

/-- One tile's product, as the kernel sums it over the four column shards. -/
def dhTile (c : Dev nD) (t : Fin cfg0.N) : FVec Ideal S512x1024 .f32 :=
  k0_pay6 (View.ld (iblk m c 0 t) (Rect.unit ![0, 0] ![512, 896] inb_S512x3584_S512x896_0_0))
        (View.ld (iblk m c 1 t) (Rect.unit ![0, 0, 0] ![1, 1024, 896] inb_S4x1024x896_S1x1024x896_0_0_0))
        (View.ld (iblk m c 0 t) (Rect.unit ![0, 896] ![512, 896] inb_S512x3584_S512x896_0_896))
        (View.ld (iblk m c 1 t) (Rect.unit ![1, 0, 0] ![1, 1024, 896] inb_S4x1024x896_S1x1024x896_1_0_0))
        (View.ld (iblk m c 0 t) (Rect.unit ![0, 1792] ![512, 896] inb_S512x3584_S512x896_0_1792))
        (View.ld (iblk m c 1 t) (Rect.unit ![2, 0, 0] ![1, 1024, 896] inb_S4x1024x896_S1x1024x896_2_0_0))
        (View.ld (iblk m c 0 t) (Rect.unit ![0, 2688] ![512, 896] inb_S512x3584_S512x896_0_2688))
        (View.ld (iblk m c 1 t) (Rect.unit ![3, 0, 0] ![1, 1024, 896] inb_S4x1024x896_S1x1024x896_3_0_0))

/-- The tile's gradient of the normed stream is that over the reals. -/
theorem dhTile_at (c : Dev nD) (h : Reals m c) (t : Fin cfg0.N) (r : Fin 512) (k : Fin 1024) :
    dhTile m c t (ix2 r k) = ((dh m c (row t r) k : ℝ) : EReal) := by
  have hs : dh m c (row t r) k = ∑ j : Fin 4, ∑ l : Fin 896, du m c (row t r) ⟨j.val * 896 + l.val, by omega⟩ * w m c k ⟨j.val * 896 + l.val, by omega⟩ :=
    (Fin.sum_mul_add_fin 4 896 (fun l : Fin 3584 => du m c (row t r) l * w m c k l)).symm
  rw [hs, Fin.sum_univ_four]
  pointwise [dhTile, k0_pay6]
  simp only [EReal.coe_add, ← coe_sum, EReal.coe_mul, h.hdu, h.hw]
  blk_point [iblk, V, idx t, row]

/-- The tile's rows of the stream's gradient. -/
theorem pay4_at (c : Dev nD) (h : Reals m c) (t : Fin cfg0.N) (r : Fin 512) (k : Fin 1024) :
    k0_pay4 (dhTile m c t) (k0_pay7 (iblk m c 2 t)) (k0_pay8 (iblk m c 2 t)) (iblk m c 4 t) (iblk m c 3 t) (ix2 r k) =
      dx2 m c (row t r) k + ((normGrad (x m c (row t r)) (fun l => dh m c (row t r) l * g m c l) 1024 k : ℝ) : EReal) := by
  pointwise [k0_pay4, k0_pay7, k0_pay8, k0_pay1, k0_pay2]
  simp only [dhTile_at m c h, read_x, read_g, read_dx2, ← h.hx, ← h.hg]
  rw [rstd_lift (x m c (row t r)) ofBits_1024 ofBits_eps (by norm_num), ofBits_1024]
  simp only [← EReal.coe_mul, coe_sum, ← EReal.coe_sub, div_real (show (1024 : ℝ) ≠ 0 by norm_num)]
  rfl

/-- What the tile adds to the gains' gradient. -/
theorem pay3_at (c : Dev nD) (h : Reals m c) (t : Fin cfg0.N) (acc : Vec Ideal S1x1024 .f32) (k : Fin 1024) :
    k0_pay3 (dhTile m c t) (k0_pay7 (iblk m c 2 t)) (k0_pay8 (iblk m c 2 t)) acc (ix2 0 k) =
      acc (ix2 0 k) + ((∑ r, dh m c (row t r) k * (x m c (row t r) k * rstd (x m c (row t r)) 1024) : ℝ) : EReal) := by
  pointwise [k0_pay3, k0_pay7, k0_pay8, k0_pay1, k0_pay2]
  simp only [dhTile_at m c h, read_x, ← h.hx]
  simp only [fun r => rstd_lift (x m c (row t r)) ofBits_1024 ofBits_eps (show (0 : ℝ) < 1024 by norm_num)]
  simp only [← EReal.coe_mul, coe_sum]

/-- The block a grid point leaves in the first output: the gradient rows of its tile. -/
theorem gx_at (c : Dev nD) (h : Reals m c) (t : Fin cfg0.N) (r : Fin 512) (k : Fin 1024) :
    (outsAt0 m c t.val t.isLt).1 (ix2 r k) =
      dx2 m c (row t r) k + ((normGrad (x m c (row t r)) (fun l => dh m c (row t r) l * g m c l) 1024 k : ℝ) : EReal) := by
  rw [← pay4_at m c h]
  by_cases h0 : t.val % 8 = 0
  · rw [outsAt0_A m c t h0]
    frame_out
    rfl
  · rw [outsAt0_B m c t h0]
    frame_out
    rfl

/-- What a grid point adds to the statistics block. -/
def stTerm (c : Dev nD) (t : Fin cfg0.N) (y : S8x1024.Idx) : EReal :=
  if (y 0).val = 0 then ((∑ r, dh m c (row t r) (y 1) * (x m c (row t r) (y 1) * rstd (x m c (row t r)) 1024) : ℝ) : EReal) else 0

/-- A tile's term in the first row, -/
theorem stTerm_zero (c : Dev nD) (t : Fin cfg0.N) (k : Fin 1024) :
    stTerm m c t (ix2 0 k) = ((∑ r, dh m c (row t r) k * (x m c (row t r) k * rstd (x m c (row t r)) 1024) : ℝ) : EReal) := if_pos rfl

/-- and in the others: nothing. -/
theorem stTerm_pos (c : Dev nD) (t : Fin cfg0.N) (a : Fin 8) (k : Fin 1024) (ha : a ≠ 0) : stTerm m c t (ix2 a k) = 0 :=
  if_neg fun e => ha (Fin.ext e)

/-- The first tile leaves its own term, -/
theorem st_A (c : Dev nD) (h : Reals m c) (t : Fin cfg0.N) (h0 : t.val % 8 = 0) (y : S8x1024.Idx) :
    (outsAt0 m c t.val t.isLt).2 y = (fun _ => (0 : EReal)) y + stTerm m c t y := by
  rw [outsAt0_A m c t h0]
  frame_out
  idx_vars y
  rw [View.readCov_fill _ _ _ _ _ (by decide)]
  by_cases hy : y0 = 0
  · subst hy
    rw [stTerm_zero, ← View.read_writes_junk_apply_eq_canon (ms0_6 t).view,
      View.read_writes_cons_hit_of_coords _ _ _ _ _ (ix2 0 y1) (ix2 0 y1) (by intro a; fin_cases a <;> simp)]
    refine (pay3_at m c h t _ y1).trans ?_
    pointwise [k0_pay5]
  · rw [stTerm_pos m c t y0 y1 hy, ← View.read_writes_junk_apply_eq_canon (ms0_6 t).view,
      View.read_writes_cons_miss_of_axis _ _ _ _ _ 0 0 1 rfl rfl rfl (Or.inr (Nat.one_le_iff_ne_zero.2 fun e => hy (Fin.ext e))),
      View.read_writes_cons_hit_of_coords _ _ _ _ _ (ix2 y0 y1) (ix2 y0 y1) (by intro a; fin_cases a <;> simp)]
    pointwise [k0_pay5]

/-- each later one adds its term to what the one before left. -/
theorem st_B (c : Dev nD) (h : Reals m c) (t : Fin cfg0.N) (h0 : ¬ t.val % 8 = 0) (y : S8x1024.Idx) :
    (outsAt0 m c t.val t.isLt).2 y = (outsAt0 m c (t.val - 1) (Nat.lt_of_le_of_lt (Nat.sub_le _ _) t.isLt)).2 y + stTerm m c t y := by
  rw [outsAt0_B m c t h0]
  frame_out
  idx_vars y
  by_cases hy : y0 = 0
  · subst hy
    rw [stTerm_zero, View.read_writes_cons_hit_of_coords _ _ _ _ _ (ix2 0 y1) (ix2 0 y1) (by intro a; fin_cases a <;> simp)]
    refine (pay3_at m c h t _ y1).trans ?_
    pointwise
  · rw [stTerm_pos m c t y0 y1 hy,
      View.read_writes_cons_miss_of_axis _ _ _ _ _ 0 0 1 rfl rfl rfl (Or.inr (Nat.one_le_iff_ne_zero.2 fun e => hy (Fin.ext e))),
      View.writes_nil, Memref.IsWhole.read_unread, add_zero]

/-- The first result array. -/
theorem final5 (c : Dev nD) (h : Reals m c) (G : FVec Ideal S4096x1024 .f32)
    (hG : ∀ r k, G (ix2 r k) = dx2 m c r k + ((normGrad (x m c r) (fun l => dh m c r l * g m c l) 1024 k : ℝ) : EReal)) :
    (dats m 0 c).arrAt 5 (cfgs 0).N = G := by
  refine (dats m 0 c).arrAt_eq_of_covers 5 _ (by decide +kernel) fun t _ y => ?_
  blk_simp
  rw [after0_5]
  idx_vars y
  rw [gx_at m c h, ← hG]
  blk_ext [idx t, row]

/-- The second result array: the norm weight's gradient in row 0 and zeros below. -/
theorem final6 (c : Dev nD) (h : Reals m c) (G : FVec Ideal S8x1024 .f32)
    (hG : ∀ a k, G (ix2 a k) = if a = 0 then ((∑ r, dh m c r k * (x m c r k * rstd (x m c r) 1024) : ℝ) : EReal) else 0) :
    (dats m 0 c).arrAt 6 (cfgs 0).N = G := by
  refine (dats m 0 c).arrAt_eq_of_after_last 6 t0_7 (by decide +kernel) _ fun y => ?_
  blk_simp
  rw [after0_6, Pipeline.eq_sum_fin_of_reset_step_apply_last (fun n h => (outsAt0 m c n h).2) 8 (fun _ => 0) (stTerm m c)
    (fun t h0 y => st_A m c h t h0 y) (fun t h0 y => st_B m c h t h0 y) (le_of_eq N_0) t0_7 rfl y, zero_add]
  idx_vars y
  rw [hG]
  split_ifs with hy
  · subst hy
    simp only [stTerm_zero]
    rw [coe_sum]
    congr 1
    refine Fin.sum_mul_add_congr fun t r hl => ?_
    rfl
  · change (∑ t, stTerm m c t (ix2 y0 y1) : EReal) = 0
    exact Finset.sum_eq_zero fun t _ => stTerm_pos m c t y0 y1 hy

end Cert.KernelIdeal.InBwd

end
-- ==== Proof.InBwdRef.lean ====
/- The reference of the projection's input gradient fused with the first norm's gradient: its results at an index. -/
module

public import proofs.«01_k».proof.Proof.Gen.ReferenceIdeal.Run
public import proofs.«01_k».proof.Proof.RealMath
public import Idealize.ShloMosaic.Lib.Pipeline.ValueKit

@[expose] public section

set_option maxRecDepth 16384

noncomputable section

namespace Cert.ReferenceIdeal.InBwd

open Cert.ReferenceIdeal Cert.ReferenceIdeal.Gen Cert.ReferenceIdeal.Value Cert.RealMath Idealize.ShloMosaic Idealize.ShloMosaic.TcCoe Idealize.SL.Sem

variable (m : (ℓ : Loc nD τ sig) → Buf (Elt Ideal) ℓ) (c : Dev nD)
variable (x : Fin 4096 → Fin 1024 → ℝ) (g : Fin 1024 → ℝ) (w : Fin 1024 → Fin 3584 → ℝ) (du : Fin 4096 → Fin 3584 → ℝ)

/-- The arguments that enter a product are these real arrays. -/
structure Reals : Prop where
  hx : ∀ r k, m ((c.tc : Thread nD τ).loc main_arg0) (ix3 0 r k) = ((x r k : ℝ) : EReal)
  hg : ∀ k, m ((c.tc : Thread nD τ).loc main_arg1) (ix2 0 k) = ((g k : ℝ) : EReal)
  hw : ∀ k l, m ((c.tc : Thread nD τ).loc main_arg2) (ix3 0 k l) = ((w k l : ℝ) : EReal)
  hdu : ∀ r l, m ((c.tc : Thread nD τ).loc main_arg3) (ix3 0 r l) = ((du r l : ℝ) : EReal)

/-- The projection's weight without its leading axis. -/
def wMat : FVec Ideal S1024x3584 .f32 := shapeCast (α := Ideal .f32) _ (m ((c.tc : Thread nD τ).loc main_arg2)) shapeCasts_S1x1024x3584_S1024x3584

/-- The projection's input gradient, before the norm. -/
def dot : FVec Ideal S1x4096x1024 .f32 :=
  Host.dotGeneral dot_S1x4096x3584_S1024x3584_S1x4096x1024_2_1_01_0_n_n none (φ₁ := .f32) (φ₂ := .f32) (m ((c.tc : Thread nD τ).loc main_arg3)) (wMat m c)

/-- The same times the norm's weight. -/
def dy : FVec Ideal S1x4096x1024 .f32 :=
  mulf (dot m c) (broadcastInDim S1x4096x1024 ![0, 1, 2] bcast_S1x1x1024_S1x4096x1024_0_1_2
    (broadcastInDim S1x1x1024 ![2] bcast_S1024_S1x1x1024_2 (shapeCast _ (m ((c.tc : Thread nD τ).loc main_arg1)) shapeCasts_S1x1024_S1024)))

/-- A row's mean square plus the norm's epsilon. -/
def msq : FVec Ideal S1x4096x1 .f32 :=
  addf (Host.divf (broadcastInDim S1x4096x1 ![0, 1] bcast_S1x4096_S1x4096x1_0_1
      (Host.reduceAdd (mulf (m ((c.tc : Thread nD τ).loc main_arg0)) (m ((c.tc : Thread nD τ).loc main_arg0)))
        (constant S_ .f32 0x00000000#32) reducesTo_S1x4096x1024_S1x4096_d2 h_S_))
      (broadcastInDim S1x4096x1 ![] bcast_S_S1x4096x1 (constant S_ .f32 0x44800000#32)))
    (broadcastInDim S1x4096x1 ![] bcast_S_S1x4096x1 (constant S_ .f32 0x358637BD#32))

/-- The factor of a row in the term through its mean square. -/
def coef : FVec Ideal S1x4096x1 .f32 :=
  Host.divf (mulf (shapeCast _ (Host.reduceAdd (mulf (m ((c.tc : Thread nD τ).loc main_arg0)) (dy m c)) (constant S_ .f32 0x00000000#32)
      reducesTo_S1x4096x1024_S1x4096_d2 h_S_) shapeCasts_S1x4096_S1x4096x1)
    (mulf (broadcastInDim S1x4096x1 ![] bcast_S_S1x4096x1 (constant S_ .f32 0xBF000000#32)) (Host.divf (Host.rsqrt (msq m c)) (msq m c))))
    (broadcastInDim S1x4096x1 ![] bcast_S_S1x4096x1 (constant S_ .f32 0x44800000#32))

/-- The same, spread over the row. -/
def spread : FVec Ideal S1x4096x1024 .f32 :=
  broadcastInDim S1x4096x1024 ![0, 1] bcast_S1x4096_S1x4096x1024_0_1 (broadcastInDim S1x4096 ![1] bcast_S4096_S1x4096_1
    (Host.reduceAdd (coef m c) (constant S_ .f32 0x00000000#32) reducesTo_S1x4096x1_S4096_d0_2 h_S_))

/-- The row's reciprocal root mean square, spread over the row. -/
def rsBcast : FVec Ideal S1x4096x1024 .f32 :=
  broadcastInDim S1x4096x1024 ![0, 1, 2] bcast_S1x4096x1_S1x4096x1024_0_1_2 (Host.rsqrt (msq m c))

set_option maxHeartbeats 2000000 in
/-- The first result as the sum that the reference writes. -/
theorem out0_eq : res_out0 m c = shapeCast _ (addf (addf (addf (m ((c.tc : Thread nD τ).loc main_arg4)) (mulf (dy m c) (rsBcast m c)))
    (mulf (m ((c.tc : Thread nD τ).loc main_arg0)) (spread m c))) (mulf (spread m c) (m ((c.tc : Thread nD τ).loc main_arg0))))
    shapeCasts_S1x4096x1024_S4096x1024 := rfl

/-- The second result. -/
def out1 : FVec Ideal S8x1024 .f32 :=
  concatenate S8x1024 0 [⟨S1x1024, broadcastInDim S1x1024 ![1] bcast_S1024_S1x1024_1 (Host.reduceAdd (shapeCast _
      (Host.reduceAdd (mulf (mulf (m ((c.tc : Thread nD τ).loc main_arg0)) (rsBcast m c)) (dot m c)) (constant S_ .f32 0x00000000#32)
        reducesTo_S1x4096x1024_S1x1024_d1 h_S_) shapeCasts_S1x1024_S1x1x1024) (constant S_ .f32 0x00000000#32) reducesTo_S1x1x1024_S1024_d0_1 h_S_)⟩,
    ⟨S7x1024, broadcastInDim S7x1024 ![] bcast_S_S7x1024 (constant S_ .f32 0x00000000#32)⟩] concatenates_S1x1024_S7x1024_S8x1024_d0

variable {m c x g w du}

/-- The weights as a matrix. -/
theorem wMat_at (h : Reals m c x g w du) (k : Fin 1024) (l : Fin 3584) : wMat m c (ix2 k l) = ((w k l : ℝ) : EReal) := by
  have hc (X : FVec Ideal S1x1024x3584 .f32) : shapeCast S1024x3584 X shapeCasts_S1x1024x3584_S1024x3584 (ix2 k l) = X (ix3 0 k l) := by pointwise
  exact (hc _).trans (h.hw k l)

/-- The gradient of the normed stream. -/
theorem dot_at (h : Reals m c x g w du) (r : Fin 4096) (k : Fin 1024) : dot m c (ix3 0 r k) = ((∑ l, du r l * w k l : ℝ) : EReal) := by
  pointwise [dot]
  simp only [h.hdu, wMat_at h, ← EReal.coe_mul, coe_sum]

/-- The same times the gains. -/
theorem dy_at (h : Reals m c x g w du) (r : Fin 4096) (k : Fin 1024) : dy m c (ix3 0 r k) = (((∑ l, du r l * w k l) * g k : ℝ) : EReal) := by
  pointwise [dy]
  simp only [dot_at h, h.hg, ← EReal.coe_mul]

/-- The mean square of a row. -/
theorem msq_at (h : Reals m c x g w du) (r : Fin 4096) : msq m c (ix3 0 r 0) = ((ms (x r) 1024 : ℝ) : EReal) := by
  pointwise [msq]
  simp only [h.hx, ← EReal.coe_mul, coe_sum, ofBits_1024, ofBits_eps, div_real (show (1024 : ℝ) ≠ 0 by norm_num), ← EReal.coe_add]
  rfl

/-- The reciprocal root of a row. -/
theorem rsBcast_at (h : Reals m c x g w du) (r : Fin 4096) (k : Fin 1024) : rsBcast m c (ix3 0 r k) = ((rstd (x r) 1024 : ℝ) : EReal) := by
  pointwise [rsBcast]
  rw [msq_at h, rsqrt_real (ms_pos _ (by norm_num))]
  rfl

/-- What a row's mean square contributes, -/
theorem coef_at (h : Reals m c x g w du) (r : Fin 4096) : coef m c (ix3 0 r 0) =
    (((∑ l, x r l * ((∑ j, du r j * w l j) * g l)) * (-(1 / 2) * (rstd (x r) 1024 / ms (x r) 1024)) / 1024 : ℝ) : EReal) := by
  have hm := ms_pos (x r) (show (0 : ℝ) ≤ 1024 by norm_num)
  pointwise [coef]
  simp only [h.hx, dy_at h, msq_at h, ofBits_1024, ofBits_neg_half, rsqrt_real hm, div_real hm.ne', ← EReal.coe_mul, coe_sum,
    div_real (show (1024 : ℝ) ≠ 0 by norm_num)]
  rfl

/-- spread over the row. -/
theorem spread_at (h : Reals m c x g w du) (r : Fin 4096) (k : Fin 1024) : spread m c (ix3 0 r k) =
    (((∑ l, x r l * ((∑ j, du r j * w l j) * g l)) * (-(1 / 2) * (rstd (x r) 1024 / ms (x r) 1024)) / 1024 : ℝ) : EReal) := by
  pointwise [spread]
  rw [sum_unit_around, coef_at h, zero_add]

/-- The stream's gradient over the reals. -/
theorem out0_at (h : Reals m c x g w du) (D : EReal) (r : Fin 4096) (k : Fin 1024) (hD : m ((c.tc : Thread nD τ).loc main_arg4) (ix3 0 r k) = D) :
    res_out0 m c (ix2 r k) = D + ((normGrad (x r) (fun l => (∑ j, du r j * w l j) * g l) 1024 k : ℝ) : EReal) := by
  rw [out0_eq]
  pointwise
  rw [hD, dy_at h, rsBcast_at h, spread_at h, h.hx, normGrad_eq _ _ (by norm_num)]
  simp only [← EReal.coe_mul, EReal.coe_add, add_assoc]

/-- The gains' gradient over the reals, in the first of eight rows. -/
theorem out1_at (h : Reals m c x g w du) (a : Fin 8) (k : Fin 1024) :
    out1 m c (ix2 a k) = if a = 0 then ((∑ r, (∑ l, du r l * w k l) * (x r k * rstd (x r) 1024) : ℝ) : EReal) else 0 := by
  have hs (k : Fin 1024) : shapeCast S1x1x1024 (Host.reduceAdd (mulf (mulf (m ((c.tc : Thread nD τ).loc main_arg0)) (rsBcast m c)) (dot m c))
      (constant S_ .f32 0x00000000#32) reducesTo_S1x4096x1024_S1x1024_d1 h_S_) shapeCasts_S1x1024_S1x1x1024 (ix3 0 0 k) =
        ((∑ r, (∑ l, du r l * w k l) * (x r k * rstd (x r) 1024) : ℝ) : EReal) := by
    pointwise
    simp only [dot_at h, rsBcast_at h, h.hx, ← EReal.coe_mul, coe_sum, mul_comm]
  pointwise [out1]
  rw [sum_unit_front, zero_add]
  by_cases ha : a = 0
  · subst ha
    simpa using hs k
  · rw [if_neg ha, dif_neg]
    have := Fin.val_ne_of_ne ha
    simp at this ⊢
    omega

end Cert.ReferenceIdeal.InBwd

end
-- ==== Proof.MlpMath.lean ====
/- The real arithmetic of the feed-forward layer and its gradient on a block of rows. -/
module

public import proofs.«01_k».proof.Proof.RealMath

@[expose] public section

noncomputable section

namespace Cert.RealMath

open Idealize.ShloMosaic

/-- The word of `1/1024`. -/
theorem ofBits_inv_1024 : Ideal.ofBits .f32 0x3A800000#32 = ((1 / 1024 : ℝ) : EReal) := by
  simp [Ideal.ofBits, Ideal.ieee]
  rw [← EReal.coe_mul]
  norm_num

/-- The word of `1/2048`. -/
theorem ofBits_inv_2048 : Ideal.ofBits .f32 0x3A000000#32 = ((1 / 2048 : ℝ) : EReal) := by
  simp [Ideal.ofBits, Ideal.ieee]
  rw [← EReal.coe_mul]
  norm_num

/-- The word of `2.0`. -/
theorem ofBits_two : Ideal.ofBits .f32 0x40000000#32 = ((2 : ℝ) : EReal) := by
  simp [Ideal.ofBits, Ideal.ieee]
  rw [← EReal.coe_mul]
  norm_num

/-- The word of `0.5`. -/
theorem ofBits_half : Ideal.ofBits .f32 0x3F000000#32 = ((1 / 2 : ℝ) : EReal) := by
  simp [Ideal.ofBits, Ideal.ieee]
  rw [← EReal.coe_mul]
  norm_num

/-- The greater of a real and zero. -/
theorem max_zero (a : ℝ) : max ((a : ℝ) : EReal) 0 = ((max a 0 : ℝ) : EReal) :=
  (EReal.coe_strictMono.monotone.map_max (a := a) (b := 0)).symm

/-- What the layer reads on a block of `n` rows: the residual stream, the mixer's output, the weights, the target. -/
structure Net (n : ℕ) where
  x : Fin n → Fin 1024 → ℝ
  y : Fin n → Fin 1536 → ℝ
  wo : Fin 1536 → Fin 1024 → ℝ
  g2 : Fin 1024 → ℝ
  w1 : Fin 1024 → Fin 4096 → ℝ
  w2 : Fin 4096 → Fin 1024 → ℝ
  gf : Fin 1024 → ℝ
  tg : Fin n → Fin 1024 → ℝ

namespace Net

variable {n : ℕ} (N : Net n)

/-- The residual stream after the mixer. -/
def x2 (r : Fin n) (k : Fin 1024) : ℝ := N.x r k + ∑ l, N.y r l * N.wo l k

/-- The layer's normed input. -/
def h2 (r : Fin n) (k : Fin 1024) : ℝ := N.x2 r k * rstd (N.x2 r) 1024 * N.g2 k

/-- The first product. -/
def p (r : Fin n) (f : Fin 4096) : ℝ := ∑ k, N.h2 r k * N.w1 k f

/-- The squared rectifier. -/
def z (r : Fin n) (f : Fin 4096) : ℝ := max (N.p r f) 0 * max (N.p r f) 0

/-- The residual stream after the layer. -/
def x3 (r : Fin n) (k : Fin 1024) : ℝ := N.x2 r k + ∑ f, N.z r f * N.w2 f k

/-- The last norm's output less the target. -/
def err (r : Fin n) (k : Fin 1024) : ℝ := N.x3 r k * rstd (N.x3 r) 1024 * N.gf k - N.tg r k

/-- The gradient at the last norm's output. -/
def dout (r : Fin n) (k : Fin 1024) : ℝ := N.err r k * (1 / 1024)

/-- The gradient at the layer's output. -/
def dx3 (r : Fin n) (k : Fin 1024) : ℝ := normGrad (N.x3 r) (fun l => N.dout r l * N.gf l) 1024 k

/-- The gradient at the first product. -/
def dp (r : Fin n) (f : Fin 4096) : ℝ := (∑ k, N.dx3 r k * N.w2 f k) * (2 * max (N.p r f) 0)

/-- The gradient at the layer's normed input. -/
def dh2 (r : Fin n) (k : Fin 1024) : ℝ := ∑ f, N.dp r f * N.w1 k f

/-- The gradient at the mixer's sum. -/
def dx2 (r : Fin n) (k : Fin 1024) : ℝ := N.dx3 r k + normGrad (N.x2 r) (fun l => N.dh2 r l * N.g2 l) 1024 k

/-- The gradient at the mixer's output. -/
def dy (r : Fin n) (l : Fin 1536) : ℝ := ∑ k, N.dx2 r k * N.wo l k

/-- One row's share of the last norm's weight gradient. -/
def gfTerm (r : Fin n) (k : Fin 1024) : ℝ := N.dout r k * (N.x3 r k * rstd (N.x3 r) 1024)

/-- One row's share of the layer norm's weight gradient. -/
def g2Term (r : Fin n) (k : Fin 1024) : ℝ := N.dh2 r k * (N.x2 r k * rstd (N.x2 r) 1024)

/-- One row's share of the loss. -/
def lossTerm (r : Fin n) : ℝ := 1 / 2048 * ∑ k, N.err r k * N.err r k

/-- The rows that `f` names. -/
def rows {s : ℕ} (f : Fin s → Fin n) : Net s := { N with x := fun r => N.x (f r), y := fun r => N.y (f r), tg := fun r => N.tg (f r) }

end Net

end Cert.RealMath

end
-- ==== Proof.MlpTile.lean ====
/- The feed-forward kernel's payloads on one tile of rows, at an index. -/
module

public import proofs.«01_k».proof.Proof.Gen.Kernel3Ideal.Skeleton
public import proofs.«01_k».proof.Proof.MlpMath
public import Idealize.ShloMosaic.Lib.Pipeline.ValueKit

@[expose] public section

set_option maxRecDepth 16384

noncomputable section

namespace Cert.Kernel3Ideal.Mlp

open Cert.Kernel3Ideal Cert.Kernel3Ideal.Gen Cert.RealMath Idealize.ShloMosaic Idealize.ShloMosaic.TcCoe Idealize.SL.Sem

variable {N : Net 256}

/-- Column `f` of the `q`-th quarter. -/
def col (q : Fin 4) (f : Fin 1024) : Fin 4096 := ⟨q.val * 1024 + f.val, by omega⟩

/-- A sum over the columns, quarter by quarter. -/
theorem sum_col (f : Fin 4096 → ℝ) : ∑ l, f l = ∑ l, f (col 0 l) + ∑ l, f (col 1 l) + ∑ l, f (col 2 l) + ∑ l, f (col 3 l) := by
  rw [← Fin.sum_mul_add_fin 4 1024 f, Fin.sum_univ_four]
  rfl

section first
variable {v3 : Vec Ideal S256x1024 .f32} {v5 : Vec Ideal S256x1536 .bf16} {v7 : Vec Ideal S1536x1024 .bf16} {v20 : Vec Ideal S1x1024 .f32}
  (h3 : ∀ r k, v3 (ix2 r k) = ((N.x r k : ℝ) : EReal)) (h5 : ∀ r l, v5 (ix2 r l) = ((N.y r l : ℝ) : EReal))
  (h7 : ∀ l k, v7 (ix2 l k) = ((N.wo l k : ℝ) : EReal)) (h20 : ∀ k, v20 (ix2 0 k) = ((N.g2 k : ℝ) : EReal))
include h3 h5 h7

/-- The residual stream after the mixer. -/
theorem pay7_at (r : Fin 256) (k : Fin 1024) : k0_pay7 v3 v5 v7 (ix2 r k) = ((N.x2 r k : ℝ) : EReal) := by
  pointwise [k0_pay7]
  simp only [h3, h5, h7, ← EReal.coe_mul, coe_sum, ← EReal.coe_add]
  rfl

/-- Its reciprocal root mean square. -/
theorem pay8_at (r : Fin 256) : k0_pay8 v3 v5 v7 (ix2 r 0) = ((rstd (N.x2 r) 1024 : ℝ) : EReal) := by
  pointwise [k0_pay8]
  simp only [pay7_at h3 h5 h7]
  exact rstd_lift _ ofBits_1024 ofBits_eps (by norm_num)

/-- The normed stream. -/
theorem pay9_at (r : Fin 256) (k : Fin 1024) : k0_pay9 v3 v5 v7 (ix2 r k) = ((N.x2 r k * rstd (N.x2 r) 1024 : ℝ) : EReal) := by
  pointwise [k0_pay9]
  simp only [pay7_at h3 h5 h7, pay8_at h3 h5 h7, ← EReal.coe_mul]

include h20

/-- The layer's normed input. -/
theorem pay10_at (r : Fin 256) (k : Fin 1024) : k0_pay10 v3 v5 v7 v20 (ix2 r k) = ((N.h2 r k : ℝ) : EReal) := by
  pointwise [k0_pay10]
  simp only [pay9_at h3 h5 h7, h20, ← EReal.coe_mul]
  rfl

/-- The first quarter of the first product. -/
theorem pay11_at {v25 : Vec Ideal S1x1024x1024 .bf16} {q : Fin 4} (h25 : ∀ k f, v25 (ix3 0 k f) = ((N.w1 k (col q f) : ℝ) : EReal))
    (r : Fin 256) (f : Fin 1024) : k0_pay11 v3 v5 v7 v20 v25 (ix2 r f) = ((N.p r (col q f) : ℝ) : EReal) := by
  pointwise [k0_pay11]
  simp only [pay10_at h3 h5 h7 h20, h25, ← EReal.coe_mul, coe_sum]
  rfl

end first

section quarters
variable {v23 : FVec Ideal S256x1024 .bf16} (h23 : ∀ r k, v23 (ix2 r k) = ((N.h2 r k : ℝ) : EReal))
  {w : Vec Ideal S1x1024x1024 .bf16} {q : Fin 4} (hw : ∀ k f, w (ix3 0 k f) = ((N.w1 k (col q f) : ℝ) : EReal))
include h23 hw

/-- The second quarter of the first product. -/
theorem pay12_at (r : Fin 256) (f : Fin 1024) : k0_pay12 v23 w (ix2 r f) = ((N.p r (col q f) : ℝ) : EReal) := by
  pointwise [k0_pay12]
  simp only [h23, hw, ← EReal.coe_mul, coe_sum]
  rfl

/-- The third quarter of the first product. -/
theorem pay13_at (r : Fin 256) (f : Fin 1024) : k0_pay13 v23 w (ix2 r f) = ((N.p r (col q f) : ℝ) : EReal) := pay12_at h23 hw r f

/-- The last quarter of the first product. -/
theorem pay14_at (r : Fin 256) (f : Fin 1024) : k0_pay14 v23 w (ix2 r f) = ((N.p r (col q f) : ℝ) : EReal) := pay12_at h23 hw r f

end quarters

section second
variable {v49 : Vec Ideal S256x4096 .f32} {v9 : FVec Ideal S256x1024 .f32} {v55 : Vec Ideal S4096x1024 .bf16}
  (h49 : ∀ r f, v49 (ix2 r f) = ((N.p r f : ℝ) : EReal)) (h9 : ∀ r k, v9 (ix2 r k) = ((N.x2 r k : ℝ) : EReal))
  (h55 : ∀ f k, v55 (ix2 f k) = ((N.w2 f k : ℝ) : EReal))
include h49

/-- The rectifier. -/
theorem pay15_at (r : Fin 256) (f : Fin 4096) : k0_pay15 v49 (ix2 r f) = ((max (N.p r f) 0 : ℝ) : EReal) := by
  pointwise [k0_pay15]
  rw [h49, max_zero]

/-- The squared rectifier. -/
theorem pay16_at (r : Fin 256) (f : Fin 4096) : k0_pay16 v49 (ix2 r f) = ((N.z r f : ℝ) : EReal) := by
  pointwise [k0_pay16]
  rw [pay15_at h49, ← EReal.coe_mul]
  rfl

include h9 h55

/-- The residual stream after the layer. -/
theorem pay17_at (r : Fin 256) (k : Fin 1024) : k0_pay17 v9 v49 v55 (ix2 r k) = ((N.x3 r k : ℝ) : EReal) := by
  pointwise [k0_pay17]
  simp only [pay16_at h49, h9, h55, ← EReal.coe_mul, coe_sum, ← EReal.coe_add]
  rfl

/-- Its sum of squares. -/
theorem pay18_at (r : Fin 256) : k0_pay18 v9 v49 v55 (ix2 r 0) = ((∑ k, N.x3 r k * N.x3 r k : ℝ) : EReal) := by
  pointwise [k0_pay18]
  simp only [pay17_at h49 h9 h55, ← EReal.coe_mul, coe_sum]

end second

section third
variable {v57 : FVec Ideal S256x1024 .f32} {v60 v61 : FVec Ideal S256x1 .f32} {v68 : Vec Ideal S1x1024 .f32} {v72 : Vec Ideal S256x1024 .f32}
  (h57 : ∀ r k, v57 (ix2 r k) = ((N.x3 r k : ℝ) : EReal)) (h60 : ∀ r, v60 (ix2 r 0) = ((∑ k, N.x3 r k * N.x3 r k : ℝ) : EReal))
  (h61 : v61 = k0_pay19) (h68 : ∀ k, v68 (ix2 0 k) = ((N.gf k : ℝ) : EReal)) (h72 : ∀ r k, v72 (ix2 r k) = ((N.tg r k : ℝ) : EReal))
include h60 h61

/-- The reciprocal root mean square of the layer's output. -/
theorem pay20_at (r : Fin 256) : k0_pay20 v60 v61 (ix2 r 0) = ((rstd (N.x3 r) 1024 : ℝ) : EReal) := by
  subst h61
  pointwise [k0_pay20, k0_pay19]
  simp only [h60]
  rw [← rstd_lift (N.x3 r) ofBits_1024 ofBits_eps (by norm_num)]
  simp only [← EReal.coe_mul, coe_sum]

include h57

/-- The layer's output, normed. -/
theorem pay21_at (r : Fin 256) (k : Fin 1024) : k0_pay21 v57 v60 v61 (ix2 r k) = ((N.x3 r k * rstd (N.x3 r) 1024 : ℝ) : EReal) := by
  pointwise [k0_pay21]
  simp only [pay20_at h60 h61, h57, ← EReal.coe_mul]

include h68 h72

/-- The error. -/
theorem pay23_at (r : Fin 256) (k : Fin 1024) : k0_pay23 v57 v60 v61 v68 v72 (ix2 r k) = ((N.err r k : ℝ) : EReal) := by
  pointwise [k0_pay23, k0_pay22]
  simp only [pay21_at h57 h60 h61, h68, h72, ← EReal.coe_mul, ← EReal.coe_sub]
  rfl

/-- The gradient at the last norm's output. -/
theorem pay24_at (r : Fin 256) (k : Fin 1024) : k0_pay24 v57 v60 v61 v68 v72 (ix2 r k) = ((N.dout r k : ℝ) : EReal) := by
  pointwise [k0_pay24]
  simp only [pay23_at h57 h60 h61 h68 h72, ofBits_inv_1024, ← EReal.coe_mul]
  rfl

/-- The tile's share of the last norm's weight gradient, added to the row. -/
theorem pay25_at (acc : Vec Ideal S1x1024 .f32) (k : Fin 1024) :
    k0_pay25 v57 v60 v61 v68 v72 acc (ix2 0 k) = acc (ix2 0 k) + ((∑ r, N.gfTerm r k : ℝ) : EReal) := by
  pointwise [k0_pay25]
  simp only [pay24_at h57 h60 h61 h68 h72, pay21_at h57 h60 h61, ← EReal.coe_mul, coe_sum]
  rfl

/-- The gradient under the last norm's weight. -/
theorem pay27_at (r : Fin 256) (k : Fin 1024) : k0_pay27 v57 v60 v61 v68 v72 (ix2 r k) = ((N.dout r k * N.gf k : ℝ) : EReal) := by
  pointwise [k0_pay27, k0_pay22]
  simp only [pay24_at h57 h60 h61 h68 h72, h68, ← EReal.coe_mul]

/-- Its product with the normed row, summed. -/
theorem pay28_at (r : Fin 256) : k0_pay28 v57 v60 v61 v68 v72 (ix1 r) =
    ((∑ k, N.dout r k * N.gf k * (N.x3 r k * rstd (N.x3 r) 1024) : ℝ) : EReal) := by
  pointwise [k0_pay28]
  simp only [pay27_at h57 h60 h61 h68 h72, pay21_at h57 h60 h61, ← EReal.coe_mul, coe_sum]

/-- The tile's share of the loss, added along the row. -/
theorem pay26_at (acc : Vec Ideal S1x1024 .f32) (k : Fin 1024) :
    k0_pay26 v57 v60 v61 v68 v72 acc (ix2 0 k) = acc (ix2 0 k) + ((∑ r, N.lossTerm r : ℝ) : EReal) := by
  pointwise [k0_pay26]
  simp only [pay23_at h57 h60 h61 h68 h72, ← EReal.coe_mul, coe_sum, ofBits_inv_2048, zero_add]
  simp only [Net.lossTerm, Finset.mul_sum]

end third

section fourth
variable {v51 : FVec Ideal S256x4096 .f32} {v65 : FVec Ideal S256x1 .f32} {v67 v98 : FVec Ideal S256x1024 .f32} {v100 : FVec Ideal S256 .f32}
  {v111 : Vec Ideal S4096x1024 .bf16}
  (h51 : ∀ r f, v51 (ix2 r f) = ((max (N.p r f) 0 : ℝ) : EReal)) (h65 : ∀ r, v65 (ix2 r 0) = ((rstd (N.x3 r) 1024 : ℝ) : EReal))
  (h67 : ∀ r k, v67 (ix2 r k) = ((N.x3 r k * rstd (N.x3 r) 1024 : ℝ) : EReal)) (h98 : ∀ r k, v98 (ix2 r k) = ((N.dout r k * N.gf k : ℝ) : EReal))
  (h100 : ∀ r, v100 (ix1 r) = ((∑ k, N.dout r k * N.gf k * (N.x3 r k * rstd (N.x3 r) 1024) : ℝ) : EReal))
  (h111 : ∀ f k, v111 (ix2 f k) = ((N.w2 f k : ℝ) : EReal))
include h65 h67 h98 h100

/-- The gradient at the layer's output. -/
theorem pay29_at (r : Fin 256) (k : Fin 1024) : k0_pay29 v65 v67 v98 v100 (ix2 r k) = ((N.dx3 r k : ℝ) : EReal) := by
  pointwise [k0_pay29]
  simp only [h65, h67, h98, h100, ofBits_1024, div_real (show (1024 : ℝ) ≠ 0 by norm_num), ← EReal.coe_mul, ← EReal.coe_sub]
  rfl

include h51 h111

/-- The gradient at the first product. -/
theorem pay31_at (r : Fin 256) (f : Fin 4096) : k0_pay31 v51 v65 v67 v98 v100 v111 (ix2 r f) = ((N.dp r f : ℝ) : EReal) := by
  pointwise [k0_pay31, k0_pay30]
  simp only [pay29_at h65 h67 h98 h100, h51, h111, ofBits_two, ← EReal.coe_mul, coe_sum]
  rfl

/-- The gradient at the layer's normed input, the four quarters summed. -/
theorem dh2_at {v119 v123 v128 v133 : Vec Ideal S1x1024x1024 .bf16}
    (h119 : ∀ k f, v119 (ix3 0 k f) = ((N.w1 k (col 0 f) : ℝ) : EReal)) (h123 : ∀ k f, v123 (ix3 0 k f) = ((N.w1 k (col 1 f) : ℝ) : EReal))
    (h128 : ∀ k f, v128 (ix3 0 k f) = ((N.w1 k (col 2 f) : ℝ) : EReal)) (h133 : ∀ k f, v133 (ix3 0 k f) = ((N.w1 k (col 3 f) : ℝ) : EReal))
    (r : Fin 256) (k : Fin 1024) :
    k0_pay1 (k0_pay32 v51 v65 v67 v98 v100 v111 v119 v123 v128) (k0_pay33 v51 v65 v67 v98 v100 v111) (k0_pay34 v133) (ix2 r k) =
      ((N.dh2 r k : ℝ) : EReal) := by
  rw [Net.dh2, sum_col]
  pointwise [k0_pay1, k0_pay32, k0_pay33, k0_pay34]
  simp only [h119, h123, h128, h133, pay31_at h51 h65 h67 h98 h100 h111, ← EReal.coe_mul, coe_sum, ← EReal.coe_add]
  have hq (q : Fin 4) (a : ℕ) (ha : q.val * 1024 = a) (f : Fin 1024) (hf : a + f.val < 4096) : (⟨a + f.val, hf⟩ : Fin 4096) = col q f := by
    subst ha; rfl
  have h0 (f : Fin 1024) (hf : f.val < 4096) : (⟨f.val, hf⟩ : Fin 4096) = col 0 f := Fin.ext (by simp [col])
  simp only [hq 1 1024 rfl, hq 2 2048 rfl, hq 3 3072 rfl, h0]

end fourth

section last
variable {v17 : FVec Ideal S256x1 .f32} {v19 : FVec Ideal S256x1024 .f32} {v20 : Vec Ideal S1x1024 .f32} {v108 v131 : FVec Ideal S256x1024 .f32}
  {v132 : FVec Ideal S256x1024 .bf16} {v134 : FVec Ideal S1024x1024 .bf16}
  (h17 : ∀ r, v17 (ix2 r 0) = ((rstd (N.x2 r) 1024 : ℝ) : EReal)) (h19 : ∀ r k, v19 (ix2 r k) = ((N.x2 r k * rstd (N.x2 r) 1024 : ℝ) : EReal))
  (h20 : ∀ k, v20 (ix2 0 k) = ((N.g2 k : ℝ) : EReal)) (h108 : ∀ r k, v108 (ix2 r k) = ((N.dx3 r k : ℝ) : EReal))
  (h136 : ∀ r k, k0_pay1 v131 v132 v134 (ix2 r k) = ((N.dh2 r k : ℝ) : EReal))
include h19 h136

/-- The tile's share of the layer norm's weight gradient, added to the row. -/
theorem pay2_at (acc : Vec Ideal S1x1024 .f32) (k : Fin 1024) :
    k0_pay2 v19 v131 v132 v134 acc (ix2 0 k) = acc (ix2 0 k) + ((∑ r, N.g2Term r k : ℝ) : EReal) := by
  pointwise [k0_pay2]
  simp only [h136, h19, ← EReal.coe_mul, coe_sum]
  rfl

include h17 h20 h108

/-- The gradient at the mixer's sum. -/
theorem pay3_at (r : Fin 256) (k : Fin 1024) : k0_pay3 v17 v19 v20 v108 v131 v132 v134 (ix2 r k) = ((N.dx2 r k : ℝ) : EReal) := by
  pointwise [k0_pay3]
  simp only [h136, h17, h19, h20, h108, ofBits_1024, ← EReal.coe_mul, coe_sum, div_real (show (1024 : ℝ) ≠ 0 by norm_num), ← EReal.coe_sub,
    ← EReal.coe_add]
  rfl

/-- The gradient at the mixer's output. -/
theorem pay5_at {v160 : Vec Ideal S1536x1024 .bf16} (h160 : ∀ l k, v160 (ix2 l k) = ((N.wo l k : ℝ) : EReal)) (r : Fin 256) (l : Fin 1536) :
    k0_pay5 v17 v19 v20 v108 v131 v132 v134 v160 (ix2 r l) = ((N.dy r l : ℝ) : EReal) := by
  pointwise [k0_pay5, k0_pay4]
  simp only [pay3_at h17 h19 h20 h108 h136, h160, ← EReal.coe_mul, coe_sum]
  rfl

end last

end Cert.Kernel3Ideal.Mlp

end
-- ==== Proof.Mlp.lean ====
/- What the feed-forward kernel leaves in its result arrays. -/
module

public import proofs.«01_k».proof.Proof.Gen.Kernel3Ideal.Frame
public import proofs.«01_k».proof.Proof.MlpTile
public import Idealize.ShloMosaic.Lib.Pipeline.ValueKit
public import Idealize.ShloMosaic.Lib.Pipeline.ReadBack

@[expose] public section

set_option maxRecDepth 16384

noncomputable section

namespace Cert.Kernel3Ideal.Mlp

open Cert.Kernel3Ideal Cert.Kernel3Ideal.Gen Cert.RealMath Idealize.ShloMosaic Idealize.ShloMosaic.TcCoe Idealize.SL.Sem
open Idealize.ShloMosaic.Pipeline (Dat)

variable (m : (ℓ : Loc nD τ sig) → Buf (Elt Ideal) ℓ)

/-- The block every window reads or writes at a grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

/-- Row `r` of the tile of grid point `t`. -/
def row (t : Fin cfg0.N) (r : Fin 256) : Fin 4096 := ⟨t.val * 256 + r.val, by have := t.isLt; have : cfg0.N = 16 := N_0; omega⟩

/-- The arrays the kernel takes, as real arrays. -/
def net (c : Dev nD) : Net 4096 where
  x r k := EReal.toReal (m ((c.tc : Thread nD τ).loc main_arg0) (ix3 0 r k))
  y r l := EReal.toReal (m ((c.tc : Thread nD τ).loc main_arg1) (ix3 0 r l))
  wo l k := EReal.toReal (m ((c.tc : Thread nD τ).loc main_arg2) (ix3 0 l k))
  g2 k := EReal.toReal (m ((c.tc : Thread nD τ).loc main_arg3) (ix2 0 k))
  w1 k f := EReal.toReal (m ((c.tc : Thread nD τ).loc main_arg4) (ix3 0 k f))
  w2 f k := EReal.toReal (m ((c.tc : Thread nD τ).loc main_arg5) (ix3 0 f k))
  gf k := EReal.toReal (m ((c.tc : Thread nD τ).loc main_arg6) (ix1 k))
  tg r k := EReal.toReal (m ((c.tc : Thread nD τ).loc main_arg7) (ix3 0 r k))

/-- The arguments hold reals. -/
structure Reals (c : Dev nD) : Prop where
  hx : ∀ r k, m ((c.tc : Thread nD τ).loc main_arg0) (ix3 0 r k) = (((net m c).x r k : ℝ) : EReal)
  hy : ∀ r l, m ((c.tc : Thread nD τ).loc main_arg1) (ix3 0 r l) = (((net m c).y r l : ℝ) : EReal)
  hwo : ∀ l k, m ((c.tc : Thread nD τ).loc main_arg2) (ix3 0 l k) = (((net m c).wo l k : ℝ) : EReal)
  hg2 : ∀ k, m ((c.tc : Thread nD τ).loc main_arg3) (ix2 0 k) = (((net m c).g2 k : ℝ) : EReal)
  hw1 : ∀ k f, m ((c.tc : Thread nD τ).loc main_arg4) (ix3 0 k f) = (((net m c).w1 k f : ℝ) : EReal)
  hw2 : ∀ f k, m ((c.tc : Thread nD τ).loc main_arg5) (ix3 0 f k) = (((net m c).w2 f k : ℝ) : EReal)
  hgf : ∀ k, m ((c.tc : Thread nD τ).loc main_arg6) (ix1 k) = (((net m c).gf k : ℝ) : EReal)
  htg : ∀ r k, m ((c.tc : Thread nD τ).loc main_arg7) (ix3 0 r k) = (((net m c).tg r k : ℝ) : EReal)

/-- What one grid point reads: the blocks of its tile and the staged weights, the first layer's weight in four quarters. -/
structure Ins where
  x : Vec Ideal S256x1024 .f32
  y : Vec Ideal S256x1536 .bf16
  wo : Vec Ideal S1536x1024 .bf16
  g2 : Vec Ideal S1x1024 .f32
  q0 : Vec Ideal S1x1024x1024 .bf16
  q1 : Vec Ideal S1x1024x1024 .bf16
  q2 : Vec Ideal S1x1024x1024 .bf16
  q3 : Vec Ideal S1x1024x1024 .bf16
  w2 : Vec Ideal S4096x1024 .bf16
  gf : Vec Ideal S1x1024 .f32
  tg : Vec Ideal S256x1024 .f32

/-- What a grid point reads is a tile of these real arrays. -/
structure Ins.Holds (I : Ins) (N : Net 256) : Prop where
  hx : ∀ r k, I.x (ix2 r k) = ((N.x r k : ℝ) : EReal)
  hy : ∀ r l, I.y (ix2 r l) = ((N.y r l : ℝ) : EReal)
  hwo : ∀ l k, I.wo (ix2 l k) = ((N.wo l k : ℝ) : EReal)
  hg2 : ∀ k, I.g2 (ix2 0 k) = ((N.g2 k : ℝ) : EReal)
  hq0 : ∀ k f, I.q0 (ix3 0 k f) = ((N.w1 k (col 0 f) : ℝ) : EReal)
  hq1 : ∀ k f, I.q1 (ix3 0 k f) = ((N.w1 k (col 1 f) : ℝ) : EReal)
  hq2 : ∀ k f, I.q2 (ix3 0 k f) = ((N.w1 k (col 2 f) : ℝ) : EReal)
  hq3 : ∀ k f, I.q3 (ix3 0 k f) = ((N.w1 k (col 3 f) : ℝ) : EReal)
  hw2 : ∀ f k, I.w2 (ix2 f k) = ((N.w2 f k : ℝ) : EReal)
  hgf : ∀ k, I.gf (ix2 0 k) = ((N.gf k : ℝ) : EReal)
  htg : ∀ r k, I.tg (ix2 r k) = ((N.tg r k : ℝ) : EReal)

namespace Ins

variable (I : Ins)

/-- A place of the `q`-th quarter, in the whole. -/
theorem emb_col (q : Fin 4) (o : ℕ) (ho : q.val * 1024 = o) (inb : ∀ a, (![0, o] : Fin 2 → ℕ) a + (![256, 1024] : Fin 2 → ℕ) a ≤ S256x4096.size a)
    (r : Fin 256) (f : Fin 1024) : (Rect.unit (s := S256x4096) ![0, o] ![256, 1024] inb).emb (ix2 r f) = ix2 r (col q f) := by
  subst ho
  exact Rect.emb_eq_of_coords _ _ _ (by intro a; fin_cases a <;> simp [col])

/-- A load of the whole block reads every place at itself. -/
theorem LoadRect_idx (r : Fin 256) (f : Fin 4096) :
    (Rect.unit (s := S256x4096) ![0, 0] S256x4096.size inb_S256x4096_S256x4096_0_0).toLoadRect.idx (ix2 r f) = ix2 r f := by
  funext a
  fin_cases a <;> exact Fin.ext (by simp)

/-- The first product as an array. -/
def full (N : Net 256) (i : S256x4096.Idx) : EReal := ((N.p (i 0) (i 1) : ℝ) : EReal)

/-- A quarter of the first product is a block of the array. -/
theorem at_emb {N : Net 256} (q : Fin 4) (o : ℕ) (ho : q.val * 1024 = o)
    (inb : ∀ a, (![0, o] : Fin 2 → ℕ) a + (![256, 1024] : Fin 2 → ℕ) a ≤ S256x4096.size a) {w : FVec Ideal S256x1024 .f32}
    (hw : ∀ r f, w (ix2 r f) = ((N.p r (col q f) : ℝ) : EReal)) (i : S256x1024.Idx) :
    w i = full N ((Rect.unit (s := S256x4096) ![0, o] ![256, 1024] inb).emb i) := by
  idx_vars i
  exact (hw i0 i1).trans (congrArg (full N) (emb_col q o ho inb i0 i1)).symm

/-- The four stores of the first product's quarters. -/
def pieces : List (View.Piece (Elt Ideal) S256x4096 .f32) :=
  [⟨Rect.unit ![0, 3072] ![256, 1024] inb_S256x4096_S256x1024_0_3072, k0_pay14 (k0_pay10 I.x I.y I.wo I.g2) I.q3⟩,
    ⟨Rect.unit ![0, 2048] ![256, 1024] inb_S256x4096_S256x1024_0_2048, k0_pay13 (k0_pay10 I.x I.y I.wo I.g2) I.q2⟩,
    ⟨Rect.unit ![0, 1024] ![256, 1024] inb_S256x4096_S256x1024_0_1024, k0_pay12 (k0_pay10 I.x I.y I.wo I.g2) I.q1⟩,
    ⟨Rect.unit ![0, 0] ![256, 1024] inb_S256x4096_S256x1024_0_0, k0_pay11 I.x I.y I.wo I.g2 I.q0⟩]

/-- The first product, loaded back. -/
def p : Vec Ideal S256x4096 .f32 :=
  (View.whole cc0_scratch3).readCov (Val := Elt Ideal) I.pieces (Rect.unit (s := S256x4096) ![0, 0] S256x4096.size inb_S256x4096_S256x4096_0_0).toLoadRect

/-- The stages of the tile's computation that later ones read. -/
def x2 : FVec Ideal S256x1024 .f32 := k0_pay7 I.x I.y I.wo
/-- The reciprocal root of the layer's norm. -/
def r2 : FVec Ideal S256x1 .f32 := k0_pay8 I.x I.y I.wo
/-- The layer's normed rows. -/
def n2 : FVec Ideal S256x1024 .f32 := k0_pay9 I.x I.y I.wo
/-- The stream after the layer. -/
def x3 : FVec Ideal S256x1024 .f32 := k0_pay17 I.x2 I.p I.w2
/-- The sum of squares of its rows. -/
def s3 : FVec Ideal S256x1 .f32 := k0_pay18 I.x2 I.p I.w2
/-- The last norm's reciprocal root. -/
def r3 : FVec Ideal S256x1 .f32 := k0_pay20 I.s3 k0_pay19
/-- The last norm's rows. -/
def n3 : FVec Ideal S256x1024 .f32 := k0_pay21 I.x3 I.s3 k0_pay19
/-- The loss's gradient times the last gains. -/
def e3 : FVec Ideal S256x1024 .f32 := k0_pay27 I.x3 I.s3 k0_pay19 I.gf I.tg
/-- Its product with the normed rows, summed. -/
def t3 : FVec Ideal S256 .f32 := k0_pay28 I.x3 I.s3 k0_pay19 I.gf I.tg
/-- The gradient of the stream after the layer. -/
def dx3 : FVec Ideal S256x1024 .f32 := k0_pay29 I.r3 I.n3 I.e3 I.t3
/-- The gradient of the pre-activation. -/
def dp : FVec Ideal S256x4096 .bf16 := k0_pay31 (k0_pay15 I.p) I.r3 I.n3 I.e3 I.t3 I.w2
/-- The first three shards of the layer's input gradient. -/
def a131 : FVec Ideal S256x1024 .f32 := k0_pay32 (k0_pay15 I.p) I.r3 I.n3 I.e3 I.t3 I.w2 I.q0 I.q1 I.q2
/-- The operand of the fourth shard's product, -/
def a132 : FVec Ideal S256x1024 .bf16 := k0_pay33 (k0_pay15 I.p) I.r3 I.n3 I.e3 I.t3 I.w2
/-- and its weights. -/
def a134 : FVec Ideal S1024x1024 .bf16 := k0_pay34 I.q3
/-- The gradient of the stream before the layer. -/
def dx2 : FVec Ideal S256x1024 .f32 := k0_pay3 I.r2 I.n2 I.g2 I.dx3 I.a131 I.a132 I.a134
/-- The gradient of the mixers' output. -/
def dy : FVec Ideal S256x1536 .f32 := k0_pay5 I.r2 I.n2 I.g2 I.dx3 I.a131 I.a132 I.a134 I.wo

variable {I} {N : Net 256} (h : I.Holds N)
include h

/-- The stream before the layer, over the reals. -/
theorem x2_at (r : Fin 256) (k : Fin 1024) : I.x2 (ix2 r k) = ((N.x2 r k : ℝ) : EReal) := pay7_at h.hx h.hy h.hwo r k
/-- Its norm's reciprocal root. -/
theorem r2_at (r : Fin 256) : I.r2 (ix2 r 0) = ((rstd (N.x2 r) 1024 : ℝ) : EReal) := pay8_at h.hx h.hy h.hwo r
/-- Its normed rows. -/
theorem n2_at (r : Fin 256) (k : Fin 1024) : I.n2 (ix2 r k) = ((N.x2 r k * rstd (N.x2 r) 1024 : ℝ) : EReal) := pay9_at h.hx h.hy h.hwo r k
/-- The layer's input. -/
theorem h2_at (r : Fin 256) (k : Fin 1024) : k0_pay10 I.x I.y I.wo I.g2 (ix2 r k) = ((N.h2 r k : ℝ) : EReal) := pay10_at h.hx h.hy h.hwo h.hg2 r k

/-- The first product, loaded back, at an index. -/
theorem p_at (r : Fin 256) (f : Fin 4096) : I.p (ix2 r f) = ((N.p r f : ℝ) : EReal) := by
  have hG : View.PiecesOf (full N) I.pieces :=
    ⟨at_emb 3 3072 rfl inb_S256x4096_S256x1024_0_3072 (pay14_at (h2_at h) h.hq3), at_emb 2 2048 rfl inb_S256x4096_S256x1024_0_2048 (pay13_at (h2_at h) h.hq2), at_emb 1 1024 rfl inb_S256x4096_S256x1024_0_1024 (pay12_at (h2_at h) h.hq1),
      at_emb 0 0 rfl inb_S256x4096_S256x1024_0_0 (pay11_at h.hx h.hy h.hwo h.hg2 h.hq0), trivial⟩
  have e := View.canon_append_of_piecesOf _ [] I.pieces hG (ix2 r f) (View.cover_of_tiledL _ ![256, 1024] (by sl_kernel_rfl) _)
  rw [List.append_nil] at e
  rw [p, View.readCov_eq_canon']
  exact (congrArg (View.canon I.pieces) (LoadRect_idx r f)).trans e

/-- The stream after the layer. -/
theorem x3_at (r : Fin 256) (k : Fin 1024) : I.x3 (ix2 r k) = ((N.x3 r k : ℝ) : EReal) := pay17_at (p_at h) (x2_at h) h.hw2 r k
/-- The sum of squares of its rows. -/
theorem s3_at (r : Fin 256) : I.s3 (ix2 r 0) = ((∑ k, N.x3 r k * N.x3 r k : ℝ) : EReal) := pay18_at (p_at h) (x2_at h) h.hw2 r
/-- The last norm's reciprocal root. -/
theorem r3_at (r : Fin 256) : I.r3 (ix2 r 0) = ((rstd (N.x3 r) 1024 : ℝ) : EReal) := pay20_at (s3_at h) rfl r
/-- The last norm's rows. -/
theorem n3_at (r : Fin 256) (k : Fin 1024) : I.n3 (ix2 r k) = ((N.x3 r k * rstd (N.x3 r) 1024 : ℝ) : EReal) :=
  pay21_at (x3_at h) (s3_at h) rfl r k
/-- The loss's gradient times the last gains. -/
theorem e3_at (r : Fin 256) (k : Fin 1024) : I.e3 (ix2 r k) = ((N.dout r k * N.gf k : ℝ) : EReal) :=
  pay27_at (x3_at h) (s3_at h) rfl h.hgf h.htg r k
/-- Its product with the normed rows, summed. -/
theorem t3_at (r : Fin 256) : I.t3 (ix1 r) = ((∑ k, N.dout r k * N.gf k * (N.x3 r k * rstd (N.x3 r) 1024) : ℝ) : EReal) :=
  pay28_at (x3_at h) (s3_at h) rfl h.hgf h.htg r
/-- The squared activation. -/
theorem z_at (r : Fin 256) (f : Fin 4096) : k0_pay16 I.p (ix2 r f) = ((N.z r f : ℝ) : EReal) := pay16_at (p_at h) r f
/-- The gradient of the stream after the layer. -/
theorem dx3_at (r : Fin 256) (k : Fin 1024) : I.dx3 (ix2 r k) = ((N.dx3 r k : ℝ) : EReal) :=
  pay29_at (r3_at h) (n3_at h) (e3_at h) (t3_at h) r k
/-- The gradient of the pre-activation. -/
theorem dp_at (r : Fin 256) (f : Fin 4096) : I.dp (ix2 r f) = ((N.dp r f : ℝ) : EReal) :=
  pay31_at (pay15_at (p_at h)) (r3_at h) (n3_at h) (e3_at h) (t3_at h) h.hw2 r f
/-- The gradient of the layer's input. -/
theorem dh2_at (r : Fin 256) (k : Fin 1024) : k0_pay1 I.a131 I.a132 I.a134 (ix2 r k) = ((N.dh2 r k : ℝ) : EReal) :=
  Mlp.dh2_at (pay15_at (p_at h)) (r3_at h) (n3_at h) (e3_at h) (t3_at h) h.hw2 h.hq0 h.hq1 h.hq2 h.hq3 r k
/-- The gradient of the stream before the layer. -/
theorem dx2_at (r : Fin 256) (k : Fin 1024) : I.dx2 (ix2 r k) = ((N.dx2 r k : ℝ) : EReal) :=
  pay3_at (r2_at h) (n2_at h) h.hg2 (dx3_at h) (dh2_at h) r k
/-- The gradient of the mixers' output. -/
theorem dy_at (r : Fin 256) (l : Fin 1536) : I.dy (ix2 r l) = ((N.dy r l : ℝ) : EReal) :=
  pay5_at (r2_at h) (n2_at h) h.hg2 (dx3_at h) (dh2_at h) h.hwo r l
/-- What a tile adds to the gradient of the layer's gains, -/
theorem one_at (acc : Vec Ideal S1x1024 .f32) (k : Fin 1024) :
    k0_pay2 I.n2 I.a131 I.a132 I.a134 acc (ix2 0 k) = acc (ix2 0 k) + ((∑ r, N.g2Term r k : ℝ) : EReal) := pay2_at (n2_at h) (dh2_at h) acc k
/-- to the loss, -/
theorem two_at (acc : Vec Ideal S1x1024 .f32) (k : Fin 1024) :
    k0_pay26 I.x3 I.s3 k0_pay19 I.gf I.tg acc (ix2 0 k) = acc (ix2 0 k) + ((∑ r, N.lossTerm r : ℝ) : EReal) := pay26_at (x3_at h) (s3_at h) rfl h.hgf h.htg acc k
/-- and to the gradient of the last gains. -/
theorem zero_at (acc : Vec Ideal S1x1024 .f32) (k : Fin 1024) :
    k0_pay25 I.x3 I.s3 k0_pay19 I.gf I.tg acc (ix2 0 k) = acc (ix2 0 k) + ((∑ r, N.gfTerm r k : ℝ) : EReal) := pay25_at (x3_at h) (s3_at h) rfl h.hgf h.htg acc k

end Ins

/-- What a grid point reads, from these staged weights. -/
def ins (c : Dev nD) (t : Fin cfg0.N) (s0 : Vec Ideal S1536x1024 .bf16) (s1 : Vec Ideal S4x1024x1024 .bf16) (s2 : Vec Ideal S4096x1024 .bf16) : Ins where
  x := iblk m c 0 t
  y := iblk m c 1 t
  wo := s0
  g2 := iblk m c 2 t
  q0 := View.ld s1 (Rect.unit ![0, 0, 0] ![1, 1024, 1024] inb_S4x1024x1024_S1x1024x1024_0_0_0)
  q1 := View.ld s1 (Rect.unit ![1, 0, 0] ![1, 1024, 1024] inb_S4x1024x1024_S1x1024x1024_1_0_0)
  q2 := View.ld s1 (Rect.unit ![2, 0, 0] ![1, 1024, 1024] inb_S4x1024x1024_S1x1024x1024_2_0_0)
  q3 := View.ld s1 (Rect.unit ![3, 0, 0] ![1, 1024, 1024] inb_S4x1024x1024_S1x1024x1024_3_0_0)
  w2 := s2
  gf := iblk m c 3 t
  tg := iblk m c 4 t

/-- A scratch that was filled whole holds the fill. -/
theorem canon_whole {s : Shape} {e : EltTy} (Z : s.Idx → Elt Ideal e) : View.canon [⟨Rect.whole s, Z⟩] = Z :=
  View.canon_unit_zero rfl _ Z

/-- A load of a scratch that was filled whole reads the fill there. -/
theorem readCov_whole {s : Shape} {e : EltTy} (v : View sig .tc .vmem s e) (Z : s.Idx → Elt Ideal e) (r : Rect s) :
    v.readCov [⟨Rect.whole s, Z⟩] r.toLoadRect = View.ld Z r := by
  rw [View.readCov_eq_canon', canon_whole]

/-- A load of all of the first weight. -/
theorem ld_wo (X : Vec Ideal S1536x1024 .bf16) : View.ld X (Rect.unit ![0, 0] ![1536, 1024] inb_S1536x1024_S1536x1024_0_0) = X :=
  View.ld_unit_lit _ _ (by decide)

/-- A load of all of the last weight. -/
theorem ld_w2 (X : Vec Ideal S4096x1024 .bf16) : View.ld X (Rect.unit ![0, 0] ![4096, 1024] inb_S4096x1024_S4096x1024_0_0) = X :=
  View.ld_unit_lit _ _ (by decide)

/-- What a copy of a whole array reads. -/
theorem copy_whole (b : Ref sig .tc) (X : b.ty.shape.Idx → Elt Ideal b.ty.elt) : ReadAs.same.apply (View.read (Elt Ideal) (View.whole b) X) = X := rfl

/-- A grid point that is not the first leaves the staged weights as they are. -/
theorem kept (c : Dev nD) (t : Fin cfg0.N) (h0 : ¬ t.val % 16 = 0) : (outsAt0 m c t.val t.isLt).2.2.2.2.2.2.2.2
    = (outsAt0 m c (t.val - 1) (Nat.lt_of_le_of_lt (Nat.sub_le _ _) t.isLt)).2.2.2.2.2.2.2.2 := by
  rw [outsAt0_B m c t h0]; rfl

/-- Every grid point leaves the weights in the scratches as they lie in memory. -/
theorem staged (c : Dev nD) : ∀ (n : ℕ) (hn : n < cfg0.N), (outsAt0 m c n hn).2.2.2.2.2.2.2.2
    = (V m c main_v8, V m c main_v3, V m c main_v10) := by
  intro n
  induction n with
  | zero =>
    intro hn
    rw [outsAt0_A m c ⟨0, hn⟩ rfl]
    refine Prod.ext ?_ (Prod.ext ?_ ?_) <;> (frame_out; exact canon_whole _)
  | succ n ih =>
    intro hn
    have hN : cfg0.N = 16 := N_0
    exact (kept m c ⟨n + 1, hn⟩ (by dsimp only; omega)).trans (ih _)

/-- What grid point `t` reads. -/
def here (c : Dev nD) (t : Fin cfg0.N) : Ins := ins m c t (V m c main_v8) (V m c main_v3) (V m c main_v10)

set_option maxHeartbeats 2000000 in
/-- The blocks a grid point leaves in the seven outputs that hold one tile each. -/
theorem outs_eq (c : Dev nD) (t : Fin cfg0.N) : (outsAt0 m c t.val t.isLt).1 = k0_pay16 (here m c t).p
    ∧ (outsAt0 m c t.val t.isLt).2.1 = (here m c t).dp
    ∧ (outsAt0 m c t.val t.isLt).2.2.1 = k0_pay10 (here m c t).x (here m c t).y (here m c t).wo (here m c t).g2
    ∧ (outsAt0 m c t.val t.isLt).2.2.2.1 = (here m c t).dx3
    ∧ (outsAt0 m c t.val t.isLt).2.2.2.2.1 = (here m c t).dx2
    ∧ (outsAt0 m c t.val t.isLt).2.2.2.2.2.1 = (here m c t).dx2
    ∧ (outsAt0 m c t.val t.isLt).2.2.2.2.2.2.1 = (here m c t).dy := by
  by_cases h0 : t.val % 16 = 0
  · rw [outsAt0_A m c t h0]
    refine ⟨?_, ?_, ?_, ?_, ?_, ?_, ?_⟩ <;> (frame_out; simp only [readCov_whole]; simp only [ld_wo, ld_w2]; sl_kernel_rfl)
  · have hs := staged m c (t.val - 1) (Nat.lt_of_le_of_lt (Nat.sub_le _ _) t.isLt)
    rw [outsAt0_B m c t h0]
    refine ⟨?_, ?_, ?_, ?_, ?_, ?_, ?_⟩ <;> (frame_out; simp only [read_unread_whole, hs]; sl_kernel_rfl)

/-- The host's shards of the layer's first weights are their columns in order. -/
theorem V_v3 (c : Dev nD) (q : Fin 4) (k : Fin 1024) (f : Fin 1024) : V m c main_v3 (ix3 q k f) = m ((c.tc : Thread nD τ).loc main_arg4) (ix3 0 k (col q f)) := by
  blk_ext! [V, col]

/-- The output projection's weights without their first axis, -/
theorem V_v8 (c : Dev nD) (l : Fin 1536) (k : Fin 1024) : V m c main_v8 (ix2 l k) = m ((c.tc : Thread nD τ).loc main_arg2) (ix3 0 l k) := by
  unfold V; entry_read; pointwise

/-- and the layer's second weights likewise. -/
theorem V_v10 (c : Dev nD) (f : Fin 4096) (k : Fin 1024) : V m c main_v10 (ix2 f k) = m ((c.tc : Thread nD τ).loc main_arg5) (ix3 0 f k) := by
  unfold V; entry_read; pointwise

/-- A tile's block of `x` is 256 rows of it. -/
theorem read_x (c : Dev nD) (t : Fin cfg0.N) (r : Fin 256) (k : Fin 1024) :
    iblk m c 0 t (ix2 r k) = m ((c.tc : Thread nD τ).loc main_arg0) (ix3 0 (row t r) k) := by
  blk_ext! [iblk, V, idx t, row]

/-- A tile's block of `y` is 256 rows of it. -/
theorem read_y (c : Dev nD) (t : Fin cfg0.N) (r : Fin 256) (l : Fin 1536) :
    iblk m c 1 t (ix2 r l) = m ((c.tc : Thread nD τ).loc main_arg1) (ix3 0 (row t r) l) := by
  blk_ext! [iblk, V, idx t, row]

/-- Every tile sees the layer's gains, -/
theorem read_g2 (c : Dev nD) (t : Fin cfg0.N) (k : Fin 1024) : iblk m c 2 t (ix2 0 k) = m ((c.tc : Thread nD τ).loc main_arg3) (ix2 0 k) := by
  blk_ext! [iblk, V, idx t]

/-- and the last gains. -/
theorem read_gf (c : Dev nD) (t : Fin cfg0.N) (k : Fin 1024) : iblk m c 3 t (ix2 0 k) = m ((c.tc : Thread nD τ).loc main_arg6) (ix1 k) := by
  blk_ext! [iblk, V, idx t]

/-- A tile's block of the target is 256 rows of it. -/
theorem read_tg (c : Dev nD) (t : Fin cfg0.N) (r : Fin 256) (k : Fin 1024) :
    iblk m c 4 t (ix2 r k) = m ((c.tc : Thread nD τ).loc main_arg7) (ix3 0 (row t r) k) := by
  blk_ext! [iblk, V, idx t, row]

/-- A shard of the staged weight is read column by column. -/
theorem shard (s : Vec Ideal S4x1024x1024 .bf16) (q : Fin 4) (o : ℕ) (ho : q.val = o) (h : ∀ a, (![o, 0, 0] : Fin 3 → ℕ) a + (![1, 1024, 1024] : Fin 3 → ℕ) a ≤ S4x1024x1024.size a)
    (k f : Fin 1024) : (View.ld (Val := Elt Ideal) (e' := .bf16) s (Rect.unit (s := S4x1024x1024) ![o, 0, 0] ![1, 1024, 1024] h)) (ix3 0 k f) = s (ix3 q k f) := by
  subst ho
  refine congrArg s (Rect.emb_eq_of_coords _ _ _ ?_)
  intro a; fin_cases a <;> simp

/-- What a grid point reads is its tile of the arrays. -/
theorem here_holds (c : Dev nD) (h : Reals m c) (t : Fin cfg0.N) : (here m c t).Holds ((net m c).rows (row t)) where
  hx r k := (read_x m c t r k).trans (h.hx (row t r) k)
  hy r l := (read_y m c t r l).trans (h.hy (row t r) l)
  hwo l k := (V_v8 m c l k).trans (h.hwo l k)
  hg2 k := (read_g2 m c t k).trans (h.hg2 k)
  hq0 k f := ((shard (V m c main_v3) 0 0 rfl _ k f).trans (V_v3 m c 0 k f)).trans (h.hw1 k (col 0 f))
  hq1 k f := ((shard (V m c main_v3) 1 1 rfl _ k f).trans (V_v3 m c 1 k f)).trans (h.hw1 k (col 1 f))
  hq2 k f := ((shard (V m c main_v3) 2 2 rfl _ k f).trans (V_v3 m c 2 k f)).trans (h.hw1 k (col 2 f))
  hq3 k f := ((shard (V m c main_v3) 3 3 rfl _ k f).trans (V_v3 m c 3 k f)).trans (h.hw1 k (col 3 f))
  hw2 f k := (V_v10 m c f k).trans (h.hw2 f k)
  hgf k := (read_gf m c t k).trans (h.hgf k)
  htg r k := (read_tg m c t r k).trans (h.htg (row t r) k)

/-- The loads of the statistics rows at the first point read the zeros that the point stored first. -/
theorem acc_one (t : Fin cfg0.N) (p q : Vec Ideal S1x1024 .f32) (Z : Vec Ideal S8x1024 .f32) :
    (ms0_12 t).view.readCov (Val := Elt Ideal) [⟨Rect.unit ![2, 0] ![1, 1024] inb_S8x1024_S1x1024_2_0, p⟩, ⟨Rect.unit ![0, 0] ![1, 1024] inb_S8x1024_S1x1024_0_0, q⟩,
        ⟨Rect.unit ![0, 0] ![8, 1024] inb_S8x1024_S8x1024_0_0, Z⟩] (Rect.unit ![1, 0] ![1, 1024] inb_S8x1024_S1x1024_1_0).toLoadRect
      = View.ld Z (Rect.unit ![1, 0] ![1, 1024] inb_S8x1024_S1x1024_1_0) := by
  rw [View.readCov_skip _ _ _ _ _ (by decide), View.readCov_skip _ _ _ _ _ (by decide), View.readCov_fill _ _ _ _ _ (by decide)]

/-- Reading the third packed row back, below a store to the first. -/
theorem acc_two (t : Fin cfg0.N) (q : Vec Ideal S1x1024 .f32) (Z : Vec Ideal S8x1024 .f32) :
    (ms0_12 t).view.readCov (Val := Elt Ideal) [⟨Rect.unit ![0, 0] ![1, 1024] inb_S8x1024_S1x1024_0_0, q⟩,
        ⟨Rect.unit ![0, 0] ![8, 1024] inb_S8x1024_S8x1024_0_0, Z⟩] (Rect.unit ![2, 0] ![1, 1024] inb_S8x1024_S1x1024_2_0).toLoadRect
      = View.ld Z (Rect.unit ![2, 0] ![1, 1024] inb_S8x1024_S1x1024_2_0) := by
  rw [View.readCov_skip _ _ _ _ _ (by decide), View.readCov_fill _ _ _ _ _ (by decide)]

/-- Reading the first packed row back after the whole block was set. -/
theorem acc_zero (t : Fin cfg0.N) (Z : Vec Ideal S8x1024 .f32) :
    (ms0_12 t).view.readCov (Val := Elt Ideal) [⟨Rect.unit ![0, 0] ![8, 1024] inb_S8x1024_S8x1024_0_0, Z⟩] (Rect.unit ![0, 0] ![1, 1024] inb_S8x1024_S1x1024_0_0).toLoadRect
      = View.ld Z (Rect.unit ![0, 0] ![1, 1024] inb_S8x1024_S1x1024_0_0) := by
  rw [View.readCov_fill _ _ _ _ _ (by decide)]

/-- The three stores of a grid point into the statistics block whose contents were `acc`. -/
def Ins.rows (I : Ins) (acc : Vec Ideal S8x1024 .f32) : List (View.Piece (Elt Ideal) S8x1024 .f32) :=
  [⟨Rect.unit ![1, 0] ![1, 1024] inb_S8x1024_S1x1024_1_0, k0_pay2 I.n2 I.a131 I.a132 I.a134 (View.ld acc (Rect.unit ![1, 0] ![1, 1024] inb_S8x1024_S1x1024_1_0))⟩,
    ⟨Rect.unit ![2, 0] ![1, 1024] inb_S8x1024_S1x1024_2_0, k0_pay26 I.x3 I.s3 k0_pay19 I.gf I.tg (View.ld acc (Rect.unit ![2, 0] ![1, 1024] inb_S8x1024_S1x1024_2_0))⟩,
    ⟨Rect.unit ![0, 0] ![1, 1024] inb_S8x1024_S1x1024_0_0, k0_pay25 I.x3 I.s3 k0_pay19 I.gf I.tg (View.ld acc (Rect.unit ![0, 0] ![1, 1024] inb_S8x1024_S1x1024_0_0))⟩]

/-- The statistics block after those stores, made on a buffer that held `f`. -/
def Ins.after (I : Ins) (t : Fin cfg0.N) (acc : Vec Ideal S8x1024 .f32) (f : (ms0_12 t).view.ty.Contents (Elt Ideal)) : S8x1024.Idx → EReal :=
  (ms0_12 t).view.read (Elt Ideal) ((ms0_12 t).view.writes (Elt Ideal) f (I.rows acc))

set_option maxHeartbeats 2000000 in
/-- The statistics block that the first grid point leaves. -/
theorem st_first (c : Dev nD) (t : Fin cfg0.N) (h0 : t.val % 16 = 0) : (outsAt0 m c t.val t.isLt).2.2.2.2.2.2.2.1
    = View.canon ((here m c t).rows (k0_pay6 : FVec Ideal S8x1024 .f32) ++ [⟨Rect.unit ![0, 0] ![8, 1024] inb_S8x1024_S8x1024_0_0, (k0_pay6 : FVec Ideal S8x1024 .f32)⟩]) := by
  rw [outsAt0_A m c t h0]
  frame_out
  simp only [acc_one, acc_two, acc_zero, readCov_whole]
  simp only [ld_wo, ld_w2]
  sl_kernel_rfl

set_option maxHeartbeats 2000000 in
/-- The statistics block that a later grid point leaves. -/
theorem st_later (c : Dev nD) (t : Fin cfg0.N) (h0 : ¬ t.val % 16 = 0) : (outsAt0 m c t.val t.isLt).2.2.2.2.2.2.2.1
    = (here m c t).after t (outsAt0 m c (t.val - 1) (Nat.lt_of_le_of_lt (Nat.sub_le _ _) t.isLt)).2.2.2.2.2.2.2.1
      ((hs0_12 t).unread (outsAt0 m c (t.val - 1) (Nat.lt_of_le_of_lt (Nat.sub_le _ _) t.isLt)).2.2.2.2.2.2.2.1) := by
  have hs := staged m c (t.val - 1) (Nat.lt_of_le_of_lt (Nat.sub_le _ _) t.isLt)
  rw [outsAt0_B m c t h0]
  frame_out
  simp only [read_unread_whole, hs]
  sl_kernel_rfl

/-- What a tile adds to the statistics block. -/
def tileTerm {n : ℕ} (N : Net n) (y : S8x1024.Idx) : EReal :=
  if (y 0).val = 1 then ((∑ r, N.g2Term r (y 1) : ℝ) : EReal) else if (y 0).val = 2 then ((∑ r, N.lossTerm r : ℝ) : EReal)
  else if (y 0).val = 0 then ((∑ r, N.gfTerm r (y 1) : ℝ) : EReal) else 0

/-- The stores of a tile add its term to the block. -/
theorem after_at {I : Ins} {N : Net 256} (h : I.Holds N) (t : Fin cfg0.N) (acc : Vec Ideal S8x1024 .f32) (f : (ms0_12 t).view.ty.Contents (Elt Ideal))
    (hf : (ms0_12 t).view.read (Elt Ideal) f = acc) (y : S8x1024.Idx) : I.after t acc f y = acc y + tileTerm N y := by
  idx_vars y
  have hld (o : ℕ) (q : Fin 8) (ho : q.val = o) (inb) : (View.ld (Val := Elt Ideal) (e' := .f32) acc (Rect.unit (s := S8x1024) ![o, 0] ![1, 1024] inb)) (ix2 0 y1) = acc (ix2 q y1) := by
    subst ho
    exact congrArg acc (Rect.emb_eq_of_coords _ _ _ (by intro a; fin_cases a <;> simp))
  rw [Ins.after, Ins.rows]
  by_cases h1 : y0.val = 1
  · obtain rfl : y0 = 1 := Fin.ext h1
    rw [View.read_writes_cons_hit_of_coords _ _ _ _ _ (ix2 0 y1) (ix2 1 y1) (by intro a; fin_cases a <;> simp)]
    exact (Ins.one_at h _ y1).trans (congrArg (· + _) (hld 1 1 rfl _))
  rw [View.read_writes_cons_miss_of_axis _ _ _ _ _ 0 1 1 rfl rfl rfl (show y0.val < 1 ∨ 1 + 1 ≤ y0.val by omega)]
  by_cases h2 : y0.val = 2
  · obtain rfl : y0 = 2 := Fin.ext h2
    rw [View.read_writes_cons_hit_of_coords _ _ _ _ _ (ix2 0 y1) (ix2 2 y1) (by intro a; fin_cases a <;> simp)]
    exact (Ins.two_at h _ y1).trans (congrArg (· + _) (hld 2 2 rfl _))
  rw [View.read_writes_cons_miss_of_axis _ _ _ _ _ 0 2 1 rfl rfl rfl (show y0.val < 2 ∨ 2 + 1 ≤ y0.val by omega)]
  by_cases h3 : y0.val = 0
  · obtain rfl : y0 = 0 := Fin.ext h3
    rw [View.read_writes_cons_hit_of_coords _ _ _ _ _ (ix2 0 y1) (ix2 0 y1) (by intro a; fin_cases a <;> simp)]
    exact (Ins.zero_at h _ y1).trans (congrArg (· + _) (hld 0 0 rfl _))
  rw [View.read_writes_cons_miss_of_axis _ _ _ _ _ 0 0 1 rfl rfl rfl (show y0.val < 0 ∨ 0 + 1 ≤ y0.val by omega), View.writes_nil, hf]
  exact ((congrArg (acc (ix2 y0 y1) + ·) ((if_neg h1).trans ((if_neg h2).trans (if_neg h3)))).trans (add_zero _)).symm

/-- The term of a grid point's tile. -/
def stTerm (c : Dev nD) (t : Fin cfg0.N) (y : S8x1024.Idx) : EReal := tileTerm ((net m c).rows (row t)) y

/-- The first grid point leaves its tile's term in the statistics block. -/
theorem st_A (c : Dev nD) (h : Reals m c) (t : Fin cfg0.N) (h0 : t.val % 16 = 0) (y : S8x1024.Idx) :
    (outsAt0 m c t.val t.isLt).2.2.2.2.2.2.2.1 y = (fun _ => (0 : EReal)) y + stTerm m c t y := by
  rw [st_first m c t h0, ← View.read_writes_junk_apply_eq_canon (ms0_12 t).view, View.writes_append]
  refine (after_at (here_holds m c h t) t (k0_pay6 : FVec Ideal S8x1024 .f32) _ ?_ y).trans ?_
  · funext i
    idx_vars i
    rw [View.read_writes_cons_hit_of_coords _ _ _ _ _ (ix2 i0 i1) (ix2 i0 i1) (by intro a; fin_cases a <;> simp)]
  · refine congrArg (· + _) ?_
    idx_vars y
    pointwise [k0_pay6]

/-- A later grid point adds its tile's term to the statistics block. -/
theorem st_B (c : Dev nD) (h : Reals m c) (t : Fin cfg0.N) (h0 : ¬ t.val % 16 = 0) (y : S8x1024.Idx) :
    (outsAt0 m c t.val t.isLt).2.2.2.2.2.2.2.1 y =
      (outsAt0 m c (t.val - 1) (Nat.lt_of_le_of_lt (Nat.sub_le _ _) t.isLt)).2.2.2.2.2.2.2.1 y + stTerm m c t y := by
  rw [st_later m c t h0]
  exact after_at (here_holds m c h t) t _ _ ((hs0_12 t).read_unread _) y

/-- The statistics array: the two norm weights' gradients and the loss. -/
theorem final12 (c : Dev nD) (h : Reals m c) (G : FVec Ideal S8x1024 .f32) (hG : ∀ a k, G (ix2 a k) = tileTerm (net m c) (ix2 a k)) :
    (dats m 0 c).arrAt 12 (cfgs 0).N = G := by
  refine (dats m 0 c).arrAt_eq_of_after_last 12 t0_15 (by decide +kernel) _ fun y => ?_
  blk_simp
  rw [after0_12, Pipeline.eq_sum_fin_of_reset_step_apply_last (fun n h => (outsAt0 m c n h).2.2.2.2.2.2.2.1) 16 (fun _ => 0) (stTerm m c)
    (fun t h0 y => st_A m c h t h0 y) (fun t h0 y => st_B m c h t h0 y) (le_of_eq N_0) t0_15 rfl y, zero_add]
  idx_vars y
  rw [hG]
  simp only [stTerm, tileTerm]
  split_ifs
  rotate_right
  · change (∑ _ : Fin cfg0.N, (0 : EReal)) = 0
    exact Finset.sum_const_zero
  all_goals (rw [coe_sum]; refine congrArg _ (Fin.sum_mul_add_congr fun t r hl => ?_); rfl)

section tiles
variable (c : Dev nD) (h : Reals m c)
include h

/-- The activation's array. -/
theorem final5 (G : FVec Ideal S4096x4096 .bf16) (hG : ∀ r f, G (ix2 r f) = (((net m c).z r f : ℝ) : EReal)) : (dats m 0 c).arrAt 5 (cfgs 0).N = G := by
  refine (dats m 0 c).arrAt_eq_of_covers 5 _ (by decide +kernel) fun t _ y => ?_
  blk_simp
  rw [after0_5, (outs_eq m c t).1]
  idx_vars y
  refine (Ins.z_at (here_holds m c h t) y0 y1).trans ((hG (row t y0) y1).symm.trans ?_)
  blk_ext [idx t, row]

/-- The gradient at the first product. -/
theorem final6 (G : FVec Ideal S4096x4096 .bf16) (hG : ∀ r f, G (ix2 r f) = (((net m c).dp r f : ℝ) : EReal)) : (dats m 0 c).arrAt 6 (cfgs 0).N = G := by
  refine (dats m 0 c).arrAt_eq_of_covers 6 _ (by decide +kernel) fun t _ y => ?_
  blk_simp
  rw [after0_6, (outs_eq m c t).2.1]
  idx_vars y
  refine (Ins.dp_at (here_holds m c h t) y0 y1).trans ((hG (row t y0) y1).symm.trans ?_)
  blk_ext [idx t, row]

/-- The normed sum that enters the first product. -/
theorem final7 (G : FVec Ideal S4096x1024 .bf16) (hG : ∀ r k, G (ix2 r k) = (((net m c).h2 r k : ℝ) : EReal)) : (dats m 0 c).arrAt 7 (cfgs 0).N = G := by
  refine (dats m 0 c).arrAt_eq_of_covers 7 _ (by decide +kernel) fun t _ y => ?_
  blk_simp
  rw [after0_7, (outs_eq m c t).2.2.1]
  idx_vars y
  refine (Ins.h2_at (here_holds m c h t) y0 y1).trans ((hG (row t y0) y1).symm.trans ?_)
  blk_ext [idx t, row]

/-- The gradient at the last sum. -/
theorem final8 (G : FVec Ideal S4096x1024 .bf16) (hG : ∀ r k, G (ix2 r k) = (((net m c).dx3 r k : ℝ) : EReal)) : (dats m 0 c).arrAt 8 (cfgs 0).N = G := by
  refine (dats m 0 c).arrAt_eq_of_covers 8 _ (by decide +kernel) fun t _ y => ?_
  blk_simp
  rw [after0_8, (outs_eq m c t).2.2.2.1]
  idx_vars y
  refine (Ins.dx3_at (here_holds m c h t) y0 y1).trans ((hG (row t y0) y1).symm.trans ?_)
  blk_ext [idx t, row]

/-- The gradient at the mixer's sum. -/
theorem final9 (G : FVec Ideal S4096x1024 .f32) (hG : ∀ r k, G (ix2 r k) = (((net m c).dx2 r k : ℝ) : EReal)) : (dats m 0 c).arrAt 9 (cfgs 0).N = G := by
  refine (dats m 0 c).arrAt_eq_of_covers 9 _ (by decide +kernel) fun t _ y => ?_
  blk_simp
  rw [after0_9, (outs_eq m c t).2.2.2.2.1]
  idx_vars y
  refine (Ins.dx2_at (here_holds m c h t) y0 y1).trans ((hG (row t y0) y1).symm.trans ?_)
  blk_ext [idx t, row]

/-- The same gradient, as the second array holds it. -/
theorem final10 (G : FVec Ideal S4096x1024 .bf16) (hG : ∀ r k, G (ix2 r k) = (((net m c).dx2 r k : ℝ) : EReal)) : (dats m 0 c).arrAt 10 (cfgs 0).N = G := by
  refine (dats m 0 c).arrAt_eq_of_covers 10 _ (by decide +kernel) fun t _ y => ?_
  blk_simp
  rw [after0_10, (outs_eq m c t).2.2.2.2.2.1]
  idx_vars y
  refine (Ins.dx2_at (here_holds m c h t) y0 y1).trans ((hG (row t y0) y1).symm.trans ?_)
  blk_ext [idx t, row]

/-- The gradient at the mixer's output. -/
theorem final11 (G : FVec Ideal S4096x1536 .f32) (hG : ∀ r l, G (ix2 r l) = (((net m c).dy r l : ℝ) : EReal)) : (dats m 0 c).arrAt 11 (cfgs 0).N = G := by
  refine (dats m 0 c).arrAt_eq_of_covers 11 _ (by decide +kernel) fun t _ y => ?_
  blk_simp
  rw [after0_11, (outs_eq m c t).2.2.2.2.2.2]
  idx_vars y
  refine (Ins.dy_at (here_holds m c h t) y0 y1).trans ((hG (row t y0) y1).symm.trans ?_)
  blk_ext [idx t, row]

end tiles

/-- The run ends with the output arrays at what the grid points left there and with the arguments as they were. -/
theorem run_arrays (ρ : Dev nD → PrngReg) : θ_run (defs (F := Ideal)) (onTc (τ := τ) (main (F := Ideal))) ⟨m, fun _ => 0, ρ⟩ fun r => ∀ c : Dev nD,
    (∀ w, r.2.mem (((cfgs 0).spec w).arr.view.loc (c.tc : Thread nD τ)) = (dats m 0 c).arrAt w (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_main m ρ)
  have kept (b : Ref sig .tc) (hb : b ∈ Pipeline.restRefs sig (cfgs 0).spec) {X} (hX : V m c b = X) : r.2.mem ((c.tc : Thread nD τ).loc b) = X := ((h c).2 b hb).trans hX
  refine ⟨(h c).1, kept _ ?_ (V_main_arg0 m c), kept _ ?_ (V_main_arg1 m c), kept _ ?_ (V_main_arg2 m c),
    ((h c).1 2).trans (((dats m 0 c).arrAt_in 2 rfl _).trans ((A_eq m c 2).trans (V_main_arg3 m c))), kept _ ?_ (V_main_arg4 m c),
    kept _ ?_ (V_main_arg5 m c), kept _ ?_ (V_main_arg6 m c), kept _ ?_ (V_main_arg7 m c)⟩ <;> exact Pipeline.mem_restRefs_of _ (by decide) (by decide)

end Cert.Kernel3Ideal.Mlp

end
-- ==== Proof.MlpRef.lean ====
/- The reference of the fused layer's forward and backward pass: its results at an index. -/
module

public import proofs.«01_k».proof.Proof.Gen.Reference3Ideal.Run
public import proofs.«01_k».proof.Proof.MlpMath
public import Idealize.ShloMosaic.Lib.Pipeline.ValueKit

@[expose] public section

set_option maxRecDepth 16384

noncomputable section

namespace Cert.Reference3Ideal.Mlp

open Cert.Reference3Ideal Cert.Reference3Ideal.Gen Cert.Reference3Ideal.Value Cert.RealMath Idealize.ShloMosaic Idealize.ShloMosaic.TcCoe Idealize.SL.Sem

/-- The arguments are these real arrays. -/
structure Reals (V : Valuation τ sig (Elt Ideal)) (N : Net 4096) : Prop where
  hx : ∀ r k, V (Proc.devRef .tc main_arg0) (ix3 0 r k) = ((N.x r k : ℝ) : EReal)
  hy : ∀ r l, V (Proc.devRef .tc main_arg1) (ix3 0 r l) = ((N.y r l : ℝ) : EReal)
  hwo : ∀ l k, V (Proc.devRef .tc main_arg2) (ix3 0 l k) = ((N.wo l k : ℝ) : EReal)
  hg2 : ∀ k, V (Proc.devRef .tc main_arg3) (ix2 0 k) = ((N.g2 k : ℝ) : EReal)
  hw1 : ∀ k f, V (Proc.devRef .tc main_arg4) (ix3 0 k f) = ((N.w1 k f : ℝ) : EReal)
  hw2 : ∀ f k, V (Proc.devRef .tc main_arg5) (ix3 0 f k) = ((N.w2 f k : ℝ) : EReal)
  hgf : ∀ k, V (Proc.devRef .tc main_arg6) (ix1 k) = ((N.gf k : ℝ) : EReal)
  htg : ∀ r k, V (Proc.devRef .tc main_arg7) (ix3 0 r k) = ((N.tg r k : ℝ) : EReal)

variable {V : Valuation τ sig (Elt Ideal)} {N : Net 4096} (h : Reals V N)
include h

/-- The last gains. -/
theorem gf_at (k : Fin 1024) : res_main_v2 V (ix2 0 k) = ((N.gf k : ℝ) : EReal) := by
  have hc (X : FVec Ideal S1024 .f32) : shapeCast S1x1024 X shapeCasts_S1024_S1x1024 (ix2 0 k) = X (ix1 k) := by pointwise
  exact (hc _).trans (h.hgf k)

/-- The output projection's weights. -/
theorem wo_at (l : Fin 1536) (k : Fin 1024) : res_main_v5 V (ix2 l k) = ((N.wo l k : ℝ) : EReal) := by
  have hc (X : FVec Ideal S1x1536x1024 .f32) : shapeCast S1536x1024 X shapeCasts_S1x1536x1024_S1536x1024 (ix2 l k) = X (ix3 0 l k) := by pointwise
  exact (hc _).trans (h.hwo l k)

/-- The layer's first weights. -/
theorem w1_at (k : Fin 1024) (f : Fin 4096) : res_main_v23 V (ix2 k f) = ((N.w1 k f : ℝ) : EReal) := by
  have hc (X : FVec Ideal S1x1024x4096 .f32) : shapeCast S1024x4096 X shapeCasts_S1x1024x4096_S1024x4096 (ix2 k f) = X (ix3 0 k f) := by pointwise
  exact (hc _).trans (h.hw1 k f)

/-- The layer's second weights. -/
theorem w2_at (f : Fin 4096) (k : Fin 1024) : res_main_v33 V (ix2 f k) = ((N.w2 f k : ℝ) : EReal) := by
  have hc (X : FVec Ideal S1x4096x1024 .f32) : shapeCast S4096x1024 X shapeCasts_S1x4096x1024_S4096x1024 (ix2 f k) = X (ix3 0 f k) := by pointwise
  exact (hc _).trans (h.hw2 f k)

/-- The residual stream after the mixer. -/
theorem x2_at (r : Fin 4096) (k : Fin 1024) : res_main_v7 V (ix2 r k) = ((N.x2 r k : ℝ) : EReal) := by
  pointwise [res_main_v7]
  simp only [h.hx, h.hy, wo_at h, ← EReal.coe_mul, coe_sum, ← EReal.coe_add]
  rfl

/-- The mean square before the layer. -/
theorem msq2_at (r : Fin 4096) : res_main_v14 V (ix2 r 0) = ((ms (N.x2 r) 1024 : ℝ) : EReal) := by
  pointwise [res_main_v14]
  simp only [x2_at h, ← EReal.coe_mul, coe_sum, ofBits_1024, ofBits_eps, div_real (show (1024 : ℝ) ≠ 0 by norm_num), ← EReal.coe_add, zero_add]
  rfl

/-- Its reciprocal root. -/
theorem rstd2_at (r : Fin 4096) : res_main_v15 V (ix2 r 0) = ((rstd (N.x2 r) 1024 : ℝ) : EReal) := by
  pointwise [res_main_v15]
  rw [msq2_at h, rsqrt_real (ms_pos _ (by norm_num))]
  rfl

/-- The normed rows. -/
theorem n2_at (r : Fin 4096) (k : Fin 1024) : res_main_v20 V (ix2 r k) = ((N.x2 r k * rstd (N.x2 r) 1024 : ℝ) : EReal) := by
  pointwise [res_main_v20]
  rw [x2_at h, rstd2_at h, ← EReal.coe_mul]

/-- The layer's input. -/
theorem h2_at (r : Fin 4096) (k : Fin 1024) : res_main_v22 V (ix2 r k) = ((N.h2 r k : ℝ) : EReal) := by
  pointwise [res_main_v22]
  rw [n2_at h, h.hg2, ← EReal.coe_mul]
  rfl

/-- The pre-activation. -/
theorem p_at (r : Fin 4096) (f : Fin 4096) : res_main_v25 V (ix2 r f) = ((N.p r f : ℝ) : EReal) := by
  pointwise [res_main_v25]
  simp only [h2_at h, w1_at h, ← EReal.coe_mul, coe_sum, add_zero]
  rfl

/-- Its positive part. -/
theorem relu_at (r : Fin 4096) (f : Fin 4096) : res_main_v26 V (ix2 r f) = ((max (N.p r f) 0 : ℝ) : EReal) := by
  pointwise [res_main_v26]
  rw [p_at h, max_zero]

/-- The square of that. -/
theorem z_at (r : Fin 4096) (f : Fin 4096) : res_main_v30 V (ix2 r f) = ((N.z r f : ℝ) : EReal) := by
  pointwise [res_main_v30]
  rw [relu_at h, ← EReal.coe_mul]
  rfl

/-- The stream after the layer. -/
theorem x3_at (r : Fin 4096) (k : Fin 1024) : res_main_v36 V (ix2 r k) = ((N.x3 r k : ℝ) : EReal) := by
  pointwise [res_main_v36]
  simp only [x2_at h, z_at h, w2_at h, ← EReal.coe_mul, coe_sum, ← EReal.coe_add, add_zero]
  rfl

/-- Its mean square. -/
theorem msq3_at (r : Fin 4096) : res_main_v43 V (ix2 r 0) = ((ms (N.x3 r) 1024 : ℝ) : EReal) := by
  pointwise [res_main_v43]
  simp only [x3_at h, ← EReal.coe_mul, coe_sum, ofBits_1024, ofBits_eps, div_real (show (1024 : ℝ) ≠ 0 by norm_num), ← EReal.coe_add, zero_add]
  rfl

/-- The last norm's reciprocal root. -/
theorem rstd3_at (r : Fin 4096) : res_main_v44 V (ix2 r 0) = ((rstd (N.x3 r) 1024 : ℝ) : EReal) := by
  pointwise [res_main_v44]
  rw [msq3_at h, rsqrt_real (ms_pos _ (by norm_num))]
  rfl

/-- The last norm's rows. -/
theorem n3_at (r : Fin 4096) (k : Fin 1024) : res_main_v49 V (ix2 r k) = ((N.x3 r k * rstd (N.x3 r) 1024 : ℝ) : EReal) := by
  pointwise [res_main_v49]
  rw [x3_at h, rstd3_at h, ← EReal.coe_mul]

/-- The error. -/
theorem err_at (r : Fin 4096) (k : Fin 1024) : res_main_v53 V (ix2 r k) = ((N.err r k : ℝ) : EReal) := by
  pointwise [res_main_v53]
  rw [n3_at h, gf_at h, h.htg, ← EReal.coe_mul, ← EReal.coe_sub]
  rfl

/-- The loss's gradient. -/
theorem dout_at (r : Fin 4096) (k : Fin 1024) : res_main_v67 V (ix2 r k) = ((N.dout r k : ℝ) : EReal) := by
  pointwise [res_main_v67]
  rw [err_at h, ofBits_half, ofBits_1024, div_real (show (1024 : ℝ) ≠ 0 by norm_num), ofBits_two, ← EReal.coe_mul, ← EReal.coe_mul, Net.dout]
  congr 1
  ring

/-- The same times the last gains. -/
theorem dn3_at (r : Fin 4096) (k : Fin 1024) : res_main_v72 V (ix2 r k) = ((N.dout r k * N.gf k : ℝ) : EReal) := by
  pointwise [res_main_v72]
  rw [dout_at h, gf_at h, ← EReal.coe_mul]

/-- What the mean square contributes, spread over the row. -/
theorem spread3_at (r : Fin 4096) (k : Fin 1024) : res_main_v82 V (ix2 r k) =
    (((∑ l, N.x3 r l * (N.dout r l * N.gf l)) * (-(1 / 2) * (rstd (N.x3 r) 1024 / ms (N.x3 r) 1024)) / 1024 : ℝ) : EReal) := by
  have hm := ms_pos (N.x3 r) (show (0 : ℝ) ≤ 1024 by norm_num)
  pointwise [res_main_v82]
  rw [Fin.sum_univ_one]
  simp only [x3_at h, dn3_at h, msq3_at h, rstd3_at h, ofBits_1024, ofBits_neg_half, div_real hm.ne', ← EReal.coe_mul, coe_sum,
    div_real (show (1024 : ℝ) ≠ 0 by norm_num), zero_add]

/-- The gradient of the stream after the layer. -/
theorem dx3_at (r : Fin 4096) (k : Fin 1024) : res_main_v86 V (ix2 r k) = ((N.dx3 r k : ℝ) : EReal) := by
  pointwise [res_main_v86]
  rw [dn3_at h, rstd3_at h, x3_at h, spread3_at h, Net.dx3, normGrad_eq _ _ (by norm_num)]
  simp only [← EReal.coe_mul, EReal.coe_add, add_assoc]

/-- The gradient of the pre-activation. -/
theorem dp_at (r : Fin 4096) (f : Fin 4096) : res_main_v90 V (ix2 r f) = ((N.dp r f : ℝ) : EReal) := by
  pointwise [res_main_v90]
  simp only [dx3_at h, p_at h, relu_at h, w2_at h, ← EReal.coe_mul, coe_sum, ofBits_two]
  split_ifs with hp
  · rfl
  · have hp' : N.p r f ≤ 0 := not_lt.1 fun e => hp (EReal.coe_pos.2 e)
    rw [Net.dp, max_eq_right hp', mul_zero, mul_zero, EReal.coe_zero]

/-- The gradient of the layer's input. -/
theorem dh2_at (r : Fin 4096) (k : Fin 1024) : res_main_v91 V (ix2 r k) = ((N.dh2 r k : ℝ) : EReal) := by
  pointwise [res_main_v91]
  simp only [dp_at h, w1_at h, ← EReal.coe_mul, coe_sum]
  rfl

/-- The same times the layer's gains. -/
theorem dn2_at (r : Fin 4096) (k : Fin 1024) : res_main_v96 V (ix2 r k) = ((N.dh2 r k * N.g2 k : ℝ) : EReal) := by
  pointwise [res_main_v96]
  rw [dh2_at h, h.hg2, ← EReal.coe_mul]

/-- What the mean square before the layer contributes, spread over the row. -/
theorem spread2_at (r : Fin 4096) (k : Fin 1024) : res_main_v107 V (ix2 r k) =
    (((∑ l, N.x2 r l * (N.dh2 r l * N.g2 l)) * (-(1 / 2) * (rstd (N.x2 r) 1024 / ms (N.x2 r) 1024)) / 1024 : ℝ) : EReal) := by
  have hm := ms_pos (N.x2 r) (show (0 : ℝ) ≤ 1024 by norm_num)
  pointwise [res_main_v107]
  rw [Fin.sum_univ_one]
  simp only [x2_at h, dn2_at h, msq2_at h, rstd2_at h, ofBits_1024, ofBits_neg_half, div_real hm.ne', ← EReal.coe_mul, coe_sum,
    div_real (show (1024 : ℝ) ≠ 0 by norm_num), zero_add]

/-- The gradient of the stream before the layer. -/
theorem dx2_at (r : Fin 4096) (k : Fin 1024) : res_main_v111 V (ix2 r k) = ((N.dx2 r k : ℝ) : EReal) := by
  pointwise [res_main_v111]
  rw [dx3_at h, dn2_at h, rstd2_at h, x2_at h, spread2_at h, Net.dx2, normGrad_eq _ _ (by norm_num)]
  simp only [← EReal.coe_mul, EReal.coe_add, add_assoc]

/-- The gradient at the mixer's output. -/
theorem dy_at (r : Fin 4096) (l : Fin 1536) :
    Host.dotGeneral dot_S4096x1024_S1536x1024_S4096x1536_1_1_0_0_n_n none (φ₁ := .f32) (φ₂ := .f32) (res_main_v111 V) (res_main_v5 V) (ix2 r l) = ((N.dy r l : ℝ) : EReal) := by
  pointwise
  simp only [dx2_at h, wo_at h, ← EReal.coe_mul, coe_sum]
  rfl

/-- The statistics array, as the reference composes it. -/
def stats (V : Valuation τ sig (Elt Ideal)) : FVec Ideal S8x1024 .f32 :=
  concatenate S8x1024 0 [⟨S1x1024, shapeCast _ (Host.reduceAdd (mulf (res_main_v49 V) (res_main_v67 V)) (constant S_ .f32 0x00000000#32) reducesTo_S4096x1024_S1024_d0 h_S_) shapeCasts_S1024_S1x1024⟩,
    ⟨S1x1024, shapeCast _ (Host.reduceAdd (mulf (res_main_v20 V) (res_main_v91 V)) (constant S_ .f32 0x00000000#32) reducesTo_S4096x1024_S1024_d0 h_S_) shapeCasts_S1024_S1x1024⟩,
    ⟨S1x1024, broadcastInDim S1x1024 ![] bcast_S_S1x1024 (mulf (constant S_ .f32 0x3F000000#32) (Host.reduceAdd (Host.divf (Host.reduceAdd (mulf (res_main_v53 V) (res_main_v53 V))
      (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))⟩,
    ⟨S5x1024, broadcastInDim S5x1024 ![] bcast_S_S5x1024 (constant S_ .f32 0x00000000#32)⟩] concatenates_S1x1024_S1x1024_S1x1024_S5x1024_S8x1024_d0

/-- The eight packed rows. -/
theorem stats_at (a : Fin 8) (k : Fin 1024) : stats V (ix2 a k) = if a.val = 1 then ((∑ r, N.g2Term r k : ℝ) : EReal) else
    if a.val = 2 then ((∑ r, N.lossTerm r : ℝ) : EReal) else if a.val = 0 then ((∑ r, N.gfTerm r k : ℝ) : EReal) else 0 := by
  pointwise [stats]
  simp only [n3_at h, dout_at h, n2_at h, dh2_at h, err_at h, ofBits_half, ofBits_1024, ← EReal.coe_mul, coe_sum, div_real (show (1024 : ℝ) ≠ 0 by norm_num)]
  have h0 : (∑ r, N.x3 r k * rstd (N.x3 r) 1024 * N.dout r k) = ∑ r, N.gfTerm r k := Finset.sum_congr rfl fun r _ => mul_comm _ _
  have h1 : (∑ r, N.x2 r k * rstd (N.x2 r) 1024 * N.dh2 r k) = ∑ r, N.g2Term r k := Finset.sum_congr rfl fun r _ => mul_comm _ _
  have h2 : 1 / 2 * (∑ r, (∑ k, N.err r k * N.err r k) / 1024) = ∑ r, N.lossTerm r := by
    rw [Finset.mul_sum]
    exact Finset.sum_congr rfl fun r _ => by rw [Net.lossTerm]; ring
  rw [h0, h1, h2]
  split_ifs <;> first | rfl | omega

end Cert.Reference3Ideal.Mlp

end
-- ==== Proof.MixRun.lean ====
/- One grid point of the mixing layers' backward kernel, run over buffers of any contents. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Mix

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers one grid point reads and writes: the inputs' blocks, the three outputs, the scratch carried from point to point. -/
structure Mem where
  dy : Memref sig .tc .vmem S256x1536 .f32
  u : Memref sig .tc .vmem S256x3584 .f32
  uh : Memref sig .tc .vmem S8x3584 .f32
  xr : Memref sig .tc .vmem S256x1024 .f32
  hs : Memref sig .tc .vmem S256x1024 .f32
  hh : Memref sig .tc .vmem S8x1024 .f32
  c3 : Memref sig .tc .vmem S256x512 .f32
  gt : Memref sig .tc .vmem S256x4096 .f32
  cw : Memref sig .tc .vmem S8x512 .f32
  rw : Memref sig .tc .vmem S8x1024 .f32
  wa : Memref sig .tc .vmem S4x256x256 .bf16
  wx : Memref sig .tc .vmem S4x256x256 .bf16
  lam : Memref sig .tc .vmem S1x1024 .f32
  gc : Memref sig .tc .vmem S1x512 .f32
  gr : Memref sig .tc .vmem S1x1024 .f32
  stm : Memref sig .tc .vmem S8x1024 .f32
  du : Memref sig .tc .vmem S256x3584 .bf16
  st : Memref sig .tc .vmem S24x1024 .f32
  hd : Memref sig .tc .vmem S2x16x64x64 .bf16
  dcn : Memref sig .tc .vmem S8x512 .f32
  an : Memref sig .tc .vmem S8x1024 .f32
  gn : Memref sig .tc .vmem S8x1024 .f32
  dxn : Memref sig .tc .vmem S8x1024 .f32
  dwa : Memref sig .tc .vmem S4x256x256 .f32
  dwx : Memref sig .tc .vmem S4x256x256 .f32
  w_dy : dy.IsWhole
  w_u : u.IsWhole
  w_uh : uh.IsWhole
  w_xr : xr.IsWhole
  w_hs : hs.IsWhole
  w_hh : hh.IsWhole
  w_c3 : c3.IsWhole
  w_gt : gt.IsWhole
  w_cw : cw.IsWhole
  w_rw : rw.IsWhole
  w_wa : wa.IsWhole
  w_wx : wx.IsWhole
  w_lam : lam.IsWhole
  w_gc : gc.IsWhole
  w_gr : gr.IsWhole
  w_stm : stm.IsWhole
  w_du : du.IsWhole
  w_st : st.IsWhole
  w_hd : hd.IsWhole
  w_dcn : dcn.IsWhole
  w_an : an.IsWhole
  w_gn : gn.IsWhole
  w_dxn : dxn.IsWhole
  w_dwa : dwa.IsWhole
  w_dwx : dwx.IsWhole

/-- What the inputs' buffers hold. -/
structure Ins (F : FTy → Type) where
  dy : Vec F S256x1536 .f32
  u : Vec F S256x3584 .f32
  uh : Vec F S8x3584 .f32
  xr : Vec F S256x1024 .f32
  hs : Vec F S256x1024 .f32
  hh : Vec F S8x1024 .f32
  c3 : Vec F S256x512 .f32
  gt : Vec F S256x4096 .f32
  cw : Vec F S8x512 .f32
  rw : Vec F S8x1024 .f32
  wa : Vec F S4x256x256 .bf16
  wx : Vec F S4x256x256 .bf16
  lam : Vec F S1x1024 .f32
  gc : Vec F S1x512 .f32
  gr : Vec F S1x1024 .f32
  stm : Vec F S8x1024 .f32

/-- What the outputs' and the scratch's buffers hold. -/
@[ext] structure Outs (F : FTy → Type) where
  du : Vec F S256x3584 .bf16
  st : Vec F S24x1024 .f32
  hd : Vec F S2x16x64x64 .bf16
  dcn : Vec F S8x512 .f32
  an : Vec F S8x1024 .f32
  gn : Vec F S8x1024 .f32
  dxn : Vec F S8x1024 .f32
  dwa : Vec F S4x256x256 .f32
  dwx : Vec F S4x256x256 .f32

/-- The stores one grid point makes into each output and scratch, the last first. -/
structure Stores (F : FTy → Type) where
  du : List (View.Piece (Elt F) S256x3584 .bf16)
  st : List (View.Piece (Elt F) S24x1024 .f32)
  hd : List (View.Piece (Elt F) S2x16x64x64 .bf16)
  dcn : List (View.Piece (Elt F) S8x512 .f32)
  an : List (View.Piece (Elt F) S8x1024 .f32)
  gn : List (View.Piece (Elt F) S8x1024 .f32)
  dxn : List (View.Piece (Elt F) S8x1024 .f32)
  dwa : List (View.Piece (Elt F) S4x256x256 .f32)
  dwx : List (View.Piece (Elt F) S4x256x256 .f32)

variable (c : Dev nD) (i : grid0.Coords) (M : Mem) (X : Ins F) (Y : Outs F)

/-- No store. -/
def Stores.nil : Stores F := ⟨[], [], [], [], [], [], [], [], []⟩

/-- A whole buffer at contents. -/
abbrev held {sh : Shape} {e : EltTy} (m : Memref sig .tc .vmem sh e) (f : m.view.ty.Contents (Elt F)) : sProp 𝕄 :=
  m.view.loc (c : Thread nD τ) ↦[m.view.set]{fullShare} f

/-- The input buffers at `X`. -/
def holdsIns : sProp 𝕄 :=
  iprop(held c M.dy (M.w_dy.unread X.dy) ∗ held c M.u (M.w_u.unread X.u) ∗ held c M.uh (M.w_uh.unread X.uh) ∗ held c M.xr (M.w_xr.unread X.xr) ∗
    held c M.hs (M.w_hs.unread X.hs) ∗ held c M.hh (M.w_hh.unread X.hh) ∗ held c M.c3 (M.w_c3.unread X.c3) ∗ held c M.gt (M.w_gt.unread X.gt) ∗
    held c M.cw (M.w_cw.unread X.cw) ∗ held c M.rw (M.w_rw.unread X.rw) ∗ held c M.wa (M.w_wa.unread X.wa) ∗ held c M.wx (M.w_wx.unread X.wx) ∗
    held c M.lam (M.w_lam.unread X.lam) ∗ held c M.gc (M.w_gc.unread X.gc) ∗ held c M.gr (M.w_gr.unread X.gr) ∗ held c M.stm (M.w_stm.unread X.stm))

/-- The output and scratch buffers at `Y`, then stored into. -/
def holdsOuts (P : Stores F) : sProp 𝕄 :=
  iprop(held c M.du (M.du.view.writes (Elt F) (M.w_du.unread Y.du) P.du) ∗ held c M.st (M.st.view.writes (Elt F) (M.w_st.unread Y.st) P.st) ∗
    held c M.hd (M.hd.view.writes (Elt F) (M.w_hd.unread Y.hd) P.hd) ∗ held c M.dcn (M.dcn.view.writes (Elt F) (M.w_dcn.unread Y.dcn) P.dcn) ∗
    held c M.an (M.an.view.writes (Elt F) (M.w_an.unread Y.an) P.an) ∗ held c M.gn (M.gn.view.writes (Elt F) (M.w_gn.unread Y.gn) P.gn) ∗
    held c M.dxn (M.dxn.view.writes (Elt F) (M.w_dxn.unread Y.dxn) P.dxn) ∗ held c M.dwa (M.dwa.view.writes (Elt F) (M.w_dwa.unread Y.dwa) P.dwa) ∗
    held c M.dwx (M.dwx.view.writes (Elt F) (M.w_dwx.unread Y.dwx) P.dwx))

/-- The grid point's body on these buffers. -/
abbrev body : Prog (TpuEff nD τ sig (Elt F) Λ₀ .tc) PUnit :=
  cc0_mix_bwd i M.dy M.w_dy M.u M.w_u M.uh M.w_uh M.xr M.w_xr M.hs M.w_hs M.hh M.w_hh M.c3 M.w_c3 M.gt M.w_gt M.cw M.w_cw M.rw M.w_rw M.wa M.w_wa M.wx M.w_wx
    M.lam M.w_lam M.gc M.w_gc M.gr M.w_gr M.stm M.w_stm M.du M.w_du M.st M.w_st M.hd M.w_hd M.dcn M.w_dcn M.an M.w_an M.gn M.w_gn M.dxn M.w_dxn
    M.dwa M.w_dwa M.dwx M.w_dwx

/-- The first grid point: the body clears what it accumulates into. -/
abbrev isFirst : Prop := (Scalar.cmpi .ne (Scalar.extui (Scalar.cmpi .eq (BitVec.ofNat 32 (i 0).val) 0#32)) 0#32) = 1#1

/-- The last grid point: the body writes the block-diagonal weights' gradients out. -/
abbrev isLast : Prop := k0_cond2 i = 1#1

/-- The body's triple: it runs, and its stores are `P`. -/
def Runs (P : Stores F) : Prop :=
  ∀ (E : Set ℕ) (K : PUnit → sProp 𝕄),
    iprop(holdsIns c M X ∗ holdsOuts c M Y .nil ∗ (iprop(holdsIns c M X ∗ holdsOuts c M Y P) -∗ K ⟨⟩))
      ⊢ wp frame (wpE (defs₀ (F := F)) Variants.none c none) E (body i M) K

set_option maxHeartbeats 4000000 in
/-- A point that is neither the first nor the last. -/
noncomputable def runMiddle (h0 : ¬isFirst i) (h1 : ¬isLast i) : { P : Stores F // Runs c i M X Y P } := by
  refine ⟨⟨?_, ?_, [], ?_, ?_, ?_, ?_, ?_, ?_⟩, fun E K => ?run⟩
  case run =>
    unfold body; simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton]
    unfold holdsIns holdsOuts held
    iintro ⟨⟨H_dy, H_u, H_uh, H_xr, H_hs, H_hh, H_c3, H_gt, H_cw, H_rw, H_wa, H_wx, H_lam, H_gc, H_gr, H_stm⟩, ⟨H_du, H_st, H_hd, H_dcn, H_an, H_gn, H_dxn, H_dwa, H_dwx⟩, Hk⟩
    simp only [Stores.nil, View.writes_nil]
    sl_exec (disch := first | sl_exact h0 | sl_exact h1)
    sl_step
    iapply Hk
    isplitl [H_dy H_u H_uh H_xr H_hs H_hh H_c3 H_gt H_cw H_rw H_wa H_wx H_lam H_gc H_gr H_stm]
    · iframe
    isplitl [H_du]; · iexact H_du
    isplitl [H_st]; · iexact H_st
    isplitl [H_hd]; · iexact H_hd
    isplitl [H_dcn]; · iexact H_dcn
    isplitl [H_an]; · iexact H_an
    isplitl [H_gn]; · iexact H_gn
    isplitl [H_dxn]; · iexact H_dxn
    isplitl [H_dwa]; · iexact H_dwa
    iexact H_dwx

set_option maxHeartbeats 4000000 in
/-- The first point. -/
noncomputable def runFirst (h0 : isFirst i) (h1 : ¬isLast i) : { P : Stores F // Runs c i M X Y P } := by
  refine ⟨⟨?_, ?_, [], ?_, ?_, ?_, ?_, ?_, ?_⟩, fun E K => ?run⟩
  case run =>
    unfold body; simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton]
    unfold holdsIns holdsOuts held
    iintro ⟨⟨H_dy, H_u, H_uh, H_xr, H_hs, H_hh, H_c3, H_gt, H_cw, H_rw, H_wa, H_wx, H_lam, H_gc, H_gr, H_stm⟩, ⟨H_du, H_st, H_hd, H_dcn, H_an, H_gn, H_dxn, H_dwa, H_dwx⟩, Hk⟩
    simp only [Stores.nil, View.writes_nil]
    sl_exec (disch := first | sl_exact h0 | sl_exact h1)
    sl_step
    iapply Hk
    isplitl [H_dy H_u H_uh H_xr H_hs H_hh H_c3 H_gt H_cw H_rw H_wa H_wx H_lam H_gc H_gr H_stm]
    · iframe
    isplitl [H_du]; · iexact H_du
    isplitl [H_st]; · iexact H_st
    isplitl [H_hd]; · iexact H_hd
    isplitl [H_dcn]; · iexact H_dcn
    isplitl [H_an]; · iexact H_an
    isplitl [H_gn]; · iexact H_gn
    isplitl [H_dxn]; · iexact H_dxn
    isplitl [H_dwa]; · iexact H_dwa
    iexact H_dwx

set_option maxHeartbeats 4000000 in
/-- The last point. -/
noncomputable def runLast (h0 : ¬isFirst i) (h1 : isLast i) : { P : Stores F // Runs c i M X Y P } := by
  refine ⟨⟨?_, ?_, ?_, ?_, ?_, ?_, ?_, ?_, ?_⟩, fun E K => ?run⟩
  case run =>
    unfold body; simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton]
    unfold holdsIns holdsOuts held
    iintro ⟨⟨H_dy, H_u, H_uh, H_xr, H_hs, H_hh, H_c3, H_gt, H_cw, H_rw, H_wa, H_wx, H_lam, H_gc, H_gr, H_stm⟩, ⟨H_du, H_st, H_hd, H_dcn, H_an, H_gn, H_dxn, H_dwa, H_dwx⟩, Hk⟩
    simp only [Stores.nil, View.writes_nil]
    sl_exec (disch := first | sl_exact h0 | sl_exact h1)
    sl_step
    iapply Hk
    isplitl [H_dy H_u H_uh H_xr H_hs H_hh H_c3 H_gt H_cw H_rw H_wa H_wx H_lam H_gc H_gr H_stm]
    · iframe
    isplitl [H_du]; · iexact H_du
    isplitl [H_st]; · iexact H_st
    isplitl [H_hd]; · iexact H_hd
    isplitl [H_dcn]; · iexact H_dcn
    isplitl [H_an]; · iexact H_an
    isplitl [H_gn]; · iexact H_gn
    isplitl [H_dxn]; · iexact H_dxn
    isplitl [H_dwa]; · iexact H_dwa
    iexact H_dwx

end Cert.Kernel2Ideal.Mix

end
-- ==== Proof.MixFrame.lean ====
/- The mixing layers' backward kernel, point by point: what each grid point leaves in the outputs and in the carried scratch,
   the pipeline's proof data made of it, and the kernel's run. -/
module

public import proofs.«01_k».proof.Proof.MixRun

@[expose] public section

set_option maxRecDepth 16384

noncomputable section

namespace Cert.Kernel2Ideal.Mix

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Buffers

variable (c : Dev nD) (i : grid0.Coords) (M : Mem) (X : Ins F) (Y : Outs F) (P : Stores F)

/-- A whole buffer at contents is its memref owned at what they read as. -/
theorem held_eq {sh : Shape} {e : EltTy} (b : Memref sig .tc .vmem sh e) (h : b.IsWhole) (f : b.view.ty.Contents (Elt F)) :
    (held c b f : sProp 𝕄) = owns (c : Thread nD τ) b fullShare (b.view.read (Elt F) f) := by
  have h₂ : (owns (c : Thread nD τ) b fullShare (b.view.read (Elt F) f) : sProp 𝕄) ⊢ held c b f := by
    unfold owns held
    iintro ⟨%g, %hg, H⟩
    rw [h.read_bijective.1 hg]
    iexact H
  exact BI.equiv_iff.mp ⟨owns_intro _ _ _ _, h₂⟩

/-- The input buffers owned at `X`. -/
def ownsIns : sProp 𝕄 :=
  iprop(owns (c : Thread nD τ) M.dy fullShare X.dy ∗ owns (c : Thread nD τ) M.u fullShare X.u ∗ owns (c : Thread nD τ) M.uh fullShare X.uh ∗
    owns (c : Thread nD τ) M.xr fullShare X.xr ∗ owns (c : Thread nD τ) M.hs fullShare X.hs ∗ owns (c : Thread nD τ) M.hh fullShare X.hh ∗
    owns (c : Thread nD τ) M.c3 fullShare X.c3 ∗ owns (c : Thread nD τ) M.gt fullShare X.gt ∗ owns (c : Thread nD τ) M.cw fullShare X.cw ∗
    owns (c : Thread nD τ) M.rw fullShare X.rw ∗ owns (c : Thread nD τ) M.wa fullShare X.wa ∗ owns (c : Thread nD τ) M.wx fullShare X.wx ∗
    owns (c : Thread nD τ) M.lam fullShare X.lam ∗ owns (c : Thread nD τ) M.gc fullShare X.gc ∗ owns (c : Thread nD τ) M.gr fullShare X.gr ∗
    owns (c : Thread nD τ) M.stm fullShare X.stm)

/-- The output and scratch buffers owned at `Y`. -/
def ownsOuts : sProp 𝕄 :=
  iprop(owns (c : Thread nD τ) M.du fullShare Y.du ∗ owns (c : Thread nD τ) M.st fullShare Y.st ∗ owns (c : Thread nD τ) M.hd fullShare Y.hd ∗
    owns (c : Thread nD τ) M.dcn fullShare Y.dcn ∗ owns (c : Thread nD τ) M.an fullShare Y.an ∗ owns (c : Thread nD τ) M.gn fullShare Y.gn ∗
    owns (c : Thread nD τ) M.dxn fullShare Y.dxn ∗ owns (c : Thread nD τ) M.dwa fullShare Y.dwa ∗ owns (c : Thread nD τ) M.dwx fullShare Y.dwx)

/-- What the stores `P` leave of buffers that held `Y`. -/
def left : Outs F where
  du := M.du.view.read (Elt F) (M.du.view.writes (Elt F) (M.w_du.unread Y.du) P.du)
  st := M.st.view.read (Elt F) (M.st.view.writes (Elt F) (M.w_st.unread Y.st) P.st)
  hd := M.hd.view.read (Elt F) (M.hd.view.writes (Elt F) (M.w_hd.unread Y.hd) P.hd)
  dcn := M.dcn.view.read (Elt F) (M.dcn.view.writes (Elt F) (M.w_dcn.unread Y.dcn) P.dcn)
  an := M.an.view.read (Elt F) (M.an.view.writes (Elt F) (M.w_an.unread Y.an) P.an)
  gn := M.gn.view.read (Elt F) (M.gn.view.writes (Elt F) (M.w_gn.unread Y.gn) P.gn)
  dxn := M.dxn.view.read (Elt F) (M.dxn.view.writes (Elt F) (M.w_dxn.unread Y.dxn) P.dxn)
  dwa := M.dwa.view.read (Elt F) (M.dwa.view.writes (Elt F) (M.w_dwa.unread Y.dwa) P.dwa)
  dwx := M.dwx.view.read (Elt F) (M.dwx.view.writes (Elt F) (M.w_dwx.unread Y.dwx) P.dwx)

/-- Holding the inputs is owning each of them. -/
theorem holdsIns_eq : (holdsIns c M X : sProp 𝕄) = ownsIns c M X := by
  unfold holdsIns ownsIns
  rw [held_eq c M.dy M.w_dy, held_eq c M.u M.w_u, held_eq c M.uh M.w_uh, held_eq c M.xr M.w_xr, held_eq c M.hs M.w_hs, held_eq c M.hh M.w_hh,
    held_eq c M.c3 M.w_c3, held_eq c M.gt M.w_gt, held_eq c M.cw M.w_cw, held_eq c M.rw M.w_rw, held_eq c M.wa M.w_wa, held_eq c M.wx M.w_wx,
    held_eq c M.lam M.w_lam, held_eq c M.gc M.w_gc, held_eq c M.gr M.w_gr, held_eq c M.stm M.w_stm]
  simp only [Memref.IsWhole.read_unread]

/-- Holding the outputs with stores is owning what the stores leave. -/
theorem holdsOuts_eq : (holdsOuts c M Y P : sProp 𝕄) = ownsOuts c M (left M Y P) := by
  unfold holdsOuts ownsOuts left
  rw [held_eq c M.du M.w_du, held_eq c M.st M.w_st, held_eq c M.hd M.w_hd, held_eq c M.dcn M.w_dcn, held_eq c M.an M.w_an, held_eq c M.gn M.w_gn,
    held_eq c M.dxn M.w_dxn, held_eq c M.dwa M.w_dwa, held_eq c M.dwx M.w_dwx]

/-- No stores leave all as it was. -/
theorem left_nil : left M Y .nil = Y := by
  unfold left Stores.nil
  simp only [View.writes_nil, Memref.IsWhole.read_unread]

/-- The body's triple over owned memrefs. -/
theorem Runs.owned {c i M X Y P} (h : Runs c i M X Y P) (E : Set ℕ) (K : PUnit → sProp 𝕄) :
    iprop(ownsIns c M X ∗ ownsOuts c M Y ∗ (iprop(ownsIns c M X ∗ ownsOuts c M (left M Y P)) -∗ K ⟨⟩))
      ⊢ wp frame (wpE (defs₀ (F := F)) Variants.none c none) E (body i M) K := by
  have := h E K
  rwa [holdsIns_eq, holdsOuts_eq, holdsOuts_eq, left_nil] at this

end Buffers

/-! ## The points -/

/-- The condition of the clearing block holds at the first point only. -/
theorem isFirst_iff (t : Fin cfg0.N) : isFirst (grid0.coords t) ↔ t.val % 16 = 0 := by
  have ht : t.val < 16 := Nat.lt_of_lt_of_eq t.isLt N_0
  have e0 : (grid0.coords t 0).val = t.val / 1 % 16 := Pipeline.Grid.coords_val t 0 (by decide) rfl
  simp only [isFirst, e0]
  word_cmp

/-- The condition of the writing-out block holds at the last point only. -/
theorem isLast_iff (t : Fin cfg0.N) : isLast (grid0.coords t) ↔ t.val % 16 = 15 := by
  have ht : t.val < 16 := Nat.lt_of_lt_of_eq t.isLt N_0
  have e0 : (grid0.coords t 0).val = t.val / 1 % 16 := Pipeline.Grid.coords_val t 0 (by decide) rfl
  simp only [isLast, k0_cond2, e0]
  word_cmp

/-- The buffers the body is called on at point `t`. -/
abbrev memAt (t : Fin cfg0.N) : Mem where
  dy := win0_0.stage (cfg0.slots t 0)
  u := win0_1.stage (cfg0.slots t 1)
  uh := win0_2.stage (cfg0.slots t 2)
  xr := win0_3.stage (cfg0.slots t 3)
  hs := win0_4.stage (cfg0.slots t 4)
  hh := win0_5.stage (cfg0.slots t 5)
  c3 := win0_6.stage (cfg0.slots t 6)
  gt := win0_7.stage (cfg0.slots t 7)
  cw := win0_8.stage (cfg0.slots t 8)
  rw := win0_9.stage (cfg0.slots t 9)
  wa := win0_10.stage (cfg0.slots t 10)
  wx := win0_11.stage (cfg0.slots t 11)
  lam := win0_12.stage (cfg0.slots t 12)
  gc := win0_13.stage (cfg0.slots t 13)
  gr := win0_14.stage (cfg0.slots t 14)
  stm := win0_15.stage (cfg0.slots t 15)
  du := win0_16.stage (cfg0.slots t 16)
  st := win0_17.stage (cfg0.slots t 17)
  hd := win0_18.stage (cfg0.slots t 18)
  dcn := Memref.whole cc0_scratch0
  an := Memref.whole cc0_scratch1
  gn := Memref.whole cc0_scratch2
  dxn := Memref.whole cc0_scratch3
  dwa := Memref.whole cc0_scratch4
  dwx := Memref.whole cc0_scratch5
  w_dy := hstage0_0 ((cfg0.slots t 0).cast nbuf0_0)
  w_u := hstage0_1 ((cfg0.slots t 1).cast nbuf0_1)
  w_uh := hstage0_2 ((cfg0.slots t 2).cast nbuf0_2)
  w_xr := hstage0_3 ((cfg0.slots t 3).cast nbuf0_3)
  w_hs := hstage0_4 ((cfg0.slots t 4).cast nbuf0_4)
  w_hh := hstage0_5 ((cfg0.slots t 5).cast nbuf0_5)
  w_c3 := hstage0_6 ((cfg0.slots t 6).cast nbuf0_6)
  w_gt := hstage0_7 ((cfg0.slots t 7).cast nbuf0_7)
  w_cw := hstage0_8 ((cfg0.slots t 8).cast nbuf0_8)
  w_rw := hstage0_9 ((cfg0.slots t 9).cast nbuf0_9)
  w_wa := hstage0_10 ((cfg0.slots t 10).cast nbuf0_10)
  w_wx := hstage0_11 ((cfg0.slots t 11).cast nbuf0_11)
  w_lam := hstage0_12 ((cfg0.slots t 12).cast nbuf0_12)
  w_gc := hstage0_13 ((cfg0.slots t 13).cast nbuf0_13)
  w_gr := hstage0_14 ((cfg0.slots t 14).cast nbuf0_14)
  w_stm := hstage0_15 ((cfg0.slots t 15).cast nbuf0_15)
  w_du := hstage0_16 ((cfg0.slots t 16).cast nbuf0_16)
  w_st := hstage0_17 ((cfg0.slots t 17).cast nbuf0_17)
  w_hd := hstage0_18 ((cfg0.slots t 18).cast nbuf0_18)
  w_dcn := Memref.isWhole_whole _
  w_an := Memref.isWhole_whole _
  w_gn := Memref.isWhole_whole _
  w_dxn := Memref.isWhole_whole _
  w_dwa := Memref.isWhole_whole _
  w_dwx := Memref.isWhole_whole _

variable (m : (ℓ : Loc nD τ sig) → Buf (Elt F) ℓ) (ρ : Dev nD → PrngReg)

/-- The input blocks at point `t`. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t, iblk m c 13 t, iblk m c 14 t, iblk m c 15 t⟩

/-- The stores of point `t` over buffers that hold `Y`. -/
def storesAt (c : Dev nD) (t : Fin cfg0.N) (X : Ins F) (Y : Outs F) : Stores F :=
  if h0 : t.val % 16 = 0 then
    (runFirst c (grid0.coords t) (memAt t) X Y ((isFirst_iff t).mpr h0) (fun h => by have := (isLast_iff t).mp h; omega)).1
  else if h1 : t.val % 16 = 15 then
    (runLast c (grid0.coords t) (memAt t) X Y (fun h => h0 ((isFirst_iff t).mp h)) ((isLast_iff t).mpr h1)).1
  else
    (runMiddle c (grid0.coords t) (memAt t) X Y (fun h => h0 ((isFirst_iff t).mp h)) (fun h => h1 ((isLast_iff t).mp h))).1

/-- The body runs at every tile, with the stores of its case. -/
theorem runsAt (c : Dev nD) (t : Fin cfg0.N) (X : Ins F) (Y : Outs F) : Runs c (grid0.coords t) (memAt t) X Y (storesAt c t X Y) := by
  unfold storesAt
  split
  · exact (runFirst c (grid0.coords t) (memAt t) X Y _ _).2
  · split
    · exact (runLast c (grid0.coords t) (memAt t) X Y _ _).2
    · exact (runMiddle c (grid0.coords t) (memAt t) X Y _ _).2

/-- What point `t` leaves of buffers that hold `Y`. -/
abbrev leftAt (c : Dev nD) (t : Fin cfg0.N) (Y : Outs F) : Outs F := left (memAt t) Y (storesAt c t (insAt m c t) Y)

/-- Anything: what the buffers hold before the first point. -/
def outs₀ : Outs F :=
  have M := memAt ⟨0, by decide⟩
  ⟨M.du.view.read (Elt F) M.du.view.junk, M.st.view.read (Elt F) M.st.view.junk, M.hd.view.read (Elt F) M.hd.view.junk, M.dcn.view.read (Elt F) M.dcn.view.junk, M.an.view.read (Elt F) M.an.view.junk, M.gn.view.read (Elt F) M.gn.view.junk, M.dxn.view.read (Elt F) M.dxn.view.junk, M.dwa.view.read (Elt F) M.dwa.view.junk, M.dwx.view.read (Elt F) M.dwx.view.junk⟩

/-- What the outputs and the scratch hold after point `n`. -/
def outsAt (c : Dev nD) : (n : ℕ) → n < cfg0.N → Outs F
  | 0, hn => leftAt m c ⟨0, hn⟩ outs₀
  | n + 1, hn => leftAt m c ⟨n + 1, hn⟩ (outsAt c n (Nat.lt_of_succ_lt hn))

/-- What they hold before point `t`. -/
def prevAt (c : Dev nD) (t : Fin cfg0.N) : Outs F :=
  if t.val = 0 then outs₀ else outsAt m c (t.val - 1) (Nat.lt_of_le_of_lt (Nat.sub_le _ _) t.isLt)

/-- A tile leaves its stores on what the one before it left. -/
theorem outsAt_eq (c : Dev nD) (t : Fin cfg0.N) : outsAt m c t.val t.isLt = leftAt m c t (prevAt m c t) := by
  obtain ⟨n, hn⟩ := t
  cases n with
  | zero => rfl
  | succ n => rfl

/-! ## What a point leaves does not read what it need not -/

section Agree

variable (c : Dev nD) (i : grid0.Coords) (M : Mem) (X : Ins F) (Y : Outs F)

/-- The first tile's stores cover its gradients, -/
theorem cover_runFirst_du (h0 : isFirst i) (h1 : ¬isLast i) (y) : ∃ p ∈ (runFirst c i M X Y h0 h1).1.du, y ∈ p.1.set :=
  View.cover_of_tiledBy (runFirst c i M X Y h0 h1).1.du ![256, 512] (by sl_kernel_rfl) y

/-- the packed rows, -/
theorem cover_runFirst_st (h0 : isFirst i) (h1 : ¬isLast i) (y) : ∃ p ∈ (runFirst c i M X Y h0 h1).1.st, y ∈ p.1.set :=
  View.cover_of_tiledBy (runFirst c i M X Y h0 h1).1.st ![1, 512] (by sl_kernel_rfl) y

/-- the rows carried for the convolution, -/
theorem cover_runFirst_dcn (h0 : isFirst i) (h1 : ¬isLast i) (y) : ∃ p ∈ (runFirst c i M X Y h0 h1).1.dcn, y ∈ p.1.set :=
  View.cover_of_tiledBy (runFirst c i M X Y h0 h1).1.dcn ![8, 512] (by sl_kernel_rfl) y

/-- the carried decay, -/
theorem cover_runFirst_an (h0 : isFirst i) (h1 : ¬isLast i) (y) : ∃ p ∈ (runFirst c i M X Y h0 h1).1.an, y ∈ p.1.set :=
  View.cover_of_tiledBy (runFirst c i M X Y h0 h1).1.an ![8, 1024] (by sl_kernel_rfl) y

/-- the carried gradient of the state, -/
theorem cover_runFirst_gn (h0 : isFirst i) (h1 : ¬isLast i) (y) : ∃ p ∈ (runFirst c i M X Y h0 h1).1.gn, y ∈ p.1.set :=
  View.cover_of_tiledBy (runFirst c i M X Y h0 h1).1.gn ![8, 1024] (by sl_kernel_rfl) y

/-- the rows carried for the recurrence's convolution, -/
theorem cover_runFirst_dxn (h0 : isFirst i) (h1 : ¬isLast i) (y) : ∃ p ∈ (runFirst c i M X Y h0 h1).1.dxn, y ∈ p.1.set :=
  View.cover_of_tiledBy (runFirst c i M X Y h0 h1).1.dxn ![8, 1024] (by sl_kernel_rfl) y

/-- the gradient of one gate's matrix, -/
theorem cover_runFirst_dwa (h0 : isFirst i) (h1 : ¬isLast i) (y) : ∃ p ∈ (runFirst c i M X Y h0 h1).1.dwa, y ∈ p.1.set :=
  View.cover_of_tiledBy (runFirst c i M X Y h0 h1).1.dwa ![1, 256, 256] (by sl_kernel_rfl) y

/-- and that of the other's. -/
theorem cover_runFirst_dwx (h0 : isFirst i) (h1 : ¬isLast i) (y) : ∃ p ∈ (runFirst c i M X Y h0 h1).1.dwx, y ∈ p.1.set :=
  View.cover_of_tiledBy (runFirst c i M X Y h0 h1).1.dwx ![1, 256, 256] (by sl_kernel_rfl) y

/-- A middle tile's stores cover its gradients, -/
theorem cover_runMiddle_du (h0 : ¬isFirst i) (h1 : ¬isLast i) (y) : ∃ p ∈ (runMiddle c i M X Y h0 h1).1.du, y ∈ p.1.set :=
  View.cover_of_tiledBy (runMiddle c i M X Y h0 h1).1.du ![256, 512] (by sl_kernel_rfl) y

/-- the last tile's too, -/
theorem cover_runLast_du (h0 : ¬isFirst i) (h1 : isLast i) (y) : ∃ p ∈ (runLast c i M X Y h0 h1).1.du, y ∈ p.1.set :=
  View.cover_of_tiledBy (runLast c i M X Y h0 h1).1.du ![256, 512] (by sl_kernel_rfl) y

/-- and its matrices by head. -/
theorem cover_runLast_hd (h0 : ¬isFirst i) (h1 : isLast i) (y) : ∃ p ∈ (runLast c i M X Y h0 h1).1.hd, y ∈ p.1.set :=
  View.cover_of_tiledBy (runLast c i M X Y h0 h1).1.hd ![1, 1, 64, 64] (by sl_kernel_rfl) y

end Agree

/-- At the first point what is left does not read what was there, but for the heads, which it leaves alone. -/
theorem leftAt_first (c : Dev nD) (t : Fin cfg0.N) (h0 : t.val % 16 = 0) (Y Z : Outs F) :
    leftAt m c t Y = { leftAt m c t Z with hd := Y.hd } := by
  unfold leftAt left storesAt
  simp only [dif_pos h0]
  refine Outs.ext ?_ ?_ ?_ ?_ ?_ ?_ ?_ ?_ ?_ <;> dsimp only
  · exact View.read_writes_of_cover _ _ _ _ _ (cover_runFirst_du c _ _ _ _ _ _)
  · exact View.read_writes_of_cover _ _ _ _ _ (cover_runFirst_st c _ _ _ _ _ _)
  · unfold runFirst; simp only [View.writes_nil, Memref.IsWhole.read_unread]
  · exact View.read_writes_of_cover _ _ _ _ _ (cover_runFirst_dcn c _ _ _ _ _ _)
  · exact View.read_writes_of_cover _ _ _ _ _ (cover_runFirst_an c _ _ _ _ _ _)
  · exact View.read_writes_of_cover _ _ _ _ _ (cover_runFirst_gn c _ _ _ _ _ _)
  · exact View.read_writes_of_cover _ _ _ _ _ (cover_runFirst_dxn c _ _ _ _ _ _)
  · exact View.read_writes_of_cover _ _ _ _ _ (cover_runFirst_dwa c _ _ _ _ _ _)
  · exact View.read_writes_of_cover _ _ _ _ _ (cover_runFirst_dwx c _ _ _ _ _ _)

/-- At a middle point what is left does not read the block written back, and the heads are left alone. -/
theorem leftAt_middle (c : Dev nD) (t : Fin cfg0.N) (h0 : ¬t.val % 16 = 0) (h1 : ¬t.val % 16 = 15) (Z : Outs F) (du hd) :
    leftAt m c t { Z with du := du, hd := hd } = { leftAt m c t Z with hd := hd } := by
  unfold leftAt left storesAt
  simp only [dif_neg h0, dif_neg h1]
  refine Outs.ext ?_ ?_ ?_ ?_ ?_ ?_ ?_ ?_ ?_ <;> dsimp only
  · exact View.read_writes_of_cover _ _ _ _ _ (cover_runMiddle_du c _ _ _ _ _ _)
  · rfl
  · unfold runMiddle; simp only [View.writes_nil, Memref.IsWhole.read_unread]
  · rfl
  · rfl
  · rfl
  · rfl
  · rfl
  · rfl

/-- At the last point what is left reads neither the block written back nor the heads. -/
theorem leftAt_last (c : Dev nD) (t : Fin cfg0.N) (h0 : ¬t.val % 16 = 0) (h1 : t.val % 16 = 15) (Z : Outs F) (du hd) :
    leftAt m c t { Z with du := du, hd := hd } = leftAt m c t Z := by
  unfold leftAt left storesAt
  simp only [dif_neg h0, dif_pos h1]
  refine Outs.ext ?_ ?_ ?_ ?_ ?_ ?_ ?_ ?_ ?_ <;> dsimp only
  · exact View.read_writes_of_cover _ _ _ _ _ (cover_runLast_du c _ _ _ _ _ _)
  · rfl
  · exact View.read_writes_of_cover _ _ _ _ _ (cover_runLast_hd c _ _ _ _ _ _)
  · rfl
  · rfl
  · rfl
  · rfl
  · rfl
  · rfl

/-- What the buffers hold at point `t` is what the point before left, but for the block written back and the heads. -/
def Agrees (c : Dev nD) (t : Fin cfg0.N) (Y : Outs F) : Prop :=
  ¬t.val % 16 = 0 → Y = { prevAt m c t with du := Y.du, hd := Y.hd }

/-- A tile leaves the same on any outputs that agree where it reads them. -/
theorem leftAt_of_agrees (c : Dev nD) (t : Fin cfg0.N) (Y : Outs F) (h : Agrees m c t Y) :
    leftAt m c t Y = if t.val % 16 = 15 then outsAt m c t.val t.isLt else { outsAt m c t.val t.isLt with hd := Y.hd } := by
  rw [outsAt_eq]
  by_cases h0 : t.val % 16 = 0
  · rw [if_neg (by omega), leftAt_first m c t h0 Y (prevAt m c t)]
  · rw [h h0]
    by_cases h1 : t.val % 16 = 15
    · rw [if_pos h1, leftAt_last m c t h0 h1]
    · rw [if_neg h1, leftAt_middle m c t h0 h1]

/-! ## The proof data -/

/-- The carried scratch owned at `Y`. -/
def ownsScratch (c : Dev nD) (Y : Outs F) : sProp 𝕄 :=
  iprop(owns (c : Thread nD τ) (Memref.whole cc0_scratch0) fullShare Y.dcn ∗ owns (c : Thread nD τ) (Memref.whole cc0_scratch1) fullShare Y.an ∗
    owns (c : Thread nD τ) (Memref.whole cc0_scratch2) fullShare Y.gn ∗ owns (c : Thread nD τ) (Memref.whole cc0_scratch3) fullShare Y.dxn ∗
    owns (c : Thread nD τ) (Memref.whole cc0_scratch4) fullShare Y.dwa ∗ owns (c : Thread nD τ) (Memref.whole cc0_scratch5) fullShare Y.dwx)

/-- Before the first point the scratch holds anything; before a later point what the point before left. -/
def carried (c : Dev nD) : (n : ℕ) → n ≤ cfg0.N → sProp 𝕄
  | 0, _ => Pipeline.ΦA spec0 c
  | n + 1, hn => iprop(ownsScratch c (outsAt m c n hn) ∗ ∃ r, prngReg c r)

/-- The pipeline's proof data: the arrays as the region finds them, each input's buffer at its block after the body, each
    output's at what the points have left, the scratch carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).du
    | ⟨17, _⟩ => (outsAt m c t.val t.isLt).st
    | ⟨18, _⟩ => (outsAt m c t.val t.isLt).hd
    | ⟨_ + 19, h⟩ => absurd h (Nat.not_lt.2 (Nat.le_add_left _ _))
  Φ t := carried m c t.val (Nat.le_of_lt_succ t.isLt)
  q w := Pipeline.shareOf spec0 w
  owed _ := 0

/-- The launch starts from the host's arrays. -/
theorem A_eq (c : Dev nD) (w : Fin cfg0.W) : (dats m 0 c).A w = V m c (Pipeline.arrRef spec0 w) := by
  dsimp only [dats]

/-- Before a tile, window 0 holds its block. -/
theorem before_0 (c : Dev nD) (t : Fin cfg0.N) (d) : (dats m 0 c).before 0 t d = iblk m c 0 t :=
  before0_0_of m (dats m 0 c) (A_eq m c 0) (fun _ => by dsimp only [dats]) t d
/-- Before a tile, window 1 holds its block. -/
theorem before_1 (c : Dev nD) (t : Fin cfg0.N) (d) : (dats m 0 c).before 1 t d = iblk m c 1 t :=
  before0_1_of m (dats m 0 c) (A_eq m c 1) (fun _ => by dsimp only [dats]) t d
/-- Before a tile, window 2 holds its block. -/
theorem before_2 (c : Dev nD) (t : Fin cfg0.N) (d) : (dats m 0 c).before 2 t d = iblk m c 2 t :=
  before0_2_of m (dats m 0 c) (A_eq m c 2) (fun _ => by dsimp only [dats]) t d
/-- Before a tile, window 3 holds its block. -/
theorem before_3 (c : Dev nD) (t : Fin cfg0.N) (d) : (dats m 0 c).before 3 t d = iblk m c 3 t :=
  before0_3_of m (dats m 0 c) (A_eq m c 3) (fun _ => by dsimp only [dats]) t d
/-- Before a tile, window 4 holds its block. -/
theorem before_4 (c : Dev nD) (t : Fin cfg0.N) (d) : (dats m 0 c).before 4 t d = iblk m c 4 t :=
  before0_4_of m (dats m 0 c) (A_eq m c 4) (fun _ => by dsimp only [dats]) t d
/-- Before a tile, window 5 holds its block. -/
theorem before_5 (c : Dev nD) (t : Fin cfg0.N) (d) : (dats m 0 c).before 5 t d = iblk m c 5 t :=
  before0_5_of m (dats m 0 c) (A_eq m c 5) (fun _ => by dsimp only [dats]) t d
/-- Before a tile, window 6 holds its block. -/
theorem before_6 (c : Dev nD) (t : Fin cfg0.N) (d) : (dats m 0 c).before 6 t d = iblk m c 6 t :=
  before0_6_of m (dats m 0 c) (A_eq m c 6) (fun _ => by dsimp only [dats]) t d
/-- Before a tile, window 7 holds its block. -/
theorem before_7 (c : Dev nD) (t : Fin cfg0.N) (d) : (dats m 0 c).before 7 t d = iblk m c 7 t :=
  before0_7_of m (dats m 0 c) (A_eq m c 7) (fun _ => by dsimp only [dats]) t d
/-- Before a tile, window 8 holds its block. -/
theorem before_8 (c : Dev nD) (t : Fin cfg0.N) (d) : (dats m 0 c).before 8 t d = iblk m c 8 t :=
  before0_8_of m (dats m 0 c) (A_eq m c 8) (fun _ => by dsimp only [dats]) t d
/-- Before a tile, window 9 holds its block. -/
theorem before_9 (c : Dev nD) (t : Fin cfg0.N) (d) : (dats m 0 c).before 9 t d = iblk m c 9 t :=
  before0_9_of m (dats m 0 c) (A_eq m c 9) (fun _ => by dsimp only [dats]) t d
/-- Before a tile, window 10 holds its block. -/
theorem before_10 (c : Dev nD) (t : Fin cfg0.N) (d) : (dats m 0 c).before 10 t d = iblk m c 10 t :=
  before0_10_of m (dats m 0 c) (A_eq m c 10) (fun _ => by dsimp only [dats]) t d
/-- Before a tile, window 11 holds its block. -/
theorem before_11 (c : Dev nD) (t : Fin cfg0.N) (d) : (dats m 0 c).before 11 t d = iblk m c 11 t :=
  before0_11_of m (dats m 0 c) (A_eq m c 11) (fun _ => by dsimp only [dats]) t d
/-- Before a tile, window 12 holds its block. -/
theorem before_12 (c : Dev nD) (t : Fin cfg0.N) (d) : (dats m 0 c).before 12 t d = iblk m c 12 t :=
  before0_12_of m (dats m 0 c) (A_eq m c 12) (fun _ => by dsimp only [dats]) t d
/-- Before a tile, window 13 holds its block. -/
theorem before_13 (c : Dev nD) (t : Fin cfg0.N) (d) : (dats m 0 c).before 13 t d = iblk m c 13 t :=
  before0_13_of m (dats m 0 c) (A_eq m c 13) (fun _ => by dsimp only [dats]) t d
/-- Before a tile, window 14 holds its block. -/
theorem before_14 (c : Dev nD) (t : Fin cfg0.N) (d) : (dats m 0 c).before 14 t d = iblk m c 14 t :=
  before0_14_of m (dats m 0 c) (A_eq m c 14) (fun _ => by dsimp only [dats]) t d
/-- Before a tile, window 15 holds its block. -/
theorem before_15 (c : Dev nD) (t : Fin cfg0.N) (d) : (dats m 0 c).before 15 t d = iblk m c 15 t :=
  before0_15_of m (dats m 0 c) (A_eq m c 15) (fun _ => by dsimp only [dats]) t d

/-- The sums' buffer holds what the point before left. -/
theorem before_17 (c : Dev nD) (t : Fin cfg0.N) (h0 : ¬t.val % 16 = 0) (d) : (dats m 0 c).before 17 t d = (prevAt m c t).st := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  unfold prevAt
  rw [if_neg (by omega)]
  dsimp only [dats]

/-- The invariant before a point: the scratch at some contents, those the point before left if there is one. -/
theorem carried_elim (c : Dev nD) (t : Fin cfg0.N) :
    (dats m 0 c).Φ t.castSucc ⊢ iprop(∃ Y, ⌜¬t.val % 16 = 0 → Y = prevAt m c t⌝ ∗ ownsScratch c Y ∗ ∃ r, prngReg c r) := by
  have hN : t.val < 16 := lt_of_lt_of_eq t.isLt (show cfg0.N = 16 from N_0)
  rw [show (dats m 0 c).Φ t.castSucc = carried m c t.val (Nat.le_of_lt t.isLt) from rfl]
  obtain ⟨n, hn⟩ := t
  cases n with
  | zero =>
    unfold carried Pipeline.ΦA ownsScratch
    rw [scopedRest0_eq]
    simp only [owns_whole]
    iintro ⟨⟨⟨%s0, H0⟩, ⟨%s1, H1⟩, ⟨%s2, H2⟩, ⟨%s3, H3⟩, ⟨%s4, H4⟩, ⟨%s5, H5⟩⟩, Hg⟩
    iexists (⟨(prevAt m c ⟨0, hn⟩).du, (prevAt m c ⟨0, hn⟩).st, (prevAt m c ⟨0, hn⟩).hd, s0, s1, s2, s3, s4, s5⟩ : Outs F)
    isplitr
    · ipureintro; intro h; exact absurd trivial h
    isplitr [Hg]
    · iframe
    iexact Hg
  | succ n =>
    unfold carried
    iintro ⟨H, Hg⟩
    iexists outsAt m c n (Nat.lt_of_succ_lt hn)
    isplitr
    · ipureintro; intro _; rfl
    isplitl [H]; · iexact H
    iexact Hg

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (memAt t).dy fullShare ((dats m 0 c).before 0 t d))
    ∗ (∃ d, owns (c : Thread nD τ) (memAt t).u fullShare ((dats m 0 c).before 1 t d))
    ∗ (∃ d, owns (c : Thread nD τ) (memAt t).uh fullShare ((dats m 0 c).before 2 t d))
    ∗ (∃ d, owns (c : Thread nD τ) (memAt t).xr fullShare ((dats m 0 c).before 3 t d))
    ∗ (∃ d, owns (c : Thread nD τ) (memAt t).hs fullShare ((dats m 0 c).before 4 t d))
    ∗ (∃ d, owns (c : Thread nD τ) (memAt t).hh fullShare ((dats m 0 c).before 5 t d))
    ∗ (∃ d, owns (c : Thread nD τ) (memAt t).c3 fullShare ((dats m 0 c).before 6 t d))
    ∗ (∃ d, owns (c : Thread nD τ) (memAt t).gt fullShare ((dats m 0 c).before 7 t d))
    ∗ (∃ d, owns (c : Thread nD τ) (memAt t).cw fullShare ((dats m 0 c).before 8 t d))
    ∗ (∃ d, owns (c : Thread nD τ) (memAt t).rw fullShare ((dats m 0 c).before 9 t d))
    ∗ (∃ d, owns (c : Thread nD τ) (memAt t).wa fullShare ((dats m 0 c).before 10 t d))
    ∗ (∃ d, owns (c : Thread nD τ) (memAt t).wx fullShare ((dats m 0 c).before 11 t d))
    ∗ (∃ d, owns (c : Thread nD τ) (memAt t).lam fullShare ((dats m 0 c).before 12 t d))
    ∗ (∃ d, owns (c : Thread nD τ) (memAt t).gc fullShare ((dats m 0 c).before 13 t d))
    ∗ (∃ d, owns (c : Thread nD τ) (memAt t).gr fullShare ((dats m 0 c).before 14 t d))
    ∗ (∃ d, owns (c : Thread nD τ) (memAt t).stm fullShare ((dats m 0 c).before 15 t d))
    ∗ (∃ d, owns (c : Thread nD τ) (memAt t).du fullShare ((dats m 0 c).before 16 t d))
    ∗ (∃ d, owns (c : Thread nD τ) (memAt t).st fullShare ((dats m 0 c).before 17 t d))
    ∗ (∃ d, owns (c : Thread nD τ) (memAt t).hd fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (memAt t).dy fullShare ((dats m 0 c).after 0 t)
    ∗ owns (c : Thread nD τ) (memAt t).u fullShare ((dats m 0 c).after 1 t)
    ∗ owns (c : Thread nD τ) (memAt t).uh fullShare ((dats m 0 c).after 2 t)
    ∗ owns (c : Thread nD τ) (memAt t).xr fullShare ((dats m 0 c).after 3 t)
    ∗ owns (c : Thread nD τ) (memAt t).hs fullShare ((dats m 0 c).after 4 t)
    ∗ owns (c : Thread nD τ) (memAt t).hh fullShare ((dats m 0 c).after 5 t)
    ∗ owns (c : Thread nD τ) (memAt t).c3 fullShare ((dats m 0 c).after 6 t)
    ∗ owns (c : Thread nD τ) (memAt t).gt fullShare ((dats m 0 c).after 7 t)
    ∗ owns (c : Thread nD τ) (memAt t).cw fullShare ((dats m 0 c).after 8 t)
    ∗ owns (c : Thread nD τ) (memAt t).rw fullShare ((dats m 0 c).after 9 t)
    ∗ owns (c : Thread nD τ) (memAt t).wa fullShare ((dats m 0 c).after 10 t)
    ∗ owns (c : Thread nD τ) (memAt t).wx fullShare ((dats m 0 c).after 11 t)
    ∗ owns (c : Thread nD τ) (memAt t).lam fullShare ((dats m 0 c).after 12 t)
    ∗ owns (c : Thread nD τ) (memAt t).gc fullShare ((dats m 0 c).after 13 t)
    ∗ owns (c : Thread nD τ) (memAt t).gr fullShare ((dats m 0 c).after 14 t)
    ∗ owns (c : Thread nD τ) (memAt t).stm fullShare ((dats m 0 c).after 15 t)
    ∗ owns (c : Thread nD τ) (memAt t).du fullShare ((dats m 0 c).after 16 t)
    ∗ owns (c : Thread nD τ) (memAt t).st fullShare ((dats m 0 c).after 17 t)
    ∗ (dats m 0 c).leavesExact 18 t)

/-- The heads' buffer after the body: left alone but at the last point. -/
theorem heads_left (c : Dev nD) (t : Fin cfg0.N) (d) (Y : Outs F) (hY : Y.hd = (dats m 0 c).before 18 t d) (h : Agrees m c t Y) :
    owns (c : Thread nD τ) (memAt t).hd fullShare (leftAt m c t Y).hd ⊢ ((dats m 0 c).leavesExact 18 t : sProp 𝕄) := by
  rw [leftAt_of_agrees m c t Y h]
  by_cases h1 : t.val % 16 = 15
  · rw [if_pos h1]
    unfold Dat.leavesExact
    rw [show cfg0.idle 18 (cfg0.grid.coords t) = false from by
      show (!(k0_cond2 (grid0.coords t) == 1#1)) = false
      rw [show k0_cond2 (grid0.coords t) = 1#1 from (isLast_iff t).mpr h1]; rfl]
    exact .rfl
  · rw [if_neg h1, Dat.leavesExact_idle _ 18 t (by
      show (!(k0_cond2 (grid0.coords t) == 1#1)) = true
      rw [show (k0_cond2 (grid0.coords t) == 1#1) = false from beq_eq_false_iff_ne.mpr fun h => h1 ((isLast_iff t).mp h)]; rfl)
      (Bool.eq_false_iff.mpr fun h => h1 ((flush0_18 t).mp h))]
    dsimp only
    rw [hY]
    iintro H
    iexists d
    iexact H

/-- All but the heads after the body: at what the points have left. -/
theorem leftAt_fields (c : Dev nD) (t : Fin cfg0.N) (Y : Outs F) (h : Agrees m c t Y) :
    leftAt m c t Y = { outsAt m c t.val t.isLt with hd := (leftAt m c t Y).hd } := by
  rw [leftAt_of_agrees m c t Y h]
  split <;> rfl

/-- What the outputs and the scratch hold after the body. -/
theorem outs_left (c : Dev nD) (t : Fin cfg0.N) (d) (Y : Outs F) (hY : Y.hd = (dats m 0 c).before 18 t d) (h : Agrees m c t Y) :
    ownsOuts c (memAt t) (leftAt m c t Y)
      ⊢ (iprop(owns (c : Thread nD τ) (memAt t).du fullShare (outsAt m c t.val t.isLt).du ∗ owns (c : Thread nD τ) (memAt t).st fullShare (outsAt m c t.val t.isLt).st
        ∗ (dats m 0 c).leavesExact 18 t ∗ ownsScratch c (outsAt m c t.val t.isLt)) : sProp 𝕄) := by
  have e := leftAt_fields m c t Y h
  have h18 := heads_left m c t d Y hY h
  generalize leftAt m c t Y = L at e h18 ⊢
  unfold ownsOuts
  iintro ⟨H16, H17, H18, HS⟩
  ihave H18 := h18 $$ H18
  rw [e]
  unfold ownsScratch
  iframe

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4, before_5, before_6, before_7, before_8, before_9, before_10, before_11, before_12, before_13,
    before_14, before_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  ihave HS := (carried_elim m c t) $$ HΦ
  icases HS with ⟨%S, %hS, HS, Hg⟩
  have hY : Agrees m c t { S with du := (dats m 0 c).before 16 t d16, st := (dats m 0 c).before 17 t d17, hd := (dats m 0 c).before 18 t d18 } := by
    intro h0; rw [hS h0, before_17 m c t h0]
  iapply ((runsAt c t (insAt m c t) { S with du := (dats m 0 c).before 16 t d16, st := (dats m 0 c).before 17 t d17, hd := (dats m 0 c).before 18 t d18 }).owned Set.univ _)
  isplitl [H0 H1 H2 H3 H4 H5 H6 H7 H8 H9 H10 H11 H12 H13 H14 H15]
  · unfold ownsIns; iframe
  isplitl [H16 H17 H18 HS]
  · unfold ownsOuts
    unfold ownsScratch
    isplitl [H16]; · iexact H16
    isplitl [H17]; · iexact H17
    isplitl [H18]; · iexact H18
    iexact HS
  unfold ownsIns
  iintro ⟨⟨H0, H1, H2, H3, H4, H5, H6, H7, H8, H9, H10, H11, H12, H13, H14, H15⟩, HO⟩
  ihave HO := (outs_left m c t d18 _ rfl hY) $$ HO
  icases HO with ⟨H16, H17, H18, HS⟩
  unfold bodyPost
  isplitl [HS Hg]
  · rw [show (dats m 0 c).Φ t.succ = carried m c (t.val + 1) t.isLt from rfl]
    unfold carried
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The pipeline's body at a tile is the kernel's body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch is given back. -/
theorem carried_out (c : Dev nD) : (dats m 0 c).Φ (Fin.last cfg0.N) ⊢ Pipeline.ΦA spec0 c := by
  rw [show (dats m 0 c).Φ (Fin.last cfg0.N) = iprop(ownsScratch c (outsAt m c 15 (by decide)) ∗ ∃ r, prngReg c r) from rfl]
  unfold Pipeline.ΦA ownsScratch
  rw [scopedRest0_eq]
  simp only [owns_whole]
  iintro ⟨⟨H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-! ## The run -/

set_option backward.isDefEq.respectTransparency.types false in
set_option maxHeartbeats 800000 in
/-- The kernel's run: every array of the pipeline ends at what the proof data computes, every other buffer at what the host
    lines make of these, and no semaphore counts. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m)
    (hin := fun _ => .rfl) (hout := carried_out m)

end Cert.Kernel2Ideal.Mix

end
-- ==== Proof.MixMath.lean ====
/- The gated causal convolution under a root-mean-square norm, and its gradients, on real arrays. -/
module

public import proofs.«01_k».proof.Proof.RealMath
public import Idealize.ShloMosaic.Lib.KernelVsHost

@[expose] public section

set_option maxRecDepth 16384

noncomputable section

namespace Cert.RealMath

open Idealize.ShloMosaic

/-- The word of `512.0`. -/
theorem ofBits_512 : Ideal.ofBits .f32 0x44000000#32 = ((512 : ℝ) : EReal) := by
  simp [Ideal.ofBits, Ideal.ieee]
  rw [← EReal.coe_mul]
  norm_num

/-- A matrix padded by rows, read at an index: the matrix's row `a` further up, or the padding outside. -/
theorem pad_rows_apply {α : Type} {n k N a b : ℕ} (x : (⟨2, ![n, k]⟩ : Shape).Idx → α) {u : Shape} (v : u.Idx → α)
    (h : (⟨2, ![n, k]⟩ : Shape).Pads ![a, 0] ![b, 0] ![0, 0] ⟨2, ![N, k]⟩) (hu : 0 < u.numel) (i : Fin N) (j : Fin k) :
    pad ⟨2, ![N, k]⟩ ![a, 0] ![b, 0] ![0, 0] x v h hu (ix2 i j) =
      if hi : a ≤ i.val ∧ i.val - a < n then x (ix2 ⟨i.val - a, hi.2⟩ j) else v (Shape.Idx.first hu) := by
  split_ifs with hi
  · refine pad_apply_of_inside _ _ _ _ _ _ _ _ _ fun c => ?_
    fin_cases c
    · show i.val = a + (i.val - a) * (0 + 1)
      omega
    · show j.val = 0 + j.val * (0 + 1)
      omega
  · refine pad_apply_of_not_inside _ _ _ _ _ _ _ _ 0 fun hc => hi ⟨hc.1, ?_⟩
    simpa using hc.2.2

/-- The row `d` before, or zero before the first. -/
def back (X : Fin 4096 → Fin 512 → ℝ) (d : ℕ) (r : Fin 4096) (k : Fin 512) : ℝ := if d ≤ r.val then X ⟨r.val - d, by omega⟩ k else 0

/-- The row `d` after, or zero after the last. -/
def ahead (X : Fin 4096 → Fin 512 → ℝ) (d : ℕ) (r : Fin 4096) (k : Fin 512) : ℝ := if h : r.val + d < 4096 then X ⟨r.val + d, h⟩ k else 0

/-- The arrays of the convolution branch: its three gates, the taps, the norm's weight and the gradient that comes in. -/
structure Branch where
  b : Fin 4096 → Fin 512 → ℝ
  a : Fin 4096 → Fin 512 → ℝ
  v : Fin 4096 → Fin 512 → ℝ
  w : Fin 3 → Fin 512 → ℝ
  g : Fin 512 → ℝ
  dy : Fin 4096 → Fin 512 → ℝ

namespace Branch

variable (N : Branch) (r : Fin 4096) (k : Fin 512)

/-- The gated input of the convolution. -/
def cv : ℝ := N.a r k * N.v r k
/-- The causal convolution. -/
def c3 : ℝ := N.w 0 k * back N.cv 2 r k + N.w 1 k * back N.cv 1 r k + N.w 2 k * N.cv r k
/-- The gated convolution. -/
def y : ℝ := N.b r k * N.c3 r k
/-- The gradient through the norm. -/
def dn : ℝ := normGrad (N.y r) (fun l => N.dy r l * N.g l) 512 k
/-- The gradient of the convolution's result. -/
def dc : ℝ := N.b r k * N.dn r k
/-- The gradient of the convolution's input. -/
def dcv : ℝ := N.w 2 k * N.dc r k + N.w 1 k * ahead N.dc 1 r k + N.w 0 k * ahead N.dc 2 r k
/-- The gradient of a tap. -/
def dw (j : Fin 3) (k : Fin 512) : ℝ := ∑ r, N.dc r k * back N.cv (2 - j.val) r k
/-- The gradient of the norm's weight. -/
def dg (k : Fin 512) : ℝ := ∑ r, N.dy r k * (N.y r k * rstd (N.y r) 512)

end Branch

end Cert.RealMath

end
-- ==== Proof.MixTile.lean ====
/- The convolution branch's arithmetic on one tile of 256 rows. -/
module

public import proofs.«01_k».proof.Proof.Gen.Kernel2Ideal.Skeleton
public import proofs.«01_k».proof.Proof.MixMath
public import Idealize.ShloMosaic.Lib.Pipeline.ValueKit

@[expose] public section

set_option maxRecDepth 16384

noncomputable section

namespace Cert.Kernel2Ideal.Mix

open Cert.Kernel2Ideal Cert.Kernel2Ideal.Gen Cert.RealMath Idealize.ShloMosaic Idealize.ShloMosaic.TcCoe

section Norm

variable {y dy : FVec Ideal S256x512 .f32} {g : FVec Ideal S1x512 .f32} {Y D : Fin 256 → Fin 512 → ℝ} {G : Fin 512 → ℝ}
variable (hy : ∀ r k, y (ix2 r k) = ((Y r k : ℝ) : EReal)) (hd : ∀ r k, dy (ix2 r k) = ((D r k : ℝ) : EReal))
variable (hg : ∀ k, g (ix2 0 k) = ((G k : ℝ) : EReal))

include hy in
/-- The reciprocal root of a tile's row. -/
theorem rstdTile_at (r : Fin 256) : k0_pay57 y (ix2 r 0) = ((rstd (Y r) 512 : ℝ) : EReal) := by
  pointwise [k0_pay57]
  simp only [hy]
  exact rstd_lift (Y r) ofBits_512 ofBits_eps (by norm_num)

include hy in
/-- A tile's row after its norm, before the gains. -/
theorem normTile_at (r : Fin 256) (k : Fin 512) : k0_pay58 y (ix2 r k) = ((Y r k * rstd (Y r) 512 : ℝ) : EReal) := by
  pointwise [k0_pay58]
  rw [hy, rstdTile_at hy, ← EReal.coe_mul]

include hy hd hg in
/-- The gradient through the norm of a tile's row. -/
theorem dnTile_at (r : Fin 256) (k : Fin 512) :
    k0_pay61 y dy g (ix2 r k) = ((normGrad (Y r) (fun l => D r l * G l) 512 k : ℝ) : EReal) := by
  pointwise [k0_pay61, k0_pay59]
  simp only [hd, hg, normTile_at hy, rstdTile_at hy]
  simp only [← EReal.coe_mul, coe_sum, ← EReal.coe_sub, ofBits_512, div_real (show (512 : ℝ) ≠ 0 by norm_num)]
  rfl

include hy hd in
/-- What a tile adds to the gradient of the norm's weight. -/
theorem dgTile_at (old : FVec Ideal S1x512 .f32) (k : Fin 512) :
    k0_pay60 y dy old (ix2 0 k) = old (ix2 0 k) + ((∑ r, D r k * (Y r k * rstd (Y r) 512) : ℝ) : EReal) := by
  pointwise [k0_pay60, k0_pay59]
  simp only [hd, normTile_at hy]
  simp only [← EReal.coe_mul, coe_sum]

end Norm

section Conv

/-- A choice by a comparison of two small words is the choice by their numbers. -/
theorem select_sge {α : Type} (a : ℕ) (ha : a < 8) (c : Fin 8) (x y : α) :
    Scalar.select (IntOp.cmpi CmpIPredicate.sge (BitVec.ofNat 32 a) (BitVec.ofNat 32 c.val)) x y = if c.val ≤ a then x else y := by
  have h : ∀ a c : Fin 8, (IntOp.cmpi CmpIPredicate.sge (BitVec.ofNat 32 a.val) (BitVec.ofNat 32 c.val) = 1#1) = (c.val ≤ a.val) := by decide
  exact if_congr (iff_of_eq (h ⟨a, ha⟩ c)) rfl rfl

/-- The same, the other way around. -/
theorem select_slt {α : Type} (a : ℕ) (ha : a < 8) (c : Fin 8) (x y : α) :
    Scalar.select (IntOp.cmpi CmpIPredicate.slt (BitVec.ofNat 32 a) (BitVec.ofNat 32 c.val)) x y = if a < c.val then x else y := by
  have h : ∀ a c : Fin 8, (IntOp.cmpi CmpIPredicate.slt (BitVec.ofNat 32 a.val) (BitVec.ofNat 32 c.val) = 1#1) = (a.val < c.val) := by decide
  exact if_congr (iff_of_eq (h ⟨a, ha⟩ c)) rfl rfl

variable (x v : FVec Ideal S256x512 .f32) (w n p : FVec Ideal S8x512 .f32) (old : FVec Ideal S1x512 .f32)

/-- A tile's rows shifted up by `d`, the next tile's first rows after them. -/
def up (d : ℕ) (hd : d ≤ 8) (r : Fin 256) (k : Fin 512) : EReal :=
  if h : r.val + d < 256 then x (ix2 ⟨r.val + d, h⟩ k) else n (ix2 ⟨r.val + d - 256, by omega⟩ k)

/-- A tile's rows shifted down by `d`, the last rows before the tile before them. -/
def down (d : ℕ) (hd : 0 < d ∧ d ≤ 8) (r : Fin 256) (k : Fin 512) : EReal :=
  if h : d ≤ r.val then v (ix2 ⟨r.val - d, by omega⟩ k) else p (ix2 ⟨r.val + 8 - d, by omega⟩ k)

/-- A rotation upward by `d` with the next rows filled in reads `d` rows ahead. -/
theorem up_eq (d : Fin 8) (hd : 0 < d.val) (r : Fin 256) (k : Fin 512) :
    (if h : r.val < 248 then x (ix2 ⟨(r.val + 256 - (256 - d.val)) % 256, Nat.mod_lt _ (by norm_num)⟩ k)
      else Scalar.select (IntOp.cmpi CmpIPredicate.sge (BitVec.ofNat 32 (r.val - 248)) (BitVec.ofNat 32 (8 - d.val)))
        (n (ix2 ⟨(r.val - 248 + 8 - (8 - d.val)) % 8, Nat.mod_lt _ (by norm_num)⟩ k))
        (x (ix2 ⟨(248 + (r.val - 248) + 256 - (256 - d.val)) % 256, Nat.mod_lt _ (by norm_num)⟩ k))) = up x n d.val d.isLt.le r k := by
  have e := select_sge (α := EReal) (r.val - 248) (by omega) ⟨8 - d.val, by omega⟩
  unfold up
  by_cases h : r.val < 248
  · rw [dif_pos h, dif_pos (by omega)]
    congr 2
    exact Fin.ext (by show (r.val + 256 - (256 - d.val)) % 256 = r.val + d.val; omega)
  · rw [dif_neg h, e]
    by_cases hr : r.val + d.val < 256
    · rw [if_neg (by show ¬ 8 - d.val ≤ r.val - 248; omega), dif_pos hr]
      congr 2
      exact Fin.ext (by show (248 + (r.val - 248) + 256 - (256 - d.val)) % 256 = r.val + d.val; omega)
    · rw [if_pos (by show 8 - d.val ≤ r.val - 248; omega), dif_neg hr]
      congr 2
      exact Fin.ext (by show (r.val - 248 + 8 - (8 - d.val)) % 8 = r.val + d.val - 256; omega)

/-- The gradient of the convolution's input on a tile. -/
theorem dcvTile_at (r : Fin 256) (k : Fin 512) : k0_pay65 x w n (ix2 r k) =
    w (ix2 2 k) * x (ix2 r k) + w (ix2 1 k) * up x n 1 (by norm_num) r k + w (ix2 0 k) * up x n 2 (by norm_num) r k := by
  have e1 := up_eq x n 1 (by decide) r k
  have e2 := up_eq x n 2 (by decide) r k
  simp only [Fin.val_one, Fin.val_two] at e1 e2
  rw [← e1, ← e2]
  pointwise [k0_pay65]

/-- The first eight rows of a sum with a downward shift, split off the others. -/
theorem down_split (d : Fin 8) (hd : 0 < d.val) (k : Fin 512) :
    (∑ r : Fin 8, x (ix2 ⟨r.val, by omega⟩ k) * Scalar.select (IntOp.cmpi CmpIPredicate.slt (BitVec.ofNat 32 r.val) (BitVec.ofNat 32 d.val))
        (p (ix2 ⟨(r.val + 8 - d.val) % 8, Nat.mod_lt _ (by norm_num)⟩ k)) (v (ix2 ⟨(r.val + 256 - d.val) % 256, Nat.mod_lt _ (by norm_num)⟩ k)))
      + (∑ r : Fin 248, x (ix2 ⟨8 + r.val, by omega⟩ k) * v (ix2 ⟨(8 + r.val + 256 - d.val) % 256, Nat.mod_lt _ (by norm_num)⟩ k)) =
    ∑ r : Fin 256, x (ix2 r k) * down v p d.val ⟨hd, d.isLt.le⟩ r k := by
  rw [Fin.sum_univ_add (a := 8) (b := 248) (f := fun r => x (ix2 r k) * down v p d.val ⟨hd, d.isLt.le⟩ r k)]
  congr 1
  · refine Finset.sum_congr rfl fun r _ => ?_
    rw [select_slt r.val r.isLt d]
    unfold down
    refine congrArg (x (ix2 _ k) * ·) ?_
    by_cases h : r.val < d.val
    · rw [if_pos h, dif_neg (by show ¬ d.val ≤ r.val; omega)]
      congr 2
      exact Fin.ext (by show (r.val + 8 - d.val) % 8 = r.val + 8 - d.val; omega)
    · rw [if_neg h, dif_pos (by show d.val ≤ r.val; omega)]
      congr 2
      exact Fin.ext (by show (r.val + 256 - d.val) % 256 = r.val - d.val; omega)
  · refine Finset.sum_congr rfl fun r _ => ?_
    unfold down
    refine congrArg (x (ix2 _ k) * ·) ?_
    rw [dif_pos (by show d.val ≤ 8 + r.val; omega)]
    congr 2
    exact Fin.ext (by show (8 + r.val + 256 - d.val) % 256 = 8 + r.val - d.val; omega)

/-- What a tile adds to the gradient of the tap two rows back. -/
theorem tap0Tile_at (k : Fin 512) : k0_pay68 (k0_pay67 v p x) old (ix2 0 k) =
    old (ix2 0 k) + ∑ r : Fin 256, x (ix2 r k) * down v p 2 (by norm_num) r k := by
  have e := down_split x v p 2 (by decide) k
  simp only [Fin.val_two] at e
  rw [← e]
  pointwise [k0_pay67, k0_pay68]

/-- What a tile adds to the gradient of the tap one row back. -/
theorem tap1Tile_at (k : Fin 512) : k0_pay69 v p x old (ix2 0 k) =
    old (ix2 0 k) + ∑ r : Fin 256, x (ix2 r k) * down v p 1 (by norm_num) r k := by
  have e := down_split x v p 1 (by decide) k
  simp only [Fin.val_one] at e
  rw [← e]
  pointwise [k0_pay69]

/-- What a tile adds to the gradient of the row's own tap. -/
theorem tap2Tile_at (k : Fin 512) : k0_pay70 v x old (ix2 0 k) = old (ix2 0 k) + ∑ r : Fin 256, x (ix2 r k) * v (ix2 r k) := by
  pointwise [k0_pay70]

end Conv

end Cert.Kernel2Ideal.Mix

end
-- ==== Proof.MixVal.lean ====
/- The convolution branch in the mixing layers' backward kernel: the stores that hold its gradients, and the result arrays at an index. -/
module

public import proofs.«01_k».proof.Proof.MixFrame
public import proofs.«01_k».proof.Proof.MixTile
public import Idealize.ShloMosaic.Lib.WholeRead
public import Idealize.ShloMosaic.Lib.Pipeline.ReadBack

@[expose] public section

set_option maxRecDepth 16384

noncomputable section

namespace Cert.Kernel2Ideal.Mix

open Cert.Kernel2Ideal Cert.Kernel2Ideal.Gen Cert.RealMath Idealize.ShloMosaic Idealize.ShloMosaic.TcCoe Idealize.SL.Sem
open Idealize.ShloMosaic.Pipeline (Dat)

section Tile

variable (i : grid0.Coords) (X : Ins Ideal) (D : FVec Ideal S8x512 .f32)

/-- The tile's rows of the first gate. -/
def tB : FVec Ideal S256x512 .f32 := k0_pay46 (View.ld X.u (Rect.unit ![0, 0] S256x512.size inb_S256x3584_S256x512_0_0))
/-- The tile's rows of the second gate. -/
def tA : FVec Ideal S256x512 .f32 := k0_pay47 (View.ld X.u (Rect.unit ![0, 512] S256x512.size inb_S256x3584_S256x512_0_512))
/-- The tile's rows of the value. -/
def tV : FVec Ideal S256x512 .f32 := k0_pay48 (View.ld X.u (Rect.unit ![0, 1024] S256x512.size inb_S256x3584_S256x512_0_1024))
/-- The tile's rows of the convolution's input. -/
def tCv : FVec Ideal S256x512 .f32 :=
  k0_pay51 (View.ld X.u (Rect.unit ![0, 512] S256x512.size inb_S256x3584_S256x512_0_512))
    (View.ld X.u (Rect.unit ![0, 1024] S256x512.size inb_S256x3584_S256x512_0_1024))
/-- The eight rows before the tile of the convolution's input. -/
def tHalo : FVec Ideal S8x512 .f32 :=
  k0_pay52 i (View.ld X.uh (Rect.unit ![0, 512] S8x512.size inb_S8x3584_S8x512_0_512))
    (View.ld X.uh (Rect.unit ![0, 1024] S8x512.size inb_S8x3584_S8x512_0_1024))
/-- The tile's rows of the convolution. -/
def tC : FVec Ideal S256x512 .f32 := k0_pay55 (View.ld X.c3 (Rect.unit ![0, 0] S256x512.size inb_S256x512_S256x512_0_0))
/-- The tile's rows of the gated convolution. -/
def tY : FVec Ideal S256x512 .f32 :=
  k0_pay56 (View.ld X.u (Rect.unit ![0, 0] S256x512.size inb_S256x3584_S256x512_0_0)) (View.ld X.c3 (Rect.unit ![0, 0] S256x512.size inb_S256x512_S256x512_0_0))
/-- The tile's rows of the gradient that comes in. -/
def tDy : FVec Ideal S256x512 .f32 := View.ld X.dy (Rect.unit ![0, 0] S256x512.size inb_S256x1536_S256x512_0_0)
/-- The norm's weight. -/
def tG : FVec Ideal S1x512 .f32 := View.ld X.gc (Rect.unit ![0, 0] S1x512.size inb_S1x512_S1x512_0_0)
/-- The taps. -/
def tW : FVec Ideal S8x512 .f32 := k0_pay64 (View.ld X.cw (Rect.unit ![0, 0] S8x512.size inb_S8x512_S8x512_0_0))
/-- The tile's rows of the gradient of the convolution. -/
def tDc : FVec Ideal S256x512 .f32 := k0_pay63 (tB X) (tY X) (tDy X) (tG X)
/-- The tile's rows of the gradient of the convolution's input. -/
def tDcv : FVec Ideal S256x512 .f32 := k0_pay65 (tDc X) (tW X) D

/-- The stores `P` of a point hold the convolution branch's gradients: the next tile's first rows are `D`, the sums so far `s5`, `s6`, `s7`, `s12`. -/
structure Has (s5 s6 s7 s12 : FVec Ideal S1x512 .f32) (P : Stores Ideal) : Prop where
  du : ∃ x y, P.du = [⟨Rect.unit ![0, 1536] S256x1024.size inb_S256x3584_S256x1024_0_1536, x⟩,
    ⟨Rect.unit ![0, 2560] S256x1024.size inb_S256x3584_S256x1024_0_2560, y⟩,
    ⟨Rect.unit ![0, 1024] S256x512.size inb_S256x3584_S256x512_0_1024, k0_pay72 (tA X) (tDcv X D)⟩,
    ⟨Rect.unit ![0, 512] S256x512.size inb_S256x3584_S256x512_0_512, k0_pay71 (tV X) (tDcv X D)⟩,
    ⟨Rect.unit ![0, 0] S256x512.size inb_S256x3584_S256x512_0_0, k0_pay62 (tC X) (tY X) (tDy X) (tG X)⟩]
  st : ∃ x11 x10 x9 x8 x1 x3 x2 x4 x0 l, P.st = ⟨Rect.unit ![11, 0] S1x1024.size inb_S24x1024_S1x1024_11_0, x11⟩ ::
    ⟨Rect.unit ![10, 0] S1x1024.size inb_S24x1024_S1x1024_10_0, x10⟩ :: ⟨Rect.unit ![9, 0] S1x1024.size inb_S24x1024_S1x1024_9_0, x9⟩ ::
    ⟨Rect.unit ![8, 0] S1x1024.size inb_S24x1024_S1x1024_8_0, x8⟩ :: ⟨Rect.unit ![1, 0] S1x1024.size inb_S24x1024_S1x1024_1_0, x1⟩ ::
    ⟨Rect.unit ![3, 0] S1x1024.size inb_S24x1024_S1x1024_3_0, x3⟩ :: ⟨Rect.unit ![2, 0] S1x1024.size inb_S24x1024_S1x1024_2_0, x2⟩ ::
    ⟨Rect.unit ![4, 0] S1x1024.size inb_S24x1024_S1x1024_4_0, x4⟩ :: ⟨Rect.unit ![0, 0] S1x1024.size inb_S24x1024_S1x1024_0_0, x0⟩ ::
    ⟨Rect.unit ![7, 0] S1x512.size inb_S24x1024_S1x512_7_0, k0_pay70 (tCv X) (tDc X) s7⟩ ::
    ⟨Rect.unit ![6, 0] S1x512.size inb_S24x1024_S1x512_6_0, k0_pay69 (tCv X) (tHalo i X) (tDc X) s6⟩ ::
    ⟨Rect.unit ![5, 0] S1x512.size inb_S24x1024_S1x512_5_0, k0_pay68 (k0_pay67 (tCv X) (tHalo i X) (tDc X)) s5⟩ ::
    ⟨Rect.unit ![12, 0] S1x512.size inb_S24x1024_S1x512_12_0, k0_pay60 (tY X) (tDy X) s12⟩ :: l
  dcn : ∃ l, P.dcn = ⟨Rect.unit ![0, 0] S8x512.size inb_S8x512_S8x512_0_0, k0_pay66 (tDc X)⟩ :: l

/-- A load from a whole buffer that holds `X` reads `X`. -/
theorem load_eq {s : Shape} {e : EltTy} {b : Memref sig .tc .vmem s e} (h : b.IsWhole) (X : Vec Ideal s e) (R : Rect s) :
    View.readAt (Elt Ideal) b.view R.toLoadRect (h.unread X) = View.ld X R := funext fun x => h.readAt_unread X _ x

/-- A load of a zero row of a block after stores to other rows. -/
theorem cov_at {s : Shape} {e : EltTy} (v : View sig .tc .vmem s e) (L : List (View.Piece (Elt Ideal) s e)) (R : Rect s) (x : R.shape.Idx) :
    v.readCov (Val := Elt Ideal) L R.toLoadRect x = v.read (Elt Ideal) (v.writes (Elt Ideal) v.junk L) (R.idx x) := rfl

/-- A store to a whole other row of the statistics block leaves a row alone. -/
theorem miss_row (v : View sig .tc .vmem S24x1024 .f32) (f : v.ty.Contents (Elt Ideal)) (L : List (View.Piece (Elt Ideal) S24x1024 .f32)) (o : ℕ) (h)
    (w : (Rect.unit (s := S24x1024) ![o, 0] S1x1024.size h).shape.Idx → Elt Ideal .f32) (a : Fin 24) (b : Fin 1024) (hne : a.val < o ∨ o + 1 ≤ a.val) :
    v.read (Elt Ideal) (v.writes (Elt Ideal) f (⟨Rect.unit ![o, 0] S1x1024.size h, w⟩ :: L)) (ix2 a b) = v.read (Elt Ideal) (v.writes (Elt Ideal) f L) (ix2 a b) :=
  View.read_writes_cons_miss_of_axis _ _ _ _ _ 0 o 1 rfl rfl rfl hne

/-- So does a store to another row's first half. -/
theorem miss_half (v : View sig .tc .vmem S24x1024 .f32) (f : v.ty.Contents (Elt Ideal)) (L : List (View.Piece (Elt Ideal) S24x1024 .f32)) (o : ℕ) (h)
    (w : (Rect.unit (s := S24x1024) ![o, 0] S1x512.size h).shape.Idx → Elt Ideal .f32) (a : Fin 24) (b : Fin 1024) (hne : a.val < o ∨ o + 1 ≤ a.val) :
    v.read (Elt Ideal) (v.writes (Elt Ideal) f (⟨Rect.unit ![o, 0] S1x512.size h, w⟩ :: L)) (ix2 a b) = v.read (Elt Ideal) (v.writes (Elt Ideal) f L) (ix2 a b) :=
  View.read_writes_cons_miss_of_axis _ _ _ _ _ 0 o 1 rfl rfl rfl hne

variable (c : Dev nD) (M : Mem) (Y : Outs Ideal)

/-- The stores of a middle point. -/
theorem has_middle (h0 : ¬isFirst i) (h1 : ¬isLast i) : Has i X (View.ld Y.dcn (Rect.unit ![0, 0] S8x512.size inb_S8x512_S8x512_0_0))
    (View.ld Y.st (Rect.unit ![5, 0] S1x512.size inb_S24x1024_S1x512_5_0)) (View.ld Y.st (Rect.unit ![6, 0] S1x512.size inb_S24x1024_S1x512_6_0))
    (View.ld Y.st (Rect.unit ![7, 0] S1x512.size inb_S24x1024_S1x512_7_0)) (View.ld Y.st (Rect.unit ![12, 0] S1x512.size inb_S24x1024_S1x512_12_0))
    (runMiddle c i M X Y h0 h1).1 := by
  refine ⟨⟨?_, ?_, ?du⟩, ⟨?_, ?_, ?_, ?_, ?_, ?_, ?_, ?_, ?_, ?_, ?st⟩, ⟨?_, ?dcn⟩⟩
  case du | st | dcn =>
    simp only [tDcv, tDc, tCv, tHalo, tC, tB, tA, tV, tY, tDy, tG, tW, ← load_eq M.w_u X.u, ← load_eq M.w_uh X.uh, ← load_eq M.w_c3 X.c3,
      ← load_eq M.w_dy X.dy, ← load_eq M.w_gc X.gc, ← load_eq M.w_cw X.cw, ← load_eq M.w_dcn Y.dcn, ← load_eq M.w_st Y.st]
    rfl

/-- The stores of the last point. -/
theorem has_last (h0 : ¬isFirst i) (h1 : isLast i) : Has i X (View.ld Y.dcn (Rect.unit ![0, 0] S8x512.size inb_S8x512_S8x512_0_0))
    (View.ld Y.st (Rect.unit ![5, 0] S1x512.size inb_S24x1024_S1x512_5_0)) (View.ld Y.st (Rect.unit ![6, 0] S1x512.size inb_S24x1024_S1x512_6_0))
    (View.ld Y.st (Rect.unit ![7, 0] S1x512.size inb_S24x1024_S1x512_7_0)) (View.ld Y.st (Rect.unit ![12, 0] S1x512.size inb_S24x1024_S1x512_12_0))
    (runLast c i M X Y h0 h1).1 := by
  refine ⟨⟨?_, ?_, ?du⟩, ⟨?_, ?_, ?_, ?_, ?_, ?_, ?_, ?_, ?_, ?_, ?st⟩, ⟨?_, ?dcn⟩⟩
  case du | st | dcn =>
    simp only [tDcv, tDc, tCv, tHalo, tC, tB, tA, tV, tY, tDy, tG, tW, ← load_eq M.w_u X.u, ← load_eq M.w_uh X.uh, ← load_eq M.w_c3 X.c3,
      ← load_eq M.w_dy X.dy, ← load_eq M.w_gc X.gc, ← load_eq M.w_cw X.cw, ← load_eq M.w_dcn Y.dcn, ← load_eq M.w_st Y.st]
    rfl

/-- The stores of the first point: the next tile's rows and the sums so far are zero. -/
theorem has_first (h0 : isFirst i) (h1 : ¬isLast i) : ∃ D s5 s6 s7 s12, (∀ a k, D (ix2 a k) = 0) ∧ (∀ k, s5 (ix2 0 k) = 0) ∧ (∀ k, s6 (ix2 0 k) = 0) ∧
    (∀ k, s7 (ix2 0 k) = 0) ∧ (∀ k, s12 (ix2 0 k) = 0) ∧ Has i X D s5 s6 s7 s12 (runFirst c i M X Y h0 h1).1 := by
  refine ⟨runFirst.sl.v70 (F := Ideal) M, runFirst.sl.v116 (F := Ideal) M X, runFirst.sl.v132 (F := Ideal) i M X, runFirst.sl.v139 (F := Ideal) i M X, runFirst.sl.v47 (F := Ideal) M X, ?_, ?_, ?_, ?_, ?_, ?has⟩
  case has =>
    refine ⟨⟨?_, ?_, ?du⟩, ⟨?_, ?_, ?_, ?_, ?_, ?_, ?_, ?_, ?_, ?_, ?st⟩, ⟨?_, ?dcn⟩⟩
    case du | st | dcn =>
      simp only [tDcv, tDc, tCv, tHalo, tC, tB, tA, tV, tY, tDy, tG, tW, ← load_eq M.w_u X.u, ← load_eq M.w_uh X.uh, ← load_eq M.w_c3 X.c3,
        ← load_eq M.w_dy X.dy, ← load_eq M.w_gc X.gc, ← load_eq M.w_cw X.cw]
      rfl
  · intro a k
    rw [runFirst.sl.v70, runFirst.sl.H_dcn_1, View.readCov_fill _ _ _ _ _ (by decide)]
    pointwise [k0_pay3]
  · intro k
    rw [runFirst.sl.v116, runFirst.sl.H_st_3, runFirst.sl.H_st_2, View.readCov_skip _ _ _ _ _ (by decide), View.readCov_skip _ _ _ _ _ (by decide),
      cov_at, View.read_writes_cons_hit_of_coords _ _ _ _ _ (ix2 5 ⟨k.val, by omega⟩) _ (by intro a; fin_cases a <;> simp)]
    pointwise [k0_pay7]
  · intro k
    rw [runFirst.sl.v132, runFirst.sl.H_st_4, runFirst.sl.H_st_3, runFirst.sl.H_st_2, View.readCov_skip _ _ _ _ _ (by decide),
      View.readCov_skip _ _ _ _ _ (by decide), View.readCov_skip _ _ _ _ _ (by decide), cov_at, View.read_writes_cons_hit_of_coords _ _ _ _ _ (ix2 6 ⟨k.val, by omega⟩) _ (by intro a; fin_cases a <;> simp)]
    pointwise [k0_pay7]
  · intro k
    rw [runFirst.sl.v139, runFirst.sl.H_st_5, runFirst.sl.H_st_4, runFirst.sl.H_st_3, runFirst.sl.H_st_2, View.readCov_skip _ _ _ _ _ (by decide),
      View.readCov_skip _ _ _ _ _ (by decide), View.readCov_skip _ _ _ _ _ (by decide), View.readCov_skip _ _ _ _ _ (by decide),
      cov_at, View.read_writes_cons_hit_of_coords _ _ _ _ _ (ix2 7 ⟨k.val, by omega⟩) _ (by intro a; fin_cases a <;> simp)]
    pointwise [k0_pay7]
  · intro k
    rw [runFirst.sl.v47, runFirst.sl.H_st_2, View.readCov_skip _ _ _ _ _ (by decide), cov_at, View.read_writes_cons_hit_of_coords _ _ _ _ _ (ix2 12 ⟨k.val, by omega⟩) _ (by intro a; fin_cases a <;> simp)]
    pointwise [k0_pay7]

variable {i X D} {s5 s6 s7 s12 : FVec Ideal S1x512 .f32} {P : Stores Ideal}

/-- The first columns of the block of the projection's gradient: the first gate's gradient. -/
theorem Has.db_at (h : Has i X D s5 s6 s7 s12 P) (Y : Outs Ideal) (r : Fin 256) (k : Fin 512) :
    (left M Y P).du (ix2 r ⟨k.val, by omega⟩) = k0_pay62 (tC X) (tY X) (tDy X) (tG X) (ix2 r k) := by
  obtain ⟨x, y, e⟩ := h.du
  dsimp only [left]
  rw [e, View.read_writes_cons_miss_of_axis _ _ _ _ _ 1 1536 1024 rfl rfl rfl (Or.inl (by show k.val < 1536; omega)),
    View.read_writes_cons_miss_of_axis _ _ _ _ _ 1 2560 1024 rfl rfl rfl (Or.inl (by show k.val < 2560; omega)),
    View.read_writes_cons_miss_of_axis _ _ _ _ _ 1 1024 512 rfl rfl rfl (Or.inl (by show k.val < 1024; omega)),
    View.read_writes_cons_miss_of_axis _ _ _ _ _ 1 512 512 rfl rfl rfl (Or.inl (by show k.val < 512; omega)),
    View.read_writes_cons_hit_of_coords _ _ _ _ _ (ix2 r k) _ (by intro a; fin_cases a <;> simp)]

/-- The second gate's gradient. -/
theorem Has.da_at (h : Has i X D s5 s6 s7 s12 P) (Y : Outs Ideal) (r : Fin 256) (k : Fin 512) :
    (left M Y P).du (ix2 r ⟨512 + k.val, by omega⟩) = k0_pay71 (tV X) (tDcv X D) (ix2 r k) := by
  obtain ⟨x, y, e⟩ := h.du
  dsimp only [left]
  rw [e, View.read_writes_cons_miss_of_axis _ _ _ _ _ 1 1536 1024 rfl rfl rfl (Or.inl (by show 512 + k.val < 1536; omega)),
    View.read_writes_cons_miss_of_axis _ _ _ _ _ 1 2560 1024 rfl rfl rfl (Or.inl (by show 512 + k.val < 2560; omega)),
    View.read_writes_cons_miss_of_axis _ _ _ _ _ 1 1024 512 rfl rfl rfl (Or.inl (by show 512 + k.val < 1024; omega)),
    View.read_writes_cons_hit_of_coords _ _ _ _ _ (ix2 r k) _ (by intro a; fin_cases a <;> simp)]

/-- The value's gradient. -/
theorem Has.dv_at (h : Has i X D s5 s6 s7 s12 P) (Y : Outs Ideal) (r : Fin 256) (k : Fin 512) :
    (left M Y P).du (ix2 r ⟨1024 + k.val, by omega⟩) = k0_pay72 (tA X) (tDcv X D) (ix2 r k) := by
  obtain ⟨x, y, e⟩ := h.du
  dsimp only [left]
  rw [e, View.read_writes_cons_miss_of_axis _ _ _ _ _ 1 1536 1024 rfl rfl rfl (Or.inl (by show 1024 + k.val < 1536; omega)),
    View.read_writes_cons_miss_of_axis _ _ _ _ _ 1 2560 1024 rfl rfl rfl (Or.inl (by show 1024 + k.val < 2560; omega)),
    View.read_writes_cons_hit_of_coords _ _ _ _ _ (ix2 r k) _ (by intro a; fin_cases a <;> simp)]

/-- The rows of the gradient that the next tile takes. -/
theorem Has.dcn_at (h : Has i X D s5 s6 s7 s12 P) (Y : Outs Ideal) (a : Fin 8) (k : Fin 512) :
    (left M Y P).dcn (ix2 a k) = k0_pay66 (tDc X) (ix2 a k) := by
  obtain ⟨l, e⟩ := h.dcn
  dsimp only [left]
  rw [e, View.read_writes_cons_hit_of_coords _ _ _ _ _ (ix2 a k) _ (by intro a; fin_cases a <;> simp)]

/-- Four rows of the statistics block. -/
theorem Has.st_at (h : Has i X D s5 s6 s7 s12 P) (Y : Outs Ideal) (k : Fin 512) :
    (left M Y P).st (ix2 7 ⟨k.val, by omega⟩) = k0_pay70 (tCv X) (tDc X) s7 (ix2 0 k) ∧
    (left M Y P).st (ix2 6 ⟨k.val, by omega⟩) = k0_pay69 (tCv X) (tHalo i X) (tDc X) s6 (ix2 0 k) ∧
    (left M Y P).st (ix2 5 ⟨k.val, by omega⟩) = k0_pay68 (k0_pay67 (tCv X) (tHalo i X) (tDc X)) s5 (ix2 0 k) ∧
    (left M Y P).st (ix2 12 ⟨k.val, by omega⟩) = k0_pay60 (tY X) (tDy X) s12 (ix2 0 k) := by
  obtain ⟨x11, x10, x9, x8, x1, x3, x2, x4, x0, l, e⟩ := h.st
  dsimp only [left]
  rw [e]
  refine ⟨?_, ?_, ?_, ?_⟩ <;> (iterate 9 refine (miss_row _ _ _ _ _ _ _ _ (by decide)).trans ?_) <;>
    (repeat refine (miss_half _ _ _ _ _ _ _ _ (by decide)).trans ?_) <;>
    rw [View.read_writes_cons_hit_of_coords _ _ _ _ _ (ix2 0 k) _ (by intro a; fin_cases a <;> simp)]

end Tile

end Cert.Kernel2Ideal.Mix

end
-- ==== Proof.MixRead.lean ====
/- The convolution branch in the mixing layers' backward kernel: the rows its grid points read. -/
module

public import proofs.«01_k».proof.Proof.MixVal
public import proofs.«01_k».proof.Proof.MixMath
public import Idealize.ShloMosaic.Lib.Pipeline.ValueKit

@[expose] public section

set_option maxRecDepth 16384

noncomputable section

namespace Cert.Kernel2Ideal.Mix

open Cert.Kernel2Ideal Cert.Kernel2Ideal.Gen Cert.RealMath Idealize.ShloMosaic Idealize.ShloMosaic.TcCoe Idealize.SL.Sem
open Idealize.ShloMosaic.Pipeline (Dat)

variable (m : (ℓ : Loc nD τ sig) → Buf (Elt Ideal) ℓ) (c : Dev nD)

/-- Which block of its array each window holds at a tile. -/
theorem idx : ∀ t : Fin cfg0.N, win0_0.index t = ![15 - t.val, 0] ∧ win0_1.index t = ![15 - t.val, 0] ∧ win0_2.index t = ![(15 - t.val) * 32 - 1, 0]
    ∧ win0_6.index t = ![15 - t.val, 0] ∧ win0_8.index t = ![0, 0] ∧ win0_13.index t = ![0, 0] :=
  (by decide +kernel : ∀ t : Fin grid0.N, _)

/-- Row `r` of the tile of grid point `t`: the tiles run from the last to the first. -/
def row (t : Fin cfg0.N) (r : Fin 256) : Fin 4096 := ⟨(15 - t.val) * 256 + r.val, by have := t.isLt; have : cfg0.N = 16 := N_0; omega⟩

/-- Row `a` of the eight before the tile. -/
def haloRow (t : Fin cfg0.N) (a : Fin 8) : Fin 4096 := ⟨((15 - t.val) * 32 - 1) * 8 + a.val, by have := t.isLt; have : cfg0.N = 16 := N_0; omega⟩

/-- The arrays the call finds. -/
theorem V_eq (b : Ref sig .tc) : V m c b = StableHlo.after (hostOps0 ++ hostOps0_1) (fun b => m (c, b)) (Proc.devRef .tc b) := rfl

/-- The host passes `dy` without its first axis, -/
theorem V_v29 (r : Fin 4096) (l : Fin 1536) : V m c main_v29 (ix2 r l) = m ((c.tc : Thread nD τ).loc main_arg3) (ix3 0 r l) := by
  rw [V_eq]
  simp only [hostOps0, hostOps0_1, List.cons_append, List.nil_append]
  entry_read
  pointwise

/-- and `u` likewise. -/
theorem V_v30 (r : Fin 4096) (l : Fin 3584) : V m c main_v30 (ix2 r l) = m ((c.tc : Thread nD τ).loc main_arg0) (ix3 0 r l) := by
  rw [V_eq]
  simp only [hostOps0, hostOps0_1, List.cons_append, List.nil_append]
  entry_read
  pointwise

/-- A tile's block of `dy` is 256 rows of it. -/
theorem read_dy (t : Fin cfg0.N) (r : Fin 256) (l : Fin 1536) :
    iblk m c 0 t (ix2 r l) = m ((c.tc : Thread nD τ).loc main_arg3) (ix3 0 (row t r) l) := by
  have e : iblk m c 0 t (ix2 r l) = V m c main_v29 (ix2 (row t r) l) := by
    blk_ext! [iblk, V, idx t, row]
  rw [e, V_v29]

/-- A tile's block of `u` is 256 rows of it. -/
theorem read_u (t : Fin cfg0.N) (r : Fin 256) (l : Fin 3584) :
    iblk m c 1 t (ix2 r l) = m ((c.tc : Thread nD τ).loc main_arg0) (ix3 0 (row t r) l) := by
  have e : iblk m c 1 t (ix2 r l) = V m c main_v30 (ix2 (row t r) l) := by
    blk_ext! [iblk, V, idx t, row]
  rw [e, V_v30]

/-- The eight rows of `u` before the tile's. -/
theorem read_uh (t : Fin cfg0.N) (a : Fin 8) (l : Fin 3584) :
    iblk m c 2 t (ix2 a l) = m ((c.tc : Thread nD τ).loc main_arg0) (ix3 0 (haloRow t a) l) := by
  have e : iblk m c 2 t (ix2 a l) = V m c main_v30 (ix2 (haloRow t a) l) := by
    blk_ext! [iblk, V, idx t, haloRow]
  rw [e, V_v30]

/-- Every tile sees the gains. -/
theorem read_g (t : Fin cfg0.N) (k : Fin 512) :
    iblk m c 13 t (ix2 0 k) = m ((c.tc : Thread nD τ).loc main_arg2) (ix2 0 k) := by
  blk_ext! [iblk, V, idx t]

/-- The branch's arrays, as real arrays. -/
def N : Branch where
  b r k := EReal.toReal (m ((c.tc : Thread nD τ).loc main_arg0) (ix3 0 r ⟨k.val, by omega⟩))
  a r k := EReal.toReal (m ((c.tc : Thread nD τ).loc main_arg0) (ix3 0 r ⟨512 + k.val, by omega⟩))
  v r k := EReal.toReal (m ((c.tc : Thread nD τ).loc main_arg0) (ix3 0 r ⟨1024 + k.val, by omega⟩))
  w j k := EReal.toReal (m ((c.tc : Thread nD τ).loc main_arg1) (ix3 0 j k))
  g k := EReal.toReal (m ((c.tc : Thread nD τ).loc main_arg2) (ix2 0 k))
  dy r k := EReal.toReal (m ((c.tc : Thread nD τ).loc main_arg3) (ix3 0 r ⟨k.val, by omega⟩))

/-- The arguments that enter a product hold reals. -/
structure Reals : Prop where
  hb : ∀ r k, (((N m c).b r k : ℝ) : EReal) = m ((c.tc : Thread nD τ).loc main_arg0) (ix3 0 r ⟨k.val, by omega⟩)
  ha : ∀ r k, (((N m c).a r k : ℝ) : EReal) = m ((c.tc : Thread nD τ).loc main_arg0) (ix3 0 r ⟨512 + k.val, by omega⟩)
  hv : ∀ r k, (((N m c).v r k : ℝ) : EReal) = m ((c.tc : Thread nD τ).loc main_arg0) (ix3 0 r ⟨1024 + k.val, by omega⟩)
  hw : ∀ j k, (((N m c).w j k : ℝ) : EReal) = m ((c.tc : Thread nD τ).loc main_arg1) (ix3 0 j k)
  hg : ∀ k, (((N m c).g k : ℝ) : EReal) = m ((c.tc : Thread nD τ).loc main_arg2) (ix2 0 k)
  hdy : ∀ r k, (((N m c).dy r k : ℝ) : EReal) = m ((c.tc : Thread nD τ).loc main_arg3) (ix3 0 r ⟨k.val, by omega⟩)

variable {m c}

/-- The convolution, as a sum of three taps of the shifted gated value. -/
theorem c3_of (B : Branch) (k : Fin 512) (a v : Fin 4096 → EReal) (w : Fin 3 → EReal) (ha : ∀ q, ((B.a q k : ℝ) : EReal) = a q) (hv : ∀ q, ((B.v q k : ℝ) : EReal) = v q)
    (hw : ∀ j, ((B.w j k : ℝ) : EReal) = w j) (r : Fin 4096) :
    ((w 0 * if h : r.val < 2 then 0 else a ⟨r.val - 2, by omega⟩ * v ⟨r.val - 2, by omega⟩) +
        w 1 * if h : 1 + r.val < 2 then 0 else a ⟨1 + r.val - 2, by omega⟩ * v ⟨1 + r.val - 2, by omega⟩) + w 2 * (a r * v r) = ((B.c3 r k : ℝ) : EReal) := by
  have e2 : (if h : r.val < 2 then (0 : EReal) else a ⟨r.val - 2, by omega⟩ * v ⟨r.val - 2, by omega⟩) = ((back B.cv 2 r k : ℝ) : EReal) := by
    unfold back Branch.cv
    split_ifs <;> first | rfl | omega | rw [EReal.coe_mul, ha, hv]
  have e1 : (if h : 1 + r.val < 2 then (0 : EReal) else a ⟨1 + r.val - 2, by omega⟩ * v ⟨1 + r.val - 2, by omega⟩) = ((back B.cv 1 r k : ℝ) : EReal) := by
    have e : 1 + r.val - 2 = r.val - 1 := by omega
    unfold back Branch.cv
    simp only [e]
    split_ifs <;> first | rfl | omega | rw [EReal.coe_mul, ha, hv]
  rw [e2, e1, ← ha, ← hv, ← hw, ← hw, ← hw]
  simp only [← EReal.coe_mul, ← EReal.coe_add]
  rfl

/-- The convolution that the host passes to the call. -/
theorem read_c3 (h : Reals m c) (t : Fin cfg0.N) (r : Fin 256) (k : Fin 512) :
    iblk m c 6 t (ix2 r k) = (((N m c).c3 (row t r) k : ℝ) : EReal) := by
  have e : iblk m c 6 t (ix2 r k) = V m c main_v28 (ix2 (row t r) k) := by
    blk_ext! [iblk, V, idx t, row]
  rw [e]
  rw [V_eq]
  simp only [hostOps0, hostOps0_1, List.cons_append, List.nil_append]
  entry_read
  pointwise
  exact c3_of (N m c) k (fun q => m (c, Proc.tc.devRef main_arg0) (ix3 0 q ⟨512 + k.val, by omega⟩)) (fun q => m (c, Proc.tc.devRef main_arg0) (ix3 0 q ⟨1024 + k.val, by omega⟩))
    (fun j => m (c, Proc.tc.devRef main_arg1) (ix3 0 j k)) (fun q => h.ha q k) (fun q => h.hv q k) (fun j => h.hw j k) (row t r)

/-- The taps, padded to eight rows. -/
theorem read_w (h : Reals m c) (t : Fin cfg0.N) (j : Fin 3) (k : Fin 512) :
    iblk m c 8 t (ix2 ⟨j.val, by omega⟩ k) = (((N m c).w j k : ℝ) : EReal) := by
  have e : iblk m c 8 t (ix2 ⟨j.val, by omega⟩ k) = V m c main_v32 (ix2 ⟨j.val, by omega⟩ k) := by
    blk_ext! [iblk, V, idx t]
  rw [e]
  rw [V_eq]
  simp only [hostOps0, hostOps0_1, List.cons_append, List.nil_append]
  entry_read
  pointwise
  refine (pad_rows_apply (a := 0) (b := 5) _ _ pads_S3x512_S8x512_050_000 _ ⟨j.val, by omega⟩ k).trans ?_
  rw [dif_pos ⟨Nat.zero_le _, j.isLt⟩]
  exact (h.hw j k).symm

end Cert.Kernel2Ideal.Mix
-- ==== Proof.MixTerm.lean ====
/- The convolution branch in the mixing layers' backward kernel: what a grid point computes, in real numbers. -/
module

public import proofs.«01_k».proof.Proof.MixRead

@[expose] public section

set_option maxRecDepth 16384

noncomputable section

namespace Cert.Kernel2Ideal.Mix

open Cert.Kernel2Ideal Cert.Kernel2Ideal.Gen Cert.RealMath Idealize.ShloMosaic Idealize.ShloMosaic.TcCoe Idealize.SL.Sem

variable {m : (ℓ : Loc nD τ sig) → Buf (Elt Ideal) ℓ} {c : Dev nD} (h : Reals m c) (t : Fin cfg0.N)

include h in
/-- The tile's first gate. -/
theorem tB_at (r : Fin 256) (k : Fin 512) : tB (insAt m c t) (ix2 r k) = (((N m c).b (row t r) k : ℝ) : EReal) := by
  rw [h.hb, ← read_u m c t r]
  pointwise [tB, k0_pay46]

include h in
/-- The tile's second gate. -/
theorem tA_at (r : Fin 256) (k : Fin 512) : tA (insAt m c t) (ix2 r k) = (((N m c).a (row t r) k : ℝ) : EReal) := by
  rw [h.ha, ← read_u m c t r]
  pointwise [tA, k0_pay47]

include h in
/-- The tile's columns of the convolution. -/
theorem tV_at (r : Fin 256) (k : Fin 512) : tV (insAt m c t) (ix2 r k) = (((N m c).v (row t r) k : ℝ) : EReal) := by
  rw [h.hv, ← read_u m c t r]
  pointwise [tV, k0_pay48]

include h in
/-- What the tile's convolution runs over. -/
theorem tCv_at (r : Fin 256) (k : Fin 512) : tCv (insAt m c t) (ix2 r k) = (((N m c).cv (row t r) k : ℝ) : EReal) := by
  rw [show (N m c).cv (row t r) k = (N m c).a (row t r) k * (N m c).v (row t r) k from rfl, EReal.coe_mul, ← tA_at h t, ← tV_at h t]
  pointwise [tCv, tA, tV, k0_pay51]

include h in
/-- The eight rows before the tile, zero before the sequence's first tile. -/
theorem tHalo_at (a : Fin 8) (k : Fin 512) : tHalo (grid0.coords t) (insAt m c t) (ix2 a k) =
    if t.val = 15 then 0 else (((N m c).cv (haloRow t a) k : ℝ) : EReal) := by
  have ht : t.val < 16 := Nat.lt_of_lt_of_eq t.isLt N_0
  have e0 : (grid0.coords t 0).val = t.val / 1 % 16 := Pipeline.Grid.coords_val t 0 (by decide) rfl
  have e1 : (grid0.coords t 0).val = t.val := by omega
  have e : (IntOp.cmpi CmpIPredicate.eq (BitVec.ofNat 32 t.val) (15#32) = 1#1) = (t.val = 15) :=
    (by decide : ∀ t : Fin 16, (IntOp.cmpi CmpIPredicate.eq (BitVec.ofNat 32 t.val) (15#32) = 1#1) = (t.val = 15)) ⟨t.val, ht⟩
  rw [show (N m c).cv (haloRow t a) k = (N m c).a (haloRow t a) k * (N m c).v (haloRow t a) k from rfl, EReal.coe_mul, h.ha, h.hv,
    ← read_uh m c t a, ← read_uh m c t a]
  pointwise [tHalo, k0_pay52]
  rw [e1]
  exact if_congr (iff_of_eq e) rfl rfl

include h in
/-- The tile's convolution. -/
theorem tC_at (r : Fin 256) (k : Fin 512) : tC (insAt m c t) (ix2 r k) = (((N m c).c3 (row t r) k : ℝ) : EReal) := by
  rw [← read_c3 h t r k]
  pointwise [tC, k0_pay55]

include h in
/-- The tile's gated convolution. -/
theorem tY_at (r : Fin 256) (k : Fin 512) : tY (insAt m c t) (ix2 r k) = (((N m c).y (row t r) k : ℝ) : EReal) := by
  rw [show (N m c).y (row t r) k = (N m c).b (row t r) k * (N m c).c3 (row t r) k from rfl, EReal.coe_mul, ← tB_at h t, ← tC_at h t]
  pointwise [tY, tB, tC, k0_pay56]

include h in
/-- The tile's cotangent. -/
theorem tDy_at (r : Fin 256) (k : Fin 512) : tDy (insAt m c t) (ix2 r k) = (((N m c).dy (row t r) k : ℝ) : EReal) := by
  rw [h.hdy, ← read_dy m c t r]
  pointwise [tDy]

include h in
/-- The gains. -/
theorem tG_at (k : Fin 512) : tG (insAt m c t) (ix2 0 k) = (((N m c).g k : ℝ) : EReal) := by
  rw [h.hg, ← read_g m c t]
  pointwise [tG]

include h in
/-- The convolution's weights. -/
theorem tW_at (j : Fin 3) (k : Fin 512) : tW (insAt m c t) (ix2 ⟨j.val, by omega⟩ k) = (((N m c).w j k : ℝ) : EReal) := by
  rw [← read_w h t]
  pointwise [tW, k0_pay64]

include h in
/-- The gradient through the norm. -/
theorem tDn_at (r : Fin 256) (k : Fin 512) : k0_pay61 (tY (insAt m c t)) (tDy (insAt m c t)) (tG (insAt m c t)) (ix2 r k) = (((N m c).dn (row t r) k : ℝ) : EReal) :=
  dnTile_at (Y := fun r => (N m c).y (row t r)) (D := fun r => (N m c).dy (row t r)) (G := (N m c).g) (tY_at h t) (tDy_at h t) (tG_at h t) r k

include h in
/-- The gradient of the convolution's result. -/
theorem tDc_at (r : Fin 256) (k : Fin 512) : tDc (insAt m c t) (ix2 r k) = (((N m c).dc (row t r) k : ℝ) : EReal) := by
  pointwise [tDc, k0_pay63]
  rw [tDn_at h t, tB_at h t, ← EReal.coe_mul, mul_comm]
  rfl

/-- The first rows of the tile after: zero after the sequence's last tile. -/
def next (m : (ℓ : Loc nD τ sig) → Buf (Elt Ideal) ℓ) (c : Dev nD) (t : Fin cfg0.N) (a : Fin 8) (k : Fin 512) : ℝ :=
  if h : (16 - t.val) * 256 + a.val < 4096 then (N m c).dc ⟨(16 - t.val) * 256 + a.val, h⟩ k else 0

include h in
/-- The tile's gradient `d` rows ahead, with the rows carried from the tile after it. -/
theorem up_at {D : FVec Ideal S8x512 .f32} (hD : ∀ a k, D (ix2 a k) = ((next m c t a k : ℝ) : EReal)) (d : ℕ) (hd : d ≤ 8) (hd' : d < 8) (r : Fin 256) (k : Fin 512) :
    up (tDc (insAt m c t)) D d hd r k = ((ahead (N m c).dc d (row t r) k : ℝ) : EReal) := by
  have ht : t.val < 16 := Nat.lt_of_lt_of_eq t.isLt N_0
  unfold up ahead
  by_cases hr : r.val + d < 256
  · rw [dif_pos hr, tDc_at h, dif_pos (by show (15 - t.val) * 256 + r.val + d < 4096; omega)]
    congr 2
    exact Fin.ext (by show (15 - t.val) * 256 + (r.val + d) = (15 - t.val) * 256 + r.val + d; omega)
  · rw [dif_neg hr, hD, next]
    have e : (16 - t.val) * 256 + (r.val + d - 256) = (15 - t.val) * 256 + r.val + d := by omega
    simp only [e]
    rfl

include h in
/-- The gradient of the convolution's input. -/
theorem tDcv_at {D : FVec Ideal S8x512 .f32} (hD : ∀ a k, D (ix2 a k) = ((next m c t a k : ℝ) : EReal)) (r : Fin 256) (k : Fin 512) :
    tDcv (insAt m c t) D (ix2 r k) = (((N m c).dcv (row t r) k : ℝ) : EReal) := by
  rw [tDcv, dcvTile_at, up_at h t hD 1 _ (by norm_num), up_at h t hD 2 _ (by norm_num), tDc_at h]
  refine (congrArg₂ (· + ·) (congrArg₂ (· + ·) (congrArg (· * _) (tW_at h t 2 k)) (congrArg (· * _) (tW_at h t 1 k))) (congrArg (· * _) (tW_at h t 0 k))).trans ?_
  simp only [← EReal.coe_mul, ← EReal.coe_add]
  rfl

include h in
/-- What the convolution runs over `d` rows back, with the rows before the tile. -/
theorem down_at (d : ℕ) (hd : 0 < d ∧ d ≤ 8) (r : Fin 256) (k : Fin 512) :
    down (tCv (insAt m c t)) (tHalo (grid0.coords t) (insAt m c t)) d hd r k = ((back (N m c).cv d (row t r) k : ℝ) : EReal) := by
  have ht : t.val < 16 := Nat.lt_of_lt_of_eq t.isLt N_0
  unfold down back
  by_cases hr : d ≤ r.val
  · rw [dif_pos hr, tCv_at h, if_pos (by show d ≤ (15 - t.val) * 256 + r.val; omega)]
    congr 2
    exact Fin.ext (by show (15 - t.val) * 256 + (r.val - d) = (15 - t.val) * 256 + r.val - d; omega)
  · rw [dif_neg hr, tHalo_at h]
    by_cases h15 : t.val = 15
    · rw [if_pos h15, if_neg (by show ¬ d ≤ (15 - t.val) * 256 + r.val; omega), EReal.coe_zero]
    · rw [if_neg h15, if_pos (by show d ≤ (15 - t.val) * 256 + r.val; omega)]
      congr 2
      exact Fin.ext (by show ((15 - t.val) * 32 - 1) * 8 + (r.val + 8 - d) = (15 - t.val) * 256 + r.val - d; omega)

/-- What the tile adds to the gradient of a tap. -/
def tapTerm (m : (ℓ : Loc nD τ sig) → Buf (Elt Ideal) ℓ) (c : Dev nD) (j : Fin 3) (k : Fin 512) (t : Fin cfg0.N) : ℝ :=
  ∑ r, (N m c).dc (row t r) k * back (N m c).cv (2 - j.val) (row t r) k

/-- What the tile adds to the gradient of the norm's weight. -/
def dgTerm (m : (ℓ : Loc nD τ sig) → Buf (Elt Ideal) ℓ) (c : Dev nD) (k : Fin 512) (t : Fin cfg0.N) : ℝ :=
  ∑ r, (N m c).dy (row t r) k * ((N m c).y (row t r) k * rstd ((N m c).y (row t r)) 512)

variable (old : FVec Ideal S1x512 .f32) (k : Fin 512)

include h in
/-- What a tile adds to the gains' gradient, -/
theorem dg_step : k0_pay60 (tY (insAt m c t)) (tDy (insAt m c t)) old (ix2 0 k) = old (ix2 0 k) + ((dgTerm m c k t : ℝ) : EReal) :=
  dgTile_at (Y := fun r => (N m c).y (row t r)) (D := fun r => (N m c).dy (row t r)) (tY_at h t) (tDy_at h t) old k

include h in
/-- to that of the first tap, -/
theorem tap0_step : k0_pay68 (k0_pay67 (tCv (insAt m c t)) (tHalo (grid0.coords t) (insAt m c t)) (tDc (insAt m c t))) old (ix2 0 k) =
    old (ix2 0 k) + ((tapTerm m c 0 k t : ℝ) : EReal) := by
  rw [tap0Tile_at]
  simp only [tDc_at h, down_at h, ← EReal.coe_mul, coe_sum]
  rfl

include h in
/-- of the second, -/
theorem tap1_step : k0_pay69 (tCv (insAt m c t)) (tHalo (grid0.coords t) (insAt m c t)) (tDc (insAt m c t)) old (ix2 0 k) =
    old (ix2 0 k) + ((tapTerm m c 1 k t : ℝ) : EReal) := by
  rw [tap1Tile_at]
  simp only [tDc_at h, down_at h, ← EReal.coe_mul, coe_sum]
  rfl

include h in
/-- and of the third. -/
theorem tap2_step : k0_pay70 (tCv (insAt m c t)) (tDc (insAt m c t)) old (ix2 0 k) = old (ix2 0 k) + ((tapTerm m c 2 k t : ℝ) : EReal) := by
  rw [tap2Tile_at]
  simp only [tDc_at h, tCv_at h, ← EReal.coe_mul, coe_sum]
  refine congrArg (fun z : ℝ => old (ix2 0 k) + (z : EReal)) (Finset.sum_congr rfl fun r _ => ?_)
  exact congrArg ((N m c).dc (row t r) k * ·) (if_pos (Nat.zero_le _)).symm

end Cert.Kernel2Ideal.Mix
-- ==== Proof.MixSum.lean ====
/- The convolution branch in the mixing layers' backward kernel: its result arrays at an index. -/
module

public import proofs.«01_k».proof.Proof.MixTerm

@[expose] public section

set_option maxRecDepth 16384

noncomputable section

namespace Cert.Kernel2Ideal.Mix

open Cert.Kernel2Ideal Cert.Kernel2Ideal.Gen Cert.RealMath Idealize.ShloMosaic Idealize.ShloMosaic.TcCoe Idealize.SL.Sem
open Idealize.ShloMosaic.Pipeline (Dat)

variable {m : (ℓ : Loc nD τ sig) → Buf (Elt Ideal) ℓ} {c : Dev nD}

/-- What point `t` leaves, from the point before: its stores hold the branch's gradients over the rows carried and the sums so far. -/
theorem has_at (t : Fin cfg0.N) : ∃ D s5 s6 s7 s12,
    (∀ a k, D (ix2 a k) = if t.val % 16 = 0 then (0 : EReal) else (prevAt m c t).dcn (ix2 a k)) ∧
    (∀ k : Fin 512, s5 (ix2 0 k) = if t.val % 16 = 0 then (0 : EReal) else (prevAt m c t).st (ix2 5 ⟨k.val, by omega⟩)) ∧
    (∀ k : Fin 512, s6 (ix2 0 k) = if t.val % 16 = 0 then (0 : EReal) else (prevAt m c t).st (ix2 6 ⟨k.val, by omega⟩)) ∧
    (∀ k : Fin 512, s7 (ix2 0 k) = if t.val % 16 = 0 then (0 : EReal) else (prevAt m c t).st (ix2 7 ⟨k.val, by omega⟩)) ∧
    (∀ k : Fin 512, s12 (ix2 0 k) = if t.val % 16 = 0 then (0 : EReal) else (prevAt m c t).st (ix2 12 ⟨k.val, by omega⟩)) ∧
    Has (grid0.coords t) (insAt m c t) D s5 s6 s7 s12 (storesAt c t (insAt m c t) (prevAt m c t)) := by
  unfold storesAt
  by_cases h0 : t.val % 16 = 0
  · rw [dif_pos h0]
    simp only [if_pos h0]
    exact has_first ..
  · rw [dif_neg h0]
    simp only [if_neg h0]
    generalize prevAt m c t = Y
    by_cases h1 : t.val % 16 = 15
    · rw [dif_pos h1]
      refine ⟨_, _, _, _, _, ?_, ?_, ?_, ?_, ?_, has_last (M := memAt t) (h0 := fun h => h0 ((isFirst_iff t).mp h)) (h1 := (isLast_iff t).mpr h1) ..⟩ <;> intros <;> pointwise
    · rw [dif_neg h1]
      refine ⟨_, _, _, _, _, ?_, ?_, ?_, ?_, ?_, has_middle (M := memAt t) (h0 := fun h => h0 ((isFirst_iff t).mp h)) (h1 := fun h => h1 ((isLast_iff t).mp h)) ..⟩ <;> intros <;> pointwise

variable (h : Reals m c)

/-- The point before. -/
theorem prevAt_pos (t : Fin cfg0.N) (h0 : ¬ t.val % 16 = 0) :
    prevAt m c t = outsAt m c (t.val - 1) (Nat.lt_of_le_of_lt (Nat.sub_le _ _) t.isLt) := if_neg fun e => h0 (by rw [e])

include h in
/-- The carried rows a point leaves are its tile's first. -/
theorem dcn_at (t : Fin cfg0.N) (a : Fin 8) (k : Fin 512) :
    (outsAt m c t.val t.isLt).dcn (ix2 a k) = (((N m c).dc (row t ⟨a.val, by omega⟩) k : ℝ) : EReal) := by
  obtain ⟨D, s5, s6, s7, s12, -, -, -, -, -, H⟩ := has_at (m := m) (c := c) t
  rw [outsAt_eq, H.dcn_at, ← tDc_at h]
  pointwise [k0_pay66]

include h in
/-- The carried rows a point finds. -/
theorem next_at (t : Fin cfg0.N) (a : Fin 8) (k : Fin 512) :
    (if t.val % 16 = 0 then (0 : EReal) else (prevAt m c t).dcn (ix2 a k)) = ((next m c t a k : ℝ) : EReal) := by
  have ht : t.val < 16 := Nat.lt_of_lt_of_eq t.isLt N_0
  unfold next
  by_cases h0 : t.val % 16 = 0
  · rw [if_pos h0, dif_neg (by omega), EReal.coe_zero]
  · rw [if_neg h0, prevAt_pos t h0, dif_pos (by omega)]
    refine (dcn_at h ⟨t.val - 1, by omega⟩ a k).trans ?_
    congr 2
    exact Fin.ext (by show (15 - (t.val - 1)) * 256 + a.val = (16 - t.val) * 256 + a.val; omega)

include h in
/-- The rows a point leaves of the first gate's gradient. -/
theorem du_b (t : Fin cfg0.N) (r : Fin 256) (k : Fin 512) :
    (outsAt m c t.val t.isLt).du (ix2 r ⟨k.val, by omega⟩) = (((N m c).dn (row t r) k * (N m c).c3 (row t r) k : ℝ) : EReal) := by
  obtain ⟨D, s5, s6, s7, s12, -, -, -, -, -, H⟩ := has_at (m := m) (c := c) t
  rw [outsAt_eq, H.db_at, EReal.coe_mul, ← tDn_at h, ← tC_at h]
  pointwise [k0_pay62]

include h in
/-- The rows a point leaves of the second gate's gradient. -/
theorem du_a (t : Fin cfg0.N) (r : Fin 256) (k : Fin 512) :
    (outsAt m c t.val t.isLt).du (ix2 r ⟨512 + k.val, by omega⟩) = (((N m c).dcv (row t r) k * (N m c).v (row t r) k : ℝ) : EReal) := by
  obtain ⟨D, s5, s6, s7, s12, hD, -, -, -, -, H⟩ := has_at (m := m) (c := c) t
  rw [outsAt_eq, H.da_at, EReal.coe_mul, ← tDcv_at h t (fun a k => (hD a k).trans (next_at h t a k)), ← tV_at h]
  pointwise [k0_pay71]

include h in
/-- The rows a point leaves of the value's gradient. -/
theorem du_v (t : Fin cfg0.N) (r : Fin 256) (k : Fin 512) :
    (outsAt m c t.val t.isLt).du (ix2 r ⟨1024 + k.val, by omega⟩) = (((N m c).a (row t r) k * (N m c).dcv (row t r) k : ℝ) : EReal) := by
  obtain ⟨D, s5, s6, s7, s12, hD, -, -, -, -, H⟩ := has_at (m := m) (c := c) t
  rw [outsAt_eq, H.dv_at, mul_comm, EReal.coe_mul, ← tDcv_at h t (fun a k => (hD a k).trans (next_at h t a k)), ← tA_at h]
  pointwise [k0_pay72]

include h in
/-- The four rows of the statistics block: each point adds its tile's terms. -/
theorem st_step (t : Fin cfg0.N) (k : Fin 512) :
    (outsAt m c t.val t.isLt).st (ix2 7 ⟨k.val, by omega⟩) =
      (if t.val % 16 = 0 then (0 : EReal) else (prevAt m c t).st (ix2 7 ⟨k.val, by omega⟩)) + ((tapTerm m c 2 k t : ℝ) : EReal) ∧
    (outsAt m c t.val t.isLt).st (ix2 6 ⟨k.val, by omega⟩) =
      (if t.val % 16 = 0 then (0 : EReal) else (prevAt m c t).st (ix2 6 ⟨k.val, by omega⟩)) + ((tapTerm m c 1 k t : ℝ) : EReal) ∧
    (outsAt m c t.val t.isLt).st (ix2 5 ⟨k.val, by omega⟩) =
      (if t.val % 16 = 0 then (0 : EReal) else (prevAt m c t).st (ix2 5 ⟨k.val, by omega⟩)) + ((tapTerm m c 0 k t : ℝ) : EReal) ∧
    (outsAt m c t.val t.isLt).st (ix2 12 ⟨k.val, by omega⟩) =
      (if t.val % 16 = 0 then (0 : EReal) else (prevAt m c t).st (ix2 12 ⟨k.val, by omega⟩)) + ((dgTerm m c k t : ℝ) : EReal) := by
  obtain ⟨D, s5, s6, s7, s12, hD, h5, h6, h7, h12, H⟩ := has_at (m := m) (c := c) t
  rw [outsAt_eq]
  obtain ⟨e7, e6, e5, e12⟩ := H.st_at (memAt t) (prevAt m c t) k
  exact ⟨e7.trans ((tap2_step h t s7 k).trans (congrArg (· + _) (h7 k))), e6.trans ((tap1_step h t s6 k).trans (congrArg (· + _) (h6 k))),
    e5.trans ((tap0_step h t s5 k).trans (congrArg (· + _) (h5 k))), e12.trans ((dg_step h t s12 k).trans (congrArg (· + _) (h12 k)))⟩

/-- A row that starts at zero and takes one term a point ends at the sum of the terms. -/
theorem st_sum (o : Fin 24) (term : Fin 512 → Fin cfg0.N → ℝ)
    (hs : ∀ t k, (outsAt m c t.val t.isLt).st (ix2 o ⟨k.val, by omega⟩) =
      (if t.val % 16 = 0 then (0 : EReal) else (prevAt m c t).st (ix2 o ⟨k.val, by omega⟩)) + ((term k t : ℝ) : EReal)) (k : Fin 512) :
    (outsAt m c t0_15.val t0_15.isLt).st (ix2 o ⟨k.val, by omega⟩) = ((∑ t, term k t : ℝ) : EReal) := by
  have e := Pipeline.eq_sum_fin_of_reset_step_apply_last (M := EReal) (fun n hn (k : Fin 512) => (outsAt m c n hn).st (ix2 o ⟨k.val, by omega⟩)) 16 (fun _ => 0)
    (fun t k => ((term k t : ℝ) : EReal)) (fun t h0 k => (hs t k).trans (congrArg (· + _) (if_pos h0)))
    (fun t h0 k => (hs t k).trans (congrArg (· + _) ((if_neg h0).trans (by rw [prevAt_pos t h0])))) (le_of_eq N_0) t0_15 rfl k
  refine e.trans ?_
  rw [zero_add, coe_sum]

/-- A sum over the tiles and their rows is the sum over all rows. -/
theorem sum_rows (f : Fin 4096 → ℝ) : ∑ t : Fin cfg0.N, ∑ r, f (row t r) = ∑ r, f r := by
  rw [← Fin.sum_mul_add_fin 16 256 f]
  refine (Fin.rev_involutive.bijective.sum_comp (fun j : Fin 16 => ∑ r : Fin 256, f ⟨j.val * 256 + r.val, by omega⟩)).symm.trans ?_ |>.symm
  refine Finset.sum_congr rfl fun t _ => Finset.sum_congr rfl fun r _ => congrArg f (Fin.ext ?_)
  show (16 - (t.val + 1)) * 256 + r.val = (15 - t.val) * 256 + r.val
  omega

include h in
/-- The statistics block's rows that the claim takes. -/
theorem st_last (k : Fin 512) :
    (∀ j : Fin 3, (outsAt m c t0_15.val t0_15.isLt).st (ix2 ⟨5 + j.val, by omega⟩ ⟨k.val, by omega⟩) = (((N m c).dw j k : ℝ) : EReal)) ∧
    (outsAt m c t0_15.val t0_15.isLt).st (ix2 12 ⟨k.val, by omega⟩) = (((N m c).dg k : ℝ) : EReal) := by
  refine ⟨fun j => ?_, ?_⟩
  · refine Eq.trans ?_ (congrArg _ (sum_rows fun r => (N m c).dc r k * back (N m c).cv (2 - j.val) r k))
    fin_cases j
    · exact st_sum 5 (tapTerm m c 0) (fun t k => (st_step h t k).2.2.1) k
    · exact st_sum 6 (tapTerm m c 1) (fun t k => (st_step h t k).2.1) k
    · exact st_sum 7 (tapTerm m c 2) (fun t k => (st_step h t k).1) k
  · exact (st_sum 12 (dgTerm m c) (fun t k => (st_step h t k).2.2.2) k).trans
      (congrArg _ (sum_rows fun r => (N m c).dy r k * ((N m c).y r k * rstd ((N m c).y r) 512)))

end Cert.Kernel2Ideal.Mix
-- ==== Proof.MixEnd.lean ====
/- The convolution branch in the mixing layers' backward kernel: what the program's results hold. -/
module

public import proofs.«01_k».proof.Proof.MixSum

@[expose] public section

set_option maxRecDepth 16384

noncomputable section

namespace Cert.Kernel2Ideal.Mix

open Cert.Kernel2Ideal Cert.Kernel2Ideal.Gen Cert.RealMath Idealize.ShloMosaic Idealize.ShloMosaic.TcCoe Idealize.SL.Sem
open Idealize.ShloMosaic.Pipeline (Dat)

variable (m : (ℓ : Loc nD τ sig) → Buf (Elt Ideal) ℓ) (c : Dev nD)

/-- The tiles write the blocks from the last to the first. -/
theorem idxOut : ∀ t : Fin cfg0.N, win0_16.index t = ![15 - t.val, 0] := (by decide +kernel : ∀ t : Fin grid0.N, _)

/-- The grid point whose tile holds row `r`. -/
def pointOf (r : Fin 4096) : Fin cfg0.N := ⟨15 - r.val / 256, by have : cfg0.N = 16 := N_0; omega⟩

/-- The array of the projection's gradient, by the points' blocks. -/
def duArr : FVec Ideal S4096x3584 .bf16 := fun i =>
  (outsAt m c (pointOf (i 0)).val (pointOf (i 0)).isLt).du (ix2 ⟨(i 0).val % 256, Nat.mod_lt _ (by norm_num)⟩ (i 1))

/-- The array of the gradients, at a tile's row. -/
theorem duArr_at (t : Fin cfg0.N) (r : Fin 256) (l : Fin 3584) : duArr m c (ix2 (row t r) l) = (outsAt m c t.val t.isLt).du (ix2 r l) := by
  have ht : t.val < 16 := Nat.lt_of_lt_of_eq t.isLt N_0
  have e : pointOf (row t r) = t := Fin.ext (by show 15 - ((15 - t.val) * 256 + r.val) / 256 = t.val; omega)
  have e' : (⟨(row t r).val % 256, Nat.mod_lt _ (by norm_num)⟩ : Fin 256) = r := Fin.ext (by show ((15 - t.val) * 256 + r.val) % 256 = r.val; omega)
  show (outsAt m c (pointOf (row t r)).val (pointOf (row t r)).isLt).du (ix2 ⟨(row t r).val % 256, Nat.mod_lt _ (by norm_num)⟩ l) = _
  rw [e, e']

/-- A tile leaves its gradients in the first window, -/
theorem after16 (t : Fin cfg0.N) : (dats m 0 c).after 16 t = (outsAt m c t.val t.isLt).du := rfl
/-- and the packed rows in the second. -/
theorem after17 (t : Fin cfg0.N) : (dats m 0 c).after 17 t = (outsAt m c t.val t.isLt).st := rfl

/-- An array that agrees with every tile's block is the first result. -/
theorem final16 (G : FVec Ideal S4096x3584 .bf16) (hG : ∀ t r l, G (ix2 (row t r) l) = (outsAt m c t.val t.isLt).du (ix2 r l)) :
    (dats m 0 c).arrAt 16 (cfgs 0).N = G := by
  refine (dats m 0 c).arrAt_eq_of_covers 16 _ (by decide +kernel) fun t _ y => ?_
  blk_simp
  rw [after16]
  idx_vars y
  rw [← hG]
  blk_ext [idxOut t, row]

/-- An array that agrees with the last tile's block is the second. -/
theorem final17 (G : FVec Ideal S24x1024 .f32) (hG : ∀ a b, G (ix2 a b) = (outsAt m c t0_15.val t0_15.isLt).st (ix2 a b)) :
    (dats m 0 c).arrAt 17 (cfgs 0).N = G := by
  refine (dats m 0 c).arrAt_eq_of_after_last 17 t0_15 (by decide +kernel) _ fun y => ?_
  blk_simp
  rw [after17]
  idx_vars y
  rw [hG]

/-- The host takes the first 1536 columns of the gradients, -/
theorem tail34 (X : Valuation τ sig (Elt Ideal)) : StableHlo.after hostOps1 X (Proc.devRef .tc main_v34) =
    extractStridedSlice S4096x1536 ![0, 0] (X (Proc.devRef .tc main_v33_0) : Vec Ideal S4096x3584 .bf16) slices_S4096x3584_S4096x1536_0_0 := by
  simp only [hostOps1]
  entry_read
  rfl

/-- three packed rows for the convolution's weights, -/
theorem tail35 (X : Valuation τ sig (Elt Ideal)) : StableHlo.after hostOps1 X (Proc.devRef .tc main_v35) =
    extractStridedSlice S3x512 ![5, 0] (X (Proc.devRef .tc main_v33_1) : Vec Ideal S24x1024 .f32) slices_S24x1024_S3x512_5_0 := by
  simp only [hostOps1]
  entry_read
  rfl

/-- and one for the gains. -/
theorem tail36 (X : Valuation τ sig (Elt Ideal)) : StableHlo.after hostOps1 X (Proc.devRef .tc main_v36) =
    extractStridedSlice S1x512 ![12, 0] (X (Proc.devRef .tc main_v33_1) : Vec Ideal S24x1024 .f32) slices_S24x1024_S1x512_12_0 := by
  simp only [hostOps1]
  entry_read
  rfl

/-- The program's first result: the columns of the projection's gradient that belong to the convolution branch. -/
def out0 : FVec Ideal S4096x1536 .bf16 := extractStridedSlice S4096x1536 ![0, 0] (duArr m c) slices_S4096x3584_S4096x1536_0_0
/-- Its second: the taps' gradient. -/
def out1 : FVec Ideal S3x512 .f32 := extractStridedSlice S3x512 ![5, 0] (outsAt m c t0_15.val t0_15.isLt).st slices_S24x1024_S3x512_5_0
/-- Its third: the gradient of the norm's weight. -/
def out2 : FVec Ideal S1x512 .f32 := extractStridedSlice S1x512 ![12, 0] (outsAt m c t0_15.val t0_15.isLt).st slices_S24x1024_S1x512_12_0

variable {m c}

/-- The kernel's first result is any array with these entries, -/
theorem out0_eq (h : Reals m c) (G : FVec Ideal S4096x1536 .bf16)
    (hb : ∀ r (k : Fin 512), G (ix2 r ⟨k.val, by omega⟩) = (((N m c).dn r k * (N m c).c3 r k : ℝ) : EReal))
    (ha : ∀ r (k : Fin 512), G (ix2 r ⟨512 + k.val, by omega⟩) = (((N m c).dcv r k * (N m c).v r k : ℝ) : EReal))
    (hv : ∀ r (k : Fin 512), G (ix2 r ⟨1024 + k.val, by omega⟩) = (((N m c).a r k * (N m c).dcv r k : ℝ) : EReal)) : out0 m c = G := by
  funext y
  idx_vars y
  obtain ⟨t, r, rfl⟩ : ∃ t r, y0 = row t r :=
    ⟨pointOf y0, ⟨y0.val % 256, Nat.mod_lt _ (by norm_num)⟩, Fin.ext (by show y0.val = (15 - (15 - y0.val / 256)) * 256 + y0.val % 256; omega)⟩
  have e : out0 m c (ix2 (row t r) y1) = (outsAt m c t.val t.isLt).du (ix2 r ⟨y1.val, by omega⟩) := by
    rw [← duArr_at]
    pointwise [out0]
  rw [e]
  by_cases h1 : y1.val < 512
  · exact (du_b h t r ⟨y1.val, h1⟩).trans (hb (row t r) ⟨y1.val, h1⟩).symm
  by_cases h2 : y1.val < 1024
  · obtain ⟨k, hk⟩ : ∃ k : Fin 512, y1.val = 512 + k.val := ⟨⟨y1.val - 512, by omega⟩, by show y1.val = 512 + (y1.val - 512); omega⟩
    rw [show y1 = (⟨512 + k.val, by omega⟩ : Fin 1536) from Fin.ext hk]
    exact (du_a h t r k).trans (ha (row t r) k).symm
  · obtain ⟨k, hk⟩ : ∃ k : Fin 512, y1.val = 1024 + k.val := ⟨⟨y1.val - 1024, by omega⟩, by show y1.val = 1024 + (y1.val - 1024); omega⟩
    rw [show y1 = (⟨1024 + k.val, by omega⟩ : Fin 1536) from Fin.ext hk]
    exact (du_v h t r k).trans (hv (row t r) k).symm

/-- its second likewise, -/
theorem out1_eq (h : Reals m c) (G : FVec Ideal S3x512 .f32) (hG : ∀ j k, G (ix2 j k) = (((N m c).dw j k : ℝ) : EReal)) : out1 m c = G := by
  funext y
  idx_vars y
  rw [hG, ← (st_last h y1).1 y0]
  pointwise [out1]

/-- and its third. -/
theorem out2_eq (h : Reals m c) (G : FVec Ideal S1x512 .f32) (hG : ∀ k, G (ix2 0 k) = (((N m c).dg k : ℝ) : EReal)) : out2 m c = G := by
  funext y
  idx_vars y
  obtain rfl : y0 = 0 := Subsingleton.elim _ _
  rw [hG, ← (st_last h y1).2]
  pointwise [out2]

variable (m) (ρ : Dev nD → PrngReg)

/-- The run ends with the three results at these arrays. -/
theorem run_results : θ_run (defs (F := Ideal)) (onTc (τ := τ) (main (F := Ideal))) (s₀ m ρ) fun r => ∀ c : Dev nD,
    r.2.mem ((c.tc : Thread nD τ).loc main_v34) = out0 m c ∧ r.2.mem ((c.tc : Thread nD τ).loc main_v35) = out1 m c
      ∧ r.2.mem ((c.tc : Thread nD τ).loc main_v36) = out2 m c := by
  refine (θ_run defs _ _).mono (fun r h c => ?_) (run m ρ)
  have a16 := (dats m 0 c).withArrays_arrAt sharedIn0 (V0 m c) (A_eq m c) 16
  have a17 := (dats m 0 c).withArrays_arrAt sharedIn0 (V0 m c) (A_eq m c) 17
  rw [final16 m c (duArr m c) (duArr_at m c)] at a16
  rw [final17 m c (outsAt m c t0_15.val t0_15.isLt).st (fun _ _ => rfl)] at a17
  refine ⟨((h.1 c).2 main_v34 (Pipeline.mem_restRefs_of main_v34 (by decide) (by decide))).trans ((tail34 _).trans ?_),
    ((h.1 c).2 main_v35 (Pipeline.mem_restRefs_of main_v35 (by decide) (by decide))).trans ((tail35 _).trans ?_),
    ((h.1 c).2 main_v36 (Pipeline.mem_restRefs_of main_v36 (by decide) (by decide))).trans ((tail36 _).trans ?_)⟩
  · exact congrArg (fun Z : FVec Ideal S4096x3584 .bf16 => extractStridedSlice S4096x1536 ![0, 0] Z slices_S4096x3584_S4096x1536_0_0) a16
  · exact congrArg (fun Z : FVec Ideal S24x1024 .f32 => extractStridedSlice S3x512 ![5, 0] Z slices_S24x1024_S3x512_5_0) a17
  · exact congrArg (fun Z : FVec Ideal S24x1024 .f32 => extractStridedSlice S1x512 ![12, 0] Z slices_S24x1024_S1x512_12_0) a17

end Cert.Kernel2Ideal.Mix
-- ==== Proof.MixRef.lean ====
/- The reference of the convolution branch's gradients: its results at an index. -/
module

public import proofs.«01_k».proof.Proof.Gen.Reference2Ideal.Run
public import proofs.«01_k».proof.Proof.MixMath
public import Idealize.ShloMosaic.Lib.Pipeline.ValueKit

@[expose] public section

set_option maxRecDepth 16384

noncomputable section

namespace Cert.Reference2Ideal.Mix

open Cert.Reference2Ideal Cert.Reference2Ideal.Gen Cert.Reference2Ideal.Value Cert.RealMath Idealize.ShloMosaic Idealize.ShloMosaic.TcCoe Idealize.SL.Sem

/-- The arguments are these real arrays. -/
structure Reals (V : Valuation τ sig (Elt Ideal)) (N : Branch) : Prop where
  hb : ∀ r k, V (Proc.devRef .tc main_arg0) (ix3 0 r ⟨k.val, by omega⟩) = ((N.b r k : ℝ) : EReal)
  ha : ∀ r k, V (Proc.devRef .tc main_arg0) (ix3 0 r ⟨512 + k.val, by omega⟩) = ((N.a r k : ℝ) : EReal)
  hv : ∀ r k, V (Proc.devRef .tc main_arg0) (ix3 0 r ⟨1024 + k.val, by omega⟩) = ((N.v r k : ℝ) : EReal)
  hw : ∀ j k, V (Proc.devRef .tc main_arg1) (ix3 0 j k) = ((N.w j k : ℝ) : EReal)
  hg : ∀ k, V (Proc.devRef .tc main_arg2) (ix2 0 k) = ((N.g k : ℝ) : EReal)
  hdy : ∀ r k, V (Proc.devRef .tc main_arg3) (ix3 0 r ⟨k.val, by omega⟩) = ((N.dy r k : ℝ) : EReal)

variable {V : Valuation τ sig (Elt Ideal)} {N : Branch} (h : Reals V N)

/-- The reference takes the first 1536 columns of `u`. -/
theorem cols_at (r : Fin 4096) (l : Fin 1536) : res_main_v1 V (ix2 r l) = V (Proc.devRef .tc main_arg0) (ix3 0 r ⟨l.val, by omega⟩) := by
  have hc (X : FVec Ideal S1x4096x3584 .f32) : shapeCast S4096x1536 (extractStridedSlice S1x4096x1536 ![0, 0, 0] X slices_S1x4096x3584_S1x4096x1536_0_0_0)
      shapeCasts_S1x4096x1536_S4096x1536 (ix2 r l) = X (ix3 0 r ⟨l.val, by omega⟩) := by pointwise
  exact hc _

include h

/-- The first gate. -/
theorem b_at (r : Fin 4096) (k : Fin 512) : res_main_v2 V (ix2 r k) = ((N.b r k : ℝ) : EReal) := by
  pointwise [res_main_v2]
  rw [cols_at]
  exact h.hb r k

/-- The second gate. -/
theorem a_at (r : Fin 4096) (k : Fin 512) : res_main_v3 V (ix2 r k) = ((N.a r k : ℝ) : EReal) := by
  pointwise [res_main_v3]
  rw [cols_at]
  exact h.ha r k

/-- The convolution's columns. -/
theorem v_at (r : Fin 4096) (k : Fin 512) : res_main_v4 V (ix2 r k) = ((N.v r k : ℝ) : EReal) := by
  pointwise [res_main_v4]
  rw [cols_at]
  exact h.hv r k

/-- The convolution's weights. -/
theorem w_at (j : Fin 3) (k : Fin 512) : res_main_v6 V (ix2 j k) = ((N.w j k : ℝ) : EReal) := by
  have hc (X : FVec Ideal S1x3x512 .f32) : shapeCast S3x512 X shapeCasts_S1x3x512_S3x512 (ix2 j k) = X (ix3 0 j k) := by pointwise
  exact (hc _).trans (h.hw j k)

/-- What the convolution runs over, after two rows of zeros. -/
theorem hist_at (i : Fin 4098) (k : Fin 512) : res_main_v8 V (ix2 i k) = if hi : 2 ≤ i.val then ((N.cv ⟨i.val - 2, by omega⟩ k : ℝ) : EReal) else 0 := by
  pointwise [res_main_v8]
  by_cases hi : 2 ≤ i.val
  · rw [dif_neg (not_lt.2 hi), dif_pos hi, a_at h, v_at h, ← EReal.coe_mul]
    rfl
  · rw [dif_pos (not_le.1 hi), dif_neg hi]

/-- A row of the convolution's input with `2 - j` zero rows before, as the taps read it. -/
theorem back_at (j : ℕ) (hj : j ≤ 2) (r : Fin 4096) (k : Fin 512) : res_main_v8 V (ix2 ⟨j + r.val, by omega⟩ k) = ((back N.cv (2 - j) r k : ℝ) : EReal) := by
  rw [hist_at h, back]
  split_ifs with h1 h2 h2
  · rw [show (⟨j + r.val - 2, by omega⟩ : Fin 4096) = ⟨r.val - (2 - j), by omega⟩ from Fin.ext (by show j + r.val - 2 = r.val - (2 - j); omega)]
  · exact absurd (show 2 - j ≤ r.val by have : 2 ≤ j + r.val := h1; omega) h2
  · exact absurd (show 2 ≤ j + r.val by omega) h1
  · rfl

/-- The same two rows back, -/
theorem back2_at (r : Fin 4096) (k : Fin 512) : res_main_v12 V (ix2 r k) = ((back N.cv 2 r k : ℝ) : EReal) := by
  rw [← back_at h 0 (by omega)]
  pointwise [res_main_v12]

/-- one row back, -/
theorem back1_at (r : Fin 4096) (k : Fin 512) : res_main_v18 V (ix2 r k) = ((back N.cv 1 r k : ℝ) : EReal) := by
  rw [← back_at h 1 (by omega)]
  pointwise [res_main_v18]

/-- and in place. -/
theorem back0_at (r : Fin 4096) (k : Fin 512) : res_main_v25 V (ix2 r k) = ((back N.cv 0 r k : ℝ) : EReal) := by
  rw [← back_at h 2 (by omega)]
  pointwise [res_main_v25]

/-- The first tap's weights, -/
theorem w0_at (k : Fin 512) : res_main_v13 V (ix2 0 k) = ((N.w 0 k : ℝ) : EReal) := by
  rw [← w_at h]
  pointwise [res_main_v13]

/-- the second's, -/
theorem w1_at (k : Fin 512) : res_main_v19 V (ix2 0 k) = ((N.w 1 k : ℝ) : EReal) := by
  rw [← w_at h]
  pointwise [res_main_v19]

/-- and the third's. -/
theorem w2_at (k : Fin 512) : res_main_v26 V (ix2 0 k) = ((N.w 2 k : ℝ) : EReal) := by
  rw [← w_at h]
  pointwise [res_main_v26]

/-- The convolution. -/
theorem c3_at (r : Fin 4096) (k : Fin 512) : res_main_v29 V (ix2 r k) = ((N.c3 r k : ℝ) : EReal) := by
  pointwise [res_main_v29]
  simp only [w0_at h, w1_at h, w2_at h, back2_at h, back1_at h, back0_at h, ← EReal.coe_mul, ← EReal.coe_add]
  rfl

/-- The gated convolution. -/
theorem y_at (r : Fin 4096) (k : Fin 512) : res_main_v30 V (ix2 r k) = ((N.y r k : ℝ) : EReal) := by
  pointwise [res_main_v30]
  rw [b_at h, c3_at h, ← EReal.coe_mul]
  rfl

/-- The mean square of its row. -/
theorem msq_at (r : Fin 4096) : res_main_v38 V (ix2 r 0) = ((ms (N.y r) 512 : ℝ) : EReal) := by
  pointwise [res_main_v38]
  simp only [y_at h, ← EReal.coe_mul, coe_sum, ofBits_512, ofBits_eps, div_real (show (512 : ℝ) ≠ 0 by norm_num), ← EReal.coe_add, zero_add]
  rfl

/-- The reciprocal root of it. -/
theorem rstd_at (r : Fin 4096) : res_main_v39 V (ix2 r 0) = ((rstd (N.y r) 512 : ℝ) : EReal) := by
  pointwise [res_main_v39]
  rw [msq_at h, rsqrt_real (ms_pos _ (by norm_num))]
  rfl

/-- The normed row, before the gains. -/
theorem n_at (r : Fin 4096) (k : Fin 512) : res_main_v44 V (ix2 r k) = ((N.y r k * rstd (N.y r) 512 : ℝ) : EReal) := by
  pointwise [res_main_v44]
  rw [y_at h, rstd_at h, ← EReal.coe_mul]

/-- The norm's cotangent. -/
theorem dy_at (r : Fin 4096) (k : Fin 512) : res_main_v49 V (ix2 r k) = ((N.dy r k : ℝ) : EReal) := by
  have hc (X : FVec Ideal S1x4096x1536 .f32) : shapeCast S4096x512 (extractStridedSlice S1x4096x512 ![0, 0, 0] X slices_S1x4096x1536_S1x4096x512_0_0_0)
      shapeCasts_S1x4096x512_S4096x512 (ix2 r k) = X (ix3 0 r ⟨k.val, by omega⟩) := by pointwise
  exact (hc _).trans (h.hdy r k)

/-- The gains. -/
theorem g_at (k : Fin 512) : res_main_v45 V (ix2 0 k) = ((N.g k : ℝ) : EReal) := by
  have hc (X : FVec Ideal S1x512 .f32) : broadcastInDim S1x512 ![1] bcast_S512_S1x512_1 (shapeCast S512 X shapeCasts_S1x512_S512) (ix2 0 k) = X (ix2 0 k) := by pointwise
  exact (hc _).trans (h.hg k)

/-- The cotangent times the gains. -/
theorem dyg_at (r : Fin 4096) (k : Fin 512) : res_main_v54 V (ix2 r k) = ((N.dy r k * N.g k : ℝ) : EReal) := by
  pointwise [res_main_v54]
  rw [dy_at h, g_at h, ← EReal.coe_mul]

/-- What the row's mean square contributes. -/
theorem coef_at (r : Fin 4096) (k : Fin 512) : res_main_v65 V (ix2 r k) =
    (((∑ l, N.y r l * (N.dy r l * N.g l)) * (-(1 / 2) * (rstd (N.y r) 512 / ms (N.y r) 512)) / 512 : ℝ) : EReal) := by
  have hm := ms_pos (N.y r) (show (0 : ℝ) ≤ 512 by norm_num)
  pointwise [res_main_v65]
  simp only [y_at h, dyg_at h, msq_at h, rstd_at h, Fin.sum_univ_one, ofBits_512, ofBits_neg_half, div_real hm.ne', ← EReal.coe_mul, coe_sum,
    div_real (show (512 : ℝ) ≠ 0 by norm_num), zero_add]

/-- The norm's gradient. -/
theorem dn_at (r : Fin 4096) (k : Fin 512) : res_main_v69 V (ix2 r k) = ((N.dn r k : ℝ) : EReal) := by
  pointwise [res_main_v69]
  rw [dyg_at h, rstd_at h, coef_at h, y_at h, Branch.dn, normGrad_eq _ _ (by norm_num)]
  simp only [← EReal.coe_mul, EReal.coe_add]

/-- The convolution's gradient. -/
theorem dc_at (r : Fin 4096) (k : Fin 512) : res_main_v71 V (ix2 r k) = ((N.dc r k : ℝ) : EReal) := by
  pointwise [res_main_v71]
  rw [b_at h, dn_at h, ← EReal.coe_mul]
  rfl

/-- The gradient of what the convolution runs over. -/
theorem dcv_at (r : Fin 4096) (k : Fin 512) : res_main_v105 V (ix2 r k) = ((N.dcv r k : ℝ) : EReal) := by
  pointwise [res_main_v105, res_main_v100, pad_rows_apply]
  simp only [w0_at h, w1_at h, w2_at h, dc_at h, ← EReal.coe_mul]
  have e1 : (if hr : 1 ≤ 2 + r.val ∧ 2 + r.val - 1 < 4096 then ((N.w 1 k * N.dc ⟨2 + r.val - 1, hr.2⟩ k : ℝ) : EReal) else 0) =
      ((N.w 1 k * ahead N.dc 1 r k : ℝ) : EReal) := by
    unfold ahead
    by_cases hr : r.val + 1 < 4096
    · rw [dif_pos (by omega), dif_pos hr]
      simp only [show 2 + r.val - 1 = r.val + 1 by omega]
    · rw [dif_neg (by omega), dif_neg hr, mul_zero]
      rfl
  have e2 : (if hr : 2 + r.val < 4096 then ((N.w 0 k * N.dc ⟨2 + r.val, hr⟩ k : ℝ) : EReal) else 0) = ((N.w 0 k * ahead N.dc 2 r k : ℝ) : EReal) := by
    unfold ahead
    by_cases hr : r.val + 2 < 4096
    · rw [dif_pos (by omega), dif_pos hr]
      simp only [show 2 + r.val = r.val + 2 by omega]
    · rw [dif_neg (by omega), dif_neg hr, mul_zero]
      rfl
  rw [e1, e2]
  simp only [← EReal.coe_add]
  rfl

omit h in
/-- The sum of an array's rows, as the reference takes it. -/
def colSum (X : FVec Ideal S4096x512 .f32) : FVec Ideal S1x512 .f32 :=
  broadcastInDim S1x512 ![1] bcast_S512_S1x512_1 (Host.reduceAdd (shapeCast _ (Host.reduceAdd X (constant S_ .f32 0x00000000#32)
    reducesTo_S4096x512_S512_d0 h_S_) shapeCasts_S512_S1x512) (constant S_ .f32 0x00000000#32) reducesTo_S1x512_S512_d0 h_S_)

omit h in
/-- The sum of an array's rows. -/
theorem colSum_at (X : FVec Ideal S4096x512 .f32) (k : Fin 512) : colSum X (ix2 0 k) = ∑ r, X (ix2 r k) := by
  pointwise [colSum]
  rw [Fin.sum_univ_one]

omit h in
/-- The first result: the gradient of the projection's columns that enter the branch. -/
def out0 (V : Valuation τ sig (Elt Ideal)) : FVec Ideal S4096x1536 .bf16 :=
  truncf .bf16 (concatenate S4096x1536 1 [⟨S4096x512, mulf (res_main_v69 V) (res_main_v29 V)⟩, ⟨S4096x512, mulf (res_main_v105 V) (res_main_v4 V)⟩,
    ⟨S4096x512, mulf (res_main_v3 V) (res_main_v105 V)⟩] concatenates_S4096x512_S4096x512_S4096x512_S4096x1536_d1) bitsLt_bf16_f32

omit h in
/-- The second result: the gradient of the taps. -/
def out1 (V : Valuation τ sig (Elt Ideal)) : FVec Ideal S3x512 .f32 :=
  shapeCast _ (broadcastInDim S1x3x512 ![1, 2] bcast_S3x512_S1x3x512_1_2
    (addf (addf (pad S3x512 ![2, 0] ![0, 0] ![0, 0] (colSum (mulf (res_main_v71 V) (res_main_v25 V))) (constant S_ .f32 0x00000000#32)
        pads_S1x512_S3x512_200_000 h_S_)
      (pad S3x512 ![1, 0] ![1, 0] ![0, 0] (colSum (mulf (res_main_v71 V) (res_main_v18 V))) (constant S_ .f32 0x00000000#32)
        pads_S1x512_S3x512_110_000 h_S_))
      (pad S3x512 ![0, 0] ![2, 0] ![0, 0] (colSum (mulf (res_main_v71 V) (res_main_v12 V))) (constant S_ .f32 0x00000000#32)
        pads_S1x512_S3x512_020_000 h_S_))) shapeCasts_S1x3x512_S3x512

omit h in
/-- The third result: the gradient of the norm's weight. -/
def out2 (V : Valuation τ sig (Elt Ideal)) : FVec Ideal S1x512 .f32 := colSum (mulf (res_main_v44 V) (res_main_v49 V))

/-- The first gate's gradient. -/
theorem db_at (r : Fin 4096) (k : Fin 512) : out0 V (ix2 r ⟨k.val, by omega⟩) = ((N.dn r k * N.c3 r k : ℝ) : EReal) := by
  pointwise [out0]
  rw [dn_at h, c3_at h, ← EReal.coe_mul]

/-- The second gate's gradient. -/
theorem da_at (r : Fin 4096) (k : Fin 512) : out0 V (ix2 r ⟨512 + k.val, by omega⟩) = ((N.dcv r k * N.v r k : ℝ) : EReal) := by
  pointwise [out0]
  rw [dcv_at h, v_at h, ← EReal.coe_mul]

/-- The gradient of the convolution's columns. -/
theorem dv_at (r : Fin 4096) (k : Fin 512) : out0 V (ix2 r ⟨1024 + k.val, by omega⟩) = ((N.a r k * N.dcv r k : ℝ) : EReal) := by
  pointwise [out0]
  rw [dif_neg (by omega), dif_neg (by omega)]
  simp only [show 1024 + k.val - 512 - 512 = k.val by omega]
  rw [dcv_at h, a_at h, ← EReal.coe_mul]

/-- The gradient of the first tap's weights, -/
theorem tap0_at (k : Fin 512) : colSum (mulf (res_main_v71 V) (res_main_v12 V)) (ix2 0 k) = ((N.dw 0 k : ℝ) : EReal) := by
  rw [colSum_at]
  pointwise
  simp only [dc_at h, back2_at h, ← EReal.coe_mul, coe_sum]
  rfl

/-- of the second's, -/
theorem tap1_at (k : Fin 512) : colSum (mulf (res_main_v71 V) (res_main_v18 V)) (ix2 0 k) = ((N.dw 1 k : ℝ) : EReal) := by
  rw [colSum_at]
  pointwise
  simp only [dc_at h, back1_at h, ← EReal.coe_mul, coe_sum]
  rfl

/-- and of the third's. -/
theorem tap2_at (k : Fin 512) : colSum (mulf (res_main_v71 V) (res_main_v25 V)) (ix2 0 k) = ((N.dw 2 k : ℝ) : EReal) := by
  rw [colSum_at]
  pointwise
  simp only [dc_at h, back0_at h, ← EReal.coe_mul, coe_sum]
  rfl

/-- The three together. -/
theorem dw_at (j : Fin 3) (k : Fin 512) : out1 V (ix2 j k) = ((N.dw j k : ℝ) : EReal) := by
  fin_cases j <;> pointwise [out1, pad_rows_apply]
  · exact tap0_at h k
  · exact tap1_at h k
  · exact tap2_at h k

/-- The gains' gradient. -/
theorem dg_at (k : Fin 512) : out2 V (ix2 0 k) = ((N.dg k : ℝ) : EReal) := by
  rw [out2, colSum_at]
  pointwise
  simp only [n_at h, dy_at h, ← EReal.coe_mul, coe_sum, mul_comm]
  unfold Branch.dg
  simp only [mul_comm]

end Cert.Reference2Ideal.Mix

end
-- ==== Proof.FwdMath.lean ====
/- The layer's mixer in real arithmetic: the input projection, the two causal convolutions, the gates, the recurrence and the two norms. -/
module

public import proofs.«01_k».proof.Proof.RealMath

@[expose] public section

noncomputable section

namespace Cert.RealMath

open Idealize.ShloMosaic

/-- The array `d` rows earlier, zeros before the first row. -/
def lag {n : ℕ} (X : Fin 4096 → Fin n → ℝ) (d : ℕ) (r : Fin 4096) (k : Fin n) : ℝ := if d ≤ r.val then X ⟨r.val - d, by omega⟩ k else 0

/-- Row `r` of the `t`-th tile of 256 rows. -/
def trow (t : Fin 16) (r : Fin 256) : Fin 4096 := ⟨t.val * 256 + r.val, by omega⟩

/-- The arrays the mixer takes. -/
structure Layer where
  h : Fin 4096 → Fin 1024 → ℝ
  w : Fin 1024 → Fin 3584 → ℝ
  cw : Fin 3 → Fin 512 → ℝ
  rw : Fin 4 → Fin 1024 → ℝ
  rb : Fin 1024 → ℝ
  wa : Fin 16 → Fin 64 → Fin 64 → ℝ
  ba : Fin 1024 → ℝ
  wx : Fin 16 → Fin 64 → Fin 64 → ℝ
  bx : Fin 1024 → ℝ
  lam : Fin 1024 → ℝ
  gc : Fin 512 → ℝ
  gr : Fin 1024 → ℝ

/-- The cubic coefficient of the activation and its scale, as the two single-precision words give them. -/
def gk : ℝ := 12003091 * 2 ^ (-28 : ℤ)
/-- The float nearest to the root of 2/π, which both programs have in the gelu. -/
def gs : ℝ := 13386282 * 2 ^ (-24 : ℤ)

/-- The word of the gelu's cubic coefficient. -/
theorem ofBits_gk : Ideal.ofBits .f32 0x3D372713#32 = ((gk : ℝ) : EReal) := by
  simp [Ideal.ofBits, Ideal.ieee, gk]

/-- The word of the gelu's scale. -/
theorem ofBits_gs : Ideal.ofBits .f32 0x3F4C422A#32 = ((gs : ℝ) : EReal) := by
  simp [Ideal.ofBits, Ideal.ieee, gs]

/-- Three more words: `-8`, `2` and one half. -/
theorem ofBits_neg_eight : Ideal.ofBits .f32 0xC1000000#32 = ((-8 : ℝ) : EReal) := by
  simp [Ideal.ofBits, Ideal.ieee]
  rw [← EReal.coe_mul]
  norm_num

/-- The word of two. -/
theorem ofBits_two : Ideal.ofBits .f32 0x40000000#32 = ((2 : ℝ) : EReal) := by
  simp [Ideal.ofBits, Ideal.ieee]
  rw [← EReal.coe_mul]
  norm_num

/-- The word of a half. -/
theorem ofBits_half : Ideal.ofBits .f32 0x3F000000#32 = ((1 / 2 : ℝ) : EReal) := by
  simp [Ideal.ofBits, Ideal.ieee]
  rw [← EReal.coe_mul]
  norm_num

/-- The larger of two reals. -/
theorem max_coe (x y : ℝ) : max (x : EReal) (y : EReal) = ((max x y : ℝ) : EReal) := (EReal.coe_strictMono.monotone.map_max).symm

/-- The absolute value of a real. -/
theorem absf_coe (x : ℝ) : FloatOps.absf (F := Ideal) (φ := .f32) ((x : ℝ) : EReal) = ((|x| : ℝ) : EReal) := by
  show max (x : EReal) (-(x : EReal)) = _
  rw [← EReal.coe_neg, max_coe, abs_eq_max_neg]

/-- The activation in its `tanh` form. -/
def gelu (x : ℝ) : ℝ := 1 / 2 * x * (1 + Real.tanh (gs * (x + gk * x * x * x)))

namespace Layer

variable (N : Layer)

/-- The input projection. -/
def u (r : Fin 4096) (k : Fin 3584) : ℝ := ∑ j, N.h r j * N.w j k

/-- Its five parts: the two gates of the convolution branch, its input, the recurrence's input and its output gate. -/
def gb (r : Fin 4096) (k : Fin 512) : ℝ := N.u r ⟨k.val, by omega⟩
/-- What the gated convolution runs over: the second gate times its columns. -/
def cv (r : Fin 4096) (k : Fin 512) : ℝ := N.u r ⟨512 + k.val, by omega⟩ * N.u r ⟨1024 + k.val, by omega⟩
/-- What the recurrence's convolution runs over. -/
def xin (r : Fin 4096) (k : Fin 1024) : ℝ := N.u r ⟨1536 + k.val, by omega⟩
/-- The columns of the gelu gate. -/
def go (r : Fin 4096) (k : Fin 1024) : ℝ := N.u r ⟨2560 + k.val, by omega⟩

/-- The gated convolution with three taps. -/
def c3 (r : Fin 4096) (k : Fin 512) : ℝ := N.cw 0 k * lag N.cv 2 r k + N.cw 1 k * lag N.cv 1 r k + N.cw 2 k * N.cv r k

/-- The recurrence's convolution with four taps and a bias. -/
def xr (r : Fin 4096) (k : Fin 1024) : ℝ :=
  N.rw 0 k * lag N.xin 3 r k + N.rw 1 k * lag N.xin 2 r k + N.rw 2 k * lag N.xin 1 r k + N.rw 3 k * N.xin r k + N.rb k

/-- A gate: the sigmoid of a product with a block diagonal weight and a bias. -/
def gate (w : Fin 16 → Fin 64 → Fin 64 → ℝ) (b : Fin 1024 → ℝ) (r : Fin 4096) (k : Fin 1024) : ℝ :=
  (1 + Real.exp (-((∑ i : Fin 64, N.xr r ⟨k.val / 64 * 64 + i.val, by omega⟩ * w ⟨k.val / 64, by omega⟩ i ⟨k.val % 64, by omega⟩) + b k)))⁻¹

/-- The recurrence gate and the input gate. -/
def ra : Fin 4096 → Fin 1024 → ℝ := N.gate N.wa N.ba
/-- The gate on the recurrence's input. -/
def ig : Fin 4096 → Fin 1024 → ℝ := N.gate N.wx N.bx

/-- The softplus of the negated decay parameter. -/
def sp (k : Fin 1024) : ℝ := max (-N.lam k) 0 + Real.log (1 + Real.exp (-|N.lam k|))

/-- The decay's logarithm, the decay and the input's scale. -/
def la (r : Fin 4096) (k : Fin 1024) : ℝ := -8 * N.ra r k * N.sp k
/-- The decay. -/
def a (r : Fin 4096) (k : Fin 1024) : ℝ := Real.exp (N.la r k)
/-- The factor on the recurrence's input. -/
def mult (r : Fin 4096) (k : Fin 1024) : ℝ := Real.sqrt (1 - N.a r k * N.a r k)

/-- The recurrence's input. -/
def inp (r : Fin 4096) (k : Fin 1024) : ℝ := N.mult r k * (N.ig r k * N.xr r k)

/-- The recurrence's state after the first `n` rows. -/
def st : ℕ → Fin 1024 → ℝ
  | 0, _ => 0
  | n + 1, k => if h : n < 4096 then N.a ⟨n, h⟩ k * st n k + N.inp ⟨n, h⟩ k else 0

/-- One step of the recurrence. -/
theorem st_succ (r : Fin 4096) (k : Fin 1024) : N.st (r.val + 1) k = N.a r k * N.st r.val k + N.inp r k := by
  rw [st, dif_pos r.isLt]

/-- The recurrence's states. -/
def hs (r : Fin 4096) (k : Fin 1024) : ℝ := N.st (r.val + 1) k

/-- The two branches before their norms. -/
def yc (r : Fin 4096) (k : Fin 512) : ℝ := N.gb r k * N.c3 r k
/-- The states through the gelu gate. -/
def yr (r : Fin 4096) (k : Fin 1024) : ℝ := N.hs r k * gelu (N.go r k)

/-- The two branches after their norms. -/
def oc (r : Fin 4096) (k : Fin 512) : ℝ := N.yc r k * rstd (N.yc r) 512 * N.gc k
/-- The recurrence's half of the output, after its norm. -/
def ob (r : Fin 4096) (k : Fin 1024) : ℝ := N.yr r k * rstd (N.yr r) 1024 * N.gr k

/-- The gate on the decay is positive. -/
theorem ra_pos (r : Fin 4096) (k : Fin 1024) : 0 < N.ra r k := by
  unfold ra gate
  positivity

/-- The softplus is positive. -/
theorem sp_pos (k : Fin 1024) : 0 < N.sp k := by
  unfold sp
  have h : 0 < Real.log (1 + Real.exp (-|N.lam k|)) := Real.log_pos (by have := Real.exp_pos (-|N.lam k|); linarith)
  have := le_max_right (-N.lam k) 0
  linarith

/-- So the decay's logarithm is negative, -/
theorem la_neg (r : Fin 4096) (k : Fin 1024) : N.la r k < 0 := by
  unfold la
  have := mul_pos (N.ra_pos r k) (N.sp_pos k)
  linarith

/-- and the decay's square is less than one. -/
theorem a_sq_lt (r : Fin 4096) (k : Fin 1024) : N.a r k * N.a r k < 1 := by
  unfold a
  rw [← Real.exp_add]
  refine (Real.exp_lt_exp.2 ?_).trans_eq Real.exp_zero
  have := N.la_neg r k
  linarith

end Layer

/-- A sum against a block diagonal matrix is the sum over the block. -/
theorem sum_block (f : Fin 256 → ℝ) (g : Fin 64 → ℝ) (q : Fin 4) :
    ∑ p : Fin 256, f p * (if p.val / 64 = q.val then g ⟨p.val % 64, by omega⟩ else 0) = ∑ i : Fin 64, f ⟨q.val * 64 + i.val, by omega⟩ * g i := by
  rw [show (∑ p : Fin 256, f p * (if p.val / 64 = q.val then g ⟨p.val % 64, by omega⟩ else 0)) = _ from
    (Fin.sum_mul_add_fin 4 64 (fun p : Fin 256 => f p * (if p.val / 64 = q.val then g ⟨p.val % 64, by omega⟩ else 0))).symm]
  refine (Finset.sum_eq_single q (fun j _ hj => ?_) (by simp)).trans ?_
  · refine Finset.sum_eq_zero fun i _ => ?_
    have e : ¬ (j.val * 64 + i.val) / 64 = q.val := fun e => hj (Fin.ext (by omega))
    rw [if_neg e, mul_zero]
  · refine Finset.sum_congr rfl fun i _ => ?_
    have e : (q.val * 64 + i.val) / 64 = q.val := by omega
    rw [if_pos e]
    congr 2
    exact Fin.ext (by show (q.val * 64 + i.val) % 64 = i.val; omega)

/-- The last eight rows before a tile, zeros before the first tile. -/
def prev {n : ℕ} (X : Fin 4096 → Fin n → ℝ) (t : Fin 16) (a : Fin 8) (k : Fin n) : ℝ :=
  if h : t.val = 0 then 0 else X ⟨t.val * 256 - 8 + a.val, by omega⟩ k

/-- A block of the block diagonal weight: 64 by 64 blocks on the diagonal of a 256 by 256 one. -/
def blk (w : Fin 16 → Fin 64 → Fin 64 → ℝ) (j : Fin 4) (p q : Fin 256) : ℝ :=
  if p.val / 64 = q.val / 64 then w ⟨j.val * 4 + q.val / 64, by omega⟩ ⟨p.val % 64, by omega⟩ ⟨q.val % 64, by omega⟩ else 0

/-- A product with such a block is a product with the diagonal block of the column. -/
theorem block_dot (f : Fin 1024 → ℝ) (w : Fin 16 → Fin 64 → Fin 64 → ℝ) (j : Fin 4) (q : Fin 256) (k : Fin 1024) (hk : k.val = j.val * 256 + q.val) :
    ∑ x : Fin 256, f ⟨j.val * 256 + x.val, by omega⟩ * blk w j x q =
      ∑ i : Fin 64, f ⟨k.val / 64 * 64 + i.val, by omega⟩ * w ⟨k.val / 64, by omega⟩ i ⟨k.val % 64, by omega⟩ := by
  refine (sum_block (fun x => f ⟨j.val * 256 + x.val, by omega⟩) (fun i => w ⟨j.val * 4 + q.val / 64, by omega⟩ i ⟨q.val % 64, by omega⟩)
    ⟨q.val / 64, by omega⟩).trans ?_
  refine Finset.sum_congr rfl fun i _ => ?_
  have e1 : (⟨j.val * 4 + q.val / 64, by omega⟩ : Fin 16) = ⟨k.val / 64, by omega⟩ := Fin.ext (by simp only; omega)
  have e2 : (⟨q.val % 64, by omega⟩ : Fin 64) = ⟨k.val % 64, by omega⟩ := Fin.ext (by simp only; omega)
  exact congrArg₂ (· * ·) (congrArg f (Fin.ext (by simp only; omega))) (congrArg₂ (fun a b => w a i b) e1 e2)

/-- One doubling step of the scan over a group of eight rows: the summands and the factors. -/
def sumStep (d : ℕ) (A B : Fin 8 → ℝ) (s : Fin 8) : ℝ := B s + if d ≤ s.val then A s * B ⟨(s.val + 8 - d) % 8, Nat.mod_lt _ (by norm_num)⟩ else 0
/-- One doubling step of the running products. -/
def mulStep (d : ℕ) (A : Fin 8 → ℝ) (s : Fin 8) : ℝ := A s * if d ≤ s.val then A ⟨(s.val + 8 - d) % 8, Nat.mod_lt _ (by norm_num)⟩ else 1

/-- Three doubling steps of the sums: eight rows. -/
def sumScan (A B : Fin 8 → ℝ) : Fin 8 → ℝ := sumStep 4 (mulStep 2 (mulStep 1 A)) (sumStep 2 (mulStep 1 A) (sumStep 1 A B))
/-- Three doubling steps of the products. -/
def mulScan (A : Fin 8 → ℝ) : Fin 8 → ℝ := mulStep 4 (mulStep 2 (mulStep 1 A))

/-- Three doubling steps and the carry are eight steps of the recurrence. -/
theorem scan_eq (A B : Fin 8 → ℝ) (σ : ℕ → ℝ) (h : ∀ s : Fin 8, σ (s.val + 1) = A s * σ s.val + B s) (s : Fin 8) :
    sumScan A B s + mulScan A s * σ 0 = σ (s.val + 1) := by
  have h0 := h 0
  have h1 := h 1
  have h2 := h 2
  have h3 := h 3
  have h4 := h 4
  have h5 := h 5
  have h6 := h 6
  have h7 := h 7
  norm_num at h0 h1 h2 h3 h4 h5 h6 h7
  fin_cases s <;> simp [sumScan, mulScan, sumStep, mulStep, h0, h1, h2, h3, h4, h5, h6, h7] <;> ring

end Cert.RealMath

end
-- ==== Proof.Fwd.lean ====
/- What the mixer's forward kernel leaves in its result arrays. -/
module

public import proofs.«01_k».proof.Proof.Gen.Kernel4Ideal.Frame
public import proofs.«01_k».proof.Proof.MixMath
public import proofs.«01_k».proof.Proof.FwdMath
public import Idealize.ShloMosaic.Lib.Pipeline.ValueKit
public import Idealize.ShloMosaic.Lib.Pipeline.ReadBack

@[expose] public section

set_option maxRecDepth 16384

noncomputable section

namespace Cert.Kernel4Ideal.Fwd

open Cert.Kernel4Ideal Cert.Kernel4Ideal.Gen Cert.RealMath Idealize.ShloMosaic Idealize.ShloMosaic.TcCoe Idealize.SL.Sem
open Idealize.ShloMosaic.Pipeline (Dat)

variable (m : (ℓ : Loc nD τ sig) → Buf (Elt Ideal) ℓ)

variable {N : Layer} {t : Fin 16}

/-- A comparison of two small words chooses as their numbers do. -/
theorem slt_eq {α : Type} (a d : ℕ) (ha : a < 8) (hd : d < 8) (x y : α) :
    Scalar.select (IntOp.cmpi CmpIPredicate.slt (BitVec.ofNat 32 a) (BitVec.ofNat 32 d)) x y = if a < d then x else y := by
  have h : ∀ a d : Fin 8, (IntOp.cmpi CmpIPredicate.slt (BitVec.ofNat 32 a.val) (BitVec.ofNat 32 d.val) = 1#1) = (a.val < d.val) := by decide
  exact if_congr (iff_of_eq (h ⟨a, ha⟩ ⟨d, hd⟩)) rfl rfl

/-- The same for the opposite comparison. -/
theorem sge_eq {α : Type} (a d : ℕ) (ha : a < 8) (hd : d < 8) (x y : α) :
    Scalar.select (IntOp.cmpi CmpIPredicate.sge (BitVec.ofNat 32 a) (BitVec.ofNat 32 d)) x y = if d ≤ a then x else y := by
  have h : ∀ a d : Fin 8, (IntOp.cmpi CmpIPredicate.sge (BitVec.ofNat 32 a.val) (BitVec.ofNat 32 d.val) = 1#1) = (d.val ≤ a.val) := by decide
  exact if_congr (iff_of_eq (h ⟨a, ha⟩ ⟨d, hd⟩)) rfl rfl

/-- A tile rotated by `d` rows, its first rows taken from the rows before it, is the array `d` rows earlier. -/
theorem lag_eq {n : ℕ} (X : Fin 4096 → Fin n → ℝ) (d : ℕ) (h0 : 0 < d) (hd : d < 8) (k : Fin n) (v : Fin 256 → EReal) (p : Fin 8 → EReal)
    (hv : ∀ r, v r = ((X (trow t r) k : ℝ) : EReal)) (hp : ∀ a, p a = ((prev X t a k : ℝ) : EReal)) (r : Fin 256) :
    (if h : r.val < 8 then
        Scalar.select (IntOp.cmpi CmpIPredicate.slt (BitVec.ofNat 32 r.val) (BitVec.ofNat 32 d))
          (p ⟨(r.val + 8 - d) % 8, Nat.mod_lt _ (by norm_num)⟩) (v ⟨(r.val + 256 - d) % 256, Nat.mod_lt _ (by norm_num)⟩)
      else v ⟨(8 + (r.val - 8) + 256 - d) % 256, Nat.mod_lt _ (by norm_num)⟩) = ((lag X d (trow t r) k : ℝ) : EReal) := by
  have same : ∀ (q : Fin 256), q.val + d = r.val → v q = ((lag X d (trow t r) k : ℝ) : EReal) := fun q hq => by
    rw [hv, lag, if_pos (show d ≤ (trow t r).val by simp only [trow]; omega)]
    exact congrArg (fun i => ((X i k : ℝ) : EReal)) (Fin.ext (by simp only [trow]; omega))
  by_cases h : r.val < 8
  · rw [dif_pos h, slt_eq r.val d h hd]
    by_cases hr : r.val < d
    · rw [if_pos hr, hp, prev, lag]
      by_cases ht : t.val = 0
      · rw [dif_pos ht, if_neg (show ¬ d ≤ (trow t r).val by simp only [trow]; omega)]
      · rw [dif_neg ht, if_pos (show d ≤ (trow t r).val by simp only [trow]; omega)]
        exact congrArg (fun i => ((X i k : ℝ) : EReal)) (Fin.ext (by simp only [trow]; omega))
    · rw [if_neg hr]
      exact same _ (by simp only; omega)
  · rw [dif_neg h]
    exact same _ (by simp only; omega)

section proj
variable {hx : Vec Ideal S256x1024 .f32} {w : Vec Ideal S1x1024x896 .bf16} {q : Fin 4} (hh : ∀ r j, hx (ix2 r j) = ((N.h (trow t r) j : ℝ) : EReal))
  (hw : ∀ j k, w (ix3 0 j k) = ((N.w j ⟨q.val * 896 + k.val, by omega⟩ : ℝ) : EReal))
include hh hw

/-- A quarter of the input projection on a tile, each of the four the body writes. -/
theorem pay6_at (r : Fin 256) (k : Fin 896) : k0_pay6 hx w (ix2 r k) = ((N.u (trow t r) ⟨q.val * 896 + k.val, by omega⟩ : ℝ) : EReal) := by
  pointwise [k0_pay6, k0_pay5]
  simp only [hh, hw, ← EReal.coe_mul, coe_sum]
  rfl

/-- The second shard of columns that a tile projects holds the reals' projection, as the first does. -/
theorem pay7_at (r : Fin 256) (k : Fin 896) : k0_pay7 hx w (ix2 r k) = ((N.u (trow t r) ⟨q.val * 896 + k.val, by omega⟩ : ℝ) : EReal) :=
  pay6_at hh hw r k

/-- The third shard is computed by the same product. -/
theorem pay8_at (r : Fin 256) (k : Fin 896) : k0_pay8 hx w (ix2 r k) = ((N.u (trow t r) ⟨q.val * 896 + k.val, by omega⟩ : ℝ) : EReal) :=
  pay6_at hh hw r k

/-- So is the fourth. -/
theorem pay9_at (r : Fin 256) (k : Fin 896) : k0_pay9 hx w (ix2 r k) = ((N.u (trow t r) ⟨q.val * 896 + k.val, by omega⟩ : ℝ) : EReal) :=
  pay6_at hh hw r k

end proj

section conv
variable {v23 v25 : Vec Ideal S256x512 .f32} {cw p0 : Vec Ideal S8x512 .f32}
  (h23 : ∀ r k, v23 (ix2 r k) = ((N.u (trow t r) ⟨512 + k.val, by omega⟩ : ℝ) : EReal))
  (h25 : ∀ r k, v25 (ix2 r k) = ((N.u (trow t r) ⟨1024 + k.val, by omega⟩ : ℝ) : EReal))
include h23 h25

/-- The convolution's last eight input rows of a tile, kept for the next one. -/
theorem pay16_at (a : Fin 8) (k : Fin 512) : k0_pay16 (k0_pay15 v23 v25) (ix2 a k) = ((N.cv (trow t ⟨248 + a.val, by omega⟩) k : ℝ) : EReal) := by
  pointwise [k0_pay16, k0_pay15, k0_pay11]
  rw [h23, h25, ← EReal.coe_mul]
  rfl

variable (hc : ∀ (j : Fin 3) k, cw (ix2 ⟨j.val, by omega⟩ k) = ((N.cw j k : ℝ) : EReal)) (h0 : ∀ a k, p0 (ix2 a k) = ((prev N.cv t a k : ℝ) : EReal))
include hc h0

/-- The gated convolution on a tile. -/
theorem pay14_at (r : Fin 256) (k : Fin 512) : k0_pay14 v23 v25 cw p0 (ix2 r k) = ((N.c3 (trow t r) k : ℝ) : EReal) := by
  have hv : ∀ r, v23 (ix2 r k) * v25 (ix2 r k) = ((N.cv (trow t r) k : ℝ) : EReal) := fun r => by
    rw [h23, h25, ← EReal.coe_mul]
    rfl
  have e1 := lag_eq N.cv 1 (by norm_num) (by norm_num) k (fun r => v23 (ix2 r k) * v25 (ix2 r k)) (fun a => p0 (ix2 a k)) hv (fun a => h0 a k) r
  have e2 := lag_eq N.cv 2 (by norm_num) (by norm_num) k (fun r => v23 (ix2 r k) * v25 (ix2 r k)) (fun a => p0 (ix2 a k)) hv (fun a => h0 a k) r
  unfold Layer.c3
  simp only [EReal.coe_add, EReal.coe_mul]
  rw [← e1, ← e2, ← hv r, ← hc 0 k, ← hc 1 k, ← hc 2 k]
  pointwise [k0_pay14, k0_pay11]

end conv

section rnn
variable {v29 : FVec Ideal S256x1024 .f32} {rw p1 : Vec Ideal S8x1024 .f32} {rb : Vec Ideal S1x1024 .f32}
  (h29 : ∀ r k, v29 (ix2 r k) = ((N.xin (trow t r) k : ℝ) : EReal))
include h29

/-- The recurrence's last eight input rows of a tile, kept for the next one. -/
theorem pay25_at (a : Fin 8) (k : Fin 1024) : k0_pay25 v29 (ix2 a k) = ((N.xin (trow t ⟨248 + a.val, by omega⟩) k : ℝ) : EReal) := by
  pointwise [k0_pay25]
  exact h29 _ _

variable (hr : ∀ (j : Fin 4) k, rw (ix2 ⟨j.val, by omega⟩ k) = ((N.rw j k : ℝ) : EReal)) (hb : ∀ k, rb (ix2 0 k) = ((N.rb k : ℝ) : EReal))
  (h1 : ∀ a k, p1 (ix2 a k) = ((prev N.xin t a k : ℝ) : EReal))
include hr hb h1

/-- The recurrence's convolution on a tile. -/
theorem pay24_at (r : Fin 256) (k : Fin 1024) :
    k0_pay24 v29 (k0_pay18 rw) (k0_pay19 v29 rw p1) (k0_pay20 rw) (k0_pay22 v29 p1) (k0_pay23 v29) rb (ix2 r k) = ((N.xr (trow t r) k : ℝ) : EReal) := by
  have e1 := lag_eq N.xin 1 (by norm_num) (by norm_num) k (fun r => v29 (ix2 r k)) (fun a => p1 (ix2 a k)) (fun r => h29 r k) (fun a => h1 a k) r
  have e2 := lag_eq N.xin 2 (by norm_num) (by norm_num) k (fun r => v29 (ix2 r k)) (fun a => p1 (ix2 a k)) (fun r => h29 r k) (fun a => h1 a k) r
  have e3 := lag_eq N.xin 3 (by norm_num) (by norm_num) k (fun r => v29 (ix2 r k)) (fun a => p1 (ix2 a k)) (fun r => h29 r k) (fun a => h1 a k) r
  unfold Layer.xr
  simp only [EReal.coe_add, EReal.coe_mul]
  rw [← e1, ← e2, ← e3, ← h29 r k, ← hr 0 k, ← hr 1 k, ← hr 2 k, ← hr 3 k, ← hb k]
  pointwise [k0_pay24, k0_pay19, k0_pay18, k0_pay20, k0_pay22, k0_pay23, k0_pay21]

end rnn

section gates
variable {x : FVec Ideal S256x1024 .f32} {b : Vec Ideal S1x1024 .f32} {w0 w1 w2 w3 : Vec Ideal S1x256x256 .bf16}
  {W : Fin 16 → Fin 64 → Fin 64 → ℝ} {B : Fin 1024 → ℝ}
  (hx : ∀ r k, x (ix2 r k) = ((N.xr (trow t r) k : ℝ) : EReal)) (hb : ∀ k, b (ix2 0 k) = ((B k : ℝ) : EReal))
  (h0 : ∀ p q, w0 (ix3 0 p q) = ((blk W 0 p q : ℝ) : EReal)) (h1 : ∀ p q, w1 (ix3 0 p q) = ((blk W 1 p q : ℝ) : EReal))
  (h2 : ∀ p q, w2 (ix3 0 p q) = ((blk W 2 p q : ℝ) : EReal)) (h3 : ∀ p q, w3 (ix3 0 p q) = ((blk W 3 p q : ℝ) : EReal))
include hx hb h0 h1 h2 h3

/-- A gate on a tile: four products with block diagonal weights, a bias and a sigmoid. -/
theorem pay31_at (r : Fin 256) (k : Fin 1024) : k0_pay31 x b w0 w1 w2 w3 (ix2 r k) = ((N.gate W B (trow t r) k : ℝ) : EReal) := by
  have dot : ∀ (j : Fin 4) (q : Fin 256) (hk : k.val = j.val * 256 + q.val),
      ∑ y : Fin 256, N.xr (trow t r) ⟨j.val * 256 + y.val, by omega⟩ * blk W j y q = _ := fun j q hk => block_dot (N.xr (trow t r)) W j q k hk
  have d0 := dot 0
  have d1 := dot 1
  have d2 := dot 2
  have d3 := dot 3
  norm_num at d0 d1 d2 d3
  have key : ∀ (X : EReal) (S : ℝ), X = (S : EReal) → Ideal.div 1 (1 + Ideal.exp (0 - (X + b (ix2 0 k)))) = (((1 + Real.exp (-(S + B k)))⁻¹ : ℝ) : EReal) := fun X S h => by
    rw [h, hb, ← EReal.coe_add, ← EReal.coe_zero, ← EReal.coe_sub, Ideal.exp_coe, ← EReal.coe_one, ← EReal.coe_add,
      div_real (by have := Real.exp_pos (0 - (S + B k)); positivity), zero_sub, one_div]
  pointwise [k0_pay31, k0_pay30]
  refine key _ _ ?_
  by_cases c0 : k.val < 256
  · rw [dif_pos c0, ← d0 ⟨k.val, c0⟩ rfl]
    simp only [hx, h0, ← EReal.coe_mul, coe_sum]
  rw [dif_neg c0]
  by_cases c1 : k.val - 256 < 256
  · rw [dif_pos c1, ← d1 ⟨k.val - 256, c1⟩ (by simp only; omega)]
    simp only [hx, h1, ← EReal.coe_mul, coe_sum]
  rw [dif_neg c1]
  by_cases c2 : k.val - 256 - 256 < 256
  · rw [dif_pos c2, ← d2 ⟨k.val - 256 - 256, c2⟩ (by simp only; omega)]
    simp only [hx, h2, ← EReal.coe_mul, coe_sum]
  · rw [dif_neg c2, ← d3 ⟨k.val - 256 - 256 - 256, by omega⟩ (by simp only; omega)]
    simp only [hx, h3, ← EReal.coe_mul, coe_sum]

/-- The other gate, computed by its own copy of the same operations. -/
theorem pay34_at (r : Fin 256) (k : Fin 1024) : k0_pay34 b (k0_pay30 x) (k0_pay32 x) (k0_pay33 w0) w1 w2 w3 (ix2 r k) = ((N.gate W B (trow t r) k : ℝ) : EReal) := by
  rw [← pay31_at hx hb h0 h1 h2 h3 r k]
  rfl

end gates

section decay
variable {lam : Vec Ideal S1x1024 .f32} {ra : FVec Ideal S256x1024 .f32} (hl : ∀ k, lam (ix2 0 k) = ((N.lam k : ℝ) : EReal))
  (hs : ∀ k, Ideal.ofBits .f32 0x3C23D70A#32 ≤ ((Real.exp (-|N.lam k|) : ℝ) : EReal))
include hl hs

/-- The decay's softplus. -/
theorem pay29_at (k : Fin 1024) : k0_pay29 (k0_pay26 lam) (k0_pay27 lam) k0_pay28 (ix2 0 k) = ((N.sp k : ℝ) : EReal) := by
  have e : Ideal.exp (0 - FloatOps.absf (F := Ideal) (φ := .f32) ((N.lam k : ℝ) : EReal)) = ((Real.exp (-|N.lam k|) : ℝ) : EReal) := by
    rw [absf_coe, ← EReal.coe_zero, ← EReal.coe_sub, Ideal.exp_coe, zero_sub]
  have h := hs k
  pointwise [k0_pay29, k0_pay26, k0_pay27, k0_pay28]
  simp only [hl]
  rw [e, if_neg (not_lt.2 h), ← EReal.coe_one, ← EReal.coe_zero, ← EReal.coe_sub, ← EReal.coe_add, Ideal.log_coe,
    if_neg (by have := Real.exp_pos (-|N.lam k|); linarith), max_coe, ← EReal.coe_add, zero_sub]
  rfl

variable (hr : ∀ r k, ra (ix2 r k) = ((N.ra (trow t r) k : ℝ) : EReal))
include hr

/-- The decay's logarithm, the decay, and the doubled logarithm. -/
theorem pay35_at (r : Fin 256) (k : Fin 1024) :
    k0_pay35 (k0_pay29 (k0_pay26 lam) (k0_pay27 lam) k0_pay28) ra (ix2 r k) = ((N.la (trow t r) k : ℝ) : EReal) := by
  have e8 := ofBits_neg_eight
  pointwise [k0_pay35]
  rw [pay29_at hl hs, hr, e8, ← EReal.coe_mul, ← EReal.coe_mul]
  rfl

/-- The decay of a row is the exponential of its logarithm over the reals. -/
theorem pay36_at (r : Fin 256) (k : Fin 1024) :
    k0_pay36 (k0_pay29 (k0_pay26 lam) (k0_pay27 lam) k0_pay28) ra (ix2 r k) = ((N.a (trow t r) k : ℝ) : EReal) := by
  pointwise [k0_pay36]
  rw [pay35_at hl hs hr, Ideal.exp_coe]
  rfl

/-- The doubled logarithm of the decay. -/
theorem pay37_at (r : Fin 256) (k : Fin 1024) :
    k0_pay37 (k0_pay29 (k0_pay26 lam) (k0_pay27 lam) k0_pay28) ra (ix2 r k) = ((2 * N.la (trow t r) k : ℝ) : EReal) := by
  have e2 := ofBits_two
  pointwise [k0_pay37]
  rw [pay35_at hl hs hr, e2, ← EReal.coe_mul]

/-- The input's scale, where the decay is not near one. -/
theorem pay41_at {v213 v218 v219 : FVec Ideal S256x1024 .f32}
    (hd : ∀ r k, ((2 * N.la (trow t r) k : ℝ) : EReal) ≤ Ideal.ofBits .f32 0xBC23D70A#32) (r : Fin 256) (k : Fin 1024) :
    k0_pay41 (k0_pay36 (k0_pay29 (k0_pay26 lam) (k0_pay27 lam) k0_pay28) ra) (k0_pay37 (k0_pay29 (k0_pay26 lam) (k0_pay27 lam) k0_pay28) ra)
      v213 v218 v219 (ix2 r k) = ((N.mult (trow t r) k : ℝ) : EReal) := by
  have h := hd r k
  pointwise [k0_pay41]
  rw [pay36_at hl hs hr, pay37_at hl hs hr, if_neg (not_lt.2 h), ← EReal.coe_one, ← EReal.coe_mul, ← EReal.coe_sub, Ideal.sqrt_coe,
    if_neg (by have := N.a_sq_lt (trow t r) k; linarith)]
  rfl

end decay

section scan
/-- Row `s` of the `g`-th group of eight rows of a tile. -/
def grow (t : Fin 16) (g : Fin 32) (s : Fin 8) : Fin 4096 := trow t ⟨g.val * 8 + s.val, by omega⟩

variable {x i a v211 v213 v218 v219 : FVec Ideal S256x1024 .f32}
  (hx : ∀ r k, x (ix2 r k) = ((N.xr (trow t r) k : ℝ) : EReal)) (hi : ∀ r k, i (ix2 r k) = ((N.ig (trow t r) k : ℝ) : EReal))
  (ha : ∀ r k, a (ix2 r k) = ((N.a (trow t r) k : ℝ) : EReal))
  (hm : ∀ r k, k0_pay41 a v211 v213 v218 v219 (ix2 r k) = ((N.mult (trow t r) k : ℝ) : EReal))

/-- A real choice inside the extended reals. -/
theorem coe_ite {p : Prop} [Decidable p] {X Y : EReal} {u v : ℝ} (hX : X = (u : EReal)) (hY : Y = (v : EReal)) :
    (if p then X else Y) = (((if p then u else v) : ℝ) : EReal) := by
  split_ifs
  exacts [hX, hY]

include ha in
/-- The factors after one doubling step. -/
theorem pay45_at (g : Fin 32) (s : Fin 8) (k : Fin 1024) :
    k0_pay45 a (ix3 g s k) = ((mulStep 1 (fun s => N.a (grow t g s) k) s : ℝ) : EReal) := by
  pointwise [k0_pay45, k0_pay42, k0_pay43]
  rw [sge_eq s.val 1 s.isLt (by norm_num), coe_ite (ha _ _) EReal.coe_one.symm, ha, ← EReal.coe_mul]
  rfl

include hx hi ha hm

/-- The summands after one doubling step. -/
theorem pay44_at (g : Fin 32) (s : Fin 8) (k : Fin 1024) :
    k0_pay44 x i a v211 v213 v218 v219 (ix3 g s k) = ((sumStep 1 (fun s => N.a (grow t g s) k) (fun s => N.inp (grow t g s) k) s : ℝ) : EReal) := by
  pointwise [k0_pay44, k0_pay42, k0_pay43]
  simp only [ha, hm, hi, hx, ← EReal.coe_mul]
  rw [sge_eq s.val 1 s.isLt (by norm_num), coe_ite rfl EReal.coe_zero.symm, ← EReal.coe_add]
  rfl

/-- What the second doubling step adds. -/
theorem pay47_at (g : Fin 32) (s : Fin 8) (k : Fin 1024) :
    k0_pay47 x i a v211 v213 v218 v219 (ix3 g s k) =
      (((if 2 ≤ s.val then mulStep 1 (fun s => N.a (grow t g s) k) s * sumStep 1 (fun s => N.a (grow t g s) k) (fun s => N.inp (grow t g s) k)
        ⟨(s.val + 8 - 2) % 8, Nat.mod_lt _ (by norm_num)⟩ else 0) : ℝ) : EReal) := by
  pointwise [k0_pay47, k0_pay46]
  simp only [pay44_at hx hi ha hm, pay45_at ha, ← EReal.coe_mul]
  rw [sge_eq s.val 2 s.isLt (by norm_num), coe_ite rfl EReal.coe_zero.symm]

omit hx hi hm in
/-- The factors after the third doubling step. -/
theorem pay51_at (g : Fin 32) (s : Fin 8) (k : Fin 1024) :
    k0_pay51 (iota .tc S32x8x1024 32 [1] iota_S32x8x1024_d1_w32) (k0_pay45 a) k0_pay46 (ix3 g s k) = ((mulScan (fun s => N.a (grow t g s) k) s : ℝ) : EReal) := by
  have h2 : ∀ s, k0_pay48 (k0_pay45 a) k0_pay46 (ix3 g s k) = ((mulStep 2 (mulStep 1 (fun s => N.a (grow t g s) k)) s : ℝ) : EReal) := fun s => by
    pointwise [k0_pay48, k0_pay46]
    simp only [pay45_at ha]
    rw [sge_eq s.val 2 s.isLt (by norm_num), coe_ite rfl EReal.coe_one.symm, ← EReal.coe_mul]
    rfl
  pointwise [k0_pay51, k0_pay49]
  simp only [h2]
  rw [sge_eq s.val 4 s.isLt (by norm_num), coe_ite rfl EReal.coe_one.symm, ← EReal.coe_mul]
  rfl

/-- The summands after the third doubling step. -/
theorem pay50_at (g : Fin 32) (s : Fin 8) (k : Fin 1024) :
    k0_pay50 (iota .tc S32x8x1024 32 [1] iota_S32x8x1024_d1_w32) (k0_pay44 x i a v211 v213 v218 v219) (k0_pay45 a) k0_pay46
      (k0_pay47 x i a v211 v213 v218 v219) (ix3 g s k) =
      ((sumScan (fun s => N.a (grow t g s) k) (fun s => N.inp (grow t g s) k) s : ℝ) : EReal) := by
  have h2 : ∀ s, k0_pay48 (k0_pay45 a) k0_pay46 (ix3 g s k) = ((mulStep 2 (mulStep 1 (fun s => N.a (grow t g s) k)) s : ℝ) : EReal) := fun s => by
    pointwise [k0_pay48, k0_pay46]
    simp only [pay45_at ha]
    rw [sge_eq s.val 2 s.isLt (by norm_num), coe_ite rfl EReal.coe_one.symm, ← EReal.coe_mul]
    rfl
  pointwise [k0_pay50, k0_pay49]
  simp only [h2, pay44_at hx hi ha hm, pay47_at hx hi ha hm, ← EReal.coe_add, ← EReal.coe_mul]
  rw [sge_eq s.val 4 s.isLt (by norm_num), coe_ite rfl EReal.coe_zero.symm, ← EReal.coe_add]
  rfl

end scan

section norm
variable {v31 hsv : FVec Ideal S256x1024 .f32} {v22 c : FVec Ideal S256x512 .f32} {gc : Vec Ideal S1x512 .f32} {gr : Vec Ideal S1x1024 .f32}

/-- The convolution branch's normed output on a tile. -/
theorem pay93_at (h22 : ∀ r k, v22 (ix2 r k) = ((N.gb (trow t r) k : ℝ) : EReal)) (hc : ∀ r k, c (ix2 r k) = ((N.c3 (trow t r) k : ℝ) : EReal))
    (hg : ∀ k, gc (ix2 0 k) = ((N.gc k : ℝ) : EReal)) (r : Fin 256) (k : Fin 512) :
    k0_pay93 (k0_pay17 v22 c) gc (ix2 r k) = ((N.oc (trow t r) k : ℝ) : EReal) := by
  have hy : ∀ k, k0_pay17 v22 c (ix2 r k) = ((N.yc (trow t r) k : ℝ) : EReal) := fun k => by
    pointwise [k0_pay17]
    rw [h22, hc, ← EReal.coe_mul]
    rfl
  pointwise [k0_pay93]
  simp only [hy, hg]
  rw [rstd_lift _ ofBits_512 ofBits_eps (by norm_num), ← EReal.coe_mul, ← EReal.coe_mul]
  rfl

/-- The recurrence branch's normed output on a tile. -/
theorem pay1_at (h31 : ∀ r k, v31 (ix2 r k) = ((N.go (trow t r) k : ℝ) : EReal)) (hh : ∀ r k, hsv (ix2 r k) = ((N.hs (trow t r) k : ℝ) : EReal))
    (hg : ∀ k, gr (ix2 0 k) = ((N.gr k : ℝ) : EReal)) (r : Fin 256) (k : Fin 1024) :
    k0_pay1 (k0_pay92 v31 hsv (k0_pay91 v31) gr) (ix2 r k) = ((N.ob (trow t r) k : ℝ) : EReal) := by
  have eh := ofBits_half
  have ht : ∀ k, k0_pay91 v31 (ix2 r k) = ((Real.tanh (gs * (N.go (trow t r) k + gk * N.go (trow t r) k * N.go (trow t r) k * N.go (trow t r) k)) : ℝ) : EReal) := fun k => by
    pointwise [k0_pay91]
    rw [h31, ofBits_gk, ofBits_gs]
    simp only [← EReal.coe_mul, ← EReal.coe_add, Ideal.tanh_coe]
  have hy : ∀ k, hsv (ix2 r k) * (Ideal.ofBits .f32 0x3F000000#32 * v31 (ix2 r k) * (1 + k0_pay91 v31 (ix2 r k))) = ((N.yr (trow t r) k : ℝ) : EReal) := fun k => by
    rw [ht, h31, hh, eh, ← EReal.coe_one, ← EReal.coe_mul, ← EReal.coe_add, ← EReal.coe_mul, ← EReal.coe_mul]
    rfl
  pointwise [k0_pay1, k0_pay92]
  simp only [hy, hg]
  rw [rstd_lift (N.yr (trow t r)) ofBits_1024 ofBits_eps (by norm_num), ← EReal.coe_mul, ← EReal.coe_mul]
  rfl

end norm

section hs
/-- A group's states from its summands, its factors and the state before it. -/
def groupOf (B A : FVec Ideal S32x8x1024 .f32) (p : FVec Ideal S1x1024 .f32) (g : Fin 32) : FVec Ideal S8x1024 .f32 :=
  have h : Shape.Slices S32x8x1024 ![g.val, 0, 0] S1x8x1024 := ⟨rfl, fun a => match a with
    | ⟨0, _⟩ => show g.val + 1 ≤ 32 by omega
    | ⟨1, _⟩ => show 0 + 8 ≤ 8 by omega
    | ⟨2, _⟩ => show 0 + 1024 ≤ 1024 by omega⟩
  addf (shapeCast S8x1024 (extractStridedSlice S1x8x1024 ![g.val, 0, 0] B h) shapeCasts_S1x8x1024_S8x1024)
    (mulf (shapeCast S8x1024 (extractStridedSlice S1x8x1024 ![g.val, 0, 0] A h) shapeCasts_S1x8x1024_S8x1024)
      (broadcastTo S8x1024 p broadcasts_S1x1024_S8x1024))

/-- The groups one after the other, each from the last state of the one before. -/
def groups (B A : FVec Ideal S32x8x1024 .f32) (p : FVec Ideal S1x1024 .f32) : (n : ℕ) → n < 32 → FVec Ideal S8x1024 .f32
  | 0, h => groupOf B A p ⟨0, h⟩
  | n + 1, h => groupOf B A (extractStridedSlice S1x1024 ![7, 0] (groups B A p n (by omega)) slices_S8x1024_o7_0_S1x1024) ⟨n + 1, h⟩

variable {B A : FVec Ideal S32x8x1024 .f32} {p : FVec Ideal S1x1024 .f32}

/-- A group of eight rows is its local scan plus its running product times the state that came in. -/
theorem groupOf_at (g : Fin 32) (s : Fin 8) (k : Fin 1024) : groupOf B A p g (ix2 s k) = B (ix3 g s k) + A (ix3 g s k) * p (ix2 0 k) := by
  unfold groupOf
  pointwise

/-- A group's states are the recurrence's, when its summands and factors are the three doubling steps' and it starts from the state before it. -/
theorem group_step {g : Fin 32} {k : Fin 1024} (hB : ∀ s, B (ix3 g s k) = ((sumScan (fun s => N.a (grow t g s) k) (fun s => N.inp (grow t g s) k) s : ℝ) : EReal))
    (hA : ∀ s, A (ix3 g s k) = ((mulScan (fun s => N.a (grow t g s) k) s : ℝ) : EReal))
    (hp : p (ix2 0 k) = ((N.st (t.val * 256 + g.val * 8) k : ℝ) : EReal)) (s : Fin 8) :
    groupOf B A p g (ix2 s k) = ((N.hs (grow t g s) k : ℝ) : EReal) := by
  rw [groupOf_at, hB, hA, hp, ← EReal.coe_mul, ← EReal.coe_add]
  refine congrArg _ ((scan_eq (fun s => N.a (grow t g s) k) (fun s => N.inp (grow t g s) k) (fun n => N.st (t.val * 256 + g.val * 8 + n) k) (fun s => ?_) s).trans ?_)
  · exact (congrArg (fun n => N.st (n + 1) k) (Nat.add_assoc _ _ _)).trans
      ((N.st_succ (grow t g s) k).trans (congrArg (fun n => N.a (grow t g s) k * N.st n k + N.inp (grow t g s) k) (Nat.add_assoc _ _ _).symm))
  · exact congrArg (fun n => N.st (n + 1) k) (Nat.add_assoc _ _ _)

variable (hB : ∀ g s k, B (ix3 g s k) = ((sumScan (fun s => N.a (grow t g s) k) (fun s => N.inp (grow t g s) k) s : ℝ) : EReal))
  (hA : ∀ g s k, A (ix3 g s k) = ((mulScan (fun s => N.a (grow t g s) k) s : ℝ) : EReal))
  (hp : ∀ k, p (ix2 0 k) = ((N.st (t.val * 256) k : ℝ) : EReal))
include hB hA hp

/-- Every group's states are the recurrence's. -/
theorem groups_at : ∀ (n : ℕ) (h : n < 32) (s : Fin 8) (k : Fin 1024), groups B A p n h (ix2 s k) = ((N.hs (grow t ⟨n, h⟩ s) k : ℝ) : EReal)
  | 0, h, s, k => group_step (fun s => hB _ s k) (fun s => hA _ s k) (hp k) s
  | n + 1, h, s, k => by
    refine group_step (fun s => hB _ s k) (fun s => hA _ s k) ?_ s
    pointwise
    rw [groups_at n (by omega) 7 k]
    exact congrArg (fun i => ((N.st i k : ℝ) : EReal)) (by show t.val * 256 + (n * 8 + 7) + 1 = t.val * 256 + (n + 1) * 8; omega)

omit hB hA hp in
/-- The thirty-two groups of eight rows make up a tile's 256 rows. -/
theorem groups_concat : Shape.Concatenates ((List.ofFn fun g : Fin 32 => (⟨S8x1024, groups B A p g.val g.isLt⟩ : (s : Shape) × (s.Idx → EReal))).map (·.1)) S256x1024 0 :=
  concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

/-- A tile's states, the groups stacked. -/
def states (B A : FVec Ideal S32x8x1024 .f32) (p : FVec Ideal S1x1024 .f32) : FVec Ideal S256x1024 .f32 :=
  concatenate S256x1024 0 (List.ofFn fun g : Fin 32 => (⟨S8x1024, groups B A p g.val g.isLt⟩ : (s : Shape) × (s.Idx → EReal))) groups_concat

/-- The states that a tile computes are the recurrence's, row by row. -/
theorem states_at (r : Fin 256) (k : Fin 1024) : states B A p (ix2 r k) = ((N.hs (trow t r) k : ℝ) : EReal) := by
  refine (concatenate_ofFn_apply 0 (fun g : Fin 32 => groups B A p g.val g.isLt) groups_concat rfl 8 rfl (ix2 r k) ⟨r.val / 8, by omega⟩ rfl
    (ix2 ⟨r.val % 8, by omega⟩ k) rfl (fun b hb => ?_)).trans ((groups_at hB hA hp _ _ _ _).trans ?_)
  · match b with
    | ⟨0, _⟩ => exact absurd rfl hb
    | ⟨1, _⟩ => rfl
  · exact congrArg (fun i => ((N.hs i k : ℝ) : EReal)) (Fin.ext (by show t.val * 256 + (r.val / 8 * 8 + r.val % 8) = t.val * 256 + r.val; omega))

end hs

/-- What one grid point reads: the blocks of its tile, the weights in the blocks the body loads, and what the tile before it kept. -/
structure Ins where
  h : Vec Ideal S256x1024 .bf16
  w0 : Vec Ideal S1x1024x896 .bf16
  w1 : Vec Ideal S1x1024x896 .bf16
  w2 : Vec Ideal S1x1024x896 .bf16
  w3 : Vec Ideal S1x1024x896 .bf16
  cw : Vec Ideal S8x512 .f32
  rw : Vec Ideal S8x1024 .f32
  rb : Vec Ideal S1x1024 .f32
  a0 : Vec Ideal S1x256x256 .bf16
  a1 : Vec Ideal S1x256x256 .bf16
  a2 : Vec Ideal S1x256x256 .bf16
  a3 : Vec Ideal S1x256x256 .bf16
  ba : Vec Ideal S1x1024 .f32
  x0 : Vec Ideal S1x256x256 .bf16
  x1 : Vec Ideal S1x256x256 .bf16
  x2 : Vec Ideal S1x256x256 .bf16
  x3 : Vec Ideal S1x256x256 .bf16
  bx : Vec Ideal S1x1024 .f32
  lam : Vec Ideal S1x1024 .f32
  gc : Vec Ideal S1x512 .f32
  gr : Vec Ideal S1x1024 .f32
  p0 : Vec Ideal S8x512 .f32
  p1 : Vec Ideal S8x1024 .f32
  p2 : Vec Ideal S1x1024 .f32

/-- What a grid point reads is the `t`-th tile of these real arrays, away from the two places where the body uses a series. -/
structure Ins.Holds (I : Ins) (N : Layer) (t : Fin 16) : Prop where
  hh : ∀ r k, I.h (ix2 r k) = ((N.h (trow t r) k : ℝ) : EReal)
  hw0 : ∀ j k, I.w0 (ix3 0 j k) = ((N.w j ⟨(0 : Fin 4).val * 896 + k.val, by omega⟩ : ℝ) : EReal)
  hw1 : ∀ j k, I.w1 (ix3 0 j k) = ((N.w j ⟨(1 : Fin 4).val * 896 + k.val, by omega⟩ : ℝ) : EReal)
  hw2 : ∀ j k, I.w2 (ix3 0 j k) = ((N.w j ⟨(2 : Fin 4).val * 896 + k.val, by omega⟩ : ℝ) : EReal)
  hw3 : ∀ j k, I.w3 (ix3 0 j k) = ((N.w j ⟨(3 : Fin 4).val * 896 + k.val, by omega⟩ : ℝ) : EReal)
  hcw : ∀ (j : Fin 3) k, I.cw (ix2 ⟨j.val, by omega⟩ k) = ((N.cw j k : ℝ) : EReal)
  hrw : ∀ (j : Fin 4) k, I.rw (ix2 ⟨j.val, by omega⟩ k) = ((N.rw j k : ℝ) : EReal)
  hrb : ∀ k, I.rb (ix2 0 k) = ((N.rb k : ℝ) : EReal)
  ha0 : ∀ p q, I.a0 (ix3 0 p q) = ((blk N.wa 0 p q : ℝ) : EReal)
  ha1 : ∀ p q, I.a1 (ix3 0 p q) = ((blk N.wa 1 p q : ℝ) : EReal)
  ha2 : ∀ p q, I.a2 (ix3 0 p q) = ((blk N.wa 2 p q : ℝ) : EReal)
  ha3 : ∀ p q, I.a3 (ix3 0 p q) = ((blk N.wa 3 p q : ℝ) : EReal)
  hba : ∀ k, I.ba (ix2 0 k) = ((N.ba k : ℝ) : EReal)
  hx0 : ∀ p q, I.x0 (ix3 0 p q) = ((blk N.wx 0 p q : ℝ) : EReal)
  hx1 : ∀ p q, I.x1 (ix3 0 p q) = ((blk N.wx 1 p q : ℝ) : EReal)
  hx2 : ∀ p q, I.x2 (ix3 0 p q) = ((blk N.wx 2 p q : ℝ) : EReal)
  hx3 : ∀ p q, I.x3 (ix3 0 p q) = ((blk N.wx 3 p q : ℝ) : EReal)
  hbx : ∀ k, I.bx (ix2 0 k) = ((N.bx k : ℝ) : EReal)
  hlam : ∀ k, I.lam (ix2 0 k) = ((N.lam k : ℝ) : EReal)
  hgc : ∀ k, I.gc (ix2 0 k) = ((N.gc k : ℝ) : EReal)
  hgr : ∀ k, I.gr (ix2 0 k) = ((N.gr k : ℝ) : EReal)
  hp0 : ∀ a k, I.p0 (ix2 a k) = ((prev N.cv t a k : ℝ) : EReal)
  hp1 : ∀ a k, I.p1 (ix2 a k) = ((prev N.xin t a k : ℝ) : EReal)
  hp2 : ∀ k, I.p2 (ix2 0 k) = ((N.st (t.val * 256) k : ℝ) : EReal)
  soft : ∀ k, Ideal.ofBits .f32 0x3C23D70A#32 ≤ ((Real.exp (-|N.lam k|) : ℝ) : EReal)
  far : ∀ r k, ((2 * N.la r k : ℝ) : EReal) ≤ Ideal.ofBits .f32 0xBC23D70A#32

/-- A place of a block of columns that starts at `o`, in the whole. -/
theorem emb_cols {C n : ℕ} (o : ℕ) (inb : ∀ a, (![0, o] : Fin 2 → ℕ) a + (![256, n] : Fin 2 → ℕ) a ≤ (⟨2, ![256, C]⟩ : Shape).size a)
    (r : Fin 256) (k : Fin n) (k' : Fin C) (hk : k'.val = o + k.val) :
    (Rect.unit (s := ⟨2, ![256, C]⟩) ![0, o] ![256, n] inb).emb (ix2 r k) = ix2 r k' :=
  Rect.emb_eq_of_coords _ _ _ (by intro a; fin_cases a <;> simp [hk])

/-- A block of columns whose entries are those of `G` is a block of the array `G`. -/
theorem cols_piece {C n o : ℕ} {φ : EltTy} (G : Fin 256 → Fin C → Elt Ideal φ)
    (inb : ∀ a, (![0, o] : Fin 2 → ℕ) a + (![256, n] : Fin 2 → ℕ) a ≤ (⟨2, ![256, C]⟩ : Shape).size a) {w : (⟨2, ![256, n]⟩ : Shape).Idx → Elt Ideal φ}
    (hn : o + n ≤ C) (hw : ∀ r k, w (ix2 r k) = G r ⟨o + k.val, by omega⟩) (i : (⟨2, ![256, n]⟩ : Shape).Idx) :
    w i = (fun j : (⟨2, ![256, C]⟩ : Shape).Idx => G (j 0) (j 1)) ((Rect.unit (s := ⟨2, ![256, C]⟩) ![0, o] ![256, n] inb).emb i) := by
  have e : i = ix2 (i 0) (i 1) := by
    funext b
    fin_cases b <;> rfl
  rw [e]
  have hi : (i 1).val < n := (i 1).isLt
  exact (hw (i 0) (i 1)).trans (congrArg (fun j : (⟨2, ![256, C]⟩ : Shape).Idx => G (j 0) (j 1)) (emb_cols o inb (i 0) (i 1) ⟨o + (i 1).val, by omega⟩ rfl)).symm

namespace Ins

variable (I : Ins) (t : Fin cfg0.N)

/-- The four stores of the projection's quarters. -/
def pieces : List (View.Piece (Elt Ideal) S256x3584 .f32) :=
  [⟨Rect.unit ![0, 2688] ![256, 896] inb_S256x3584_S256x896_0_2688, k0_pay9 I.h I.w3⟩,
    ⟨Rect.unit ![0, 1792] ![256, 896] inb_S256x3584_S256x896_0_1792, k0_pay8 I.h I.w2⟩,
    ⟨Rect.unit ![0, 896] ![256, 896] inb_S256x3584_S256x896_0_896, k0_pay7 I.h I.w1⟩,
    ⟨Rect.unit ![0, 0] ![256, 896] inb_S256x3584_S256x896_0_0, k0_pay6 I.h I.w0⟩]

/-- The stages of the tile's computation: the projection's parts loaded back, the convolutions, the gates, the scan and the norms. -/
def v22 : FVec Ideal S256x512 .f32 := k0_pay10 ((ms0_12 t).view.readCov (Val := Elt Ideal) I.pieces (Rect.unit (s := S256x3584) ![0, 0] ![256, 512] inb_S256x3584_S256x512_0_0).toLoadRect)
/-- The columns of the convolution's second gate, as the tile reads them back from `u`. -/
def v23 : Vec Ideal S256x512 .f32 := (ms0_12 t).view.readCov (Val := Elt Ideal) I.pieces (Rect.unit (s := S256x3584) ![0, 512] ![256, 512] inb_S256x3584_S256x512_0_512).toLoadRect
/-- The convolution's own columns, as the tile reads them back from `u`. -/
def v25 : Vec Ideal S256x512 .f32 := (ms0_12 t).view.readCov (Val := Elt Ideal) I.pieces (Rect.unit (s := S256x3584) ![0, 1024] ![256, 512] inb_S256x3584_S256x512_0_1024).toLoadRect
/-- The columns that enter the recurrence's convolution. -/
def v29 : FVec Ideal S256x1024 .f32 := k0_pay12 ((ms0_12 t).view.readCov (Val := Elt Ideal) I.pieces (Rect.unit (s := S256x3584) ![0, 1536] ![256, 1024] inb_S256x3584_S256x1024_0_1536).toLoadRect)
/-- The columns of the gelu gate. -/
def v31 : FVec Ideal S256x1024 .f32 := k0_pay13 ((ms0_12 t).view.readCov (Val := Elt Ideal) I.pieces (Rect.unit (s := S256x3584) ![0, 2560] ![256, 1024] inb_S256x3584_S256x1024_0_2560).toLoadRect)
/-- The tile's gated convolution. -/
def c3 : FVec Ideal S256x512 .f32 := k0_pay14 (I.v23 t) (I.v25 t) I.cw I.p0
/-- The tile's convolved columns of the recurrence. -/
def xr : FVec Ideal S256x1024 .f32 :=
  k0_pay24 (I.v29 t) (k0_pay18 I.rw) (k0_pay19 (I.v29 t) I.rw I.p1) (k0_pay20 I.rw) (k0_pay22 (I.v29 t) I.p1) (k0_pay23 (I.v29 t)) I.rb
/-- The softplus of the decay's parameter. -/
def sp : FVec Ideal S1x1024 .f32 := k0_pay29 (k0_pay26 I.lam) (k0_pay27 I.lam) k0_pay28
/-- The tile's gate on the decay. -/
def ra : FVec Ideal S256x1024 .f32 := k0_pay31 (I.xr t) I.ba I.a0 I.a1 I.a2 I.a3
/-- The tile's gate on the input. -/
def ig : FVec Ideal S256x1024 .f32 := k0_pay34 I.bx (k0_pay30 (I.xr t)) (k0_pay32 (I.xr t)) (k0_pay33 I.x0) I.x1 I.x2 I.x3
/-- The tile's decay. -/
def a : FVec Ideal S256x1024 .f32 := k0_pay36 I.sp (I.ra t)
/-- The tile's doubled logarithm of the decay. -/
def l2 : FVec Ideal S256x1024 .f32 := k0_pay37 I.sp (I.ra t)
/-- The first factor of the short series, which the precondition rules out. -/
def e3 : FVec Ideal S256x1024 .f32 := k0_pay38 I.sp (I.ra t)
/-- The inner factor of that series. -/
def e8 : FVec Ideal S256x1024 .f32 := k0_pay39 I.sp (I.ra t)
/-- The tile's factor on the recurrence's input. -/
def mult : FVec Ideal S256x1024 .f32 := k0_pay41 (I.a t) (I.l2 t) (I.e3 t) (I.e8 t) k0_pay40
/-- The scan of the inputs inside the groups of eight rows. -/
def sums : FVec Ideal S32x8x1024 .f32 :=
  k0_pay50 (iota .tc S32x8x1024 32 [1] iota_S32x8x1024_d1_w32) (k0_pay44 (I.xr t) (I.ig t) (I.a t) (I.l2 t) (I.e3 t) (I.e8 t) k0_pay40) (k0_pay45 (I.a t)) k0_pay46
    (k0_pay47 (I.xr t) (I.ig t) (I.a t) (I.l2 t) (I.e3 t) (I.e8 t) k0_pay40)
/-- The running products of the decays inside the groups of eight rows. -/
def muls : FVec Ideal S32x8x1024 .f32 := k0_pay51 (iota .tc S32x8x1024 32 [1] iota_S32x8x1024_d1_w32) (k0_pay45 (I.a t)) k0_pay46
/-- The tile's states. -/
def hs : FVec Ideal S256x1024 .f32 := states (I.sums t) (I.muls t) I.p2

/-- The stores of the two normed branches and of the four gate arrays. -/
def outY : List (View.Piece (Elt Ideal) S256x1536 .bf16) :=
  [⟨Rect.unit ![0, 512] ![256, 1024] inb_S256x1536_S256x1024_0_512, k0_pay1 (k0_pay92 (I.v31 t) (I.hs t) (k0_pay91 (I.v31 t)) I.gr)⟩,
    ⟨Rect.unit ![0, 0] ![256, 512] inb_S256x1536_S256x512_0_0, k0_pay93 (k0_pay17 (I.v22 t) (I.c3 t)) I.gc⟩]
/-- The four stores that make up the tile's gates. -/
def outG : List (View.Piece (Elt Ideal) S256x4096 .f32) :=
  [⟨Rect.unit ![0, 3072] ![256, 1024] inb_S256x4096_S256x1024_0_3072, I.mult t⟩,
    ⟨Rect.unit ![0, 2048] ![256, 1024] inb_S256x4096_S256x1024_0_2048, I.a t⟩,
    ⟨Rect.unit ![0, 1024] ![256, 1024] inb_S256x4096_S256x1024_0_1024, I.ig t⟩,
    ⟨Rect.unit ![0, 0] ![256, 1024] inb_S256x4096_S256x1024_0_0, I.ra t⟩]

end Ins

/-- What a grid point reads, with what the point before it kept. -/
def ins (c : Dev nD) (t : Fin cfg0.N) (p0 : Vec Ideal S8x512 .f32) (p1 : Vec Ideal S8x1024 .f32) (p2 : Vec Ideal S1x1024 .f32) : Ins where
  h := iblk m c 0 t
  w0 := View.ld (iblk m c 1 t) (Rect.unit ![0, 0, 0] ![1, 1024, 896] inb_S4x1024x896_S1x1024x896_0_0_0)
  w1 := View.ld (iblk m c 1 t) (Rect.unit ![1, 0, 0] ![1, 1024, 896] inb_S4x1024x896_S1x1024x896_1_0_0)
  w2 := View.ld (iblk m c 1 t) (Rect.unit ![2, 0, 0] ![1, 1024, 896] inb_S4x1024x896_S1x1024x896_2_0_0)
  w3 := View.ld (iblk m c 1 t) (Rect.unit ![3, 0, 0] ![1, 1024, 896] inb_S4x1024x896_S1x1024x896_3_0_0)
  cw := iblk m c 2 t
  rw := iblk m c 3 t
  rb := iblk m c 4 t
  a0 := View.ld (iblk m c 5 t) (Rect.unit ![0, 0, 0] ![1, 256, 256] inb_S4x256x256_S1x256x256_0_0_0)
  a1 := View.ld (iblk m c 5 t) (Rect.unit ![1, 0, 0] ![1, 256, 256] inb_S4x256x256_S1x256x256_1_0_0)
  a2 := View.ld (iblk m c 5 t) (Rect.unit ![2, 0, 0] ![1, 256, 256] inb_S4x256x256_S1x256x256_2_0_0)
  a3 := View.ld (iblk m c 5 t) (Rect.unit ![3, 0, 0] ![1, 256, 256] inb_S4x256x256_S1x256x256_3_0_0)
  ba := iblk m c 6 t
  x0 := View.ld (iblk m c 7 t) (Rect.unit ![0, 0, 0] ![1, 256, 256] inb_S4x256x256_S1x256x256_0_0_0)
  x1 := View.ld (iblk m c 7 t) (Rect.unit ![1, 0, 0] ![1, 256, 256] inb_S4x256x256_S1x256x256_1_0_0)
  x2 := View.ld (iblk m c 7 t) (Rect.unit ![2, 0, 0] ![1, 256, 256] inb_S4x256x256_S1x256x256_2_0_0)
  x3 := View.ld (iblk m c 7 t) (Rect.unit ![3, 0, 0] ![1, 256, 256] inb_S4x256x256_S1x256x256_3_0_0)
  bx := iblk m c 8 t
  lam := iblk m c 9 t
  gc := iblk m c 10 t
  gr := iblk m c 11 t
  p0 := p0
  p1 := p1
  p2 := p2

/-- A grid point's three carried arrays: its tile's last convolution inputs, last recurrence inputs and last state. -/
def kept (I : Ins) (t : Fin cfg0.N) : Vec Ideal S8x512 .f32 × Vec Ideal S8x1024 .f32 × Vec Ideal S1x1024 .f32 :=
  (k0_pay16 (k0_pay15 (I.v23 t) (I.v25 t)), k0_pay25 (I.v29 t),
    shapeCast S1x1024 (extractStridedSlice S1x1024 ![255, 0] (I.hs t) slices_S256x1024_o255_0_S1x1024) shapeCasts_S1x1024_S1x1024)

/-- The blocks a grid point leaves. -/
structure Leaves (c : Dev nD) (t : Fin cfg0.N) (I : Ins) : Prop where
  u : (outsAt0 m c t.val t.isLt).1 = View.canon I.pieces
  xr : (outsAt0 m c t.val t.isLt).2.1 = I.xr t
  hs : (outsAt0 m c t.val t.isLt).2.2.1 = I.hs t
  c3 : (outsAt0 m c t.val t.isLt).2.2.2.1 = I.c3 t
  y : (outsAt0 m c t.val t.isLt).2.2.2.2.1 = View.canon (I.outY t)
  gates : (outsAt0 m c t.val t.isLt).2.2.2.2.2.1 = View.canon (I.outG t)
  kept0 : (outsAt0 m c t.val t.isLt).2.2.2.2.2.2.1 = (kept I t).1
  kept1 : (outsAt0 m c t.val t.isLt).2.2.2.2.2.2.2.1 = (kept I t).2.1
  kept2 : (outsAt0 m c t.val t.isLt).2.2.2.2.2.2.2.2 = (kept I t).2.2

set_option maxHeartbeats 4000000 in
/-- The first grid point, whose carried arrays are zeros. -/
theorem leaves_first (c : Dev nD) (t : Fin cfg0.N) (h0 : t.val % 16 = 0) : Leaves m c t (ins m c t (k0_pay2 (F := Ideal)) (k0_pay3 (F := Ideal)) (k0_pay4 (F := Ideal))) := by
  refine ⟨?_, ?_, ?_, ?_, ?_, ?_, ?_, ?_, ?_⟩ <;> (rw [outsAt0_A m c t h0]; frame_out; sl_kernel_rfl)

set_option maxHeartbeats 4000000 in
/-- A later grid point, which reads what the point before it kept. -/
theorem leaves_later (c : Dev nD) (t : Fin cfg0.N) (h0 : ¬ t.val % 16 = 0) : Leaves m c t
    (ins m c t (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2.1
      (outsAt0 m c (t.val - 1) (Nat.lt_of_le_of_lt (Nat.sub_le _ _) t.isLt)).2.2.2.2.2.2.2.2) := by
  refine ⟨?_, ?_, ?_, ?_, ?_, ?_, ?_, ?_, ?_⟩ <;> (rw [outsAt0_B m c t h0]; frame_out; (try simp only [read_unread_whole]); sl_kernel_rfl)

namespace Ins

variable {I : Ins} {N : Layer} {T : Fin 16} (h : I.Holds N T) (t : Fin cfg0.N)
include h

/-- The projection's block, quarter by quarter. -/
theorem u_at (r : Fin 256) (k : Fin 3584) : View.canon I.pieces (ix2 r k) = ((N.u (trow T r) k : ℝ) : EReal) := by
  have hG : View.PiecesOf (fun j : S256x3584.Idx => ((N.u (trow T (j 0)) (j 1) : ℝ) : EReal)) I.pieces :=
    ⟨cols_piece (φ := .f32) (fun r k => ((N.u (trow T r) k : ℝ) : EReal)) inb_S256x3584_S256x896_0_2688 (by norm_num) (pay9_at h.hh h.hw3),
      cols_piece (φ := .f32) (fun r k => ((N.u (trow T r) k : ℝ) : EReal)) inb_S256x3584_S256x896_0_1792 (by norm_num) (pay8_at h.hh h.hw2),
      cols_piece (φ := .f32) (fun r k => ((N.u (trow T r) k : ℝ) : EReal)) inb_S256x3584_S256x896_0_896 (by norm_num) (pay7_at h.hh h.hw1),
      cols_piece (φ := .f32) (fun r k => ((N.u (trow T r) k : ℝ) : EReal)) inb_S256x3584_S256x896_0_0 (by norm_num)
        (fun r k => (pay6_at h.hh h.hw0 r k).trans (congrArg (fun i => ((N.u (trow T r) i : ℝ) : EReal)) (Fin.ext (by simp)))), trivial⟩
  have e := View.canon_append_of_piecesOf _ [] I.pieces hG (ix2 r k) (View.cover_of_tiledL _ ![256, 896] (by sl_kernel_rfl) _)
  rw [List.append_nil] at e
  exact e

/-- A part of the projection, loaded back. -/
theorem part_at {n o : ℕ} (inb : ∀ a, (![0, o] : Fin 2 → ℕ) a + (![256, n] : Fin 2 → ℕ) a ≤ S256x3584.size a) (hn : o + n ≤ 3584) (r : Fin 256) (k : Fin n) :
    (ms0_12 t).view.readCov (Val := Elt Ideal) I.pieces (Rect.unit (s := S256x3584) ![0, o] ![256, n] inb).toLoadRect (ix2 r k) =
      ((N.u (trow T r) ⟨o + k.val, by omega⟩ : ℝ) : EReal) := by
  rw [View.readCov_eq_canon']
  exact (congrArg (View.canon I.pieces) (emb_cols o inb r k ⟨o + k.val, by omega⟩ rfl)).trans (u_at h r _)

/-- The first gate of the convolution is the first 512 columns of the projection. -/
theorem v22_at (r : Fin 256) (k : Fin 512) : I.v22 t (ix2 r k) = ((N.gb (trow T r) k : ℝ) : EReal) := by
  refine (?_ : I.v22 t (ix2 r k) = _).trans ((part_at h t inb_S256x3584_S256x512_0_0 (by norm_num) r k).trans ?_)
  · unfold v22; pointwise [k0_pay10]
  · exact congrArg (fun i => ((N.u (trow T r) i : ℝ) : EReal)) (Fin.ext (by simp))
/-- The second gate is the next 512 columns. -/
theorem v23_at (r : Fin 256) (k : Fin 512) : I.v23 t (ix2 r k) = ((N.u (trow T r) ⟨512 + k.val, by omega⟩ : ℝ) : EReal) :=
  part_at h t inb_S256x3584_S256x512_0_512 (by norm_num) r k
/-- The convolution's own columns are the 512 after them. -/
theorem v25_at (r : Fin 256) (k : Fin 512) : I.v25 t (ix2 r k) = ((N.u (trow T r) ⟨1024 + k.val, by omega⟩ : ℝ) : EReal) :=
  part_at h t inb_S256x3584_S256x512_0_1024 (by norm_num) r k
/-- The recurrence's columns are the 1024 after those of the convolution. -/
theorem v29_at (r : Fin 256) (k : Fin 1024) : I.v29 t (ix2 r k) = ((N.xin (trow T r) k : ℝ) : EReal) := by
  refine (?_ : I.v29 t (ix2 r k) = _).trans (part_at h t inb_S256x3584_S256x1024_0_1536 (by norm_num) r k)
  unfold v29; pointwise [k0_pay12]
/-- The gelu gate's columns are the last 1024. -/
theorem v31_at (r : Fin 256) (k : Fin 1024) : I.v31 t (ix2 r k) = ((N.go (trow T r) k : ℝ) : EReal) := by
  refine (?_ : I.v31 t (ix2 r k) = _).trans (part_at h t inb_S256x3584_S256x1024_0_2560 (by norm_num) r k)
  unfold v31; pointwise [k0_pay13]
/-- The tile's convolution is that over the reals, with the carried rows before its first. -/
theorem c3_at (r : Fin 256) (k : Fin 512) : I.c3 t (ix2 r k) = ((N.c3 (trow T r) k : ℝ) : EReal) := pay14_at (v23_at h t) (v25_at h t) h.hcw h.hp0 r k
/-- The tile's convolved columns are those over the reals, with the carried rows before its first. -/
theorem xr_at (r : Fin 256) (k : Fin 1024) : I.xr t (ix2 r k) = ((N.xr (trow T r) k : ℝ) : EReal) := pay24_at (v29_at h t) h.hrw h.hrb h.hp1 r k
/-- The tile's gate on the decay is that over the reals. -/
theorem ra_at (r : Fin 256) (k : Fin 1024) : I.ra t (ix2 r k) = ((N.ra (trow T r) k : ℝ) : EReal) :=
  pay31_at (xr_at h t) h.hba h.ha0 h.ha1 h.ha2 h.ha3 r k
/-- The tile's gate on the input is that over the reals. -/
theorem ig_at (r : Fin 256) (k : Fin 1024) : I.ig t (ix2 r k) = ((N.ig (trow T r) k : ℝ) : EReal) :=
  pay34_at (xr_at h t) h.hbx h.hx0 h.hx1 h.hx2 h.hx3 r k
/-- The tile's decay is that over the reals. -/
theorem a_at (r : Fin 256) (k : Fin 1024) : I.a t (ix2 r k) = ((N.a (trow T r) k : ℝ) : EReal) := pay36_at h.hlam h.soft (ra_at h t) r k
/-- The tile's input factor is the root of one minus the decay's square: the precondition rules the series out. -/
theorem mult_at (r : Fin 256) (k : Fin 1024) : I.mult t (ix2 r k) = ((N.mult (trow T r) k : ℝ) : EReal) :=
  pay41_at h.hlam h.soft (ra_at h t) (fun r k => h.far _ k) r k

/-- The recurrence's states. -/
theorem hs_at (r : Fin 256) (k : Fin 1024) : I.hs t (ix2 r k) = ((N.hs (trow T r) k : ℝ) : EReal) :=
  states_at (pay50_at (xr_at h t) (ig_at h t) (a_at h t) (mult_at h t)) (pay51_at (a_at h t)) h.hp2 r k

/-- The two normed branches, side by side. -/
theorem y_at (r : Fin 256) (k : Fin 1536) : View.canon (I.outY t) (ix2 r k) =
    ((if hk : k.val < 512 then N.oc (trow T r) ⟨k.val, hk⟩ else N.ob (trow T r) ⟨k.val - 512, by omega⟩ : ℝ) : EReal) := by
  rw [← View.read_writes_junk_apply_eq_canon (ms0_16 t).view, outY]
  by_cases hk : k.val < 512
  · rw [View.read_writes_cons_miss_of_axis _ _ _ _ _ 1 512 1024 rfl rfl rfl (Or.inl hk),
      View.read_writes_cons_hit_of_coords _ _ _ _ _ (ix2 r ⟨k.val, hk⟩) (ix2 r k) (by intro a; fin_cases a <;> simp), dif_pos hk]
    exact pay93_at (v22_at h t) (c3_at h t) h.hgc r ⟨k.val, hk⟩
  · rw [View.read_writes_cons_hit_of_coords _ _ _ _ _ (ix2 r ⟨k.val - 512, by omega⟩) (ix2 r k) (by intro a; fin_cases a <;> simp; omega), dif_neg hk]
    exact pay1_at (v31_at h t) (hs_at h t) h.hgr r ⟨k.val - 512, by omega⟩

end Ins

/-- The four gate arrays, side by side. -/
def four (N : Layer) (r : Fin 4096) (k : Fin 4096) : ℝ :=
  if h0 : k.val < 1024 then N.ra r ⟨k.val, h0⟩ else if h1 : k.val < 2048 then N.ig r ⟨k.val - 1024, by omega⟩
  else if h2 : k.val < 3072 then N.a r ⟨k.val - 2048, by omega⟩ else N.mult r ⟨k.val - 3072, by omega⟩

/-- The four stores hold the four gates side by side. -/
theorem Ins.gates_at {I : Ins} {N : Layer} {T : Fin 16} (h : I.Holds N T) (t : Fin cfg0.N) (r : Fin 256) (k : Fin 4096) :
    View.canon (I.outG t) (ix2 r k) = ((four N (trow T r) k : ℝ) : EReal) := by
  have hG : View.PiecesOf (fun j : S256x4096.Idx => ((four N (trow T (j 0)) (j 1) : ℝ) : EReal)) (I.outG t) := by
    refine ⟨cols_piece (φ := .f32) (fun r k => ((four N (trow T r) k : ℝ) : EReal)) inb_S256x4096_S256x1024_0_3072 (by norm_num) fun r k => ?_,
      cols_piece (φ := .f32) (fun r k => ((four N (trow T r) k : ℝ) : EReal)) inb_S256x4096_S256x1024_0_2048 (by norm_num) fun r k => ?_,
      cols_piece (φ := .f32) (fun r k => ((four N (trow T r) k : ℝ) : EReal)) inb_S256x4096_S256x1024_0_1024 (by norm_num) fun r k => ?_,
      cols_piece (φ := .f32) (fun r k => ((four N (trow T r) k : ℝ) : EReal)) inb_S256x4096_S256x1024_0_0 (by norm_num) fun r k => ?_, trivial⟩
    · refine (Ins.mult_at h t r k).trans (congrArg _ ?_)
      rw [four, dif_neg (by simp only; omega), dif_neg (by simp only; omega), dif_neg (by simp only; omega)]
      exact congrArg _ (Fin.ext (by simp))
    · refine (Ins.a_at h t r k).trans (congrArg _ ?_)
      rw [four, dif_neg (by simp only; omega), dif_neg (by simp only; omega), dif_pos (by simp only; omega)]
      exact congrArg _ (Fin.ext (by simp))
    · refine (Ins.ig_at h t r k).trans (congrArg _ ?_)
      rw [four, dif_neg (by simp only; omega), dif_pos (by simp only; omega)]
      exact congrArg _ (Fin.ext (by simp))
    · refine (Ins.ra_at h t r k).trans (congrArg _ ?_)
      rw [four, dif_pos (by simp only; omega)]
      exact congrArg _ (Fin.ext (by simp))
  have e := View.canon_append_of_piecesOf _ [] (I.outG t) hG (ix2 r k) (View.cover_of_tiledL _ ![256, 1024] (by sl_kernel_rfl) _)
  rw [List.append_nil] at e
  exact e

/-- What a tile keeps is what the next one wants. -/
theorem kept_at {I : Ins} {N : Layer} {T T' : Fin 16} (h : I.Holds N T) (hT : T'.val = T.val + 1) (t : Fin cfg0.N) :
    (∀ a k, (kept I t).1 (ix2 a k) = ((prev N.cv T' a k : ℝ) : EReal)) ∧ (∀ a k, (kept I t).2.1 (ix2 a k) = ((prev N.xin T' a k : ℝ) : EReal))
      ∧ ∀ k, (kept I t).2.2 (ix2 0 k) = ((N.st (T'.val * 256) k : ℝ) : EReal) := by
  refine ⟨fun a k => (pay16_at (Ins.v23_at h t) (Ins.v25_at h t) a k).trans ?_, fun a k => (pay25_at (Ins.v29_at h t) a k).trans ?_, fun k => ?_⟩
  · rw [prev, dif_neg (by omega)]
    exact congrArg (fun i => ((N.cv i k : ℝ) : EReal)) (Fin.ext (by simp only [trow]; omega))
  · rw [prev, dif_neg (by omega)]
    exact congrArg (fun i => ((N.xin i k : ℝ) : EReal)) (Fin.ext (by simp only [trow]; omega))
  · have e : (kept I t).2.2 (ix2 0 k) = I.hs t (ix2 255 k) := by
      unfold kept
      pointwise
    rw [e, Ins.hs_at h]
    exact congrArg (fun i => ((N.st i k : ℝ) : EReal)) (by show T.val * 256 + 255 + 1 = T'.val * 256; omega)

/-- Which block of its array each window holds at a tile. -/
theorem idx : ∀ t : Fin cfg0.N, win0_0.index t = ![t.val, 0] ∧ win0_1.index t = ![0, 0, 0] ∧ win0_2.index t = ![0, 0] ∧ win0_3.index t = ![0, 0]
    ∧ win0_4.index t = ![0, 0] ∧ win0_5.index t = ![0, 0, 0] ∧ win0_6.index t = ![0, 0] ∧ win0_7.index t = ![0, 0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

/-- The tile of a grid point. -/
def tile (t : Fin cfg0.N) : Fin 16 := ⟨t.val, by have := t.isLt; have : cfg0.N = 16 := N_0; omega⟩

/-- The arrays the kernel takes, as real arrays. -/
def layer (c : Dev nD) : Layer where
  h r k := EReal.toReal (m ((c.tc : Thread nD τ).loc main_arg0) (ix3 0 r k))
  w j k := EReal.toReal (m ((c.tc : Thread nD τ).loc main_arg1) (ix3 0 j k))
  cw j k := EReal.toReal (m ((c.tc : Thread nD τ).loc main_arg2) (ix3 0 j k))
  rw j k := EReal.toReal (m ((c.tc : Thread nD τ).loc main_arg3) (ix3 0 j k))
  rb k := EReal.toReal (m ((c.tc : Thread nD τ).loc main_arg4) (ix2 0 k))
  wa n p q := EReal.toReal (m ((c.tc : Thread nD τ).loc main_arg5) (ix4 0 n p q))
  ba k := EReal.toReal (m ((c.tc : Thread nD τ).loc main_arg6) (ix2 0 k))
  wx n p q := EReal.toReal (m ((c.tc : Thread nD τ).loc main_arg7) (ix4 0 n p q))
  bx k := EReal.toReal (m ((c.tc : Thread nD τ).loc main_arg8) (ix2 0 k))
  lam k := EReal.toReal (m ((c.tc : Thread nD τ).loc main_arg9) (ix2 0 k))
  gc k := EReal.toReal (m ((c.tc : Thread nD τ).loc main_arg10) (ix2 0 k))
  gr k := EReal.toReal (m ((c.tc : Thread nD τ).loc main_arg11) (ix2 0 k))

/-- The entries of the arrays are real, the softplus is above its series' threshold and the decay's logarithm is below its own. -/
structure Reals (c : Dev nD) : Prop where
  hh : ∀ r k, m ((c.tc : Thread nD τ).loc main_arg0) (ix3 0 r k) = (((layer m c).h r k : ℝ) : EReal)
  hw : ∀ j k, m ((c.tc : Thread nD τ).loc main_arg1) (ix3 0 j k) = (((layer m c).w j k : ℝ) : EReal)
  hcw : ∀ j k, m ((c.tc : Thread nD τ).loc main_arg2) (ix3 0 j k) = (((layer m c).cw j k : ℝ) : EReal)
  hrw : ∀ j k, m ((c.tc : Thread nD τ).loc main_arg3) (ix3 0 j k) = (((layer m c).rw j k : ℝ) : EReal)
  hrb : ∀ k, m ((c.tc : Thread nD τ).loc main_arg4) (ix2 0 k) = (((layer m c).rb k : ℝ) : EReal)
  hwa : ∀ n p q, m ((c.tc : Thread nD τ).loc main_arg5) (ix4 0 n p q) = (((layer m c).wa n p q : ℝ) : EReal)
  hba : ∀ k, m ((c.tc : Thread nD τ).loc main_arg6) (ix2 0 k) = (((layer m c).ba k : ℝ) : EReal)
  hwx : ∀ n p q, m ((c.tc : Thread nD τ).loc main_arg7) (ix4 0 n p q) = (((layer m c).wx n p q : ℝ) : EReal)
  hbx : ∀ k, m ((c.tc : Thread nD τ).loc main_arg8) (ix2 0 k) = (((layer m c).bx k : ℝ) : EReal)
  hlam : ∀ k, m ((c.tc : Thread nD τ).loc main_arg9) (ix2 0 k) = (((layer m c).lam k : ℝ) : EReal)
  hgc : ∀ k, m ((c.tc : Thread nD τ).loc main_arg10) (ix2 0 k) = (((layer m c).gc k : ℝ) : EReal)
  hgr : ∀ k, m ((c.tc : Thread nD τ).loc main_arg11) (ix2 0 k) = (((layer m c).gr k : ℝ) : EReal)
  soft : ∀ k, Ideal.ofBits .f32 0x3C23D70A#32 ≤ ((Real.exp (-|(layer m c).lam k|) : ℝ) : EReal)
  far : ∀ r k, ((2 * (layer m c).la r k : ℝ) : EReal) ≤ Ideal.ofBits .f32 0xBC23D70A#32

/-- The arrays the call finds. -/
theorem V_eq (c : Dev nD) (b : Ref sig .tc) : V m c b = StableHlo.after (hostOps0 ++ (hostOps0_1 ++ (hostOps0_2 ++ (hostOps0_3 ++ (hostOps0_4 ++ (hostOps0_5 ++ (hostOps0_6 ++ (hostOps0_7 ++ (hostOps0_8 ++ [])))))))))
    (fun b => m (c, b)) (Proc.devRef .tc b) := rfl

/-- The host's four shards of `w_in` are its columns in order. -/
theorem V_v3 (c : Dev nD) (q : Fin 4) (j : Fin 1024) (k : Fin 896) :
    V m c main_v3 (ix3 q j k) = m ((c.tc : Thread nD τ).loc main_arg1) (ix3 0 j ⟨q.val * 896 + k.val, by omega⟩) := by
  rw [V_eq]
  simp only [hostOps0, hostOps0_1, hostOps0_2, hostOps0_3, hostOps0_4, hostOps0_5, hostOps0_6, hostOps0_7, hostOps0_8, List.cons_append, List.nil_append]
  entry_read
  pointwise

/-- The convolution's weights are the first three of the padded rows. -/
theorem V_v7 (c : Dev nD) (j : Fin 3) (k : Fin 512) :
    V m c main_v7 (ix2 ⟨j.val, by omega⟩ k) = m ((c.tc : Thread nD τ).loc main_arg2) (ix3 0 j k) := by
  rw [V_eq]
  simp only [hostOps0, hostOps0_1, hostOps0_2, hostOps0_3, hostOps0_4, hostOps0_5, hostOps0_6, hostOps0_7, hostOps0_8, List.cons_append, List.nil_append]
  entry_read
  refine (pad_rows_apply (a := 0) (b := 5) _ _ pads_S3x512_S8x512_050_000 _ ⟨j.val, by omega⟩ k).trans ?_
  rw [dif_pos ⟨Nat.zero_le _, j.isLt⟩]
  pointwise
  rfl

/-- The weights of the recurrence's convolution are the first four of the padded rows. -/
theorem V_v9 (c : Dev nD) (j : Fin 4) (k : Fin 1024) :
    V m c main_v9 (ix2 ⟨j.val, by omega⟩ k) = m ((c.tc : Thread nD τ).loc main_arg3) (ix3 0 j k) := by
  rw [V_eq]
  simp only [hostOps0, hostOps0_1, hostOps0_2, hostOps0_3, hostOps0_4, hostOps0_5, hostOps0_6, hostOps0_7, hostOps0_8, List.cons_append, List.nil_append]
  entry_read
  refine (pad_rows_apply (a := 0) (b := 4) _ _ pads_S4x1024_S8x1024_040_000 _ ⟨j.val, by omega⟩ k).trans ?_
  rw [dif_pos ⟨Nat.zero_le _, j.isLt⟩]
  pointwise
  rfl

/-- The block diagonal blocks: block `j` has the four weights `4 j`, … on its diagonal and zeros elsewhere. -/
theorem diag (w : Vec Ideal S1x16x64x64 .f32) (j : Fin 4) (p q : Fin 256) :
    shapeCast S4x256x256 (select (broadcastInDim S4x4x64x4x64 ![0, 1, 2, 3, 4] bcast_S1x4x1x4x1_S4x4x64x4x64_0_1_2_3_4
        (broadcastInDim S1x4x1x4x1 ![1, 3] bcast_S4x4_S1x4x1x4x1_1_3
          (cmpi CmpIPredicate.eq (addi (iotaInDim S4x4 32 0) (broadcastInDim S4x4 ![] bcast_S_S4x4 (constantI S_ 32 0#32))) (iotaInDim S4x4 32 1))))
      (broadcastInDim S4x4x64x4x64 ![0, 1, 2, 3, 4] bcast_S4x4x64x1x64_S4x4x64x4x64_0_1_2_3_4
        (shapeCast S4x4x64x1x64 (shapeCast S16x64x64 w shapeCasts_S1x16x64x64_S16x64x64) shapeCasts_S16x64x64_S4x4x64x1x64))
      (broadcastInDim S4x4x64x4x64 ![] bcast_S_S4x4x64x4x64 (constant (F := Ideal) S_ FTy.f32 0#32))) shapeCasts_S4x4x64x4x64_S4x256x256 (ix3 j p q)
      = if p.val / 64 = q.val / 64 then w (ix4 0 ⟨j.val * 4 + q.val / 64, by omega⟩ ⟨p.val % 64, by omega⟩ ⟨q.val % 64, by omega⟩) else (0 : EReal) := by
  pointwise
  rw [IntOp.addi, BitVec.add_zero, Scalar.select, IntOp.cmpi]
  by_cases h : p.val / 64 = q.val / 64
  · simp only [h, if_true]
    simp
  · have hb : BitVec.ofNat 32 (p.val / 64) ≠ BitVec.ofNat 32 (q.val / 64) := fun e => h (by
      have e' := congrArg BitVec.toNat e
      simp only [BitVec.toNat_ofNat] at e'
      omega)
    rw [if_neg h]
    simp [beq_eq_false_iff_ne.2 hb]

/-- The block-diagonal matrix of the decay's gate: a head's matrix on its own block, zero elsewhere. -/
theorem V_v20 (c : Dev nD) (j : Fin 4) (p q : Fin 256) :
    V m c main_v20 (ix3 j p q) = if p.val / 64 = q.val / 64 then m ((c.tc : Thread nD τ).loc main_arg5)
      (ix4 0 ⟨j.val * 4 + q.val / 64, by omega⟩ ⟨p.val % 64, by omega⟩ ⟨q.val % 64, by omega⟩) else (0 : EReal) := by
  rw [V_eq]
  simp only [hostOps0, hostOps0_1, hostOps0_2, hostOps0_3, hostOps0_4, hostOps0_5, hostOps0_6, hostOps0_7, hostOps0_8, List.cons_append, List.nil_append]
  entry_read
  exact diag (m ((c.tc : Thread nD τ).loc main_arg5)) j p q

/-- The block-diagonal matrix of the input's gate. -/
theorem V_v31 (c : Dev nD) (j : Fin 4) (p q : Fin 256) :
    V m c main_v31 (ix3 j p q) = if p.val / 64 = q.val / 64 then m ((c.tc : Thread nD τ).loc main_arg7)
      (ix4 0 ⟨j.val * 4 + q.val / 64, by omega⟩ ⟨p.val % 64, by omega⟩ ⟨q.val % 64, by omega⟩) else (0 : EReal) := by
  rw [V_eq]
  simp only [hostOps0, hostOps0_1, hostOps0_2, hostOps0_3, hostOps0_4, hostOps0_5, hostOps0_6, hostOps0_7, hostOps0_8, List.cons_append, List.nil_append]
  entry_read
  exact diag (m ((c.tc : Thread nD τ).loc main_arg7)) j p q

/-- A block the body loads from a stack of four. -/
theorem part {a b : ℕ} (s : Vec Ideal ⟨3, ![4, a, b]⟩ .bf16) (q : Fin 4) (o : ℕ) (ho : q.val = o)
    (h : ∀ d, (![o, 0, 0] : Fin 3 → ℕ) d + (![1, a, b] : Fin 3 → ℕ) d ≤ (⟨3, ![4, a, b]⟩ : Shape).size d) (i : Fin a) (k : Fin b) :
    (View.ld (Val := Elt Ideal) (e' := .bf16) s (Rect.unit (s := ⟨3, ![4, a, b]⟩) ![o, 0, 0] ![1, a, b] h)) (ix3 0 i k) = s (ix3 q i k) := by
  subst ho
  refine congrArg s (Rect.emb_eq_of_coords _ _ _ ?_)
  intro d; fin_cases d <;> simp

/-- A tile's block of `h` is 256 rows of it. -/
theorem read_h (c : Dev nD) (t : Fin cfg0.N) (r : Fin 256) (k : Fin 1024) :
    iblk m c 0 t (ix2 r k) = m ((c.tc : Thread nD τ).loc main_arg0) (ix3 0 (trow (tile t) r) k) := by
  have e : iblk m c 0 t (ix2 r k) = V m c main_v5 (ix2 (trow (tile t) r) k) := by
    blk_ext! [iblk, V, idx t, trow, tile]
  rw [e, V_eq]
  simp only [hostOps0, hostOps0_1, hostOps0_2, hostOps0_3, hostOps0_4, hostOps0_5, hostOps0_6, hostOps0_7, hostOps0_8, List.cons_append, List.nil_append]
  entry_read
  pointwise

/-- Every tile sees all of the projection's weights. -/
theorem read_w (c : Dev nD) (t : Fin cfg0.N) (q : Fin 4) (j : Fin 1024) (k : Fin 896) :
    iblk m c 1 t (ix3 q j k) = V m c main_v3 (ix3 q j k) := by
  blk_ext! [iblk, V, idx t]

/-- Every tile sees all of the convolution's weights. -/
theorem read_cw (c : Dev nD) (t : Fin cfg0.N) (j : Fin 8) (k : Fin 512) : iblk m c 2 t (ix2 j k) = V m c main_v7 (ix2 j k) := by
  blk_ext! [iblk, V, idx t]

/-- Every tile sees all weights of the recurrence's convolution. -/
theorem read_rw (c : Dev nD) (t : Fin cfg0.N) (j : Fin 8) (k : Fin 1024) : iblk m c 3 t (ix2 j k) = V m c main_v9 (ix2 j k) := by
  blk_ext! [iblk, V, idx t]

/-- Every tile sees all of the decay's gate matrix. -/
theorem read_wa (c : Dev nD) (t : Fin cfg0.N) (q : Fin 4) (i k : Fin 256) : iblk m c 5 t (ix3 q i k) = V m c main_v20 (ix3 q i k) := by
  blk_ext! [iblk, V, idx t]

/-- Every tile sees all of the input's gate matrix. -/
theorem read_wx (c : Dev nD) (t : Fin cfg0.N) (q : Fin 4) (i k : Fin 256) : iblk m c 7 t (ix3 q i k) = V m c main_v31 (ix3 q i k) := by
  blk_ext! [iblk, V, idx t]

/-- Every tile sees the bias of the recurrence's convolution. -/
theorem read_rb (c : Dev nD) (t : Fin cfg0.N) (k : Fin 1024) : iblk m c 4 t (ix2 0 k) = m ((c.tc : Thread nD τ).loc main_arg4) (ix2 0 k) := by
  have e : iblk m c 4 t (ix2 0 k) = V m c main_arg4 (ix2 0 k) := by
    blk_ext! [iblk, V, idx t]
  rw [e, V_main_arg4]

/-- Every tile sees the bias of the decay's gate. -/
theorem read_ba (c : Dev nD) (t : Fin cfg0.N) (k : Fin 1024) : iblk m c 6 t (ix2 0 k) = m ((c.tc : Thread nD τ).loc main_arg6) (ix2 0 k) := by
  have e : iblk m c 6 t (ix2 0 k) = V m c main_arg6 (ix2 0 k) := by
    blk_ext! [iblk, V, idx t]
  rw [e, V_main_arg6]

/-- Every tile sees the bias of the input's gate. -/
theorem read_bx (c : Dev nD) (t : Fin cfg0.N) (k : Fin 1024) : iblk m c 8 t (ix2 0 k) = m ((c.tc : Thread nD τ).loc main_arg8) (ix2 0 k) := by
  have e : iblk m c 8 t (ix2 0 k) = V m c main_arg8 (ix2 0 k) := by
    blk_ext! [iblk, V, idx t]
  rw [e, V_main_arg8]

/-- Every tile sees the decay's parameter. -/
theorem read_lam (c : Dev nD) (t : Fin cfg0.N) (k : Fin 1024) : iblk m c 9 t (ix2 0 k) = m ((c.tc : Thread nD τ).loc main_arg9) (ix2 0 k) := by
  have e : iblk m c 9 t (ix2 0 k) = V m c main_arg9 (ix2 0 k) := by
    blk_ext! [iblk, V, idx t]
  rw [e, V_main_arg9]

/-- Every tile sees the gains of the convolution's norm. -/
theorem read_gc (c : Dev nD) (t : Fin cfg0.N) (k : Fin 512) : iblk m c 10 t (ix2 0 k) = m ((c.tc : Thread nD τ).loc main_arg10) (ix2 0 k) := by
  have e : iblk m c 10 t (ix2 0 k) = V m c main_arg10 (ix2 0 k) := by
    blk_ext! [iblk, V, idx t]
  rw [e, V_main_arg10]

/-- Every tile sees the gains of the recurrence's norm. -/
theorem read_gr (c : Dev nD) (t : Fin cfg0.N) (k : Fin 1024) : iblk m c 11 t (ix2 0 k) = m ((c.tc : Thread nD τ).loc main_arg11) (ix2 0 k) := by
  have e : iblk m c 11 t (ix2 0 k) = V m c main_arg11 (ix2 0 k) := by
    blk_ext! [iblk, V, idx t]
  rw [e, V_main_arg11]

/-- The blocks of the weights the body loads. -/
theorem part_w (c : Dev nD) (h : Reals m c) (t : Fin cfg0.N) (q : Fin 4) (o : ℕ) (ho : q.val = o)
    (inb : ∀ d, (![o, 0, 0] : Fin 3 → ℕ) d + (![1, 1024, 896] : Fin 3 → ℕ) d ≤ S4x1024x896.size d) (j : Fin 1024) (k : Fin 896) :
    (View.ld (Val := Elt Ideal) (e' := .bf16) (iblk m c 1 t) (Rect.unit (s := S4x1024x896) ![o, 0, 0] ![1, 1024, 896] inb)) (ix3 0 j k) = (((layer m c).w j ⟨q.val * 896 + k.val, by omega⟩ : ℝ) : EReal) := by
  refine (part (a := 1024) (b := 896) (iblk m c 1 t) q o ho inb j k).trans ?_
  exact (read_w m c t q j k).trans ((V_v3 m c q j k).trans (h.hw j _))

/-- One block of the decay's gate matrix, as the tile loads it. -/
theorem part_wa (c : Dev nD) (h : Reals m c) (t : Fin cfg0.N) (q : Fin 4) (o : ℕ) (ho : q.val = o)
    (inb : ∀ d, (![o, 0, 0] : Fin 3 → ℕ) d + (![1, 256, 256] : Fin 3 → ℕ) d ≤ S4x256x256.size d) (j : Fin 256) (k : Fin 256) :
    (View.ld (Val := Elt Ideal) (e' := .bf16) (iblk m c 5 t) (Rect.unit (s := S4x256x256) ![o, 0, 0] ![1, 256, 256] inb)) (ix3 0 j k) = ((blk (layer m c).wa q j k : ℝ) : EReal) := by
  refine (part (a := 256) (b := 256) (iblk m c 5 t) q o ho inb j k).trans ?_
  refine (read_wa m c t q j k).trans ((V_v20 m c q j k).trans ?_)
  rw [blk]
  split_ifs
  · exact h.hwa _ _ _
  · rfl

/-- One block of the input's gate matrix, as the tile loads it. -/
theorem part_wx (c : Dev nD) (h : Reals m c) (t : Fin cfg0.N) (q : Fin 4) (o : ℕ) (ho : q.val = o)
    (inb : ∀ d, (![o, 0, 0] : Fin 3 → ℕ) d + (![1, 256, 256] : Fin 3 → ℕ) d ≤ S4x256x256.size d) (j : Fin 256) (k : Fin 256) :
    (View.ld (Val := Elt Ideal) (e' := .bf16) (iblk m c 7 t) (Rect.unit (s := S4x256x256) ![o, 0, 0] ![1, 256, 256] inb)) (ix3 0 j k) = ((blk (layer m c).wx q j k : ℝ) : EReal) := by
  refine (part (a := 256) (b := 256) (iblk m c 7 t) q o ho inb j k).trans ?_
  refine (read_wx m c t q j k).trans ((V_v31 m c q j k).trans ?_)
  rw [blk]
  split_ifs
  · exact h.hwx _ _ _
  · rfl

set_option maxHeartbeats 4000000 in
/-- What a grid point reads is its tile, given what the point before it kept. -/
theorem ins_holds (c : Dev nD) (h : Reals m c) (t : Fin cfg0.N) {p0 : Vec Ideal S8x512 .f32} {p1 : Vec Ideal S8x1024 .f32} {p2 : Vec Ideal S1x1024 .f32}
    (hp : (∀ a k, p0 (ix2 a k) = ((prev (layer m c).cv (tile t) a k : ℝ) : EReal)) ∧ (∀ a k, p1 (ix2 a k) = ((prev (layer m c).xin (tile t) a k : ℝ) : EReal))
      ∧ ∀ k, p2 (ix2 0 k) = (((layer m c).st ((tile t).val * 256) k : ℝ) : EReal)) : (ins m c t p0 p1 p2).Holds (layer m c) (tile t) := by
  exact
  { hh := fun r k => (read_h m c t r k).trans (h.hh _ k)
    hw0 := part_w m c h t 0 0 rfl inb_S4x1024x896_S1x1024x896_0_0_0
    hw1 := part_w m c h t 1 1 rfl inb_S4x1024x896_S1x1024x896_1_0_0
    hw2 := part_w m c h t 2 2 rfl inb_S4x1024x896_S1x1024x896_2_0_0
    hw3 := part_w m c h t 3 3 rfl inb_S4x1024x896_S1x1024x896_3_0_0
    hcw := fun j k => (read_cw m c t _ k).trans ((V_v7 m c j k).trans (h.hcw j k))
    hrw := fun j k => (read_rw m c t _ k).trans ((V_v9 m c j k).trans (h.hrw j k))
    hrb := fun k => (read_rb m c t k).trans (h.hrb k)
    ha0 := part_wa m c h t 0 0 rfl inb_S4x256x256_S1x256x256_0_0_0
    ha1 := part_wa m c h t 1 1 rfl inb_S4x256x256_S1x256x256_1_0_0
    ha2 := part_wa m c h t 2 2 rfl inb_S4x256x256_S1x256x256_2_0_0
    ha3 := part_wa m c h t 3 3 rfl inb_S4x256x256_S1x256x256_3_0_0
    hba := fun k => (read_ba m c t k).trans (h.hba k)
    hx0 := part_wx m c h t 0 0 rfl inb_S4x256x256_S1x256x256_0_0_0
    hx1 := part_wx m c h t 1 1 rfl inb_S4x256x256_S1x256x256_1_0_0
    hx2 := part_wx m c h t 2 2 rfl inb_S4x256x256_S1x256x256_2_0_0
    hx3 := part_wx m c h t 3 3 rfl inb_S4x256x256_S1x256x256_3_0_0
    hbx := fun k => (read_bx m c t k).trans (h.hbx k)
    hlam := fun k => (read_lam m c t k).trans (h.hlam k)
    hgc := fun k => (read_gc m c t k).trans (h.hgc k)
    hgr := fun k => (read_gr m c t k).trans (h.hgr k)
    hp0 := hp.1
    hp1 := hp.2.1
    hp2 := hp.2.2
    soft := h.soft
    far := fun r k => h.far r k }

/-- Every grid point reads its tile of the arrays and leaves the blocks computed from it. -/
theorem points (c : Dev nD) (h : Reals m c) (n : ℕ) (hn : n < cfg0.N) : ∃ I : Ins, I.Holds (layer m c) (tile ⟨n, hn⟩) ∧ Leaves m c ⟨n, hn⟩ I := by
  have hN : cfg0.N = 16 := N_0
  induction n with
  | zero =>
    refine ⟨_, ins_holds m c h ⟨0, hn⟩ ⟨fun a k => ?_, fun a k => ?_, fun k => ?_⟩, leaves_first m c ⟨0, hn⟩ rfl⟩
    · rw [prev, dif_pos (show (tile ⟨0, hn⟩).val = 0 from rfl)]; pointwise [k0_pay2]; rfl
    · rw [prev, dif_pos (show (tile ⟨0, hn⟩).val = 0 from rfl)]; pointwise [k0_pay3]; rfl
    · pointwise [k0_pay4]
      rfl
  | succ n ih =>
    obtain ⟨I, hI, hL⟩ := ih (by omega)
    obtain ⟨e0, e1, e2⟩ := kept_at hI (T' := tile ⟨n + 1, hn⟩) rfl ⟨n, by omega⟩
    refine ⟨_, ins_holds m c h ⟨n + 1, hn⟩ ⟨fun a k => (congrFun hL.kept0 _).trans (e0 a k), fun a k => (congrFun hL.kept1 _).trans (e1 a k),
      fun k => (congrFun hL.kept2 _).trans (e2 k)⟩, leaves_later m c ⟨n + 1, hn⟩ (by show ¬ (n + 1) % 16 = 0; omega)⟩

section tiles
variable (c : Dev nD) (h : Reals m c)
include h

/-- The projection's array. -/
theorem final12 (G : FVec Ideal S4096x3584 .f32) (hG : ∀ r k, G (ix2 r k) = (((layer m c).u r k : ℝ) : EReal)) : (dats m 0 c).arrAt 12 (cfgs 0).N = G := by
  refine (dats m 0 c).arrAt_eq_of_covers 12 _ (by decide +kernel) fun t _ y => ?_
  obtain ⟨I, hI, hL⟩ := points m c h t.val t.isLt
  blk_simp
  rw [after0_12, hL.u]
  idx_vars y
  refine (Ins.u_at hI y0 y1).trans ((hG (trow (tile t) y0) y1).symm.trans ?_)
  blk_ext [idx t, trow, tile]

/-- The recurrence's convolution. -/
theorem final13 (G : FVec Ideal S4096x1024 .f32) (hG : ∀ r k, G (ix2 r k) = (((layer m c).xr r k : ℝ) : EReal)) : (dats m 0 c).arrAt 13 (cfgs 0).N = G := by
  refine (dats m 0 c).arrAt_eq_of_covers 13 _ (by decide +kernel) fun t _ y => ?_
  obtain ⟨I, hI, hL⟩ := points m c h t.val t.isLt
  blk_simp
  rw [after0_13, hL.xr]
  idx_vars y
  refine (Ins.xr_at hI t y0 y1).trans ((hG (trow (tile t) y0) y1).symm.trans ?_)
  blk_ext [idx t, trow, tile]

/-- The recurrence's states. -/
theorem final14 (G : FVec Ideal S4096x1024 .f32) (hG : ∀ r k, G (ix2 r k) = (((layer m c).hs r k : ℝ) : EReal)) : (dats m 0 c).arrAt 14 (cfgs 0).N = G := by
  refine (dats m 0 c).arrAt_eq_of_covers 14 _ (by decide +kernel) fun t _ y => ?_
  obtain ⟨I, hI, hL⟩ := points m c h t.val t.isLt
  blk_simp
  rw [after0_14, hL.hs]
  idx_vars y
  refine (Ins.hs_at hI t y0 y1).trans ((hG (trow (tile t) y0) y1).symm.trans ?_)
  blk_ext [idx t, trow, tile]

/-- The gated convolution. -/
theorem final15 (G : FVec Ideal S4096x512 .f32) (hG : ∀ r k, G (ix2 r k) = (((layer m c).c3 r k : ℝ) : EReal)) : (dats m 0 c).arrAt 15 (cfgs 0).N = G := by
  refine (dats m 0 c).arrAt_eq_of_covers 15 _ (by decide +kernel) fun t _ y => ?_
  obtain ⟨I, hI, hL⟩ := points m c h t.val t.isLt
  blk_simp
  rw [after0_15, hL.c3]
  idx_vars y
  refine (Ins.c3_at hI t y0 y1).trans ((hG (trow (tile t) y0) y1).symm.trans ?_)
  blk_ext [idx t, trow, tile]

/-- The two normed branches. -/
theorem final16 (G : FVec Ideal S4096x1536 .bf16) (hG : ∀ r k, G (ix2 r k) = ((if hk : k.val < 512 then (layer m c).oc r ⟨k.val, hk⟩ else (layer m c).ob r ⟨k.val - 512, by omega⟩ : ℝ) : EReal)) : (dats m 0 c).arrAt 16 (cfgs 0).N = G := by
  refine (dats m 0 c).arrAt_eq_of_covers 16 _ (by decide +kernel) fun t _ y => ?_
  obtain ⟨I, hI, hL⟩ := points m c h t.val t.isLt
  blk_simp
  rw [after0_16, hL.y]
  idx_vars y
  refine (Ins.y_at hI t y0 y1).trans ((hG (trow (tile t) y0) y1).symm.trans ?_)
  blk_ext [idx t, trow, tile]

/-- The four gate arrays. -/
theorem final17 (G : FVec Ideal S4096x4096 .f32) (hG : ∀ r k, G (ix2 r k) = ((four (layer m c) r k : ℝ) : EReal)) : (dats m 0 c).arrAt 17 (cfgs 0).N = G := by
  refine (dats m 0 c).arrAt_eq_of_covers 17 _ (by decide +kernel) fun t _ y => ?_
  obtain ⟨I, hI, hL⟩ := points m c h t.val t.isLt
  blk_simp
  rw [after0_17, hL.gates]
  idx_vars y
  refine (Ins.gates_at hI t y0 y1).trans ((hG (trow (tile t) y0) y1).symm.trans ?_)
  blk_ext [idx t, trow, tile]

end tiles

/-- The run ends with the output arrays at what the grid points left there and with the arguments as they were. -/
theorem run_arrays (ρ : Dev nD → PrngReg) : θ_run (defs (F := Ideal)) (onTc (τ := τ) (main (F := Ideal))) ⟨m, fun _ => 0, ρ⟩ fun r => ∀ c : Dev nD,
    (∀ w, r.2.mem (((cfgs 0).spec w).arr.view.loc (c.tc : Thread nD τ)) = (dats m 0 c).arrAt w (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (run_main m ρ)
  have kept (b : Ref sig .tc) (hb : b ∈ Pipeline.restRefs sig (cfgs 0).spec) {X} (hX : V m c b = X) : r.2.mem ((c.tc : Thread nD τ).loc b) = X := ((h c).2 b hb).trans hX
  refine ⟨(h c).1, kept _ ?_ (V_main_arg0 m c), kept _ ?_ (V_main_arg1 m c), kept _ ?_ (V_main_arg2 m c), kept _ ?_ (V_main_arg3 m c),
    ((h c).1 4).trans (((dats m 0 c).arrAt_in 4 rfl _).trans ((A_eq m c 4).trans (V_main_arg4 m c))), kept _ ?_ (V_main_arg5 m c),
    ((h c).1 6).trans (((dats m 0 c).arrAt_in 6 rfl _).trans ((A_eq m c 6).trans (V_main_arg6 m c))), kept _ ?_ (V_main_arg7 m c),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c)))⟩ <;> exact Pipeline.mem_restRefs_of _ (by decide) (by decide)

end Cert.Kernel4Ideal.Fwd

end
-- ==== Proof.FwdRef.lean ====
/- The reference of the mixer's forward call: what its operations compute, as whole arrays and at an index. -/
module

public import proofs.«01_k».proof.Proof.Gen.Reference4Ideal.Run
public import proofs.«01_k».proof.Proof.MixMath
public import proofs.«01_k».proof.Proof.FwdMath
public import Idealize.ShloMosaic.Lib.Pipeline.ValueKit
public import Idealize.ShloMosaic.Lib.StableHlo.ReadAt
public import Idealize.ShloMosaic.Lib.WordCmp
public import Idealize.ShloMosaic.Lib.DynamicIndex

@[expose] public section

set_option maxRecDepth 16384

noncomputable section

namespace Cert.Reference4Ideal.Fwd

open Cert.Reference4Ideal Cert.Reference4Ideal.Gen Cert.Reference4Ideal.Value Cert.RealMath Idealize.ShloMosaic Idealize.ShloMosaic.TcCoe Idealize.SL.Sem
open Idealize.ShloMosaic.StableHlo

/-- The input projection `h @ w_in`. -/
def proj (x : FVec Ideal S1x4096x1024 .f32) (w : FVec Ideal S1x1024x3584 .f32) : FVec Ideal S4096x3584 .f32 :=
  Host.dotGeneral dot_S4096x1024_S1024x3584_S4096x3584_1_0_0_1_n_n none (shapeCast S4096x1024 x shapeCasts_S1x4096x1024_S4096x1024)
    (shapeCast S1024x3584 w shapeCasts_S1x1024x3584_S1024x3584)

/-- A row of 512 numbers on every one of the 4096 rows. -/
def wide (v : FVec Ideal S512 .f32) : FVec Ideal S4096x512 .f32 :=
  broadcastInDim S4096x512 ![0, 1] bcast_S1x512_S4096x512_0_1 (broadcastInDim S1x512 ![1] bcast_S512_S1x512_1 v)

/-- A row of 1024 numbers on every one of the 4096 rows. -/
def wider (v : FVec Ideal S1024 .f32) : FVec Ideal S4096x1024 .f32 :=
  broadcastInDim S4096x1024 ![0, 1] bcast_S1x1024_S4096x1024_0_1 (broadcastInDim S1x1024 ![1] bcast_S1024_S1x1024_1 v)

/-- The same number everywhere. -/
def all (b : BitVec 32) : FVec Ideal S4096x1024 .f32 := broadcastInDim S4096x1024 ![] bcast_S_S4096x1024 (constant S_ .f32 b)

/-- Two rows of zeros above the array. -/
def two (x : FVec Ideal S4096x512 .f32) : FVec Ideal S4098x512 .f32 :=
  concatenate S4098x512 0 [⟨S2x512, broadcastInDim S2x512 ![] bcast_S_S2x512 (constant S_ .f32 0x00000000#32)⟩, ⟨S4096x512, x⟩] concatenates_S2x512_S4096x512_S4098x512_d0

/-- Three rows of zeros above the array. -/
def three (x : FVec Ideal S4096x1024 .f32) : FVec Ideal S4099x1024 .f32 :=
  concatenate S4099x1024 0 [⟨S3x1024, broadcastInDim S3x1024 ![] bcast_S_S3x1024 (constant S_ .f32 0x00000000#32)⟩, ⟨S4096x1024, x⟩] concatenates_S3x1024_S4096x1024_S4099x1024_d0

/-- The causal convolution of width three. -/
def conv3 (x : FVec Ideal S4096x512 .f32) (w : FVec Ideal S3x512 .f32) : FVec Ideal S4096x512 .f32 :=
  addf (addf (mulf (wide (shapeCast S512 (extractStridedSlice S1x512 ![0, 0] w slices_S3x512_S1x512_0_0) shapeCasts_S1x512_S512))
        (extractStridedSlice S4096x512 ![0, 0] (two x) slices_S4098x512_S4096x512_0_0))
      (mulf (wide (shapeCast S512 (extractStridedSlice S1x512 ![1, 0] w slices_S3x512_S1x512_1_0) shapeCasts_S1x512_S512))
        (extractStridedSlice S4096x512 ![1, 0] (two x) slices_S4098x512_S4096x512_1_0)))
    (mulf (wide (shapeCast S512 (extractStridedSlice S1x512 ![2, 0] w slices_S3x512_S1x512_2_0) shapeCasts_S1x512_S512))
      (extractStridedSlice S4096x512 ![2, 0] (two x) slices_S4098x512_S4096x512_2_0))

/-- The causal convolution of width four, with its bias. -/
def conv4 (x : FVec Ideal S4096x1024 .f32) (w : FVec Ideal S4x1024 .f32) (b : FVec Ideal S1024 .f32) : FVec Ideal S4096x1024 .f32 :=
  addf (addf (addf (addf (mulf (wider (shapeCast S1024 (extractStridedSlice S1x1024 ![0, 0] w slices_S4x1024_S1x1024_0_0) shapeCasts_S1x1024_S1024))
          (extractStridedSlice S4096x1024 ![0, 0] (three x) slices_S4099x1024_S4096x1024_0_0))
        (mulf (wider (shapeCast S1024 (extractStridedSlice S1x1024 ![1, 0] w slices_S4x1024_S1x1024_1_0) shapeCasts_S1x1024_S1024))
          (extractStridedSlice S4096x1024 ![1, 0] (three x) slices_S4099x1024_S4096x1024_1_0)))
      (mulf (wider (shapeCast S1024 (extractStridedSlice S1x1024 ![2, 0] w slices_S4x1024_S1x1024_2_0) shapeCasts_S1x1024_S1024))
        (extractStridedSlice S4096x1024 ![2, 0] (three x) slices_S4099x1024_S4096x1024_2_0)))
    (mulf (wider (shapeCast S1024 (extractStridedSlice S1x1024 ![3, 0] w slices_S4x1024_S1x1024_3_0) shapeCasts_S1x1024_S1024))
      (extractStridedSlice S4096x1024 ![3, 0] (three x) slices_S4099x1024_S4096x1024_3_0))) (wider b)

/-- A block-diagonal linear map followed by the logistic function. -/
def gateOf (x : FVec Ideal S4096x1024 .f32) (w : FVec Ideal S16x64x64 .f32) (b : FVec Ideal S1024 .f32) : FVec Ideal S4096x1024 .f32 :=
  Host.divf (all 0x3F800000#32) (addf (all 0x3F800000#32) (Host.exp (Host.negf (addf
    (shapeCast S4096x1024 (transpose S4096x16x64 [2, 0, 1] (Host.dotGeneral dot_S16x64x64_S4096x16x64_S16x64x4096_1_2_2_0_0_1 none w
      (shapeCast S4096x16x64 x shapeCasts_S4096x1024_S4096x16x64)) transposes_S16x64x4096_S4096x16x64_2_0_1) shapeCasts_S4096x16x64_S4096x1024) (wider b)))))

/-- `log (1 + exp x)`, as the softplus function writes it. -/
def soft (x : FVec Ideal S1024 .f32) : FVec Ideal S1024 .f32 :=
  select (cmpf .une (subf x (broadcastInDim S1024 ![] bcast_S_S1024 (constant S_ .f32 0x00000000#32))) (subf x (broadcastInDim S1024 ![] bcast_S_S1024 (constant S_ .f32 0x00000000#32))))
    (addf x (broadcastInDim S1024 ![] bcast_S_S1024 (constant S_ .f32 0x00000000#32)))
    (addf (maximumf x (broadcastInDim S1024 ![] bcast_S_S1024 (constant S_ .f32 0x00000000#32)))
      (Host.log1p (Host.exp (Host.negf (Host.absf (subf x (broadcastInDim S1024 ![] bcast_S_S1024 (constant S_ .f32 0x00000000#32))))))))

/-- The logarithm of the decay. -/
def logA (r : FVec Ideal S4096x1024 .f32) (lam : FVec Ideal S1x1024 .f32) : FVec Ideal S4096x1024 .f32 :=
  mulf (mulf (all 0xC1000000#32) r) (wider (soft (Host.negf (shapeCast S1024 lam shapeCasts_S1x1024_S1024))))

/-- The multiplier of the recurrence's input. -/
def multOf (l : FVec Ideal S4096x1024 .f32) : FVec Ideal S4096x1024 .f32 :=
  Host.sqrt (Host.negf (Host.expm1 (mulf (all 0x40000000#32) l)))

/-- The gated-unit activation. -/
def geluOf (x : FVec Ideal S4096x1024 .f32) : FVec Ideal S4096x1024 .f32 :=
  mulf x (mulf (all 0x3F000000#32) (addf (all 0x3F800000#32) (Host.tanh (mulf (all 0x3F4C422A#32) (addf x (mulf (all 0x3D372713#32) (mulf (mulf x x) x)))))))

/-- The normalisation of 512 columns. -/
def norm512 (x : FVec Ideal S4096x512 .f32) (g : FVec Ideal S512 .f32) : FVec Ideal S4096x512 .f32 :=
  mulf (mulf x (broadcastInDim S4096x512 ![0, 1] bcast_S4096x1_S4096x512_0_1 (Host.rsqrt (addf (Host.divf
    (broadcastInDim S4096x1 ![0] bcast_S4096_S4096x1_0 (Host.reduceAdd (mulf x x) (constant S_ .f32 0x00000000#32) reducesTo_S4096x512_S4096_d1 h_S_))
    (broadcastInDim S4096x1 ![] bcast_S_S4096x1 (constant S_ .f32 0x44000000#32))) (broadcastInDim S4096x1 ![] bcast_S_S4096x1 (constant S_ .f32 0x358637BD#32)))))) (wide g)

/-- The normalisation of 1024 columns. -/
def norm1024 (x : FVec Ideal S4096x1024 .f32) (g : FVec Ideal S1024 .f32) : FVec Ideal S4096x1024 .f32 :=
  mulf (mulf x (broadcastInDim S4096x1024 ![0, 1] bcast_S4096x1_S4096x1024_0_1 (Host.rsqrt (addf (Host.divf
    (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))))) (wider g)

variable (V : Valuation τ sig (Elt Ideal))

/-- The projection of the buffers' own arguments. -/
abbrev uOf : FVec Ideal S4096x3584 .f32 := proj (V (Proc.devRef .tc main_arg0)) (V (Proc.devRef .tc main_arg1))

/-- The convolved recurrence branch of the buffers' own arguments. -/
abbrev xrOf : FVec Ideal S4096x1024 .f32 :=
  conv4 (extractStridedSlice S4096x1024 ![0, 1536] (uOf V) slices_S4096x3584_S4096x1024_0_1536)
    (shapeCast S4x1024 (V (Proc.devRef .tc main_arg3)) shapeCasts_S1x4x1024_S4x1024) (shapeCast S1024 (V (Proc.devRef .tc main_arg4)) shapeCasts_S1x1024_S1024)

/-- The first operations leave the projection in its buffer. -/
theorem read_v2 : after hostOps0 V (Proc.devRef .tc main_v2) = uOf V := by
  simp only [hostOps0]
  after_reads_simp
  rfl

/-- The convolution's first gate is a slice of the projection. -/
theorem read_v3 : after hostOps0 V (Proc.devRef .tc main_v3) = extractStridedSlice S4096x512 ![0, 0] (uOf V) slices_S4096x3584_S4096x512_0_0 := by
  simp only [hostOps0]
  after_reads_simp
  rfl

/-- The gelu gate's columns are a slice of it. -/
theorem read_v7 : after hostOps0 V (Proc.devRef .tc main_v7) = extractStridedSlice S4096x1024 ![0, 2560] (uOf V) slices_S4096x3584_S4096x1024_0_2560 := by
  simp only [hostOps0]
  after_reads_simp
  rfl

/-- The convolution runs over the product of two slices of it. -/
theorem read_v31 : after hostOps0 V (Proc.devRef .tc main_v31) =
    conv3 (mulf (extractStridedSlice S4096x512 ![0, 512] (uOf V) slices_S4096x3584_S4096x512_0_512) (extractStridedSlice S4096x512 ![0, 1024] (uOf V) slices_S4096x3584_S4096x512_0_1024))
      (shapeCast S3x512 (V (Proc.devRef .tc main_arg2)) shapeCasts_S1x3x512_S3x512) := by
  simp only [hostOps0]
  after_reads_simp
  rfl

/-- The recurrence's convolved columns. -/
theorem read_v65 : after hostOps0 V (Proc.devRef .tc main_v65) = xrOf V := by
  simp only [hostOps0]
  after_reads_simp
  rfl

/-- The gate on the decay. -/
theorem read_v80 : after hostOps0 V (Proc.devRef .tc main_v80) =
    gateOf (xrOf V) (shapeCast S16x64x64 (V (Proc.devRef .tc main_arg5)) shapeCasts_S1x16x64x64_S16x64x64) (shapeCast S1024 (V (Proc.devRef .tc main_arg6)) shapeCasts_S1x1024_S1024) := by
  simp only [hostOps0]
  after_reads_simp
  rfl

/-- The gate on the recurrence's input. -/
theorem read_v95 : after hostOps0 V (Proc.devRef .tc main_v95) =
    gateOf (xrOf V) (shapeCast S16x64x64 (V (Proc.devRef .tc main_arg7)) shapeCasts_S1x16x64x64_S16x64x64) (shapeCast S1024 (V (Proc.devRef .tc main_arg8)) shapeCasts_S1x1024_S1024) := by
  simp only [hostOps0]
  after_reads_simp
  rfl

/-- The gate on the decay, times minus eight. -/
theorem read_v97 : after hostOps0 V (Proc.devRef .tc main_v97) = mulf (all 0xC1000000#32) (gateOf (xrOf V)
    (shapeCast S16x64x64 (V (Proc.devRef .tc main_arg5)) shapeCasts_S1x16x64x64_S16x64x64) (shapeCast S1024 (V (Proc.devRef .tc main_arg6)) shapeCasts_S1x1024_S1024)) := by
  simp only [hostOps0]
  after_reads_simp
  rfl

/-- The softplus' argument. -/
theorem read_v99 : after hostOps0 V (Proc.devRef .tc main_v99) = (Host.negf (shapeCast S1024 (V (Proc.devRef .tc main_arg9)) shapeCasts_S1x1024_S1024 : FVec Ideal S1024 .f32) : FVec Ideal S1024 .f32) := by
  simp only [hostOps0]
  after_reads_simp
  rfl

/-- The softplus. -/
theorem read_v100 : after hostOps0_1 V (Proc.devRef .tc main_v100) = soft (V (Proc.devRef .tc main_v99)) := by
  simp only [hostOps0_1]
  after_reads_simp
  rfl

/-- The decay. -/
theorem read_v104 : after hostOps0_2 V (Proc.devRef .tc main_v104) = (Host.exp (mulf (V (Proc.devRef .tc main_v97)) (wider (V (Proc.devRef .tc main_v100)))) : FVec Ideal S4096x1024 .f32) := by
  simp only [hostOps0_2]
  after_reads_simp
  rfl

/-- The factor on the recurrence's input. -/
theorem read_v109 : after hostOps0_2 V (Proc.devRef .tc main_v109) = multOf (mulf (V (Proc.devRef .tc main_v97)) (wider (V (Proc.devRef .tc main_v100)))) := by
  simp only [hostOps0_2]
  after_reads_simp
  rfl

/-- The decays that the loop reads. -/
theorem read_a : after hostOps0_2 V (Proc.devRef .tc main_v114_0) = (Host.exp (mulf (V (Proc.devRef .tc main_v97)) (wider (V (Proc.devRef .tc main_v100)))) : FVec Ideal S4096x1024 .f32) := by
  simp only [hostOps0_2]
  after_reads_simp
  rfl

/-- The inputs that the loop reads. -/
theorem read_in : after hostOps0_2 V (Proc.devRef .tc main_v114_1) =
    (mulf (multOf (mulf (V (Proc.devRef .tc main_v97)) (wider (V (Proc.devRef .tc main_v100))))) (mulf (V (Proc.devRef .tc main_v95)) (V (Proc.devRef .tc main_v65))) : FVec Ideal S4096x1024 .f32) := by
  simp only [hostOps0_2]
  after_reads_simp
  rfl

/-- The loop starts from the zero state, -/
theorem read_state : after hostOps0_2 V (Proc.devRef .tc main_v114_3) = (broadcastInDim S1024 ![] bcast_S_S1024 (constant S_ .f32 0x00000000#32) : FVec Ideal S1024 .f32) := by
  simp only [hostOps0_2]
  after_reads_simp
  rfl

/-- and from zeros where it writes the states. -/
theorem read_out : after hostOps0_2 V (Proc.devRef .tc main_v114_4) = all 0x00000000#32 := by
  simp only [hostOps0_2]
  after_reads_simp
  rfl

/-- After the loop, the two normed halves side by side. -/
theorem read_v159 : after hostOps0_3 V (Proc.devRef .tc main_v159) = (truncf .bf16 (concatenate S4096x1536 1
    [⟨S4096x512, norm512 (mulf (V (Proc.devRef .tc main_v3)) (V (Proc.devRef .tc main_v31))) (shapeCast S512 (V (Proc.devRef .tc main_arg10)) shapeCasts_S1x512_S512)⟩,
      ⟨S4096x1024, norm1024 (mulf (V (Proc.devRef .tc main_v114_4)) (geluOf (V (Proc.devRef .tc main_v7)))) (shapeCast S1024 (V (Proc.devRef .tc main_arg11)) shapeCasts_S1x1024_S1024)⟩]
    concatenates_S4096x512_S4096x1024_S4096x1536_d1 : FVec Ideal S4096x1536 .f32) bitsLt_bf16_f32 : FVec Ideal S4096x1536 .bf16) := by
  simp only [hostOps0_3]
  after_reads_simp
  rfl

/-- After the loop, the four gates side by side. -/
theorem read_v160 : after hostOps0_3 V (Proc.devRef .tc main_v160) = (concatenate S4096x4096 1
    [⟨S4096x1024, (V (Proc.devRef .tc main_v80) : FVec Ideal S4096x1024 .f32)⟩, ⟨S4096x1024, (V (Proc.devRef .tc main_v95) : FVec Ideal S4096x1024 .f32)⟩,
      ⟨S4096x1024, (V (Proc.devRef .tc main_v104) : FVec Ideal S4096x1024 .f32)⟩, ⟨S4096x1024, (V (Proc.devRef .tc main_v109) : FVec Ideal S4096x1024 .f32)⟩]
    concatenates_S4096x1024_S4096x1024_S4096x1024_S4096x1024_S4096x4096_d1 : FVec Ideal S4096x4096 .f32) := by
  simp only [hostOps0_3]
  after_reads_simp
  rfl

/-- The projection over the reals. -/
theorem proj_at (x : FVec Ideal S1x4096x1024 .f32) (w : FVec Ideal S1x1024x3584 .f32) {X : Fin 4096 → Fin 1024 → ℝ} {W : Fin 1024 → Fin 3584 → ℝ}
    (hx : ∀ r j, x (ix3 0 r j) = ((X r j : ℝ) : EReal)) (hw : ∀ j k, w (ix3 0 j k) = ((W j k : ℝ) : EReal)) (r : Fin 4096) (k : Fin 3584) :
    proj x w (ix2 r k) = ((∑ j, X r j * W j k : ℝ) : EReal) := by
  pointwise [proj]
  simp only [hx, hw, ← EReal.coe_mul, coe_sum]

/-- A row that is there `d` rows back, -/
theorem lag_pos {n d : ℕ} (X : Fin 4096 → Fin n → ℝ) {r : Fin 4096} {k : Fin n} (h : d ≤ r.val) : lag X d r k = X ⟨r.val - d, by omega⟩ k := if_pos h

/-- and one that isn't: zero. -/
theorem lag_neg {n d : ℕ} (X : Fin 4096 → Fin n → ℝ) {r : Fin 4096} {k : Fin n} (h : ¬ d ≤ r.val) : lag X d r k = 0 := if_neg h

/-- A row of the array with `2 - j` zero rows before it, as the taps read it. -/
theorem two_at (x : FVec Ideal S4096x512 .f32) {X : Fin 4096 → Fin 512 → ℝ} (hx : ∀ r k, x (ix2 r k) = ((X r k : ℝ) : EReal)) (j : ℕ) (hj : j ≤ 2) (r : Fin 4096) (k : Fin 512) :
    two x (ix2 ⟨j + r.val, by omega⟩ k) = ((lag X (2 - j) r k : ℝ) : EReal) := by
  pointwise [two]
  simp only [hx]
  by_cases h1 : j + r.val < 2
  · rw [dif_pos h1, lag_neg _ (by omega)]
    rfl
  · rw [dif_neg h1, lag_pos _ (by omega)]
    exact congrArg (fun i => ((X i k : ℝ) : EReal)) (Fin.ext (by show j + r.val - 2 = r.val - (2 - j); omega))

/-- The input with three rows of zeros before it, read from row `j` on, is the input `3 - j` rows back. -/
theorem three_at (x : FVec Ideal S4096x1024 .f32) {X : Fin 4096 → Fin 1024 → ℝ} (hx : ∀ r k, x (ix2 r k) = ((X r k : ℝ) : EReal)) (j : ℕ) (hj : j ≤ 3) (r : Fin 4096) (k : Fin 1024) :
    three x (ix2 ⟨j + r.val, by omega⟩ k) = ((lag X (3 - j) r k : ℝ) : EReal) := by
  pointwise [three]
  simp only [hx]
  by_cases h1 : j + r.val < 3
  · rw [dif_pos h1, lag_neg _ (by omega)]
    rfl
  · rw [dif_neg h1, lag_pos _ (by omega)]
    exact congrArg (fun i => ((X i k : ℝ) : EReal)) (Fin.ext (by show j + r.val - 3 = r.val - (3 - j); omega))

/-- No rows back is the row itself. -/
theorem lag_zero {n : ℕ} (X : Fin 4096 → Fin n → ℝ) (r : Fin 4096) (k : Fin n) : lag X 0 r k = X r k := by simp [lag]

/-- The convolution of three taps over the reals. -/
theorem conv3_at (x : FVec Ideal S4096x512 .f32) (w : FVec Ideal S3x512 .f32) {X : Fin 4096 → Fin 512 → ℝ} {W : Fin 3 → Fin 512 → ℝ}
    (hx : ∀ r k, x (ix2 r k) = ((X r k : ℝ) : EReal)) (hw : ∀ j k, w (ix2 j k) = ((W j k : ℝ) : EReal)) (r : Fin 4096) (k : Fin 512) :
    conv3 x w (ix2 r k) = ((W 0 k * lag X 2 r k + W 1 k * lag X 1 r k + W 2 k * X r k : ℝ) : EReal) := by
  have e0 : two x (ix2 ⟨r.val, by omega⟩ k) = ((lag X 2 r k : ℝ) : EReal) := by
    refine Eq.trans ?_ (two_at x hx 0 (by omega) r k)
    simp only [Nat.zero_add]
  have e1 := two_at x hx 1 (by omega) r k
  have e2 := (two_at x hx 2 (by omega) r k).trans (congrArg _ (lag_zero X r k))
  pointwise [conv3, wide]
  rw [e0, e1, e2, hw, hw, hw]
  simp only [← EReal.coe_mul, ← EReal.coe_add]

/-- The convolution of four taps over the reals. -/
theorem conv4_at (x : FVec Ideal S4096x1024 .f32) (w : FVec Ideal S4x1024 .f32) (b : FVec Ideal S1024 .f32) {X : Fin 4096 → Fin 1024 → ℝ} {W : Fin 4 → Fin 1024 → ℝ}
    {B : Fin 1024 → ℝ} (hx : ∀ r k, x (ix2 r k) = ((X r k : ℝ) : EReal)) (hw : ∀ j k, w (ix2 j k) = ((W j k : ℝ) : EReal)) (hb : ∀ k, b (ix1 k) = ((B k : ℝ) : EReal))
    (r : Fin 4096) (k : Fin 1024) :
    conv4 x w b (ix2 r k) = ((W 0 k * lag X 3 r k + W 1 k * lag X 2 r k + W 2 k * lag X 1 r k + W 3 k * X r k + B k : ℝ) : EReal) := by
  have e0 : three x (ix2 ⟨r.val, by omega⟩ k) = ((lag X 3 r k : ℝ) : EReal) := by
    refine Eq.trans ?_ (three_at x hx 0 (by omega) r k)
    simp only [Nat.zero_add]
  have e1 := three_at x hx 1 (by omega) r k
  have e2 := three_at x hx 2 (by omega) r k
  have e3 := (three_at x hx 3 (by omega) r k).trans (congrArg _ (lag_zero X r k))
  pointwise [conv4, wider]
  rw [e0, e1, e2, e3, hw, hw, hw, hw, hb]
  simp only [← EReal.coe_mul, ← EReal.coe_add]

/-- A gate over the reals: the sigmoid of the heads' products and the bias. -/
theorem gateOf_at (x : FVec Ideal S4096x1024 .f32) (w : FVec Ideal S16x64x64 .f32) (b : FVec Ideal S1024 .f32)
    {X : Fin 4096 → Fin 1024 → ℝ} {W : Fin 16 → Fin 64 → Fin 64 → ℝ} {B : Fin 1024 → ℝ} (hx : ∀ r k, x (ix2 r k) = ((X r k : ℝ) : EReal))
    (hw : ∀ g i j, w (ix3 g i j) = ((W g i j : ℝ) : EReal)) (hb : ∀ k, b (ix1 k) = ((B k : ℝ) : EReal)) (r : Fin 4096) (k : Fin 1024) :
    gateOf x w b (ix2 r k) = (((1 + Real.exp (-((∑ i : Fin 64, X r ⟨k.val / 64 * 64 + i.val, by omega⟩ * W ⟨k.val / 64, by omega⟩ i ⟨k.val % 64, by omega⟩) + B k)))⁻¹ : ℝ) : EReal) := by
  pointwise [gateOf, all, wider]
  simp only [hx, hw, hb, ← EReal.coe_mul, coe_sum, ← EReal.coe_add, ← EReal.coe_neg, Ideal.exp_coe]
  rw [← EReal.coe_one, ← EReal.coe_add, div_real (by positivity), one_div]
  simp only [mul_comm (W _ _ _)]

/-- The softplus over the reals. -/
theorem soft_at (x : FVec Ideal S1024 .f32) {X : Fin 1024 → ℝ} (hx : ∀ k, x (ix1 k) = ((X k : ℝ) : EReal)) (k : Fin 1024) :
    soft x (ix1 k) = ((max (X k) 0 + Real.log (1 + Real.exp (-|X k|)) : ℝ) : EReal) := by
  pointwise [soft]
  rw [if_neg (not_not.2 rfl), hx, absf_coe, ← EReal.coe_neg, Ideal.exp_coe]
  have e : Ideal.log1p ((Real.exp (-|X k|) : ℝ) : EReal) = ((Real.log (1 + Real.exp (-|X k|)) : ℝ) : EReal) := by
    show Ideal.log (1 + ((Real.exp (-|X k|) : ℝ) : EReal)) = _
    rw [← EReal.coe_one, ← EReal.coe_add, Ideal.log_coe, if_neg (by have := Real.exp_pos (-|X k|); linarith)]
  rw [e, ← EReal.coe_zero, max_coe, ← EReal.coe_add]

/-- The decay's logarithm over the reals. -/
theorem logA_at (x : FVec Ideal S4096x1024 .f32) (lam : FVec Ideal S1x1024 .f32) {X : Fin 4096 → Fin 1024 → ℝ} {L : Fin 1024 → ℝ}
    (hx : ∀ r k, x (ix2 r k) = ((X r k : ℝ) : EReal)) (hl : ∀ k, lam (ix2 0 k) = ((L k : ℝ) : EReal)) (r : Fin 4096) (k : Fin 1024) :
    logA x lam (ix2 r k) = ((-8 * X r k * (max (-L k) 0 + Real.log (1 + Real.exp (-|L k|))) : ℝ) : EReal) := by
  have hs := soft_at (Host.negf (shapeCast S1024 lam shapeCasts_S1x1024_S1024)) (X := fun k => -L k) (fun k => by
    pointwise
    rw [hl, EReal.coe_neg]) k
  pointwise [logA, all, wider]
  rw [hs, hx, ofBits_neg_eight, abs_neg, ← EReal.coe_mul, ← EReal.coe_mul]

/-- The input's factor over the reals, where the logarithm is negative. -/
theorem multOf_at (x : FVec Ideal S4096x1024 .f32) {X : Fin 4096 → Fin 1024 → ℝ} (hx : ∀ r k, x (ix2 r k) = ((X r k : ℝ) : EReal)) (r : Fin 4096) (k : Fin 1024) (hn : X r k < 0) :
    multOf x (ix2 r k) = ((Real.sqrt (1 - Real.exp (X r k) * Real.exp (X r k)) : ℝ) : EReal) := by
  have hp : Real.exp (2 * X r k) < 1 := (Real.exp_lt_exp.2 (by linarith)).trans_eq Real.exp_zero
  pointwise [multOf, all]
  rw [hx, ofBits_two, ← EReal.coe_mul, Ideal.exp_coe, ← EReal.coe_one, ← EReal.coe_sub, ← EReal.coe_neg, Ideal.sqrt_coe, if_neg (by linarith), ← Real.exp_add, neg_sub, two_mul]

/-- The gelu over the reals. -/
theorem geluOf_at (x : FVec Ideal S4096x1024 .f32) {X : Fin 4096 → Fin 1024 → ℝ} (hx : ∀ r k, x (ix2 r k) = ((X r k : ℝ) : EReal)) (r : Fin 4096) (k : Fin 1024) :
    geluOf x (ix2 r k) = ((gelu (X r k) : ℝ) : EReal) := by
  pointwise [geluOf, all]
  rw [hx, ofBits_gk, ofBits_gs, ofBits_half, ← EReal.coe_one]
  simp only [← EReal.coe_mul, ← EReal.coe_add, Ideal.tanh_coe, gelu]
  congr 1
  ring_nf

/-- The convolution's norm over the reals. -/
theorem norm512_at (x : FVec Ideal S4096x512 .f32) (g : FVec Ideal S512 .f32) {X : Fin 4096 → Fin 512 → ℝ} {G : Fin 512 → ℝ}
    (hx : ∀ r k, x (ix2 r k) = ((X r k : ℝ) : EReal)) (hg : ∀ k, g (ix1 k) = ((G k : ℝ) : EReal)) (r : Fin 4096) (k : Fin 512) :
    norm512 x g (ix2 r k) = ((X r k * rstd (X r) 512 * G k : ℝ) : EReal) := by
  pointwise [norm512, wide]
  simp only [hx, hg]
  rw [rstd_lift (X r) ofBits_512 ofBits_eps (by norm_num), ← EReal.coe_mul, ← EReal.coe_mul]

/-- The recurrence's norm over the reals. -/
theorem norm1024_at (x : FVec Ideal S4096x1024 .f32) (g : FVec Ideal S1024 .f32) {X : Fin 4096 → Fin 1024 → ℝ} {G : Fin 1024 → ℝ}
    (hx : ∀ r k, x (ix2 r k) = ((X r k : ℝ) : EReal)) (hg : ∀ k, g (ix1 k) = ((G k : ℝ) : EReal)) (r : Fin 4096) (k : Fin 1024) :
    norm1024 x g (ix2 r k) = ((X r k * rstd (X r) 1024 * G k : ℝ) : EReal) := by
  pointwise [norm1024, wider]
  simp only [hx, hg]
  rw [rstd_lift (X r) ofBits_1024 ofBits_eps (by norm_num), ← EReal.coe_mul, ← EReal.coe_mul]

/-- A row of an array, cut at a start that is the row's number. -/
theorem row_at (x : FVec Ideal S4096x1024 .f32) (s : Fin 2 → Int) (n : Fin 4096) (h0 : s 0 = (n.val : Int)) (h1 : s 1 = 0) (k : Fin 1024) :
    shapeCast S1024 (Host.dynamicSlice S1x1024 x s sliceFits_S4096x1024_S1x1024) shapeCasts_S1x1024_S1024 (ix1 k) = x (ix2 n k) := by
  rw [WordCmp.dynamicSlice_eq_extract S1x1024 x s sliceFits_S4096x1024_S1x1024 ![n.val, 0] ⟨rfl, fun a => by fin_cases a <;> simp <;> omega⟩
    (fun a => by fin_cases a <;> simp [h0, h1])]
  pointwise

/-- An array with a row replaced, at a start that is the row's number. -/
theorem put_at (x : FVec Ideal S4096x1024 .f32) (y : FVec Ideal S1x1024 .f32) (s : Fin 2 → Int) (n : Fin 4096) (h0 : s 0 = (n.val : Int)) (h1 : s 1 = 0) (r : Fin 4096) (k : Fin 1024) :
    Host.dynamicUpdateSlice x y s updateFits_S4096x1024_S1x1024 (ix2 r k) = if r = n then y (ix2 0 k) else x (ix2 r k) := by
  rw [WordCmp.dynamicUpdateSlice_eq_update x y s updateFits_S4096x1024_S1x1024 ![n.val, 0] ⟨rfl, fun a => by fin_cases a <;> simp <;> omega⟩
    (fun a => by fin_cases a <;> simp [h0, h1])]
  pointwise
  by_cases e : r = n
  · subst e
    rw [dif_pos ⟨le_rfl, by omega⟩, if_pos rfl]
    exact congrArg (fun i => y (ix2 i k)) (Fin.ext (by show r.val - r.val = 0; omega))
  · have h : r.val ≠ n.val := fun h => e (Fin.ext h)
    rw [dif_neg (by omega), if_neg e]

section loop

variable (m : (ℓ : Loc nD τ sig) → Buf (Elt Ideal) ℓ) (c : Dev nD)

/-- A buffer that neither the loop's condition nor its body writes is what it was before the loop. -/
theorem loop_keeps (b : Ref sig .tc) (h0 : b ∉ condOps_W) (h1 : b ∉ while0Ops0_W) (h2 : b ∉ while0Ops0_1_W) (h3 : b ∉ while0Ops0_2_W) (h4 : b ∉ while0Ops0_3_W)
    (h5 : b ∉ while0Ops0_4_W) : ∀ k, atK (F := Ideal) m k c (Proc.devRef .tc b) = entryContents preI m c (Proc.devRef .tc b)
  | 0 => rfl
  | k + 1 => by
    rw [← loop_keeps b h0 h1 h2 h3 h4 h5 k, show atK (F := Ideal) m (k + 1) c = afterL bodyI (after condOps (atK m k c)) from rfl]
    simp only [afterL_cons, afterL_nil]
    rw [after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0]

/-- No trip of the loop changes the decays, -/
theorem loop_a : ∀ k, atK (F := Ideal) m k c (Proc.devRef .tc main_v114_0) = entryContents preI m c (Proc.devRef .tc main_v114_0)
  | 0 => rfl
  | k + 1 => ((trip_main_v114_0 _).trans (cond_keeps _ main_v114_0 (by decide))).trans (loop_a k)

/-- nor the inputs. -/
theorem loop_in : ∀ k, atK (F := Ideal) m k c (Proc.devRef .tc main_v114_1) = entryContents preI m c (Proc.devRef .tc main_v114_1)
  | 0 => rfl
  | k + 1 => ((trip_main_v114_1 _).trans (cond_keeps _ main_v114_1 (by decide))).trans (loop_in k)

/-- The row's number as a start of a slice. -/
theorem start_zero (k : ℕ) (hk : k < 4096) : (Scf.iv 0#32 1#32 k : BitVec 32).toInt = (k : Int) := by
  have e : (Scf.iv 0#32 1#32 k : BitVec 32) = BitVec.ofNat 32 k := by simp [Scf.iv]
  rw [e]
  exact toInt_ofNat_of_lt (by omega)

variable (N : Layer) (ha : ∀ r k, (entryContents preI m c (Proc.devRef .tc main_v114_0) : FVec Ideal S4096x1024 .f32) (ix2 r k) = ((N.a r k : ℝ) : EReal))
  (hi : ∀ r k, (entryContents preI m c (Proc.devRef .tc main_v114_1) : FVec Ideal S4096x1024 .f32) (ix2 r k) = ((N.inp r k : ℝ) : EReal))
  (h0 : ∀ k, (entryContents preI m c (Proc.devRef .tc main_v114_3) : FVec Ideal S1024 .f32) (ix1 k) = (0 : EReal))
include ha hi

/-- A trip's new state, from the state before it. -/
theorem trip_state (n : Fin 4096) (hs : ∀ k, (atK (F := Ideal) m n.val c (Proc.devRef .tc main_v114_3) : FVec Ideal S1024 .f32) (ix1 k) = ((N.st n.val k : ℝ) : EReal)) (k : Fin 1024) :
    (res_main_while0b_v164 (after condOps (atK (F := Ideal) m n.val c)) : FVec Ideal S1024 .f32) (ix1 k) = ((N.st (n.val + 1) k : ℝ) : EReal) := by
  have hc : after condOps (atK (F := Ideal) m n.val c) (Proc.devRef .tc main_v114_2) = fun _ => Scf.iv 0#32 1#32 n.val :=
    (cond_keeps _ main_v114_2 (by decide)).trans (atK_ctr m c n.val)
  have h3 := (cond_keeps (atK (F := Ideal) m n.val c) main_v114_3 (by decide))
  have e0 := ((cond_keeps (atK (F := Ideal) m n.val c) main_v114_0 (by decide))).trans (loop_a m c n.val)
  have e1 := ((cond_keeps (atK (F := Ideal) m n.val c) main_v114_1 (by decide))).trans (loop_in m c n.val)
  rw [res_main_while0b_v164, hc, h3, e0, e1]
  show (shapeCast S1024 (Host.dynamicSlice S1x1024 _ _ _) _ (ix1 k) : EReal) * _ + shapeCast S1024 (Host.dynamicSlice S1x1024 _ _ _) _ (ix1 k) = _
  rw [row_at _ _ n (start_zero _ n.isLt) rfl, row_at _ _ n (start_zero _ n.isLt) rfl, ha, hi, hs, ← EReal.coe_mul, ← EReal.coe_add, ← N.st_succ]

include h0

/-- After `n` trips the state is that of `n` steps of the recurrence, -/
theorem loop_state : ∀ n (hn : n ≤ 4096) k, (atK (F := Ideal) m n c (Proc.devRef .tc main_v114_3) : FVec Ideal S1024 .f32) (ix1 k) = ((N.st n k : ℝ) : EReal)
  | 0, _, k => (h0 k).trans EReal.coe_zero.symm
  | n + 1, hn, k => by
    rw [show atK (F := Ideal) m (n + 1) c = afterL bodyI (after condOps (atK m n c)) from rfl, trip_main_v114_3]
    exact trip_state m c N ha hi ⟨n, by omega⟩ (loop_state n (by omega)) k

/-- and the rows before `n` hold their states. -/
theorem loop_out : ∀ n (hn : n ≤ 4096) (r : Fin 4096) k, r.val < n →
    (atK (F := Ideal) m n c (Proc.devRef .tc main_v114_4) : FVec Ideal S4096x1024 .f32) (ix2 r k) = ((N.hs r k : ℝ) : EReal)
  | 0, _, r, k, h => absurd h (Nat.not_lt_zero _)
  | n + 1, hn, r, k, h => by
    have hc : after condOps (atK (F := Ideal) m n c) (Proc.devRef .tc main_v114_2) = fun _ => Scf.iv 0#32 1#32 n :=
      (cond_keeps _ main_v114_2 (by decide)).trans (atK_ctr m c n)
    have h4 := cond_keeps (atK (F := Ideal) m n c) main_v114_4 (by decide)
    rw [show atK (F := Ideal) m (n + 1) c = afterL bodyI (after condOps (atK m n c)) from rfl, trip_main_v114_4, hc, h4]
    refine (put_at _ _ _ ⟨n, by omega⟩ (start_zero _ (by omega)) rfl r k).trans ?_
    by_cases e : r = ⟨n, by omega⟩
    · rw [if_pos e, e]
      refine Eq.trans ?_ (trip_state m c N ha hi ⟨n, by omega⟩ (loop_state m c N ha hi h0 n (by omega)) k)
      pointwise
    · rw [if_neg e]
      exact loop_out n (by omega) r k (by have : r.val ≠ n := fun h => e (Fin.ext h); omega)

end loop

end Cert.Reference4Ideal.Fwd

end
-- ==== Proof.FwdRun.lean ====
/- The reference of the mixer's forward call: its results as functions of real arguments. -/
module

public import proofs.«01_k».proof.Proof.FwdRef

@[expose] public section

set_option maxRecDepth 16384

noncomputable section

namespace Cert.Reference4Ideal.Fwd

open Cert.Reference4Ideal Cert.Reference4Ideal.Gen Cert.Reference4Ideal.Value Cert.RealMath Idealize.ShloMosaic Idealize.ShloMosaic.TcCoe Idealize.SL.Sem
open Idealize.ShloMosaic.StableHlo

/-- The call's twelve arguments. -/
structure Args where
  a0 : FVec Ideal S1x4096x1024 .f32
  a1 : FVec Ideal S1x1024x3584 .f32
  a2 : FVec Ideal S1x3x512 .f32
  a3 : FVec Ideal S1x4x1024 .f32
  a4 : FVec Ideal S1x1024 .f32
  a5 : FVec Ideal S1x16x64x64 .f32
  a6 : FVec Ideal S1x1024 .f32
  a7 : FVec Ideal S1x16x64x64 .f32
  a8 : FVec Ideal S1x1024 .f32
  a9 : FVec Ideal S1x1024 .f32
  a10 : FVec Ideal S1x512 .f32
  a11 : FVec Ideal S1x1024 .f32

/-- The arguments the reference's buffers hold. -/
abbrev Args.of (V : Valuation τ sig (Elt Ideal)) : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)

/-- The arguments hold a layer's real numbers. -/
structure Reals (A : Args) (N : Layer) : Prop where
  h0 : ∀ r k, A.a0 (ix3 0 r k) = ((N.h r k : ℝ) : EReal)
  h1 : ∀ j k, A.a1 (ix3 0 j k) = ((N.w j k : ℝ) : EReal)
  h2 : ∀ j k, A.a2 (ix3 0 j k) = ((N.cw j k : ℝ) : EReal)
  h3 : ∀ j k, A.a3 (ix3 0 j k) = ((N.rw j k : ℝ) : EReal)
  h4 : ∀ k, A.a4 (ix2 0 k) = ((N.rb k : ℝ) : EReal)
  h5 : ∀ n p q, A.a5 (ix4 0 n p q) = ((N.wa n p q : ℝ) : EReal)
  h6 : ∀ k, A.a6 (ix2 0 k) = ((N.ba k : ℝ) : EReal)
  h7 : ∀ n p q, A.a7 (ix4 0 n p q) = ((N.wx n p q : ℝ) : EReal)
  h8 : ∀ k, A.a8 (ix2 0 k) = ((N.bx k : ℝ) : EReal)
  h9 : ∀ k, A.a9 (ix2 0 k) = ((N.lam k : ℝ) : EReal)
  h10 : ∀ k, A.a10 (ix2 0 k) = ((N.gc k : ℝ) : EReal)
  h11 : ∀ k, A.a11 (ix2 0 k) = ((N.gr k : ℝ) : EReal)

namespace Args

variable (A : Args)

/-- The projection, the two convolved branches, the two gates and the decay's logarithm, as the reference computes them. -/
def u : FVec Ideal S4096x3584 .f32 := proj A.a0 A.a1
/-- The convolution of these arguments. -/
def c3 : FVec Ideal S4096x512 .f32 :=
  conv3 (mulf (extractStridedSlice S4096x512 ![0, 512] A.u slices_S4096x3584_S4096x512_0_512) (extractStridedSlice S4096x512 ![0, 1024] A.u slices_S4096x3584_S4096x512_0_1024))
    (shapeCast S3x512 A.a2 shapeCasts_S1x3x512_S3x512)
/-- The recurrence's convolved columns of these arguments. -/
def xr : FVec Ideal S4096x1024 .f32 :=
  conv4 (extractStridedSlice S4096x1024 ![0, 1536] A.u slices_S4096x3584_S4096x1024_0_1536) (shapeCast S4x1024 A.a3 shapeCasts_S1x4x1024_S4x1024)
    (shapeCast S1024 A.a4 shapeCasts_S1x1024_S1024)
/-- Their gate on the decay. -/
def ra : FVec Ideal S4096x1024 .f32 :=
  gateOf A.xr (shapeCast S16x64x64 A.a5 shapeCasts_S1x16x64x64_S16x64x64) (shapeCast S1024 A.a6 shapeCasts_S1x1024_S1024)
/-- Their gate on the recurrence's input. -/
def ig : FVec Ideal S4096x1024 .f32 :=
  gateOf A.xr (shapeCast S16x64x64 A.a7 shapeCasts_S1x16x64x64_S16x64x64) (shapeCast S1024 A.a8 shapeCasts_S1x1024_S1024)
/-- Their decay's logarithm. -/
def la : FVec Ideal S4096x1024 .f32 := logA A.ra A.a9

variable {A} {N : Layer} (h : Reals A N)
include h

/-- The projection's element is the layer's. -/
theorem u_at (r : Fin 4096) (k : Fin 3584) : A.u (ix2 r k) = ((N.u r k : ℝ) : EReal) := proj_at A.a0 A.a1 h.h0 h.h1 r k

/-- The gated convolution's element is the layer's. -/
theorem c3_at (r : Fin 4096) (k : Fin 512) : A.c3 (ix2 r k) = ((N.c3 r k : ℝ) : EReal) := by
  refine conv3_at _ _ (X := N.cv) (W := N.cw) (fun r k => ?_) (fun j k => ?_) r k
  · pointwise
    rw [u_at h, u_at h, ← EReal.coe_mul]
    rfl
  · pointwise
    exact h.h2 j k

/-- The convolved recurrence input's element is the layer's. -/
theorem xr_at (r : Fin 4096) (k : Fin 1024) : A.xr (ix2 r k) = ((N.xr r k : ℝ) : EReal) := by
  refine conv4_at _ _ _ (X := N.xin) (W := N.rw) (B := N.rb) (fun r k => ?_) (fun j k => ?_) (fun k => ?_) r k
  · pointwise
    exact u_at h _ _
  · pointwise
    exact h.h3 j k
  · pointwise
    exact h.h4 k

/-- The recurrence gate's element is the layer's. -/
theorem ra_at (r : Fin 4096) (k : Fin 1024) : A.ra (ix2 r k) = ((N.ra r k : ℝ) : EReal) := by
  refine gateOf_at _ _ _ (X := N.xr) (W := N.wa) (B := N.ba) (xr_at h) (fun n p q => ?_) (fun k => ?_) r k
  · pointwise
    exact h.h5 n p q
  · pointwise
    exact h.h6 k

/-- The input gate's element is the layer's. -/
theorem ig_at (r : Fin 4096) (k : Fin 1024) : A.ig (ix2 r k) = ((N.ig r k : ℝ) : EReal) := by
  refine gateOf_at _ _ _ (X := N.xr) (W := N.wx) (B := N.bx) (xr_at h) (fun n p q => ?_) (fun k => ?_) r k
  · pointwise
    exact h.h7 n p q
  · pointwise
    exact h.h8 k

/-- The decay's logarithm is the layer's. -/
theorem la_at (r : Fin 4096) (k : Fin 1024) : A.la (ix2 r k) = ((N.la r k : ℝ) : EReal) := logA_at A.ra A.a9 (ra_at h) h.h9 r k

/-- So is the input's multiplier. -/
theorem mult_at (r : Fin 4096) (k : Fin 1024) : multOf A.la (ix2 r k) = ((N.mult r k : ℝ) : EReal) := multOf_at A.la (la_at h) r k (N.la_neg r k)

end Args

/-- What the two tests of a precondition say of two numbers. -/
theorem le_of_oge {x y : EReal} (h : Ideal.cmp .oge x y = 1#1) : y ≤ x := by
  by_contra hc
  simp [Ideal.cmp, hc] at h

/-- A comparison that holds says which of the two is smaller. -/
theorem le_of_ole {x y : EReal} (h : Ideal.cmp .ole x y = 1#1) : x ≤ y := by
  by_contra hc
  simp [Ideal.cmp, hc] at h

section run

variable (m : (ℓ : Loc nD τ sig) → Buf (Elt Ideal) ℓ) (c : Dev nD)

/-- The arguments in the launch memory. -/
abbrev args : Args := Args.of (launchContents m c)

/-- The contents before the loop, stretch by stretch. -/
theorem entry_eq : entryContents (F := Ideal) preI m c = after hostOps0_2 (after hostOps0_1 (after hostOps0 (launchContents m c))) := by
  simp only [entryContents, afterL_cons, afterL_nil]

/-- A buffer the second and third stretches leave is the first's before the loop. -/
theorem entry_keeps (b : Ref sig .tc) (h1 : b ∉ hostOps0_1_W) (h2 : b ∉ hostOps0_2_W) :
    entryContents (F := Ideal) preI m c (Proc.devRef .tc b) = after hostOps0 (launchContents m c) (Proc.devRef .tc b) := by
  rw [entry_eq, after_of_writes_sub hostOps0_2 _ hostOps0_2_writes h2, after_of_writes_sub hostOps0_1 _ hostOps0_1_writes h1]

/-- What the third stretch finds of the decay's logarithm. -/
theorem entry_la : mulf (after hostOps0_1 (after hostOps0 (launchContents m c)) (Proc.devRef .tc main_v97) : FVec Ideal S4096x1024 .f32)
    (wider (after hostOps0_1 (after hostOps0 (launchContents m c)) (Proc.devRef .tc main_v100))) = (args m c).la := by
  rw [after_of_writes_sub hostOps0_1 _ hostOps0_1_writes (show main_v97 ∉ hostOps0_1_W by decide +kernel), read_v97, read_v100, read_v99]
  rfl

/-- The decay, the multiplier, the recurrence's input and its first state before the loop. -/
theorem entry_v104 : entryContents (F := Ideal) preI m c (Proc.devRef .tc main_v104) = (Host.exp (args m c).la : FVec Ideal S4096x1024 .f32) := by
  rw [entry_eq, read_v104, entry_la]

/-- When the loop begins, the input's factor lies in its buffer, -/
theorem entry_v109 : entryContents (F := Ideal) preI m c (Proc.devRef .tc main_v109) = multOf (args m c).la := by
  rw [entry_eq, read_v109, entry_la]

/-- the decays in theirs, -/
theorem entry_a : entryContents (F := Ideal) preI m c (Proc.devRef .tc main_v114_0) = (Host.exp (args m c).la : FVec Ideal S4096x1024 .f32) := by
  rw [entry_eq, read_a, entry_la]

/-- the inputs in theirs, -/
theorem entry_in : entryContents (F := Ideal) preI m c (Proc.devRef .tc main_v114_1) = (mulf (multOf (args m c).la) (mulf (args m c).ig (args m c).xr) : FVec Ideal S4096x1024 .f32) := by
  rw [entry_eq, read_in, entry_la, after_of_writes_sub hostOps0_1 _ hostOps0_1_writes (show main_v95 ∉ hostOps0_1_W by decide +kernel),
    after_of_writes_sub hostOps0_1 _ hostOps0_1_writes (show main_v65 ∉ hostOps0_1_W by decide +kernel), read_v95, read_v65]
  rfl

/-- and the state is zero. -/
theorem entry_state (k : Fin 1024) : (entryContents (F := Ideal) preI m c (Proc.devRef .tc main_v114_3) : FVec Ideal S1024 .f32) (ix1 k) = (0 : EReal) := by
  rw [entry_eq, read_state]
  pointwise

/-- The references the operations after the loop write, in order. -/
abbrev last_W : List (Ref sig .tc) := [main_v115, main_v116, main_v117, main_cst_9, main_v118, main_v119, main_cst_10, main_v120, main_v121, main_cst_11, main_v122, main_v123,
  main_v124, main_v125, main_v126, main_v127, main_v128, main_v129, main_v130, main_v131, main_cst_12, main_v132, main_v133, main_v134, main_cst_13, main_v135, main_v136,
  main_v137, main_cst_14, main_v138, main_v139, main_cst_15, main_v140, main_v141, main_v142, main_v143, main_v144, main_v145, main_cst_16, main_v146, main_v147, main_cst_17,
  main_v148, main_v149, main_cst_18, main_v150, main_v151, main_v152, main_v153, main_v154, main_v155, main_v156, main_v157, main_v158, main_v159, main_v160]

/-- The operations after the loop write only their own buffers. -/
theorem last_writes : (hostOps0_3 : List (HloOp τ sig (Elt Ideal))).Forall fun op => op.writes ⊆ (last_W.map (Proc.devRef (τ := τ) .tc)).toFinset :=
  StableHlo.forall_writes_sub_of_map rfl

/-- The contents after the loop's last test. -/
abbrev done : Valuation τ sig (Elt Ideal) := after condOps (atK (F := Ideal) m 4096 c)

/-- The contents at the end. -/
abbrev fin : Valuation τ sig (Elt Ideal) := finalContents (F := Ideal) condOps preI bodyI postI 4096 m c

/-- The final contents are those after the loop, through the last operations. -/
theorem fin_eq : fin m c = after hostOps0_3 (done m c) := by
  simp only [fin, finalContents, afterL_cons, afterL_nil]

/-- A buffer the loop leaves is after it what it was before. -/
theorem done_keeps (b : Ref sig .tc) (h : b ∉ condOps_W ++ (while0Ops0_W ++ (while0Ops0_1_W ++ (while0Ops0_2_W ++ (while0Ops0_3_W ++ while0Ops0_4_W))))) :
    done m c (Proc.devRef .tc b) = entryContents (F := Ideal) preI m c (Proc.devRef .tc b) := by
  simp only [List.mem_append, not_or] at h
  rw [done, after_of_writes_sub condOps _ condOps_writes h.1, loop_keeps m c b h.1 h.2.1 h.2.2.1 h.2.2.2.1 h.2.2.2.2.1 h.2.2.2.2.2]

/-- A buffer only the first stretch writes is after the loop what that stretch left. -/
theorem done_first (b : Ref sig .tc)
    (h : b ∉ condOps_W ++ (while0Ops0_W ++ (while0Ops0_1_W ++ (while0Ops0_2_W ++ (while0Ops0_3_W ++ while0Ops0_4_W))))) (h1 : b ∉ hostOps0_1_W) (h2 : b ∉ hostOps0_2_W) :
    done m c (Proc.devRef .tc b) = after hostOps0 (launchContents m c) (Proc.devRef .tc b) :=
  (done_keeps m c b h).trans (entry_keeps m c b h1 h2)

/-- An argument is at the end what it was at the launch. -/
theorem fin_arg (b : Ref sig .tc) (h : b ∉ last_W ++ (condOps_W ++ (while0Ops0_W ++ (while0Ops0_1_W ++ (while0Ops0_2_W ++ (while0Ops0_3_W ++ while0Ops0_4_W))))))
    (h0 : b ∉ hostOps0_W) (h1 : b ∉ hostOps0_1_W) (h2 : b ∉ hostOps0_2_W) : fin m c (Proc.devRef .tc b) = launchContents m c (Proc.devRef .tc b) := by
  rw [fin_eq, after_of_writes_sub hostOps0_3 _ last_writes (fun e => h (List.mem_append_left _ e)), done_first m c b (fun e => h (List.mem_append_right _ e)) h1 h2,
    after_of_writes_sub hostOps0 _ hostOps0_writes h0]

variable {N : Layer} (h : Reals (args m c) N)
include h

/-- The decay and the recurrence's input before the loop are the layer's. -/
theorem a_at (r : Fin 4096) (k : Fin 1024) : (Host.exp (args m c).la : FVec Ideal S4096x1024 .f32) (ix2 r k) = ((N.a r k : ℝ) : EReal) := by
  show Ideal.exp ((args m c).la (ix2 r k)) = _
  rw [Args.la_at h, Ideal.exp_coe]
  rfl

/-- The loop's inputs over the reals. -/
theorem inp_at (r : Fin 4096) (k : Fin 1024) : (mulf (multOf (args m c).la) (mulf (args m c).ig (args m c).xr) : FVec Ideal S4096x1024 .f32) (ix2 r k) = ((N.inp r k : ℝ) : EReal) := by
  show multOf (args m c).la (ix2 r k) * ((args m c).ig (ix2 r k) * (args m c).xr (ix2 r k)) = _
  rw [Args.mult_at h, Args.ig_at h, Args.xr_at h, ← EReal.coe_mul, ← EReal.coe_mul]
  rfl

/-- The loop leaves the recurrence's states. -/
theorem done_hs (r : Fin 4096) (k : Fin 1024) : (done m c (Proc.devRef .tc main_v114_4) : FVec Ideal S4096x1024 .f32) (ix2 r k) = ((N.hs r k : ℝ) : EReal) := by
  refine (congrFun (cond_keeps (atK (F := Ideal) m 4096 c) main_v114_4 (by decide)) (ix2 r k)).trans ?_
  refine loop_out m c N (fun r k => ?_) (fun r k => ?_) (entry_state m c) 4096 le_rfl r k r.isLt
  · rw [entry_a]
    exact a_at m c h r k
  · rw [entry_in]
    exact inp_at m c h r k

/-- The six results are the layer's. -/
theorem fin_u (r : Fin 4096) (k : Fin 3584) : (fin m c (Proc.devRef .tc main_v2) : FVec Ideal S4096x3584 .f32) (ix2 r k) = ((N.u r k : ℝ) : EReal) := by
  rw [fin_eq, after_of_writes_sub hostOps0_3 _ last_writes (show main_v2 ∉ last_W by decide +kernel), done_first m c main_v2 (by decide +kernel) (by decide +kernel) (by decide +kernel), read_v2]
  exact Args.u_at h r k

/-- The final convolved columns. -/
theorem fin_xr (r : Fin 4096) (k : Fin 1024) : (fin m c (Proc.devRef .tc main_v65) : FVec Ideal S4096x1024 .f32) (ix2 r k) = ((N.xr r k : ℝ) : EReal) := by
  rw [fin_eq, after_of_writes_sub hostOps0_3 _ last_writes (show main_v65 ∉ last_W by decide +kernel), done_first m c main_v65 (by decide +kernel) (by decide +kernel) (by decide +kernel), read_v65]
  exact Args.xr_at h r k

/-- The final states. -/
theorem fin_hs (r : Fin 4096) (k : Fin 1024) : (fin m c (Proc.devRef .tc main_v114_4) : FVec Ideal S4096x1024 .f32) (ix2 r k) = ((N.hs r k : ℝ) : EReal) := by
  rw [fin_eq, after_of_writes_sub hostOps0_3 _ last_writes (show main_v114_4 ∉ last_W by decide +kernel)]
  exact done_hs m c h r k

/-- The convolution lies in its buffer after the loop, -/
theorem done_c3 (r : Fin 4096) (k : Fin 512) : (done m c (Proc.devRef .tc main_v31) : FVec Ideal S4096x512 .f32) (ix2 r k) = ((N.c3 r k : ℝ) : EReal) := by
  rw [done_first m c main_v31 (by decide +kernel) (by decide +kernel) (by decide +kernel), read_v31]
  exact Args.c3_at h r k

/-- and at the end. -/
theorem fin_c3 (r : Fin 4096) (k : Fin 512) : (fin m c (Proc.devRef .tc main_v31) : FVec Ideal S4096x512 .f32) (ix2 r k) = ((N.c3 r k : ℝ) : EReal) := by
  rw [fin_eq, after_of_writes_sub hostOps0_3 _ last_writes (show main_v31 ∉ last_W by decide +kernel)]
  exact done_c3 m c h r k

/-- The convolution's first gate after the loop. -/
theorem done_gb (r : Fin 4096) (k : Fin 512) : (done m c (Proc.devRef .tc main_v3) : FVec Ideal S4096x512 .f32) (ix2 r k) = ((N.gb r k : ℝ) : EReal) := by
  rw [done_first m c main_v3 (by decide +kernel) (by decide +kernel) (by decide +kernel), read_v3]
  pointwise
  exact Args.u_at h r _

/-- The gelu gate's columns after the loop. -/
theorem done_go (r : Fin 4096) (k : Fin 1024) : (done m c (Proc.devRef .tc main_v7) : FVec Ideal S4096x1024 .f32) (ix2 r k) = ((N.go r k : ℝ) : EReal) := by
  rw [done_first m c main_v7 (by decide +kernel) (by decide +kernel) (by decide +kernel), read_v7]
  pointwise
  exact Args.u_at h r _

/-- The final output: the convolution's half, then the recurrence's. -/
theorem fin_y (r : Fin 4096) (k : Fin 1536) : (fin m c (Proc.devRef .tc main_v159) : FVec Ideal S4096x1536 .bf16) (ix2 r k) =
    ((if hk : k.val < 512 then N.oc r ⟨k.val, hk⟩ else N.ob r ⟨k.val - 512, by omega⟩ : ℝ) : EReal) := by
  have e10 : done m c (Proc.devRef .tc main_arg10) = (args m c).a10 := by
    rw [done_first m c main_arg10 (by decide +kernel) (by decide +kernel) (by decide +kernel), after_of_writes_sub hostOps0 _ hostOps0_writes (show main_arg10 ∉ hostOps0_W by decide +kernel)]
  have e11 : done m c (Proc.devRef .tc main_arg11) = (args m c).a11 := by
    rw [done_first m c main_arg11 (by decide +kernel) (by decide +kernel) (by decide +kernel), after_of_writes_sub hostOps0 _ hostOps0_writes (show main_arg11 ∉ hostOps0_W by decide +kernel)]
  have hc (r : Fin 4096) (k : Fin 512) := norm512_at (mulf (done m c (Proc.devRef .tc main_v3)) (done m c (Proc.devRef .tc main_v31)))
    (shapeCast S512 (args m c).a10 shapeCasts_S1x512_S512) (X := N.yc) (G := N.gc) (fun r k => by
      refine (congrArg₂ (fun x y : EReal => x * y) (done_gb m c h r k) (done_c3 m c h r k)).trans ?_
      rw [← EReal.coe_mul]
      rfl) (fun k => by
      pointwise
      exact h.h10 k) r k
  have hb (r : Fin 4096) (k : Fin 1024) := norm1024_at (mulf (done m c (Proc.devRef .tc main_v114_4)) (geluOf (done m c (Proc.devRef .tc main_v7))))
    (shapeCast S1024 (args m c).a11 shapeCasts_S1x1024_S1024) (X := N.yr) (G := N.gr) (fun r k => by
      refine (congrArg₂ (fun x y : EReal => x * y) (done_hs m c h r k) (geluOf_at _ (done_go m c h) r k)).trans ?_
      rw [← EReal.coe_mul]
      rfl) (fun k => by
      pointwise
      exact h.h11 k) r k
  rw [fin_eq, read_v159, e10, e11]
  pointwise
  by_cases hk : k.val < 512
  · rw [dif_pos hk, dif_pos hk]
    exact hc r ⟨k.val, hk⟩
  · rw [dif_neg hk, dif_neg hk]
    exact hb r ⟨k.val - 512, by omega⟩

/-- The final gates. -/
theorem fin_gates (r : Fin 4096) (k : Fin 4096) : (fin m c (Proc.devRef .tc main_v160) : FVec Ideal S4096x4096 .f32) (ix2 r k) =
    ((if h0 : k.val < 1024 then N.ra r ⟨k.val, h0⟩ else if h1 : k.val < 2048 then N.ig r ⟨k.val - 1024, by omega⟩
      else if h2 : k.val < 3072 then N.a r ⟨k.val - 2048, by omega⟩ else N.mult r ⟨k.val - 3072, by omega⟩ : ℝ) : EReal) := by
  have e80 : done m c (Proc.devRef .tc main_v80) = (args m c).ra := by
    rw [done_first m c main_v80 (by decide +kernel) (by decide +kernel) (by decide +kernel), read_v80]
    rfl
  have e95 : done m c (Proc.devRef .tc main_v95) = (args m c).ig := by
    rw [done_first m c main_v95 (by decide +kernel) (by decide +kernel) (by decide +kernel), read_v95]
    rfl
  rw [fin_eq, read_v160, e80, e95, done_keeps m c main_v104 (by decide +kernel), done_keeps m c main_v109 (by decide +kernel), entry_v104, entry_v109]
  pointwise
  by_cases h0 : k.val < 1024
  · rw [dif_pos h0, dif_pos h0]
    exact Args.ra_at h r _
  rw [dif_neg h0, dif_neg h0]
  by_cases h1 : k.val < 2048
  · rw [dif_pos (by omega), dif_pos h1]
    exact Args.ig_at h r _
  rw [dif_neg (by omega), dif_neg h1]
  by_cases h2 : k.val < 3072
  · rw [dif_pos (by omega), dif_pos h2]
    exact a_at m c h r _
  rw [dif_neg (by omega), dif_neg h2]
  exact Args.mult_at h r _

omit h in
/-- From any memory with every semaphore at zero the reference ends with the six results and its arguments as they were. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = fin m c (Proc.devRef .tc main_v2)
      ∧ r.2.mem ((c.tc : Thread nD τ).loc main_v65) = fin m c (Proc.devRef .tc main_v65)
      ∧ r.2.mem ((c.tc : Thread nD τ).loc main_v114_4) = fin m c (Proc.devRef .tc main_v114_4)
      ∧ r.2.mem ((c.tc : Thread nD τ).loc main_v31) = fin m c (Proc.devRef .tc main_v31)
      ∧ r.2.mem ((c.tc : Thread nD τ).loc main_v159) = fin m c (Proc.devRef .tc main_v159)
      ∧ r.2.mem ((c.tc : Thread nD τ).loc main_v160) = fin m c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r h c => ?_) (run_fold m ρ)
  have arg (b : Ref sig .tc) (hs : (Proc.devRef .tc b : DevRef τ sig).isScoped = false)
      (h' : b ∉ last_W ++ (condOps_W ++ (while0Ops0_W ++ (while0Ops0_1_W ++ (while0Ops0_2_W ++ (while0Ops0_3_W ++ while0Ops0_4_W)))))) (h0 : b ∉ hostOps0_W) (h1 : b ∉ hostOps0_1_W)
      (h2 : b ∉ hostOps0_2_W) : r.2.mem ((c.tc : Thread nD τ).loc b) = m ((c.tc : Thread nD τ).loc b) := (h c b hs).trans (fin_arg m c b h' h0 h1 h2)
  refine ⟨h c _ rfl, h c _ rfl, h c _ rfl, h c _ rfl, h c _ rfl, h c _ rfl, ?_, ?_, ?_, ?_, ?_, ?_, ?_, ?_, ?_, ?_, ?_, ?_⟩ <;>
    exact arg _ rfl (by decide +kernel) (by decide +kernel) (by decide +kernel) (by decide +kernel)

end run

end Cert.Reference4Ideal.Fwd

end
-- ==== Proof.Adamw.lean ====
/- The optimiser's step of one matrix: its result arrays at an index, and its reference's. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Kernel5Ideal.Adamw

open Cert.Kernel5Ideal Cert.Kernel5Ideal.Gen Idealize.ShloMosaic Idealize.ShloMosaic.TcCoe Idealize.SL.Sem
open Idealize.ShloMosaic.Pipeline (Dat)

/-- The first moment's step: the old moment and the gradient, mixed. -/
def moment1 (mo g : EReal) : EReal := Ideal.ofBits .f32 0x3F666666#32 * mo + Ideal.ofBits .f32 0x3DCCCCCD#32 * g

/-- The second moment's step: the old moment and the gradient's square, mixed. -/
def moment2 (vo g : EReal) : EReal := Ideal.ofBits .f32 0x3F7FBE77#32 * vo + Ideal.ofBits .f32 0x3A83126F#32 * (g * g)

/-- The weight's step from the new moments: both corrected for the start, the first over the root of the second, and the weight's decay. -/
def delta (w m1 m2 : EReal) : EReal :=
  Ideal.ofBits .f32 0xBA83126F#32 *
    (Ideal.div (Ideal.div m1 (Ideal.ofBits .f32 0x3F26BD02#32))
      (Ideal.sqrt (Ideal.div m2 (Ideal.ofBits .f32 0x3C231ACC#32)) + Ideal.ofBits .f32 0x322BCC77#32) +
      Ideal.ofBits .f32 0x3C23D70A#32 * w)

variable (m : (ℓ : Loc nD τ sig) → Buf (Elt Ideal) ℓ)

/-- Which block of its array each window holds at a tile. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The matrix's weights. -/
def w (c : Dev nD) (r k : Fin 1024) : EReal := m ((c.tc : Thread nD τ).loc main_arg0) (ix3 0 r k)
/-- Their gradient. -/
def g (c : Dev nD) (r k : Fin 1024) : EReal := m ((c.tc : Thread nD τ).loc main_arg1) (ix2 r k)
/-- The first moment before the step. -/
def mo (c : Dev nD) (r k : Fin 1024) : EReal := m ((c.tc : Thread nD τ).loc main_arg2) (ix3 0 r k)
/-- The second moment before the step. -/
def vo (c : Dev nD) (r k : Fin 1024) : EReal := m ((c.tc : Thread nD τ).loc main_arg3) (ix3 0 r k)

/-- Row `r` of the tile of grid point `t`. -/
def row (t : Fin cfg0.N) (r : Fin 256) : Fin 1024 := ⟨t.val * 256 + r.val, by have := t.isLt; have : cfg0.N = 4 := N_0; omega⟩

/-- A tile's block of the weights is 256 rows of them. -/
theorem read_w (c : Dev nD) (t : Fin cfg0.N) (r : Fin 256) (k : Fin 1024) : iblk m c 0 t (ix2 r k) = w m c (row t r) k := by
  blk_ext! [w, iblk, V, idx t, row]

/-- A tile's block of the gradient is 256 rows of it. -/
theorem read_g (c : Dev nD) (t : Fin cfg0.N) (r : Fin 256) (k : Fin 1024) : iblk m c 1 t (ix2 r k) = g m c (row t r) k := by
  blk_ext! [g, iblk, V, idx t, row]

/-- A tile's block of the first moment is 256 rows of it. -/
theorem read_mo (c : Dev nD) (t : Fin cfg0.N) (r : Fin 256) (k : Fin 1024) : iblk m c 2 t (ix2 r k) = mo m c (row t r) k := by
  blk_ext! [mo, iblk, V, idx t, row]

/-- A tile's block of the second moment is 256 rows of it. -/
theorem read_vo (c : Dev nD) (t : Fin cfg0.N) (r : Fin 256) (k : Fin 1024) : iblk m c 3 t (ix2 r k) = vo m c (row t r) k := by
  blk_ext! [vo, iblk, V, idx t, row]

/-- The block a tile leaves in the first output: the gradient's rows as they came. -/
theorem out4_at (c : Dev nD) (t : Fin cfg0.N) (r : Fin 256) (k : Fin 1024) :
    out0_4 (iblk m c 0 t) (iblk m c 1 t) (iblk m c 2 t) (iblk m c 3 t) (ix2 r k) = g m c (row t r) k := by
  rw [← read_g]
  frame_out

/-- The block a tile leaves in the third output: the first moment after the step. -/
theorem out6_at (c : Dev nD) (t : Fin cfg0.N) (r : Fin 256) (k : Fin 1024) :
    out0_6 (iblk m c 0 t) (iblk m c 1 t) (iblk m c 2 t) (iblk m c 3 t) (ix2 r k) = moment1 (mo m c (row t r) k) (g m c (row t r) k) := by
  frame_out
  pointwise [k0_pay1]
  simp only [read_mo, read_g]
  rfl

/-- The block a tile leaves in the fourth output: the second moment after the step. -/
theorem out7_at (c : Dev nD) (t : Fin cfg0.N) (r : Fin 256) (k : Fin 1024) :
    out0_7 (iblk m c 0 t) (iblk m c 1 t) (iblk m c 2 t) (iblk m c 3 t) (ix2 r k) = moment2 (vo m c (row t r) k) (g m c (row t r) k) := by
  frame_out
  pointwise [k0_pay2]
  simp only [read_vo, read_g]
  rfl

/-- The block a tile leaves in the second output: the weights' step. -/
theorem out5_at (c : Dev nD) (t : Fin cfg0.N) (r : Fin 256) (k : Fin 1024) :
    out0_5 (iblk m c 0 t) (iblk m c 1 t) (iblk m c 2 t) (iblk m c 3 t) (ix2 r k) =
      delta (w m c (row t r) k) (moment1 (mo m c (row t r) k) (g m c (row t r) k)) (moment2 (vo m c (row t r) k) (g m c (row t r) k)) := by
  frame_out
  pointwise [k0_pay3, k0_pay1, k0_pay2]
  simp only [read_w, read_mo, read_vo, read_g]
  rfl

/-- The first result array is the gradient. -/
theorem final4 (c : Dev nD) (G : FVec Ideal S1024x1024 .f32) (hG : ∀ r k, G (ix2 r k) = g m c r k) :
    (dats m 0 c).arrAt 4 (cfgs 0).N = G := by
  refine (dats m 0 c).arrAt_eq_of_covers 4 _ (by decide +kernel) fun t _ y => ?_
  blk_simp
  rw [after0_4]
  idx_vars y
  rw [out4_at, ← hG]
  blk_ext [idx t, row]

/-- The second result array is the weights' step. -/
theorem final5 (c : Dev nD) (G : FVec Ideal S1024x1024 .f32)
    (hG : ∀ r k, G (ix2 r k) = delta (w m c r k) (moment1 (mo m c r k) (g m c r k)) (moment2 (vo m c r k) (g m c r k))) :
    (dats m 0 c).arrAt 5 (cfgs 0).N = G := by
  refine (dats m 0 c).arrAt_eq_of_covers 5 _ (by decide +kernel) fun t _ y => ?_
  blk_simp
  rw [after0_5]
  idx_vars y
  rw [out5_at, ← hG]
  blk_ext [idx t, row]

/-- The third result array is the first moment after the step. -/
theorem final6 (c : Dev nD) (G : FVec Ideal S1024x1024 .f32) (hG : ∀ r k, G (ix2 r k) = moment1 (mo m c r k) (g m c r k)) :
    (dats m 0 c).arrAt 6 (cfgs 0).N = G := by
  refine (dats m 0 c).arrAt_eq_of_covers 6 _ (by decide +kernel) fun t _ y => ?_
  blk_simp
  rw [after0_6]
  idx_vars y
  rw [out6_at, ← hG]
  blk_ext [idx t, row]

/-- The fourth result array is the second moment after the step. -/
theorem final7 (c : Dev nD) (G : FVec Ideal S1024x1024 .f32) (hG : ∀ r k, G (ix2 r k) = moment2 (vo m c r k) (g m c r k)) :
    (dats m 0 c).arrAt 7 (cfgs 0).N = G := by
  refine (dats m 0 c).arrAt_eq_of_covers 7 _ (by decide +kernel) fun t _ y => ?_
  blk_simp
  rw [after0_7]
  idx_vars y
  rw [out7_at, ← hG]
  blk_ext [idx t, row]

end Cert.Kernel5Ideal.Adamw

namespace Cert.Reference5Ideal.Adamw

open Cert.Reference5Ideal Cert.Reference5Ideal.Gen Cert.Kernel5Ideal.Adamw Idealize.ShloMosaic Idealize.ShloMosaic.TcCoe Idealize.SL.Sem

/-- A number in every entry of the matrix. -/
abbrev all (b : BitVec 32) : FVec Ideal S1024x1024 .f32 := broadcastInDim S1024x1024 ![] bcast_S_S1024x1024 (constant S_ .f32 b)

/-- A matrix without its leading axis. -/
abbrev mat (a : FVec Ideal S1x1024x1024 .f32) : FVec Ideal S1024x1024 .f32 := shapeCast _ a shapeCasts_S1x1024x1024_S1024x1024

/-- The reference's first moment after the step. -/
abbrev newM (mo : FVec Ideal S1x1024x1024 .f32) (g : FVec Ideal S1024x1024 .f32) : FVec Ideal S1024x1024 .f32 :=
  addf (mulf (all 0x3F666666#32) (mat mo)) (mulf (all 0x3DCCCCCD#32) g)

/-- The reference's second moment after the step. -/
abbrev newV (vo : FVec Ideal S1x1024x1024 .f32) (g : FVec Ideal S1024x1024 .f32) : FVec Ideal S1024x1024 .f32 :=
  addf (mulf (all 0x3F7FBE77#32) (mat vo)) (mulf (all 0x3A83126F#32) (mulf g g))

/-- The reference's step of the weights. -/
abbrev step (w mo vo : FVec Ideal S1x1024x1024 .f32) (g : FVec Ideal S1024x1024 .f32) : FVec Ideal S1024x1024 .f32 :=
  mulf (all 0xBA83126F#32) (addf (Host.divf (Host.divf (newM mo g) (all 0x3F26BD02#32))
    (addf (Host.sqrt (Host.divf (newV vo g) (all 0x3C231ACC#32))) (all 0x322BCC77#32))) (mulf (all 0x3C23D70A#32) (mat w)))

variable (w mo vo : FVec Ideal S1x1024x1024 .f32) (g : FVec Ideal S1024x1024 .f32)

/-- The first moment at an index. -/
theorem newM_at (r k : Fin 1024) : newM mo g (ix2 r k) = moment1 (mo (ix3 0 r k)) (g (ix2 r k)) := by
  pointwise
  rfl

/-- The second moment at an index. -/
theorem newV_at (r k : Fin 1024) : newV vo g (ix2 r k) = moment2 (vo (ix3 0 r k)) (g (ix2 r k)) := by
  pointwise
  rfl

/-- The step at an index. -/
theorem step_at (r k : Fin 1024) :
    step w mo vo g (ix2 r k) = delta (w (ix3 0 r k)) (moment1 (mo (ix3 0 r k)) (g (ix2 r k))) (moment2 (vo (ix3 0 r k)) (g (ix2 r k))) := by
  pointwise
  rfl

end Cert.Reference5Ideal.Adamw

end
-- ==== Proof.WgradRun.lean ====
/- One grid point of a weight's gradient call, run over buffers of any contents, and the frame it makes. -/
module

public import proofs.«01_k».proof.Proof.Gen.Kernel6Ideal.Frame
public import proofs.«01_k».proof.Proof.Gen.Kernel6Ideal.Skeleton
public import Idealize.ShloMosaic.Lib.Claim

@[expose] public section

set_option maxRecDepth 16384

noncomputable section

namespace Cert.Kernel6Ideal.Wgrad

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second phase, whose partial sum is core 0's own. -/
abbrev own (i : grid0.Coords) : Prop := k0_cond1 i = 1#1

/-- It is the last four points. -/
theorem own_iff : ∀ t : Fin cfg0.N, own (grid0.coords t) ↔ 4 ≤ t.val :=
  (by decide +kernel : ∀ t : Fin grid0.N, k0_cond1 (grid0.coords t) = 1#1 ↔ 4 ≤ t.val)

/-- The last four points come after the first phase's. -/
theorem own_at (i : grid0.Coords) (h : own i) : (i 0).val = 1 := by
  have h0 : (i 0).val < 2 := (i 0).isLt
  have hn : (i 0).val ≠ 0 := fun e => by simp only [own, k0_cond1, e] at h; exact absurd h (by decide)
  omega

/-- In it the call adds up in the scratch's last slot. -/
theorem off_own (i : grid0.Coords) (h : own i) : k0_off1 i = ![4, 0, 0] := by
  simp only [k0_off1, own_at i h]
  rfl

/-- The slot's place, for the run. -/
instance (i : grid0.Coords) [Fact (own i)] : ClosedOff (k0_off1 i) := ⟨![4, 0, 0], off_own i Fact.out⟩

set_option maxHeartbeats 1000000 in
/-- A point of the first phase runs and leaves the outputs alone. -/
theorem kernelRun0_send (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S5x512x1024 .f32) (harg8 : arg8.IsWhole) (hc0 : ¬own i)
    (x0 : Vec F S2048x512 .bf16) (x1 : Vec F S2048x512 .bf16) (x2 : Vec F S2048x1024 .bf16) (x3 : Vec F S2048x1024 .bf16) (d4 : Vec F S1x512x1024 .f32) (d5 : Vec F S1x512x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ (∃ d, owns (c : Thread nD τ) arg8 fullShare d)) -∗ K ⟨⟩))
          ⊢ wp frame (wpE (defs₀ (F := F)) Variants.none c none) E (cc0_wgrad_mlp_out i arg2 harg2 arg3 harg3 arg4 harg4 arg5 harg5 arg6 harg6 arg7 harg7 arg8 harg8) K := by
    intro E K
    simp only [cc0_wgrad_mlp_out_eq_skeleton]; unfold cc0_wgrad_mlp_out_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _, _; isplitr; swap; · iexact HS0
    ipureintro; rfl

set_option sl_exec.closedLoads true in
set_option sl_exec.closedPieces true in
set_option maxHeartbeats 1000000 in
/-- A point of the second phase runs, with the stores it leaves in each output and in the scratch. -/
noncomputable def kernelRun0_own (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S5x512x1024 .f32) (harg8 : arg8.IsWhole) [Fact (own i)]
    (x0 : Vec F S2048x512 .bf16) (x1 : Vec F S2048x512 .bf16) (x2 : Vec F S2048x1024 .bf16) (x3 : Vec F S2048x1024 .bf16) :
    Σ' (L4 : List (View.Piece (Elt F) S1x512x1024 .f32)), Σ' (L5 : List (View.Piece (Elt F) S1x512x1024 .bf16)), { LT0 : List (View.Piece (Elt F) S5x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LT0)) -∗ K ⟨⟩))
          ⊢ wp frame (wpE (defs₀ (F := F)) Variants.none c none) E (cc0_wgrad_mlp_out i arg2 harg2 arg3 harg3 arg4 harg4 arg5 harg5 arg6 harg6 arg7 harg7 arg8 harg8) K } := by
  refine ⟨?_, ?_, ?_, fun E K => ?run⟩
  case run =>
    simp only [cc0_wgrad_mlp_out_eq_skeleton]; unfold cc0_wgrad_mlp_out_skel
    simp only [k0_part1_eq_skeleton, k0_part2_eq_skeleton, k0_part3_eq_skeleton]
    have hc0 : own i := Fact.out
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

/-! ## What the points leave -/

/-- One staging buffer of each output, through which its contents are stated. -/
abbrev VO0_4 : View sig .tc .vmem S1x512x1024 .f32 := (Memref.whole cc0_stg4_0 : Memref sig .tc .vmem S1x512x1024 .f32).view
abbrev VO0_5 : View sig .tc .vmem S1x512x1024 .bf16 := (Memref.whole cc0_stg5_0 : Memref sig .tc .vmem S1x512x1024 .bf16).view

/-- Each window's staging buffer at point `t`, which is whole. -/
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
/-- The scratch. -/
abbrev scM0_0 : Memref sig .tc .vmem S5x512x1024 .f32 := Memref.whole cc0_scratch0

/-- Between points the scratch is held at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The second phase's stores at point `t`. -/
abbrev storesAt (c : Dev nD) (t : Fin cfg0.N) [Fact (own (grid0.coords t))] :=
  kernelRun0_own c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t) (iblk m c 3 t)

/-- They cover the first output's block, -/
theorem cover0_4 (c : Dev nD) (t : Fin cfg0.N) [Fact (own (grid0.coords t))] (y : S1x512x1024.Idx) : ∃ pc ∈ (storesAt m c t).1, y ∈ pc.1.set :=
  View.cover_of_tiledL (storesAt m c t).1 S1x512x1024.size (by sl_kernel_rfl) y

/-- and the second's. -/
theorem cover0_5 (c : Dev nD) (t : Fin cfg0.N) [Fact (own (grid0.coords t))] (y : S1x512x1024.Idx) : ∃ pc ∈ (storesAt m c t).2.1, y ∈ pc.1.set :=
  View.cover_of_tiledL (storesAt m c t).2.1 S1x512x1024.size (by sl_kernel_rfl) y

/-- What a point of the second phase leaves in the first output, -/
def out0_own_4 (c : Dev nD) (t : Fin cfg0.N) [Fact (own (grid0.coords t))] : Vec F S1x512x1024 .f32 :=
  VO0_4.read (Elt F) (VO0_4.writes (Elt F) VO0_4.junk (storesAt m c t).1)

/-- and in the second. -/
def out0_own_5 (c : Dev nD) (t : Fin cfg0.N) [Fact (own (grid0.coords t))] : Vec F S1x512x1024 .bf16 :=
  VO0_5.read (Elt F) (VO0_5.writes (Elt F) VO0_5.junk (storesAt m c t).2.1)

/-- What a point leaves in the first output: the first phase's points nothing that is read. -/
def left4 (c : Dev nD) (t : Fin cfg0.N) : Vec F S1x512x1024 .f32 :=
  if h : own (grid0.coords t) then haveI : Fact (own (grid0.coords t)) := ⟨h⟩; out0_own_4 m c t else VO0_4.read (Elt F) VO0_4.junk

/-- What it leaves in the second. -/
def left5 (c : Dev nD) (t : Fin cfg0.N) : Vec F S1x512x1024 .bf16 :=
  if h : own (grid0.coords t) then haveI : Fact (own (grid0.coords t)) := ⟨h⟩; out0_own_5 m c t else VO0_5.read (Elt F) VO0_5.junk

/-- In the second phase these are the stores. -/
theorem left4_own (c : Dev nD) (t : Fin cfg0.N) [h : Fact (own (grid0.coords t))] : left4 m c t = out0_own_4 m c t := dif_pos h.out
theorem left5_own (c : Dev nD) (t : Fin cfg0.N) [h : Fact (own (grid0.coords t))] : left5 m c t = out0_own_5 m c t := dif_pos h.out

/-- The proof data of the pipeline: the inputs' blocks, the outputs as the points leave them, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left4 m c t
    | ⟨5, _⟩ => left5 m c t
  Φ _ := Pipeline.ΦA spec0 c
  q w := Pipeline.shareOf spec0 w
  owed _ := 0

/-- Its arrays are what the call finds. -/
theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left4 m c t := by dsimp only [dats]
theorem after0_5 (c : Dev nD) (t : Fin cfg0.N) : (dats m 0 c).after 5 t = left5 m c t := by dsimp only [dats]

/-- Before a point each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The outputs are written back in the second phase only. -/
theorem flush0_4 : ∀ t : Fin cfg0.N, (cfg0.win 4).flush t = true → 4 ≤ t.val := (by decide +kernel : ∀ t : Fin grid0.N, win0_4.flush t = true → 4 ≤ t.val)
theorem flush0_5 : ∀ t : Fin cfg0.N, (cfg0.win 5).flush t = true → 4 ≤ t.val := (by decide +kernel : ∀ t : Fin grid0.N, win0_5.flush t = true → 4 ≤ t.val)

/-- In the second phase an output is left at its stores, -/
theorem leaves_own (c : Dev nD) (t : Fin cfg0.N) (h : own (grid0.coords t)) (w : Fin cfg0.W) (hw : cfg0.idle w = fun i => !(k0_cond1 i == 1#1)) :
    (dats m 0 c).leavesExact w t = owns (c : Thread nD τ) ((cfg0.win w).stage (cfg0.slots t w)) fullShare ((dats m 0 c).after w t) := by
  unfold Dat.leavesExact
  rw [show cfg0.idle w (cfg0.grid.coords t) = false from by
    rw [hw]
    show (!(k0_cond1 (grid0.coords t) == 1#1)) = false
    rw [show k0_cond1 (grid0.coords t) = 1#1 from h]; rfl]

/-- in the first as it was. -/
theorem leaves_send (c : Dev nD) (t : Fin cfg0.N) (h : ¬own (grid0.coords t)) (w : Fin cfg0.W) (hw : cfg0.idle w = fun i => !(k0_cond1 i == 1#1))
    (hf : (cfg0.win w).flush t = true → 4 ≤ t.val) :
    (dats m 0 c).leavesExact w t = iprop(∃ d, owns (c : Thread nD τ) ((cfg0.win w).stage (cfg0.slots t w)) fullShare ((dats m 0 c).before w t d)) := by
  rw [Dat.leavesExact_idle _ w t (by
    rw [hw]
    show (!(k0_cond1 (grid0.coords t) == 1#1)) = true
    rw [show (k0_cond1 (grid0.coords t) == 1#1) = false from beq_eq_false_iff_ne.mpr h]; rfl)
    (Bool.eq_false_iff.mpr fun hh => h ((own_iff t).mpr (hf hh)))]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t)

set_option maxHeartbeats 800000 in
/-- The body runs at any point, of either phase. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  by_cases h : own (grid0.coords t)
  · haveI : Fact (own (grid0.coords t)) := ⟨h⟩
    rw [leaves_own m c t h 4 rfl, leaves_own m c t h 5 rfl, after0_4, after0_5, left4_own, left5_own]
    unfold out0_own_4 out0_own_5
    iintro ⟨⟨HS0, Hg⟩, Ho, ⟨%d0, H0⟩, ⟨%d1, H1⟩, ⟨%d2, H2⟩, ⟨%d3, H3⟩, ⟨%d4, H4⟩, ⟨%d5, H5⟩⟩
    iapply ((storesAt m c t).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_4 m c t)
    unfold owns; iexists _; isplitr
    swap; · iexact H5
    ipureintro; exact View.read_writes_of_cover _ _ _ _ _ (cover0_5 m c t)
  · rw [leaves_send m c t h 4 rfl (flush0_4 t), leaves_send m c t h 5 rfl (flush0_5 t)]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_send c (grid0.coords t) _ _ _ _ _ _ _ _ _ _ _ _ _ _ h (iblk m c 0 t) (iblk m c 1 t) (iblk m c 2 t) (iblk m c 3 t) _ _) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexists d4; iexact H4
    iexists d5; iexact H5

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- So the pipeline's obligation holds at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The call's run: every array of the pipeline ends at what the proof data computes, every other buffer as it was, and no semaphore counts. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run m ρ))

/-- The run with both results named, the arguments as they were. -/
theorem run_blocks : θ_run defs (onTc (τ := τ) (main (F := F))) ⟨m, fun _ => 0, ρ⟩ (fun r => ∀ c : Dev nD,
      r.2.mem ((c.tc : Thread nD τ).loc main_v21_0) = (dats m 0 c).arrAt 4 cfg0.N
      ∧ r.2.mem ((c.tc : Thread nD τ).loc main_v21_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1 c).1 4, (h.1.1 c).1 5, h.2 c⟩) (θ_run_and (run m ρ) (unchanged m ρ))

end Cert.Kernel6Ideal.Wgrad

end
-- ==== Proof.Wgrad.lean ====
/- A weight's gradient: its result arrays at an index, and its reference's. -/
module

public import proofs.«01_k».proof.Proof.WgradRun
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

namespace Cert.Kernel6Ideal.Wgrad

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a point of the second phase. -/
theorem idx : ∀ t : Fin cfg0.N, 4 ≤ t.val → win0_0.index t = ![0, 2 * (t.val - 4)] ∧ win0_1.index t = ![1, 2 * (t.val - 4)] ∧ win0_2.index t = ![0, 0]
    ∧ win0_3.index t = ![1, 0] ∧ win0_4.index t = ![t.val - 4, 0, 0] ∧ win0_5.index t = ![t.val - 4, 0, 0] :=
  (by decide +kernel : ∀ t : Fin grid0.N, _)

/-- The layer's pre-activation from the stream, the norm's gains and the first weight, as the host lines compute it. -/
def pre (x : FVec Ideal S1x4096x1024 .f32) (g : FVec Ideal S1x1024 .f32) (w : FVec Ideal S1x1024x4096 .f32) : FVec Ideal S1x4096x4096 .f32 :=
  Host.dotGeneral dot_S1x4096x1024_S1024x4096_S1x4096x4096_2_0_01_1_n_n none
    (mulf (mulf x (broadcastInDim S1x4096x1024 ![0, 1, 2] bcast_S1x4096x1_S1x4096x1024_0_1_2
      (Host.rsqrt (addf (Host.divf (broadcastInDim S1x4096x1 ![0, 1] bcast_S1x4096_S1x4096x1_0_1
        (Host.reduceAdd (mulf x x) (constant S_ .f32 0x00000000#32) reducesTo_S1x4096x1024_S1x4096_d2 h_S_))
        (broadcastInDim S1x4096x1 ![] bcast_S_S1x4096x1 (constant S_ .f32 0x44800000#32)))
        (broadcastInDim S1x4096x1 ![] bcast_S_S1x4096x1 (constant S_ .f32 0x358637BD#32))))))
      (broadcastInDim S1x4096x1024 ![0, 1, 2] bcast_S1x1x1024_S1x4096x1024_0_1_2 (broadcastInDim S1x1x1024 ![1, 2] bcast_S1x1024_S1x1x1024_1_2 g)))
    (shapeCast _ w shapeCasts_S1x1024x4096_S1024x4096)

/-- The layer's activation: the squared positive part. -/
def act (p : FVec Ideal S1x4096x4096 .f32) : FVec Ideal S1x4096x4096 .f32 :=
  mulf (maximumf p (broadcastInDim S1x4096x4096 ![] bcast_S_S1x4096x4096 (constant S_ .f32 0x00000000#32)))
    (maximumf p (broadcastInDim S1x4096x4096 ![] bcast_S_S1x4096x4096 (constant S_ .f32 0x00000000#32)))

/-- The activations. -/
def z (c : Dev nD) (n f : Fin 4096) : EReal :=
  act (pre (m ((c.tc : Thread nD τ).loc main_arg0)) (m ((c.tc : Thread nD τ).loc main_arg1)) (m ((c.tc : Thread nD τ).loc main_arg2))) (ix3 0 n f)
/-- The gradient of the layer's output. -/
def dx (c : Dev nD) (n : Fin 4096) (k : Fin 1024) : EReal := m ((c.tc : Thread nD τ).loc main_arg4) (ix3 0 n k)

/-- What an array holds when the call begins is what the host lines left in it. -/
theorem V_eq (c : Dev nD) (b : Ref sig .tc) : V m c b = StableHlo.after (hostOps0 ++ (hostOps0_1 ++ hostOps0_2)) (fun b => m (c, b)) (Proc.devRef .tc b) := rfl

/-- The call's first array is the activations. -/
theorem V_z (c : Dev nD) (n f : Fin 4096) : V m c main_v18 (ix2 n f) = z m c n f := by
  have e : V m c main_v18 = truncf .bf16 (shapeCast _ (act (pre (m ((c.tc : Thread nD τ).loc main_arg0)) (m ((c.tc : Thread nD τ).loc main_arg1)) (m ((c.tc : Thread nD τ).loc main_arg2)))) shapeCasts_S1x4096x4096_S4096x4096) bitsLt_bf16_f32 := by
    rw [V_eq]
    simp only [hostOps0, hostOps0_1, hostOps0_2, List.append_eq, List.cons_append, List.nil_append]
    simp only [StableHlo.TRef.binary, StableHlo.TRef.nullary, StableHlo.TRef.unary, StableHlo.TRef.toBuf, StableHlo.TRef.ofBuf, cast_eq]
    after_results_simp <;> rfl
  rw [e, z]
  generalize act _ = a
  pointwise

/-- An array without its first axis, in the narrow type, holds the same numbers. -/
theorem narrow_at (a : FVec Ideal S1x4096x1024 .f32) (n : Fin 4096) (k : Fin 1024) :
    (truncf .bf16 (shapeCast _ a shapeCasts_S1x4096x1024_S4096x1024) bitsLt_bf16_f32 : FVec Ideal S4096x1024 .bf16) (ix2 n k) = a (ix3 0 n k) := by
  pointwise

/-- The call's second array is the gradient of the layer's output. -/
theorem V_dx (c : Dev nD) (n : Fin 4096) (k : Fin 1024) : V m c main_v20 (ix2 n k) = dx m c n k := by
  have e : V m c main_v20 = (truncf .bf16 (shapeCast _ (m ((c.tc : Thread nD τ).loc main_arg4) : FVec Ideal S1x4096x1024 .f32) shapeCasts_S1x4096x1024_S4096x1024) bitsLt_bf16_f32 : FVec Ideal S4096x1024 .bf16) := by
    rw [V_eq]
    simp only [hostOps0, hostOps0_1, hostOps0_2, List.append_eq, List.cons_append, List.nil_append]
    simp only [StableHlo.TRef.binary, StableHlo.TRef.nullary, StableHlo.TRef.unary, StableHlo.TRef.toBuf, StableHlo.TRef.ofBuf, cast_eq]
    after_results_simp <;> rfl
  exact (congrFun e _).trans (narrow_at _ n k)

/-- The column of the activations a column of a shard's half comes from. -/
def col (s : Fin 4) (r : Fin 512) : Fin 4096 := ⟨s.val * 1024 + r.val, by omega⟩

/-- The shard of a point of the second phase. -/
def shard (t : Fin cfg0.N) : Fin 4 := ⟨t.val - 4, by have := t.isLt; have : cfg0.N = 8 := N_0; omega⟩

/-- A token's term of the weight's gradient. -/
def term (c : Dev nD) (f : Fin 4096) (k : Fin 1024) (n : Fin 4096) : EReal := z m c n f * dx m c n k

/-- The weight's gradient: the sum over the tokens. -/
def dw (c : Dev nD) (f : Fin 4096) (k : Fin 1024) : EReal := ∑ n, term m c f k n

/-- The first window holds the first half of the tokens, -/
theorem read_z0 (c : Dev nD) (t : Fin cfg0.N) (h : 4 ≤ t.val) (n : Fin 2048) (r : Fin 512) :
    iblk m c 0 t (ix2 n r) = z m c ⟨n.val, by omega⟩ (col (shard t) r) := by
  have e : iblk m c 0 t (ix2 n r) = V m c main_v18 (ix2 ⟨n.val, by omega⟩ (col (shard t) r)) := by
    blk_ext! [iblk, idx t h, col, shard]
  rw [e, V_z]
/-- the second the other half. -/
theorem read_z1 (c : Dev nD) (t : Fin cfg0.N) (h : 4 ≤ t.val) (n : Fin 2048) (r : Fin 512) :
    iblk m c 1 t (ix2 n r) = z m c ⟨2048 + n.val, by omega⟩ (col (shard t) r) := by
  have e : iblk m c 1 t (ix2 n r) = V m c main_v18 (ix2 ⟨2048 + n.val, by omega⟩ (col (shard t) r)) := by
    blk_ext! [iblk, idx t h, col, shard]
  rw [e, V_z]
/-- The third window holds the first half of the output's gradient, -/
theorem read_dx0 (c : Dev nD) (t : Fin cfg0.N) (h : 4 ≤ t.val) (n : Fin 2048) (k : Fin 1024) :
    iblk m c 2 t (ix2 n k) = dx m c ⟨n.val, by omega⟩ k := by
  have e : iblk m c 2 t (ix2 n k) = V m c main_v20 (ix2 ⟨n.val, by omega⟩ k) := by
    blk_ext! [iblk, idx t h, col, shard]
  rw [e, V_dx]
/-- the fourth the other half. -/
theorem read_dx1 (c : Dev nD) (t : Fin cfg0.N) (h : 4 ≤ t.val) (n : Fin 2048) (k : Fin 1024) :
    iblk m c 3 t (ix2 n k) = dx m c ⟨2048 + n.val, by omega⟩ k := by
  have e : iblk m c 3 t (ix2 n k) = V m c main_v20 (ix2 ⟨2048 + n.val, by omega⟩ k) := by
    blk_ext! [iblk, idx t h, col, shard]
  rw [e, V_dx]

/-- The sum over the tokens, in the eight chunks the call adds up. -/
theorem dw_chunks (c : Dev nD) (f : Fin 4096) (k : Fin 1024) :
    dw m c f k = ∑ j : Fin 8, ∑ n : Fin 512, term m c f k ⟨j.val * 512 + n.val, by omega⟩ :=
  (Fin.sum_mul_add_fin 8 512 (term m c f k)).symm

/-- A load of the scratch at a place equal to the last write's reads that write back. -/
theorem load_slot (v : View sig .tc .vmem S5x512x1024 .f32) {o o' : Fin S5x512x1024.rank → Nat} (h : o' = o) (b b')
    (w : (Rect.unit (s := S5x512x1024) o ![1, 512, 1024] b).shape.Idx → Elt Ideal .f32) (L : List (View.Piece (Elt Ideal) S5x512x1024 .f32)) :
    v.readCov (⟨Rect.unit o ![1, 512, 1024] b, w⟩ :: L) (Rect.unit o' ![1, 512, 1024] b').toLoadRect = w := by
  subst h
  exact View.readCov_cons_toLoadRect ..

/-- The block a point of the second phase leaves in the first output. -/
theorem out4_at (c : Dev nD) (t : Fin cfg0.N) [h : Fact (own (grid0.coords t))] (r : Fin 512) (k : Fin 1024) :
    out0_own_4 m c t (ix3 0 r k) = dw m c (col (shard t) r) k := by
  rw [dw_chunks, Fin.sum_univ_eight]
  unfold out0_own_4 storesAt
  frame_out
  simp only [load_slot _ (off_own _ h.out), load_slot _ (Eq.refl ![4, 0, 0])]
  pointwise [k0_pay1, k0_pay2, k0_pay3, k0_pay4, k0_pay14, k0_pay5, k0_pay6, k0_pay7, k0_pay8, k0_pay9, k0_pay10, k0_pay11, k0_pay12, k0_pay13]
  have h4 := (own_iff t).mp h.out
  simp only [read_z0 m c t h4, read_z1 m c t h4, read_dx0 m c t h4, read_dx1 m c t h4, term, ← Nat.add_assoc, Nat.reduceAdd]

/-- The block it leaves in the second output: the same in the narrow type. -/
theorem out5_at (c : Dev nD) (t : Fin cfg0.N) [h : Fact (own (grid0.coords t))] (r : Fin 512) (k : Fin 1024) :
    out0_own_5 m c t (ix3 0 r k) = dw m c (col (shard t) r) k := by
  rw [← out4_at]
  unfold out0_own_5 out0_own_4 storesAt
  frame_out
  simp only [load_slot _ (off_own _ h.out), load_slot _ (Eq.refl ![4, 0, 0])]
  pointwise [k0_pay1, k0_pay2, k0_pay3, k0_pay4]

/-- The first result array: core 0's half of each shard of the gradient. -/
theorem final4 (c : Dev nD) (G : FVec Ideal S4x512x1024 .f32) (hG : ∀ s r k, G (ix3 s r k) = dw m c (col s r) k) :
    (dats m 0 c).arrAt 4 (cfgs 0).N = G := by
  refine (dats m 0 c).arrAt_eq_of_covers 4 _ (by decide +kernel) fun t hf y => ?_
  have h : 4 ≤ t.val := flush0_4 t hf
  haveI : Fact (own (grid0.coords t)) := ⟨(own_iff t).mpr h⟩
  blk_simp
  rw [after0_4, left4_own]
  idx_vars y
  obtain rfl : y0 = 0 := Subsingleton.elim _ _
  rw [out4_at, ← hG]
  blk_ext [idx t h, shard]

/-- The second result array: the same in the narrow type. -/
theorem final5 (c : Dev nD) (G : FVec Ideal S4x512x1024 .bf16) (hG : ∀ s r k, G (ix3 s r k) = dw m c (col s r) k) :
    (dats m 0 c).arrAt 5 (cfgs 0).N = G := by
  refine (dats m 0 c).arrAt_eq_of_covers 5 _ (by decide +kernel) fun t hf y => ?_
  have h : 4 ≤ t.val := flush0_5 t hf
  haveI : Fact (own (grid0.coords t)) := ⟨(own_iff t).mpr h⟩
  blk_simp
  rw [after0_5, left5_own]
  idx_vars y
  obtain rfl : y0 = 0 := Subsingleton.elim _ _
  rw [out5_at, ← hG]
  blk_ext [idx t h, shard]

end Cert.Kernel6Ideal.Wgrad

namespace Cert.Reference6Ideal.Wgrad

open Cert.Reference6Ideal Cert.Reference6Ideal.Gen Idealize.ShloMosaic Idealize.ShloMosaic.TcCoe Idealize.SL.Sem

/-- The reference's first result from the activations and the output's gradient. -/
abbrev half (z : FVec Ideal S1x4096x4096 .f32) (dx : FVec Ideal S1x4096x1024 .f32) : FVec Ideal S4x512x1024 .f32 :=
  shapeCast _ (extractStridedSlice S4x1x512x1024 ![0, 0, 0, 0] (shapeCast _ (broadcastInDim S1x4096x1024 ![1, 2] bcast_S4096x1024_S1x4096x1024_1_2 (transpose S4096x1024 [1, 0]
    (Host.dotGeneral dot_S1x4096x1024_S1x4096x4096_S1024x4096_01_01_2_2_n_n none dx z)
    transposes_S1024x4096_S4096x1024_1_0)) shapeCasts_S1x4096x1024_S4x2x512x1024) slices_S4x2x512x1024_S4x1x512x1024_0_0_0_0)
    shapeCasts_S4x1x512x1024_S4x512x1024

/-- It is the sum over the tokens, at the columns of core 0's half. -/
theorem half_at (z : FVec Ideal S1x4096x4096 .f32) (dx : FVec Ideal S1x4096x1024 .f32) (s : Fin 4) (r : Fin 512) (k : Fin 1024) :
    half z dx (ix3 s r k) = ∑ n, z (ix3 0 n (Cert.Kernel6Ideal.Wgrad.col s r)) * dx (ix3 0 n k) := by
  pointwise
  exact (Fin.sum_univ_one _).trans (Finset.sum_congr rfl fun n _ => mul_comm _ _)

end Cert.Reference6Ideal.Wgrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.ReferenceIdeal.Run
public import proofs.«01_k».proof.Proof.Gen.KernelIdeal.Value
public import proofs.«01_k».proof.Proof.InBwd
public import proofs.«01_k».proof.Proof.InBwdRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite_mlp
public import proofs.«01_k».proof.Proof.Mlp
public import proofs.«01_k».proof.Proof.MlpRef
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import proofs.«01_k».proof.Proof.Gen.Pre_finite_mix
public import proofs.«01_k».proof.Proof.MixEnd
public import proofs.«01_k».proof.Proof.MixRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite_fwd
public import proofs.«01_k».proof.Proof.Fwd
public import proofs.«01_k».proof.Proof.FwdRun
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Adamw
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.WgradRun
public import proofs.«01_k».proof.Proof.Wgrad

@[expose] public section

noncomputable section

namespace Cert.Proof

open Idealize.ShloMosaic Idealize.SL.Sem Cert.Kernel

/-- Under its precondition the projection's backward call has real arguments. -/
theorem reals (m : (ℓ : Loc KernelIdeal.nD KernelIdeal.τ KernelIdeal.sig) → Buf (Elt Ideal) ℓ) (h : Cert.Pre_KernelIdeal_finite m)
    (c : Dev KernelIdeal.nD) : KernelIdeal.InBwd.Reals m c := by
  have e := congrFun (h c) ix0
  dsimp only [Cert.Pre_finite.fn, Cert.Pre_finite.fn_part1, andi] at e
  obtain ⟨e, e3⟩ := RealMath.andi_one e
  obtain ⟨e, e2⟩ := RealMath.andi_one e
  obtain ⟨e0, e1⟩ := RealMath.andi_one e
  exact ⟨fun r k => RealMath.real_of_all _ _ _ _ _ _ _ e0 _, fun k => RealMath.real_of_all _ _ _ _ _ _ _ e1 _,
    fun k l => RealMath.real_of_all _ _ _ _ _ _ _ e2 _, fun r l => RealMath.real_of_all _ _ _ _ _ _ _ e3 _⟩

/-- The reference leaves its arguments as they were and every semaphore at zero. -/
theorem frame_ref (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run _ _ _).mono (fun r h => ⟨fun c => (h c).2.2, sem_eq_zero_of_no_sems (by decide) r.2⟩) (ReferenceIdeal.Value.run m ρ)

/-- Under its precondition the fused layer's call has real arguments. -/
theorem reals_mlp (m : (ℓ : Loc Kernel3Ideal.nD Kernel3Ideal.τ Kernel3Ideal.sig) → Buf (Elt Ideal) ℓ) (h : Cert.Pre_Kernel3Ideal_finite_mlp m)
    (c : Dev Kernel3Ideal.nD) : Kernel3Ideal.Mlp.Reals m c := by
  have e := congrFun (h c) ix0
  dsimp only [Cert.Pre_finite_mlp.fn, Cert.Pre_finite_mlp.fn_part1, Cert.Pre_finite_mlp.fn_part2, andi] at e
  obtain ⟨e, e7⟩ := RealMath.andi_one e
  obtain ⟨e, e6⟩ := RealMath.andi_one e
  obtain ⟨e, e5⟩ := RealMath.andi_one e
  obtain ⟨e, e4⟩ := RealMath.andi_one e
  obtain ⟨e, e3⟩ := RealMath.andi_one e
  obtain ⟨e, e2⟩ := RealMath.andi_one e
  obtain ⟨e0, e1⟩ := RealMath.andi_one e
  have real {s : Shape} {x : FVec Ideal s .f32} (hx : ∀ i, (((x i).toReal : ℝ) : EReal) = x i) (i : s.Idx) : x i = (((x i).toReal : ℝ) : EReal) := (hx i).symm
  exact ⟨fun _ _ => real (RealMath.real_of_all _ _ _ _ _ _ _ e0) _, fun _ _ => real (RealMath.real_of_all _ _ _ _ _ _ _ e1) _,
    fun _ _ => real (RealMath.real_of_all _ _ _ _ _ _ _ e2) _, fun _ => real (RealMath.real_of_all _ _ _ _ _ _ _ e3) _,
    fun _ _ => real (RealMath.real_of_all _ _ _ _ _ _ _ e4) _, fun _ _ => real (RealMath.real_of_all _ _ _ _ _ _ _ e5) _,
    fun _ => real (RealMath.real_of_all _ _ _ _ _ _ _ e6) _, fun _ _ => real (RealMath.real_of_all _ _ _ _ _ _ _ e7) _⟩

/-- The fused layer's reference leaves its arguments as they were and every semaphore at zero. -/
theorem frame_ref_mlp (m : (ℓ : Loc Reference3Ideal.nD Reference3Ideal.τ Reference3Ideal.sig) → Buf (Elt Ideal) ℓ) (ρ : Dev Reference3Ideal.nD → PrngReg) :
    θ_run (Reference3Ideal.defs (F := Ideal)) (onTc (τ := Reference3Ideal.τ) (Reference3Ideal.main (F := Ideal))) ⟨m, fun _ => 0, ρ⟩ (fun r =>
      (∀ c : Dev Reference3Ideal.nD,
        r.2.mem ((c.tc : Thread Reference3Ideal.nD Reference3Ideal.τ).loc Reference3Ideal.main_arg0) = m ((c.tc : Thread Reference3Ideal.nD Reference3Ideal.τ).loc Reference3Ideal.main_arg0)
        ∧ r.2.mem ((c.tc : Thread Reference3Ideal.nD Reference3Ideal.τ).loc Reference3Ideal.main_arg1) = m ((c.tc : Thread Reference3Ideal.nD Reference3Ideal.τ).loc Reference3Ideal.main_arg1)
        ∧ r.2.mem ((c.tc : Thread Reference3Ideal.nD Reference3Ideal.τ).loc Reference3Ideal.main_arg2) = m ((c.tc : Thread Reference3Ideal.nD Reference3Ideal.τ).loc Reference3Ideal.main_arg2)
        ∧ r.2.mem ((c.tc : Thread Reference3Ideal.nD Reference3Ideal.τ).loc Reference3Ideal.main_arg3) = m ((c.tc : Thread Reference3Ideal.nD Reference3Ideal.τ).loc Reference3Ideal.main_arg3)
        ∧ r.2.mem ((c.tc : Thread Reference3Ideal.nD Reference3Ideal.τ).loc Reference3Ideal.main_arg4) = m ((c.tc : Thread Reference3Ideal.nD Reference3Ideal.τ).loc Reference3Ideal.main_arg4)
        ∧ r.2.mem ((c.tc : Thread Reference3Ideal.nD Reference3Ideal.τ).loc Reference3Ideal.main_arg5) = m ((c.tc : Thread Reference3Ideal.nD Reference3Ideal.τ).loc Reference3Ideal.main_arg5)
        ∧ r.2.mem ((c.tc : Thread Reference3Ideal.nD Reference3Ideal.τ).loc Reference3Ideal.main_arg6) = m ((c.tc : Thread Reference3Ideal.nD Reference3Ideal.τ).loc Reference3Ideal.main_arg6)
        ∧ r.2.mem ((c.tc : Thread Reference3Ideal.nD Reference3Ideal.τ).loc Reference3Ideal.main_arg7) = m ((c.tc : Thread Reference3Ideal.nD Reference3Ideal.τ).loc Reference3Ideal.main_arg7))
      ∧ r.2.sem = fun _ => 0) :=
  (θ_run _ _ _).mono (fun r h => ⟨fun c => (h c).2.2.2.2.2.2.2.2, sem_eq_zero_of_no_sems (by decide) r.2⟩) (Reference3Ideal.Value.run m ρ)

/-- The projection's backward call and its reference compute the same arrays. -/
theorem value_in_bwd : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  have hr := reals m hpre
  have hr' (c : Dev KernelIdeal.nD) : ReferenceIdeal.InBwd.Reals m' c (KernelIdeal.InBwd.x m c) (KernelIdeal.InBwd.g m c)
      (KernelIdeal.InBwd.w m c) (KernelIdeal.InBwd.du m c) :=
    ⟨fun r k => (congrFun (hag c).1 _).trans ((hr c).hx r k).symm, fun k => (congrFun (hag c).2.1 _).trans ((hr c).hg k).symm,
      fun k l => (congrFun (hag c).2.2.1 _).trans ((hr c).hw k l).symm, fun r l => (congrFun (hag c).2.2.2.1 _).trans ((hr c).hdu r l).symm⟩
  refine ⟨fun c => ReferenceIdeal.Value.res_out0 m' c, fun c => ReferenceIdeal.InBwd.out1 m' c,
    (θ_run _ _ _).mono (fun r h c => ⟨(h c).1.trans ?_, (h c).2.1.trans ?_, (h c).2.2⟩) (KernelIdeal.Value.run_blocks m ρ),
    ReferenceIdeal.Value.run m' ρ'⟩
  · exact KernelIdeal.InBwd.final5 m c (hr c) _ fun r k => ReferenceIdeal.InBwd.out0_at (hr' c) _ r k (congrFun (hag c).2.2.2.2 _)
  · exact KernelIdeal.InBwd.final6 m c (hr c) _ fun a k => ReferenceIdeal.InBwd.out1_at (hr' c) a k

/-- The fused layer's call and its reference compute the same arrays. -/
theorem value_mlp : Cert.algebraic_Kernel3Ideal_Reference3Ideal_pre_finite_mlp (hKernel3Ideal := Cert.Kernel3Ideal.Gen.facts)
    (hReference3Ideal := Cert.Reference3Ideal.Gen.facts) (hPre_finite_mlp := Cert.Pre_finite_mlp.Gen.facts) := by
  intro m ρ m' ρ' hpre hag
  have hr := reals_mlp m hpre
  have hr' (c : Dev Kernel3Ideal.nD) : Reference3Ideal.Mlp.Reals (StableHlo.launchContents m' c) (Kernel3Ideal.Mlp.net m c) :=
    ⟨fun r k => (congrFun (hag c).1 _).trans ((hr c).hx r k), fun r l => (congrFun (hag c).2.1 _).trans ((hr c).hy r l),
      fun l k => (congrFun (hag c).2.2.1 _).trans ((hr c).hwo l k), fun k => (congrFun (hag c).2.2.2.1 _).trans ((hr c).hg2 k),
      fun k f => (congrFun (hag c).2.2.2.2.1 _).trans ((hr c).hw1 k f), fun f k => (congrFun (hag c).2.2.2.2.2.1 _).trans ((hr c).hw2 f k),
      fun k => (congrFun (hag c).2.2.2.2.2.2.1 _).trans ((hr c).hgf k), fun r k => (congrFun (hag c).2.2.2.2.2.2.2 _).trans ((hr c).htg r k)⟩
  refine ⟨fun c => _, fun c => _, fun c => _, fun c => _, fun c => _, fun c => _, fun c => _, fun c => _,
    (θ_run _ _ _).mono (fun r h c => ⟨((h c).1 5).trans ?_, ((h c).1 6).trans ?_, ((h c).1 7).trans ?_, ((h c).1 8).trans ?_, ((h c).1 9).trans ?_,
      ((h c).1 10).trans ?_, ((h c).1 11).trans ?_, ((h c).1 12).trans ?_, (h c).2⟩) (Kernel3Ideal.Mlp.run_arrays m ρ),
    Reference3Ideal.Value.run m' ρ'⟩
  · exact Kernel3Ideal.Mlp.final5 m c (hr c) _ fun r f => Reference3Ideal.Mlp.z_at (hr' c) r f
  · exact Kernel3Ideal.Mlp.final6 m c (hr c) _ fun r f => Reference3Ideal.Mlp.dp_at (hr' c) r f
  · exact Kernel3Ideal.Mlp.final7 m c (hr c) _ fun r k => Reference3Ideal.Mlp.h2_at (hr' c) r k
  · exact Kernel3Ideal.Mlp.final8 m c (hr c) _ fun r k => Reference3Ideal.Mlp.dx3_at (hr' c) r k
  · exact Kernel3Ideal.Mlp.final9 m c (hr c) _ fun r k => Reference3Ideal.Mlp.dx2_at (hr' c) r k
  · exact Kernel3Ideal.Mlp.final10 m c (hr c) _ fun r k => Reference3Ideal.Mlp.dx2_at (hr' c) r k
  · exact Kernel3Ideal.Mlp.final11 m c (hr c) _ fun r l => Reference3Ideal.Mlp.dy_at (hr' c) r l
  · exact Kernel3Ideal.Mlp.final12 m c (hr c) _ fun a k => Reference3Ideal.Mlp.stats_at (hr' c) a k

/-- Under its precondition the mixer's backward call has real arguments in its convolution branch. -/
theorem reals_mix (m : (ℓ : Loc Kernel2Ideal.nD Kernel2Ideal.τ Kernel2Ideal.sig) → Buf (Elt Ideal) ℓ) (h : Cert.Pre_Kernel2Ideal_finite_mix m)
    (c : Dev Kernel2Ideal.nD) : Kernel2Ideal.Mix.Reals m c := by
  have e := congrFun (h c) ix0
  dsimp only [Cert.Pre_finite_mix.fn, Cert.Pre_finite_mix.fn_part1, andi] at e
  obtain ⟨e, e3⟩ := RealMath.andi_one e
  obtain ⟨e, e2⟩ := RealMath.andi_one e
  obtain ⟨e0, e1⟩ := RealMath.andi_one e
  exact ⟨fun _ _ => RealMath.real_of_all _ _ _ _ _ _ _ e0 _, fun _ _ => RealMath.real_of_all _ _ _ _ _ _ _ e0 _,
    fun _ _ => RealMath.real_of_all _ _ _ _ _ _ _ e0 _, fun _ _ => RealMath.real_of_all _ _ _ _ _ _ _ e1 _,
    fun _ => RealMath.real_of_all _ _ _ _ _ _ _ e2 _, fun _ _ => RealMath.real_of_all _ _ _ _ _ _ _ e3 _⟩

/-- The mixer's backward call leaves its arguments as they were and every semaphore at zero. -/
theorem frame_mix : Cert.quiescent_Kernel2Ideal (hKernel2Ideal := Cert.Kernel2Ideal.Gen.facts) := fun m ρ _ =>
  θ_run_and
    (Kernel2Ideal.Gen.frame_of m ρ (Kernel2Ideal.Mix.dats m) (Kernel2Ideal.Mix.A_eq m)
      ((θ_run Kernel2Ideal.defs _ _).mono (fun _ h => h.1) (Kernel2Ideal.Mix.run m ρ)))
    ((θ_run Kernel2Ideal.defs _ _).mono (fun _ h => h.2) (Kernel2Ideal.Mix.run m ρ))

/-- So does the call over floats: the run is the one above, over these values. -/
theorem frame_mix_bits : Cert.quiescent_Kernel2 (hKernel2 := Cert.Kernel2.Gen.facts) := fun m ρ _ => by
  have h := θ_run_and
    (Kernel2Ideal.Gen.frame_of (F := Bits) m ρ (Kernel2Ideal.Mix.dats m) (Kernel2Ideal.Mix.A_eq m)
      ((θ_run Kernel2Ideal.defs _ _).mono (fun _ h => h.1) (Kernel2Ideal.Mix.run (F := Bits) m ρ)))
    ((θ_run Kernel2Ideal.defs _ _).mono (fun _ h => h.2) (Kernel2Ideal.Mix.run (F := Bits) m ρ))
  refine Eq.mp ?_ h
  sl_kernel_rfl

/-- The mixer's reference leaves its arguments as they were and every semaphore at zero. -/
theorem frame_ref_mix : Cert.quiescent_Reference2Ideal (hReference2Ideal := Cert.Reference2Ideal.Gen.facts) := fun m ρ _ =>
  (θ_run _ _ _).mono (fun r h => ⟨fun c => (h c).2.2.2, sem_eq_zero_of_no_sems (by decide) r.2⟩) (Reference2Ideal.Value.run m ρ)

/-- The mixer's backward call and its reference compute the same gradients of the convolution branch. -/
theorem value_mix : Cert.algebraic_Kernel2Ideal_Reference2Ideal_pre_finite_mix (hKernel2Ideal := Cert.Kernel2Ideal.Gen.facts)
    (hReference2Ideal := Cert.Reference2Ideal.Gen.facts) (hPre_finite_mix := Cert.Pre_finite_mix.Gen.facts) := by
  intro m ρ m' ρ' hpre hag
  have hr := reals_mix m hpre
  have hr' (c : Dev Kernel2Ideal.nD) : Reference2Ideal.Mix.Reals (StableHlo.launchContents m' c) (Kernel2Ideal.Mix.N m c) :=
    ⟨fun r k => (congrFun (hag c).1 _).trans ((hr c).hb r k).symm, fun r k => (congrFun (hag c).1 _).trans ((hr c).ha r k).symm,
      fun r k => (congrFun (hag c).1 _).trans ((hr c).hv r k).symm, fun j k => (congrFun (hag c).2.1 _).trans ((hr c).hw j k).symm,
      fun k => (congrFun (hag c).2.2.1 _).trans ((hr c).hg k).symm, fun r k => (congrFun (hag c).2.2.2.1 _).trans ((hr c).hdy r k).symm⟩
  refine ⟨fun c => _, fun c => _, fun c => _,
    (θ_run _ _ _).mono (fun r h c => ⟨(h.1 c).1.trans ?_, (h.1 c).2.1.trans ?_, (h.1 c).2.2.trans ?_, h.2.1 c⟩)
      (θ_run_and (Kernel2Ideal.Mix.run_results m ρ) (frame_mix m ρ trivial)),
    Reference2Ideal.Value.run m' ρ'⟩
  · exact Kernel2Ideal.Mix.out0_eq (hr c) _ (fun r k => Reference2Ideal.Mix.db_at (hr' c) r k)
      (fun r k => Reference2Ideal.Mix.da_at (hr' c) r k) (fun r k => Reference2Ideal.Mix.dv_at (hr' c) r k)
  · exact Kernel2Ideal.Mix.out1_eq (hr c) _ fun j k => Reference2Ideal.Mix.dw_at (hr' c) j k
  · exact Kernel2Ideal.Mix.out2_eq (hr c) _ fun k => Reference2Ideal.Mix.dg_at (hr' c) k

/-- Under its precondition the mixer's forward call has real arguments, decay parameters that are not too large and decays that are not too near one. -/
theorem reals_fwd (m : (ℓ : Loc Kernel4Ideal.nD Kernel4Ideal.τ Kernel4Ideal.sig) → Buf (Elt Ideal) ℓ) (h : Cert.Pre_Kernel4Ideal_finite_fwd m)
    (c : Dev Kernel4Ideal.nD) : Kernel4Ideal.Fwd.Reals m c := by
  have e := congrFun (h c) ix0
  dsimp only [Cert.Pre_finite_fwd.fn, Cert.Pre_finite_fwd.fn_part1, Cert.Pre_finite_fwd.fn_part2, Cert.Pre_finite_fwd.fn_part3, Cert.Pre_finite_fwd.fn_part4,
    Cert.Pre_finite_fwd.fn_part5, Cert.Pre_finite_fwd.fn_part6, andi] at e
  obtain ⟨e, e11⟩ := RealMath.andi_one e
  obtain ⟨e, e10⟩ := RealMath.andi_one e
  obtain ⟨e, e9⟩ := RealMath.andi_one e
  obtain ⟨e, e8⟩ := RealMath.andi_one e
  obtain ⟨e, e7⟩ := RealMath.andi_one e
  obtain ⟨e, e6⟩ := RealMath.andi_one e
  obtain ⟨e, e5⟩ := RealMath.andi_one e
  obtain ⟨e, e4⟩ := RealMath.andi_one e
  obtain ⟨e, e3⟩ := RealMath.andi_one e
  obtain ⟨e, e2⟩ := RealMath.andi_one e
  obtain ⟨e, e1⟩ := RealMath.andi_one e
  obtain ⟨e, e0⟩ := RealMath.andi_one e
  obtain ⟨es, ef⟩ := RealMath.andi_one e
  have real {s : Shape} {x : FVec Ideal s .f32} (hx : ∀ i, (((x i).toReal : ℝ) : EReal) = x i) (i : s.Idx) : x i = (((x i).toReal : ℝ) : EReal) := (hx i).symm
  have r0 (r k) := real (RealMath.real_of_all _ _ _ _ _ _ _ e0) (ix3 0 r k)
  have r1 (j k) := real (RealMath.real_of_all _ _ _ _ _ _ _ e1) (ix3 0 j k)
  have r2 (j k) := real (RealMath.real_of_all _ _ _ _ _ _ _ e2) (ix3 0 j k)
  have r3 (j k) := real (RealMath.real_of_all _ _ _ _ _ _ _ e3) (ix3 0 j k)
  have r4 (k) := real (RealMath.real_of_all _ _ _ _ _ _ _ e4) (ix2 0 k)
  have r5 (n p q) := real (RealMath.real_of_all _ _ _ _ _ _ _ e5) (ix4 0 n p q)
  have r6 (k) := real (RealMath.real_of_all _ _ _ _ _ _ _ e6) (ix2 0 k)
  have r7 (n p q) := real (RealMath.real_of_all _ _ _ _ _ _ _ e7) (ix4 0 n p q)
  have r8 (k) := real (RealMath.real_of_all _ _ _ _ _ _ _ e8) (ix2 0 k)
  have r9 (k) := real (RealMath.real_of_all _ _ _ _ _ _ _ e9) (ix2 0 k)
  have r10 (k) := real (RealMath.real_of_all _ _ _ _ _ _ _ e10) (ix2 0 k)
  have r11 (k) := real (RealMath.real_of_all _ _ _ _ _ _ _ e11) (ix2 0 k)
  let A : Reference4Ideal.Fwd.Args := ⟨m ((c.tc : Thread Kernel4Ideal.nD Kernel4Ideal.τ).loc Kernel4Ideal.main_arg0),
    m ((c.tc : Thread Kernel4Ideal.nD Kernel4Ideal.τ).loc Kernel4Ideal.main_arg1),
    m ((c.tc : Thread Kernel4Ideal.nD Kernel4Ideal.τ).loc Kernel4Ideal.main_arg2),
    m ((c.tc : Thread Kernel4Ideal.nD Kernel4Ideal.τ).loc Kernel4Ideal.main_arg3),
    m ((c.tc : Thread Kernel4Ideal.nD Kernel4Ideal.τ).loc Kernel4Ideal.main_arg4),
    m ((c.tc : Thread Kernel4Ideal.nD Kernel4Ideal.τ).loc Kernel4Ideal.main_arg5),
    m ((c.tc : Thread Kernel4Ideal.nD Kernel4Ideal.τ).loc Kernel4Ideal.main_arg6),
    m ((c.tc : Thread Kernel4Ideal.nD Kernel4Ideal.τ).loc Kernel4Ideal.main_arg7),
    m ((c.tc : Thread Kernel4Ideal.nD Kernel4Ideal.τ).loc Kernel4Ideal.main_arg8),
    m ((c.tc : Thread Kernel4Ideal.nD Kernel4Ideal.τ).loc Kernel4Ideal.main_arg9),
    m ((c.tc : Thread Kernel4Ideal.nD Kernel4Ideal.τ).loc Kernel4Ideal.main_arg10),
    m ((c.tc : Thread Kernel4Ideal.nD Kernel4Ideal.τ).loc Kernel4Ideal.main_arg11)⟩
  have hA : Reference4Ideal.Fwd.Reals A (Kernel4Ideal.Fwd.layer m c) := ⟨r0, r1, r2, r3, r4, r5, r6, r7, r8, r9, r10, r11⟩
  refine ⟨r0, r1, r2, r3, r4, r5, r6, r7, r8, r9, r10, r11, fun k => ?_, fun r k => ?_⟩
  · have h1 : Ideal.cmp .oge (Ideal.exp (-(FloatOps.absf (F := Ideal) (φ := .f32) (A.a9 (ix2 0 k))))) (Ideal.ofBits .f32 0x3C23D70A#32) = 1#1 :=
      Host.reduce_andi_all _ _ _ _ _ es (ix2 0 k)
    rw [hA.h9, RealMath.absf_coe, ← EReal.coe_neg, Ideal.exp_coe] at h1
    exact Reference4Ideal.Fwd.le_of_oge h1
  · have h1 : Ideal.cmp .ole (Ideal.ofBits .f32 0x40000000#32 * A.la (ix2 r k)) (Ideal.ofBits .f32 0xBC23D70A#32) = 1#1 :=
      Host.reduce_andi_all _ _ _ _ _ ef (ix2 r k)
    rw [Reference4Ideal.Fwd.Args.la_at hA, RealMath.ofBits_two, ← EReal.coe_mul] at h1
    exact Reference4Ideal.Fwd.le_of_ole h1

/-- The mixer's forward reference leaves its arguments as they were and every semaphore at zero. -/
theorem frame_ref_fwd : Cert.quiescent_Reference4Ideal (hReference4Ideal := Cert.Reference4Ideal.Gen.facts) := fun m ρ _ =>
  (θ_run _ _ _).mono (fun r h => ⟨fun c => (h c).2.2.2.2.2.2, sem_eq_zero_of_no_sems (by decide) r.2⟩) (Reference4Ideal.Fwd.run m ρ)

/-- The mixer's forward call and its reference compute the same six arrays. -/
theorem value_fwd : Cert.algebraic_Kernel4Ideal_Reference4Ideal_pre_finite_fwd (hKernel4Ideal := Cert.Kernel4Ideal.Gen.facts)
    (hReference4Ideal := Cert.Reference4Ideal.Gen.facts) (hPre_finite_fwd := Cert.Pre_finite_fwd.Gen.facts) := by
  intro m ρ m' ρ' hpre hag
  have hr := reals_fwd m hpre
  have hr' (c : Dev Kernel4Ideal.nD) : Reference4Ideal.Fwd.Reals (Reference4Ideal.Fwd.args m' c) (Kernel4Ideal.Fwd.layer m c) :=
    ⟨fun r k => (congrFun (hag c).1 _).trans ((hr c).hh r k), fun j k => (congrFun (hag c).2.1 _).trans ((hr c).hw j k),
      fun j k => (congrFun (hag c).2.2.1 _).trans ((hr c).hcw j k), fun j k => (congrFun (hag c).2.2.2.1 _).trans ((hr c).hrw j k),
      fun k => (congrFun (hag c).2.2.2.2.1 _).trans ((hr c).hrb k), fun n p q => (congrFun (hag c).2.2.2.2.2.1 _).trans ((hr c).hwa n p q),
      fun k => (congrFun (hag c).2.2.2.2.2.2.1 _).trans ((hr c).hba k), fun n p q => (congrFun (hag c).2.2.2.2.2.2.2.1 _).trans ((hr c).hwx n p q),
      fun k => (congrFun (hag c).2.2.2.2.2.2.2.2.1 _).trans ((hr c).hbx k), fun k => (congrFun (hag c).2.2.2.2.2.2.2.2.2.1 _).trans ((hr c).hlam k),
      fun k => (congrFun (hag c).2.2.2.2.2.2.2.2.2.2.1 _).trans ((hr c).hgc k), fun k => (congrFun (hag c).2.2.2.2.2.2.2.2.2.2.2 _).trans ((hr c).hgr k)⟩
  refine ⟨fun c => _, fun c => _, fun c => _, fun c => _, fun c => _, fun c => _,
    (θ_run _ _ _).mono (fun r h c => ⟨((h c).1 12).trans ?_, ((h c).1 13).trans ?_, ((h c).1 14).trans ?_, ((h c).1 15).trans ?_, ((h c).1 16).trans ?_,
      ((h c).1 17).trans ?_, (h c).2⟩) (Kernel4Ideal.Fwd.run_arrays m ρ),
    Reference4Ideal.Fwd.run m' ρ'⟩
  · exact Kernel4Ideal.Fwd.final12 m c (hr c) _ fun r k => Reference4Ideal.Fwd.fin_u m' c (hr' c) r k
  · exact Kernel4Ideal.Fwd.final13 m c (hr c) _ fun r k => Reference4Ideal.Fwd.fin_xr m' c (hr' c) r k
  · exact Kernel4Ideal.Fwd.final14 m c (hr c) _ fun r k => Reference4Ideal.Fwd.fin_hs m' c (hr' c) r k
  · exact Kernel4Ideal.Fwd.final15 m c (hr c) _ fun r k => Reference4Ideal.Fwd.fin_c3 m' c (hr' c) r k
  · exact Kernel4Ideal.Fwd.final16 m c (hr c) _ fun r k => Reference4Ideal.Fwd.fin_y m' c (hr' c) r k
  · exact Kernel4Ideal.Fwd.final17 m c (hr c) _ fun r k => Reference4Ideal.Fwd.fin_gates m' c (hr' c) r k

/-- The optimiser's reference leaves its arguments as they were and every semaphore at zero. -/
theorem frame_ref_adamw : Cert.quiescent_Reference5Ideal (hReference5Ideal := Cert.Reference5Ideal.Gen.facts) := fun m ρ _ =>
  (θ_run _ _ _).mono (fun r h => ⟨fun c => (h c).2.2.2.2, sem_eq_zero_of_no_sems (by decide) r.2⟩) (Reference5Ideal.Value.run m ρ)

/-- The optimiser's step of one matrix and its reference compute the same arrays. -/
theorem value_adamw : Cert.algebraic_Kernel5Ideal_Reference5Ideal (hKernel5Ideal := Cert.Kernel5Ideal.Gen.facts)
    (hReference5Ideal := Cert.Reference5Ideal.Gen.facts) := by
  intro m ρ m' ρ' _ hag
  refine ⟨fun c => _, fun c => _, fun c => _, fun c => _,
    (θ_run _ _ _).mono (fun r h c => ⟨(h c).1.trans ?_, (h c).2.1.trans ?_, (h c).2.2.1.trans ?_, (h c).2.2.2.1.trans ?_, (h c).2.2.2.2⟩)
      (Kernel5Ideal.Value.run_blocks m ρ),
    Reference5Ideal.Value.run m' ρ'⟩
  · exact Kernel5Ideal.Adamw.final4 m c _ fun r k => congrFun (hag c).2.1 _
  · exact Kernel5Ideal.Adamw.final5 m c _ fun r k => (Reference5Ideal.Adamw.step_at _ _ _ _ r k).trans (by rw [(hag c).1, (hag c).2.1, (hag c).2.2.1, (hag c).2.2.2]; rfl)
  · exact Kernel5Ideal.Adamw.final6 m c _ fun r k => (Reference5Ideal.Adamw.newM_at _ _ r k).trans (by rw [(hag c).2.1, (hag c).2.2.1]; rfl)
  · exact Kernel5Ideal.Adamw.final7 m c _ fun r k => (Reference5Ideal.Adamw.newV_at _ _ r k).trans (by rw [(hag c).2.1, (hag c).2.2.2]; rfl)

/-- The call of a weight's gradient runs and leaves its arguments as they were and every semaphore at zero. -/
theorem frame_wgrad : Cert.quiescent_Kernel6Ideal (hKernel6Ideal := Cert.Kernel6Ideal.Gen.facts) := fun m ρ _ =>
  θ_run_and (Kernel6Ideal.Wgrad.unchanged m ρ) ((θ_run Kernel6Ideal.defs _ _).mono (fun _ h => h.2) (Kernel6Ideal.Wgrad.run m ρ))

/-- So does the call over floats: the run is the one above, over these values. -/
theorem frame_wgrad_bits : Cert.quiescent_Kernel6 (hKernel6 := Cert.Kernel6.Gen.facts) := fun m ρ _ => by
  have h := θ_run_and (Kernel6Ideal.Wgrad.unchanged (F := Bits) m ρ)
    ((θ_run Kernel6Ideal.defs _ _).mono (fun _ h => h.2) (Kernel6Ideal.Wgrad.run (F := Bits) m ρ))
  refine Eq.mp ?_ h
  sl_kernel_rfl

/-- The weight gradient's reference leaves its arguments as they were and every semaphore at zero. -/
theorem frame_ref_wgrad : Cert.quiescent_Reference6Ideal (hReference6Ideal := Cert.Reference6Ideal.Gen.facts) := fun m ρ _ =>
  (θ_run _ _ _).mono (fun r h => ⟨fun c => (h c).2.2, sem_eq_zero_of_no_sems (by decide) r.2⟩) (Reference6Ideal.Value.run m ρ)

/-- The call of a weight's gradient and its reference compute the same arrays. -/
theorem value_wgrad : Cert.algebraic_Kernel6Ideal_Reference6Ideal (hKernel6Ideal := Cert.Kernel6Ideal.Gen.facts)
    (hReference6Ideal := Cert.Reference6Ideal.Gen.facts) := by
  intro m ρ m' ρ' _ hag
  have hv (c : Dev Kernel6Ideal.nD) (s : Fin 4) (r : Fin 512) (k : Fin 1024) :
      Reference6Ideal.Wgrad.half (Kernel6Ideal.Wgrad.act (Kernel6Ideal.Wgrad.pre (m' ((c.tc : Thread Reference6Ideal.nD Reference6Ideal.τ).loc Reference6Ideal.main_arg0))
        (m' ((c.tc : Thread Reference6Ideal.nD Reference6Ideal.τ).loc Reference6Ideal.main_arg1)) (m' ((c.tc : Thread Reference6Ideal.nD Reference6Ideal.τ).loc Reference6Ideal.main_arg2))))
        (m' ((c.tc : Thread Reference6Ideal.nD Reference6Ideal.τ).loc Reference6Ideal.main_arg4)) (ix3 s r k) = Kernel6Ideal.Wgrad.dw m c (Kernel6Ideal.Wgrad.col s r) k := by
    rw [Reference6Ideal.Wgrad.half_at, (hag c).1, (hag c).2.1, (hag c).2.2.1, (hag c).2.2.2.2]
    rfl
  refine ⟨fun c => _, fun c => _,
    (θ_run _ _ _).mono (fun r h c => ⟨(h c).1.trans ?_, (h c).2.1.trans ?_, (h c).2.2⟩) (Kernel6Ideal.Wgrad.run_blocks m ρ),
    Reference6Ideal.Value.run m' ρ'⟩
  · exact Kernel6Ideal.Wgrad.final4 m c _ (hv c)
  · exact Kernel6Ideal.Wgrad.final5 m c _ (hv c)

/-- Everything the certificate claims holds. -/
theorem claim : Cert.Claim := ⟨Cert.Kernel.Gen.facts, Cert.KernelIdeal.Gen.facts, Cert.ReferenceIdeal.Gen.facts, Cert.Kernel3.Gen.facts, Cert.Kernel3Ideal.Gen.facts,
  Cert.Reference3Ideal.Gen.facts, Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite_mlp.Gen.facts, Cert.Pre_finite_mix.Gen.facts, Cert.Pre_finite_fwd.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.Kernel3.Gen.frame m ρ, fun m ρ _ => Cert.Kernel3Ideal.Gen.frame m ρ, fun m ρ _ => Cert.Kernel3Ideal.Gen.frame m ρ,
  fun m ρ _ => frame_ref_mlp m ρ, fun m ρ _ => frame_ref_mlp m ρ,
  frame_mix_bits, frame_mix, fun m ρ _ => frame_mix m ρ trivial,
  frame_ref_mix, fun m ρ _ => frame_ref_mix m ρ trivial,
  fun m ρ _ => Cert.Kernel4.Gen.frame m ρ, fun m ρ _ => Cert.Kernel4Ideal.Gen.frame m ρ, fun m ρ _ => Cert.Kernel4Ideal.Gen.frame m ρ,
  frame_ref_fwd, fun m ρ _ => frame_ref_fwd m ρ trivial,
  fun m ρ _ => Cert.Kernel5.Gen.frame m ρ, fun m ρ _ => Cert.Kernel5Ideal.Gen.frame m ρ, frame_ref_adamw,
  frame_wgrad_bits, frame_wgrad, frame_ref_wgrad,
  trivial, value_in_bwd, trivial, value_mlp, trivial, value_mix, trivial, value_fwd, trivial, value_adamw, trivial, value_wgrad⟩

end Cert.Proof

end
